-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_RefDownXIdeal (m : (ℓ : Loc Cert.RefDownXIdeal.nD Cert.RefDownXIdeal.τ Cert.RefDownXIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_RefDownWIdeal (m : (ℓ : Loc Cert.RefDownWIdeal.nD Cert.RefDownWIdeal.τ Cert.RefDownWIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_RefOutXIdeal (m : (ℓ : Loc Cert.RefOutXIdeal.nD Cert.RefOutXIdeal.τ Cert.RefOutXIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_RefOutWIdeal (m : (ℓ : Loc Cert.RefOutWIdeal.nD Cert.RefOutWIdeal.τ Cert.RefOutWIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_RefUpXIdeal (m : (ℓ : Loc Cert.RefUpXIdeal.nD Cert.RefUpXIdeal.τ Cert.RefUpXIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_RefUpWIdeal (m : (ℓ : Loc Cert.RefUpWIdeal.nD Cert.RefUpWIdeal.τ Cert.RefUpWIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_RefInXIdeal (m : (ℓ : Loc Cert.RefInXIdeal.nD Cert.RefInXIdeal.τ Cert.RefInXIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_RefInWIdeal (m : (ℓ : Loc Cert.RefInWIdeal.nD Cert.RefInWIdeal.τ Cert.RefInWIdeal.sig) → Buf (Elt Ideal) ℓ) : Prop :=
  True

def Pre_BrX (m : (ℓ : Loc Cert.BrX.nD Cert.BrX.τ Cert.BrX.sig) → Buf (Elt Bits) ℓ) : Prop :=
  True

def Pre_BrXIdeal (m : (ℓ : Loc Cert.BrXIdeal.nD Cert.BrXIdeal.τ Cert.BrXIdeal.sig) → Buf (Elt Ideal) ℓ) : Prop :=
  True

def Pre_RefBrXIdeal (m : (ℓ : Loc Cert.RefBrXIdeal.nD Cert.RefBrXIdeal.τ Cert.RefBrXIdeal.sig) → Buf (Elt Ideal) ℓ) : Prop :=
  True

def Pre_BrW (m : (ℓ : Loc Cert.BrW.nD Cert.BrW.τ Cert.BrW.sig) → Buf (Elt Bits) ℓ) : Prop :=
  True

def Pre_BrWIdeal (m : (ℓ : Loc Cert.BrWIdeal.nD Cert.BrWIdeal.τ Cert.BrWIdeal.sig) → Buf (Elt Ideal) ℓ) : Prop :=
  True

def Pre_RefBrWIdeal (m : (ℓ : Loc Cert.RefBrWIdeal.nD Cert.RefBrWIdeal.τ Cert.RefBrWIdeal.sig) → Buf (Elt Ideal) ℓ) : Prop :=
  True

def Pre_GmX (m : (ℓ : Loc Cert.GmX.nD Cert.GmX.τ Cert.GmX.sig) → Buf (Elt Bits) ℓ) : Prop :=
  True

def Pre_GmXIdeal (m : (ℓ : Loc Cert.GmXIdeal.nD Cert.GmXIdeal.τ Cert.GmXIdeal.sig) → Buf (Elt Ideal) ℓ) : Prop :=
  True

def Pre_RefGmXIdeal (m : (ℓ : Loc Cert.RefGmXIdeal.nD Cert.RefGmXIdeal.τ Cert.RefGmXIdeal.sig) → Buf (Elt Ideal) ℓ) : Prop :=
  True

def Pre_MemX (m : (ℓ : Loc Cert.MemX.nD Cert.MemX.τ Cert.MemX.sig) → Buf (Elt Bits) ℓ) : Prop :=
  True

def Pre_MemXIdeal (m : (ℓ : Loc Cert.MemXIdeal.nD Cert.MemXIdeal.τ Cert.MemXIdeal.sig) → Buf (Elt Ideal) ℓ) : Prop :=
  True

def Pre_RefMemXIdeal (m : (ℓ : Loc Cert.RefMemXIdeal.nD Cert.RefMemXIdeal.τ Cert.RefMemXIdeal.sig) → Buf (Elt Ideal) ℓ) : Prop :=
  True

def Pre_MemW (m : (ℓ : Loc Cert.MemW.nD Cert.MemW.τ Cert.MemW.sig) → Buf (Elt Bits) ℓ) : Prop :=
  True

def Pre_MemWIdeal (m : (ℓ : Loc Cert.MemWIdeal.nD Cert.MemWIdeal.τ Cert.MemWIdeal.sig) → Buf (Elt Ideal) ℓ) : Prop :=
  True

def Pre_RefMemWIdeal (m : (ℓ : Loc Cert.RefMemWIdeal.nD Cert.RefMemWIdeal.τ Cert.RefMemWIdeal.sig) → Buf (Elt Ideal) ℓ) : Prop :=
  True

def Pre_InY (m : (ℓ : Loc Cert.InY.nD Cert.InY.τ Cert.InY.sig) → Buf (Elt Bits) ℓ) : Prop :=
  True

def Pre_InYIdeal (m : (ℓ : Loc Cert.InYIdeal.nD Cert.InYIdeal.τ Cert.InYIdeal.sig) → Buf (Elt Ideal) ℓ) : Prop :=
  True

def Pre_RefInYIdeal (m : (ℓ : Loc Cert.RefInYIdeal.nD Cert.RefInYIdeal.τ Cert.RefInYIdeal.sig) → Buf (Elt Ideal) ℓ) : Prop :=
  True

def Pre_GateY (m : (ℓ : Loc Cert.GateY.nD Cert.GateY.τ Cert.GateY.sig) → Buf (Elt Bits) ℓ) : Prop :=
  True

def Pre_GateYIdeal (m : (ℓ : Loc Cert.GateYIdeal.nD Cert.GateYIdeal.τ Cert.GateYIdeal.sig) → Buf (Elt Ideal) ℓ) : Prop :=
  True

def Pre_RefGateYIdeal (m : (ℓ : Loc Cert.RefGateYIdeal.nD Cert.RefGateYIdeal.τ Cert.RefGateYIdeal.sig) → Buf (Elt Ideal) ℓ) : Prop :=
  True

def Pre_BrY (m : (ℓ : Loc Cert.BrY.nD Cert.BrY.τ Cert.BrY.sig) → Buf (Elt Bits) ℓ) : Prop :=
  True

def Pre_BrYIdeal (m : (ℓ : Loc Cert.BrYIdeal.nD Cert.BrYIdeal.τ Cert.BrYIdeal.sig) → Buf (Elt Ideal) ℓ) : Prop :=
  True

def Pre_RefBrYIdeal (m : (ℓ : Loc Cert.RefBrYIdeal.nD Cert.RefBrYIdeal.τ Cert.RefBrYIdeal.sig) → Buf (Elt Ideal) ℓ) : Prop :=
  True

def Pre_UpY (m : (ℓ : Loc Cert.UpY.nD Cert.UpY.τ Cert.UpY.sig) → Buf (Elt Bits) ℓ) : Prop :=
  True

def Pre_UpYIdeal (m : (ℓ : Loc Cert.UpYIdeal.nD Cert.UpYIdeal.τ Cert.UpYIdeal.sig) → Buf (Elt Ideal) ℓ) : Prop :=
  True

def Pre_RefUpYIdeal (m : (ℓ : Loc Cert.RefUpYIdeal.nD Cert.RefUpYIdeal.τ Cert.RefUpYIdeal.sig) → Buf (Elt Ideal) ℓ) : Prop :=
  True

def Pre_OutY (m : (ℓ : Loc Cert.OutY.nD Cert.OutY.τ Cert.OutY.sig) → Buf (Elt Bits) ℓ) : Prop :=
  True

def Pre_OutYIdeal (m : (ℓ : Loc Cert.OutYIdeal.nD Cert.OutYIdeal.τ Cert.OutYIdeal.sig) → Buf (Elt Ideal) ℓ) : Prop :=
  True

def Pre_RefOutYIdeal (m : (ℓ : Loc Cert.RefOutYIdeal.nD Cert.RefOutYIdeal.τ Cert.RefOutYIdeal.sig) → Buf (Elt Ideal) ℓ) : Prop :=
  True

def Pre_DownY (m : (ℓ : Loc Cert.DownY.nD Cert.DownY.τ Cert.DownY.sig) → Buf (Elt Bits) ℓ) : Prop :=
  True

def Pre_DownYIdeal (m : (ℓ : Loc Cert.DownYIdeal.nD Cert.DownYIdeal.τ Cert.DownYIdeal.sig) → Buf (Elt Ideal) ℓ) : Prop :=
  True

def Pre_RefDownYIdeal (m : (ℓ : Loc Cert.RefDownYIdeal.nD Cert.RefDownYIdeal.τ Cert.RefDownYIdeal.sig) → Buf (Elt Ideal) ℓ) : Prop :=
  True

def Pre_MemY (m : (ℓ : Loc Cert.MemY.nD Cert.MemY.τ Cert.MemY.sig) → Buf (Elt Bits) ℓ) : Prop :=
  True

def Pre_MemYIdeal (m : (ℓ : Loc Cert.MemYIdeal.nD Cert.MemYIdeal.τ Cert.MemYIdeal.sig) → Buf (Elt Ideal) ℓ) : Prop :=
  True

def Pre_RefMemYIdeal (m : (ℓ : Loc Cert.RefMemYIdeal.nD Cert.RefMemYIdeal.τ Cert.RefMemYIdeal.sig) → Buf (Elt Ideal) ℓ) : Prop :=
  True

def Pre_XaG (m : (ℓ : Loc Cert.XaG.nD Cert.XaG.τ Cert.XaG.sig) → Buf (Elt Bits) ℓ) : Prop :=
  True

def Pre_XaGIdeal (m : (ℓ : Loc Cert.XaGIdeal.nD Cert.XaGIdeal.τ Cert.XaGIdeal.sig) → Buf (Elt Ideal) ℓ) : Prop :=
  True

def Pre_XaGIdeal_scored [hPre_scored : Cert.Pre_scored.Facts] (m : (ℓ : Loc Cert.XaGIdeal.nD Cert.XaGIdeal.τ Cert.XaGIdeal.sig) → Buf (Elt Ideal) ℓ) : Prop :=
  ∀ c : Dev Cert.XaGIdeal.nD,
    (Cert.Pre_scored.fn (F := Ideal) (m ((c.tc : Thread Cert.XaGIdeal.nD Cert.XaGIdeal.τ).loc Cert.XaGIdeal.main_arg0)) (m ((c.tc : Thread Cert.XaGIdeal.nD Cert.XaGIdeal.τ).loc Cert.XaGIdeal.main_arg1)) (m ((c.tc : Thread Cert.XaGIdeal.nD Cert.XaGIdeal.τ).loc Cert.XaGIdeal.main_arg2))).1 = (fun _ => 1#1)
    ∧ (Cert.Pre_scored.fn (F := Ideal) (m ((c.tc : Thread Cert.XaGIdeal.nD Cert.XaGIdeal.τ).loc Cert.XaGIdeal.main_arg0)) (m ((c.tc : Thread Cert.XaGIdeal.nD Cert.XaGIdeal.τ).loc Cert.XaGIdeal.main_arg1)) (m ((c.tc : Thread Cert.XaGIdeal.nD Cert.XaGIdeal.τ).loc Cert.XaGIdeal.main_arg2))).2 = (fun _ => 1#1)

def Pre_RefXaGIdeal (m : (ℓ : Loc Cert.RefXaGIdeal.nD Cert.RefXaGIdeal.τ Cert.RefXaGIdeal.sig) → Buf (Elt Ideal) ℓ) : Prop :=
  True

def Pre_RefXaGIdeal_scored [hPre_scored : Cert.Pre_scored.Facts] (m : (ℓ : Loc Cert.RefXaGIdeal.nD Cert.RefXaGIdeal.τ Cert.RefXaGIdeal.sig) → Buf (Elt Ideal) ℓ) : Prop :=
  ∀ c : Dev Cert.RefXaGIdeal.nD,
    (Cert.Pre_scored.fn (F := Ideal) (m ((c.tc : Thread Cert.RefXaGIdeal.nD Cert.RefXaGIdeal.τ).loc Cert.RefXaGIdeal.main_arg0)) (m ((c.tc : Thread Cert.RefXaGIdeal.nD Cert.RefXaGIdeal.τ).loc Cert.RefXaGIdeal.main_arg1)) (m ((c.tc : Thread Cert.RefXaGIdeal.nD Cert.RefXaGIdeal.τ).loc Cert.RefXaGIdeal.main_arg2))).1 = (fun _ => 1#1)
    ∧ (Cert.Pre_scored.fn (F := Ideal) (m ((c.tc : Thread Cert.RefXaGIdeal.nD Cert.RefXaGIdeal.τ).loc Cert.RefXaGIdeal.main_arg0)) (m ((c.tc : Thread Cert.RefXaGIdeal.nD Cert.RefXaGIdeal.τ).loc Cert.RefXaGIdeal.main_arg1)) (m ((c.tc : Thread Cert.RefXaGIdeal.nD Cert.RefXaGIdeal.τ).loc Cert.RefXaGIdeal.main_arg2))).2 = (fun _ => 1#1)

def Pre_XaY (m : (ℓ : Loc Cert.XaY.nD Cert.XaY.τ Cert.XaY.sig) → Buf (Elt Bits) ℓ) : Prop :=
  True

def Pre_XaYIdeal (m : (ℓ : Loc Cert.XaYIdeal.nD Cert.XaYIdeal.τ Cert.XaYIdeal.sig) → Buf (Elt Ideal) ℓ) : Prop :=
  True

def Pre_RefXaYIdeal (m : (ℓ : Loc Cert.RefXaYIdeal.nD Cert.RefXaYIdeal.τ Cert.RefXaYIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_RefDownXIdeal [hRefDownXIdeal : Cert.RefDownXIdeal.Facts] : Prop :=
  ∀ (m : (ℓ : Loc Cert.RefDownXIdeal.nD Cert.RefDownXIdeal.τ Cert.RefDownXIdeal.sig) → Buf (Elt Ideal) ℓ) (g : Dev Cert.RefDownXIdeal.nD → PrngReg), Pre_RefDownXIdeal m →
    θ_run (Cert.RefDownXIdeal.defs (F := Ideal)) (onTc (τ := Cert.RefDownXIdeal.τ) (Cert.RefDownXIdeal.main (F := Ideal))) ⟨m, fun _ => 0, g⟩ (fun r => (∀ c : Dev Cert.RefDownXIdeal.nD,
      r.2.mem ((c.tc : Thread Cert.RefDownXIdeal.nD Cert.RefDownXIdeal.τ).loc Cert.RefDownXIdeal.main_arg0) = m ((c.tc : Thread Cert.RefDownXIdeal.nD Cert.RefDownXIdeal.τ).loc Cert.RefDownXIdeal.main_arg0)
      ∧ r.2.mem ((c.tc : Thread Cert.RefDownXIdeal.nD Cert.RefDownXIdeal.τ).loc Cert.RefDownXIdeal.main_arg1) = m ((c.tc : Thread Cert.RefDownXIdeal.nD Cert.RefDownXIdeal.τ).loc Cert.RefDownXIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_RefDownWIdeal [hRefDownWIdeal : Cert.RefDownWIdeal.Facts] : Prop :=
  ∀ (m : (ℓ : Loc Cert.RefDownWIdeal.nD Cert.RefDownWIdeal.τ Cert.RefDownWIdeal.sig) → Buf (Elt Ideal) ℓ) (g : Dev Cert.RefDownWIdeal.nD → PrngReg), Pre_RefDownWIdeal m →
    θ_run (Cert.RefDownWIdeal.defs (F := Ideal)) (onTc (τ := Cert.RefDownWIdeal.τ) (Cert.RefDownWIdeal.main (F := Ideal))) ⟨m, fun _ => 0, g⟩ (fun r => (∀ c : Dev Cert.RefDownWIdeal.nD,
      r.2.mem ((c.tc : Thread Cert.RefDownWIdeal.nD Cert.RefDownWIdeal.τ).loc Cert.RefDownWIdeal.main_arg0) = m ((c.tc : Thread Cert.RefDownWIdeal.nD Cert.RefDownWIdeal.τ).loc Cert.RefDownWIdeal.main_arg0)
      ∧ r.2.mem ((c.tc : Thread Cert.RefDownWIdeal.nD Cert.RefDownWIdeal.τ).loc Cert.RefDownWIdeal.main_arg1) = m ((c.tc : Thread Cert.RefDownWIdeal.nD Cert.RefDownWIdeal.τ).loc Cert.RefDownWIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_RefOutXIdeal [hRefOutXIdeal : Cert.RefOutXIdeal.Facts] : Prop :=
  ∀ (m : (ℓ : Loc Cert.RefOutXIdeal.nD Cert.RefOutXIdeal.τ Cert.RefOutXIdeal.sig) → Buf (Elt Ideal) ℓ) (g : Dev Cert.RefOutXIdeal.nD → PrngReg), Pre_RefOutXIdeal m →
    θ_run (Cert.RefOutXIdeal.defs (F := Ideal)) (onTc (τ := Cert.RefOutXIdeal.τ) (Cert.RefOutXIdeal.main (F := Ideal))) ⟨m, fun _ => 0, g⟩ (fun r => (∀ c : Dev Cert.RefOutXIdeal.nD,
      r.2.mem ((c.tc : Thread Cert.RefOutXIdeal.nD Cert.RefOutXIdeal.τ).loc Cert.RefOutXIdeal.main_arg0) = m ((c.tc : Thread Cert.RefOutXIdeal.nD Cert.RefOutXIdeal.τ).loc Cert.RefOutXIdeal.main_arg0)
      ∧ r.2.mem ((c.tc : Thread Cert.RefOutXIdeal.nD Cert.RefOutXIdeal.τ).loc Cert.RefOutXIdeal.main_arg1) = m ((c.tc : Thread Cert.RefOutXIdeal.nD Cert.RefOutXIdeal.τ).loc Cert.RefOutXIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_RefOutWIdeal [hRefOutWIdeal : Cert.RefOutWIdeal.Facts] : Prop :=
  ∀ (m : (ℓ : Loc Cert.RefOutWIdeal.nD Cert.RefOutWIdeal.τ Cert.RefOutWIdeal.sig) → Buf (Elt Ideal) ℓ) (g : Dev Cert.RefOutWIdeal.nD → PrngReg), Pre_RefOutWIdeal m →
    θ_run (Cert.RefOutWIdeal.defs (F := Ideal)) (onTc (τ := Cert.RefOutWIdeal.τ) (Cert.RefOutWIdeal.main (F := Ideal))) ⟨m, fun _ => 0, g⟩ (fun r => (∀ c : Dev Cert.RefOutWIdeal.nD,
      r.2.mem ((c.tc : Thread Cert.RefOutWIdeal.nD Cert.RefOutWIdeal.τ).loc Cert.RefOutWIdeal.main_arg0) = m ((c.tc : Thread Cert.RefOutWIdeal.nD Cert.RefOutWIdeal.τ).loc Cert.RefOutWIdeal.main_arg0)
      ∧ r.2.mem ((c.tc : Thread Cert.RefOutWIdeal.nD Cert.RefOutWIdeal.τ).loc Cert.RefOutWIdeal.main_arg1) = m ((c.tc : Thread Cert.RefOutWIdeal.nD Cert.RefOutWIdeal.τ).loc Cert.RefOutWIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ r.2.sem = fun _ => 0)

def quiescent_RefUpXIdeal [hRefUpXIdeal : Cert.RefUpXIdeal.Facts] : Prop :=
  ∀ (m : (ℓ : Loc Cert.RefUpXIdeal.nD Cert.RefUpXIdeal.τ Cert.RefUpXIdeal.sig) → Buf (Elt Ideal) ℓ) (g : Dev Cert.RefUpXIdeal.nD → PrngReg), Pre_RefUpXIdeal m →
    θ_run (Cert.RefUpXIdeal.defs (F := Ideal)) (onTc (τ := Cert.RefUpXIdeal.τ) (Cert.RefUpXIdeal.main (F := Ideal))) ⟨m, fun _ => 0, g⟩ (fun r => (∀ c : Dev Cert.RefUpXIdeal.nD,
      r.2.mem ((c.tc : Thread Cert.RefUpXIdeal.nD Cert.RefUpXIdeal.τ).loc Cert.RefUpXIdeal.main_arg0) = m ((c.tc : Thread Cert.RefUpXIdeal.nD Cert.RefUpXIdeal.τ).loc Cert.RefUpXIdeal.main_arg0)
      ∧ r.2.mem ((c.tc : Thread Cert.RefUpXIdeal.nD Cert.RefUpXIdeal.τ).loc Cert.RefUpXIdeal.main_arg1) = m ((c.tc : Thread Cert.RefUpXIdeal.nD Cert.RefUpXIdeal.τ).loc Cert.RefUpXIdeal.main_arg1)
      ∧ r.2.mem ((c.tc : Thread Cert.RefUpXIdeal.nD Cert.RefUpXIdeal.τ).loc Cert.RefUpXIdeal.main_arg2) = m ((c.tc : Thread Cert.RefUpXIdeal.nD Cert.RefUpXIdeal.τ).loc Cert.RefUpXIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_RefUpWIdeal [hRefUpWIdeal : Cert.RefUpWIdeal.Facts] : Prop :=
  ∀ (m : (ℓ : Loc Cert.RefUpWIdeal.nD Cert.RefUpWIdeal.τ Cert.RefUpWIdeal.sig) → Buf (Elt Ideal) ℓ) (g : Dev Cert.RefUpWIdeal.nD → PrngReg), Pre_RefUpWIdeal m →
    θ_run (Cert.RefUpWIdeal.defs (F := Ideal)) (onTc (τ := Cert.RefUpWIdeal.τ) (Cert.RefUpWIdeal.main (F := Ideal))) ⟨m, fun _ => 0, g⟩ (fun r => (∀ c : Dev Cert.RefUpWIdeal.nD,
      r.2.mem ((c.tc : Thread Cert.RefUpWIdeal.nD Cert.RefUpWIdeal.τ).loc Cert.RefUpWIdeal.main_arg0) = m ((c.tc : Thread Cert.RefUpWIdeal.nD Cert.RefUpWIdeal.τ).loc Cert.RefUpWIdeal.main_arg0)
      ∧ r.2.mem ((c.tc : Thread Cert.RefUpWIdeal.nD Cert.RefUpWIdeal.τ).loc Cert.RefUpWIdeal.main_arg1) = m ((c.tc : Thread Cert.RefUpWIdeal.nD Cert.RefUpWIdeal.τ).loc Cert.RefUpWIdeal.main_arg1)
      ∧ r.2.mem ((c.tc : Thread Cert.RefUpWIdeal.nD Cert.RefUpWIdeal.τ).loc Cert.RefUpWIdeal.main_arg2) = m ((c.tc : Thread Cert.RefUpWIdeal.nD Cert.RefUpWIdeal.τ).loc Cert.RefUpWIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_RefInXIdeal [hRefInXIdeal : Cert.RefInXIdeal.Facts] : Prop :=
  ∀ (m : (ℓ : Loc Cert.RefInXIdeal.nD Cert.RefInXIdeal.τ Cert.RefInXIdeal.sig) → Buf (Elt Ideal) ℓ) (g : Dev Cert.RefInXIdeal.nD → PrngReg), Pre_RefInXIdeal m →
    θ_run (Cert.RefInXIdeal.defs (F := Ideal)) (onTc (τ := Cert.RefInXIdeal.τ) (Cert.RefInXIdeal.main (F := Ideal))) ⟨m, fun _ => 0, g⟩ (fun r => (∀ c : Dev Cert.RefInXIdeal.nD,
      r.2.mem ((c.tc : Thread Cert.RefInXIdeal.nD Cert.RefInXIdeal.τ).loc Cert.RefInXIdeal.main_arg0) = m ((c.tc : Thread Cert.RefInXIdeal.nD Cert.RefInXIdeal.τ).loc Cert.RefInXIdeal.main_arg0)
      ∧ r.2.mem ((c.tc : Thread Cert.RefInXIdeal.nD Cert.RefInXIdeal.τ).loc Cert.RefInXIdeal.main_arg1) = m ((c.tc : Thread Cert.RefInXIdeal.nD Cert.RefInXIdeal.τ).loc Cert.RefInXIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_RefInWIdeal [hRefInWIdeal : Cert.RefInWIdeal.Facts] : Prop :=
  ∀ (m : (ℓ : Loc Cert.RefInWIdeal.nD Cert.RefInWIdeal.τ Cert.RefInWIdeal.sig) → Buf (Elt Ideal) ℓ) (g : Dev Cert.RefInWIdeal.nD → PrngReg), Pre_RefInWIdeal m →
    θ_run (Cert.RefInWIdeal.defs (F := Ideal)) (onTc (τ := Cert.RefInWIdeal.τ) (Cert.RefInWIdeal.main (F := Ideal))) ⟨m, fun _ => 0, g⟩ (fun r => (∀ c : Dev Cert.RefInWIdeal.nD,
      r.2.mem ((c.tc : Thread Cert.RefInWIdeal.nD Cert.RefInWIdeal.τ).loc Cert.RefInWIdeal.main_arg0) = m ((c.tc : Thread Cert.RefInWIdeal.nD Cert.RefInWIdeal.τ).loc Cert.RefInWIdeal.main_arg0)
      ∧ r.2.mem ((c.tc : Thread Cert.RefInWIdeal.nD Cert.RefInWIdeal.τ).loc Cert.RefInWIdeal.main_arg1) = m ((c.tc : Thread Cert.RefInWIdeal.nD Cert.RefInWIdeal.τ).loc Cert.RefInWIdeal.main_arg1))
      ∧ r.2.sem = fun _ => 0)

def quiescent_BrX [hBrX : Cert.BrX.Facts] : Prop :=
  ∀ (m : (ℓ : Loc Cert.BrX.nD Cert.BrX.τ Cert.BrX.sig) → Buf (Elt Bits) ℓ) (g : Dev Cert.BrX.nD → PrngReg), Pre_BrX m →
    θ_run (Cert.BrX.defs (F := Bits)) (onTc (τ := Cert.BrX.τ) (Cert.BrX.main (F := Bits))) ⟨m, fun _ => 0, g⟩ (fun r => (∀ c : Dev Cert.BrX.nD,
      r.2.mem ((c.tc : Thread Cert.BrX.nD Cert.BrX.τ).loc Cert.BrX.main_arg0) = m ((c.tc : Thread Cert.BrX.nD Cert.BrX.τ).loc Cert.BrX.main_arg0)
      ∧ r.2.mem ((c.tc : Thread Cert.BrX.nD Cert.BrX.τ).loc Cert.BrX.main_arg1) = m ((c.tc : Thread Cert.BrX.nD Cert.BrX.τ).loc Cert.BrX.main_arg1))
      ∧ r.2.sem = fun _ => 0)

def quiescent_BrXIdeal [hBrXIdeal : Cert.BrXIdeal.Facts] : Prop :=
  ∀ (m : (ℓ : Loc Cert.BrXIdeal.nD Cert.BrXIdeal.τ Cert.BrXIdeal.sig) → Buf (Elt Ideal) ℓ) (g : Dev Cert.BrXIdeal.nD → PrngReg), Pre_BrXIdeal m →
    θ_run (Cert.BrXIdeal.defs (F := Ideal)) (onTc (τ := Cert.BrXIdeal.τ) (Cert.BrXIdeal.main (F := Ideal))) ⟨m, fun _ => 0, g⟩ (fun r => (∀ c : Dev Cert.BrXIdeal.nD,
      r.2.mem ((c.tc : Thread Cert.BrXIdeal.nD Cert.BrXIdeal.τ).loc Cert.BrXIdeal.main_arg0) = m ((c.tc : Thread Cert.BrXIdeal.nD Cert.BrXIdeal.τ).loc Cert.BrXIdeal.main_arg0)
      ∧ r.2.mem ((c.tc : Thread Cert.BrXIdeal.nD Cert.BrXIdeal.τ).loc Cert.BrXIdeal.main_arg1) = m ((c.tc : Thread Cert.BrXIdeal.nD Cert.BrXIdeal.τ).loc Cert.BrXIdeal.main_arg1))
      ∧ r.2.sem = fun _ => 0)

def quiescent_RefBrXIdeal [hRefBrXIdeal : Cert.RefBrXIdeal.Facts] : Prop :=
  ∀ (m : (ℓ : Loc Cert.RefBrXIdeal.nD Cert.RefBrXIdeal.τ Cert.RefBrXIdeal.sig) → Buf (Elt Ideal) ℓ) (g : Dev Cert.RefBrXIdeal.nD → PrngReg), Pre_RefBrXIdeal m →
    θ_run (Cert.RefBrXIdeal.defs (F := Ideal)) (onTc (τ := Cert.RefBrXIdeal.τ) (Cert.RefBrXIdeal.main (F := Ideal))) ⟨m, fun _ => 0, g⟩ (fun r => (∀ c : Dev Cert.RefBrXIdeal.nD,
      r.2.mem ((c.tc : Thread Cert.RefBrXIdeal.nD Cert.RefBrXIdeal.τ).loc Cert.RefBrXIdeal.main_arg0) = m ((c.tc : Thread Cert.RefBrXIdeal.nD Cert.RefBrXIdeal.τ).loc Cert.RefBrXIdeal.main_arg0)
      ∧ r.2.mem ((c.tc : Thread Cert.RefBrXIdeal.nD Cert.RefBrXIdeal.τ).loc Cert.RefBrXIdeal.main_arg1) = m ((c.tc : Thread Cert.RefBrXIdeal.nD Cert.RefBrXIdeal.τ).loc Cert.RefBrXIdeal.main_arg1))
      ∧ r.2.sem = fun _ => 0)

def quiescent_BrW [hBrW : Cert.BrW.Facts] : Prop :=
  ∀ (m : (ℓ : Loc Cert.BrW.nD Cert.BrW.τ Cert.BrW.sig) → Buf (Elt Bits) ℓ) (g : Dev Cert.BrW.nD → PrngReg), Pre_BrW m →
    θ_run (Cert.BrW.defs (F := Bits)) (onTc (τ := Cert.BrW.τ) (Cert.BrW.main (F := Bits))) ⟨m, fun _ => 0, g⟩ (fun r => (∀ c : Dev Cert.BrW.nD,
      r.2.mem ((c.tc : Thread Cert.BrW.nD Cert.BrW.τ).loc Cert.BrW.main_arg0) = m ((c.tc : Thread Cert.BrW.nD Cert.BrW.τ).loc Cert.BrW.main_arg0)
      ∧ r.2.mem ((c.tc : Thread Cert.BrW.nD Cert.BrW.τ).loc Cert.BrW.main_arg1) = m ((c.tc : Thread Cert.BrW.nD Cert.BrW.τ).loc Cert.BrW.main_arg1))
      ∧ r.2.sem = fun _ => 0)

def quiescent_BrWIdeal [hBrWIdeal : Cert.BrWIdeal.Facts] : Prop :=
  ∀ (m : (ℓ : Loc Cert.BrWIdeal.nD Cert.BrWIdeal.τ Cert.BrWIdeal.sig) → Buf (Elt Ideal) ℓ) (g : Dev Cert.BrWIdeal.nD → PrngReg), Pre_BrWIdeal m →
    θ_run (Cert.BrWIdeal.defs (F := Ideal)) (onTc (τ := Cert.BrWIdeal.τ) (Cert.BrWIdeal.main (F := Ideal))) ⟨m, fun _ => 0, g⟩ (fun r => (∀ c : Dev Cert.BrWIdeal.nD,
      r.2.mem ((c.tc : Thread Cert.BrWIdeal.nD Cert.BrWIdeal.τ).loc Cert.BrWIdeal.main_arg0) = m ((c.tc : Thread Cert.BrWIdeal.nD Cert.BrWIdeal.τ).loc Cert.BrWIdeal.main_arg0)
      ∧ r.2.mem ((c.tc : Thread Cert.BrWIdeal.nD Cert.BrWIdeal.τ).loc Cert.BrWIdeal.main_arg1) = m ((c.tc : Thread Cert.BrWIdeal.nD Cert.BrWIdeal.τ).loc Cert.BrWIdeal.main_arg1))
      ∧ r.2.sem = fun _ => 0)

def quiescent_RefBrWIdeal [hRefBrWIdeal : Cert.RefBrWIdeal.Facts] : Prop :=
  ∀ (m : (ℓ : Loc Cert.RefBrWIdeal.nD Cert.RefBrWIdeal.τ Cert.RefBrWIdeal.sig) → Buf (Elt Ideal) ℓ) (g : Dev Cert.RefBrWIdeal.nD → PrngReg), Pre_RefBrWIdeal m →
    θ_run (Cert.RefBrWIdeal.defs (F := Ideal)) (onTc (τ := Cert.RefBrWIdeal.τ) (Cert.RefBrWIdeal.main (F := Ideal))) ⟨m, fun _ => 0, g⟩ (fun r => (∀ c : Dev Cert.RefBrWIdeal.nD,
      r.2.mem ((c.tc : Thread Cert.RefBrWIdeal.nD Cert.RefBrWIdeal.τ).loc Cert.RefBrWIdeal.main_arg0) = m ((c.tc : Thread Cert.RefBrWIdeal.nD Cert.RefBrWIdeal.τ).loc Cert.RefBrWIdeal.main_arg0)
      ∧ r.2.mem ((c.tc : Thread Cert.RefBrWIdeal.nD Cert.RefBrWIdeal.τ).loc Cert.RefBrWIdeal.main_arg1) = m ((c.tc : Thread Cert.RefBrWIdeal.nD Cert.RefBrWIdeal.τ).loc Cert.RefBrWIdeal.main_arg1))
      ∧ r.2.sem = fun _ => 0)

def quiescent_GmX [hGmX : Cert.GmX.Facts] : Prop :=
  ∀ (m : (ℓ : Loc Cert.GmX.nD Cert.GmX.τ Cert.GmX.sig) → Buf (Elt Bits) ℓ) (g : Dev Cert.GmX.nD → PrngReg), Pre_GmX m →
    θ_run (Cert.GmX.defs (F := Bits)) (onTc (τ := Cert.GmX.τ) (Cert.GmX.main (F := Bits))) ⟨m, fun _ => 0, g⟩ (fun r => (∀ c : Dev Cert.GmX.nD,
      r.2.mem ((c.tc : Thread Cert.GmX.nD Cert.GmX.τ).loc Cert.GmX.main_arg0) = m ((c.tc : Thread Cert.GmX.nD Cert.GmX.τ).loc Cert.GmX.main_arg0)
      ∧ r.2.mem ((c.tc : Thread Cert.GmX.nD Cert.GmX.τ).loc Cert.GmX.main_arg1) = m ((c.tc : Thread Cert.GmX.nD Cert.GmX.τ).loc Cert.GmX.main_arg1))
      ∧ r.2.sem = fun _ => 0)

def quiescent_GmXIdeal [hGmXIdeal : Cert.GmXIdeal.Facts] : Prop :=
  ∀ (m : (ℓ : Loc Cert.GmXIdeal.nD Cert.GmXIdeal.τ Cert.GmXIdeal.sig) → Buf (Elt Ideal) ℓ) (g : Dev Cert.GmXIdeal.nD → PrngReg), Pre_GmXIdeal m →
    θ_run (Cert.GmXIdeal.defs (F := Ideal)) (onTc (τ := Cert.GmXIdeal.τ) (Cert.GmXIdeal.main (F := Ideal))) ⟨m, fun _ => 0, g⟩ (fun r => (∀ c : Dev Cert.GmXIdeal.nD,
      r.2.mem ((c.tc : Thread Cert.GmXIdeal.nD Cert.GmXIdeal.τ).loc Cert.GmXIdeal.main_arg0) = m ((c.tc : Thread Cert.GmXIdeal.nD Cert.GmXIdeal.τ).loc Cert.GmXIdeal.main_arg0)
      ∧ r.2.mem ((c.tc : Thread Cert.GmXIdeal.nD Cert.GmXIdeal.τ).loc Cert.GmXIdeal.main_arg1) = m ((c.tc : Thread Cert.GmXIdeal.nD Cert.GmXIdeal.τ).loc Cert.GmXIdeal.main_arg1))
      ∧ r.2.sem = fun _ => 0)

def quiescent_RefGmXIdeal [hRefGmXIdeal : Cert.RefGmXIdeal.Facts] : Prop :=
  ∀ (m : (ℓ : Loc Cert.RefGmXIdeal.nD Cert.RefGmXIdeal.τ Cert.RefGmXIdeal.sig) → Buf (Elt Ideal) ℓ) (g : Dev Cert.RefGmXIdeal.nD → PrngReg), Pre_RefGmXIdeal m →
    θ_run (Cert.RefGmXIdeal.defs (F := Ideal)) (onTc (τ := Cert.RefGmXIdeal.τ) (Cert.RefGmXIdeal.main (F := Ideal))) ⟨m, fun _ => 0, g⟩ (fun r => (∀ c : Dev Cert.RefGmXIdeal.nD,
      r.2.mem ((c.tc : Thread Cert.RefGmXIdeal.nD Cert.RefGmXIdeal.τ).loc Cert.RefGmXIdeal.main_arg0) = m ((c.tc : Thread Cert.RefGmXIdeal.nD Cert.RefGmXIdeal.τ).loc Cert.RefGmXIdeal.main_arg0)
      ∧ r.2.mem ((c.tc : Thread Cert.RefGmXIdeal.nD Cert.RefGmXIdeal.τ).loc Cert.RefGmXIdeal.main_arg1) = m ((c.tc : Thread Cert.RefGmXIdeal.nD Cert.RefGmXIdeal.τ).loc Cert.RefGmXIdeal.main_arg1))
      ∧ r.2.sem = fun _ => 0)

def quiescent_MemX [hMemX : Cert.MemX.Facts] : Prop :=
  ∀ (m : (ℓ : Loc Cert.MemX.nD Cert.MemX.τ Cert.MemX.sig) → Buf (Elt Bits) ℓ) (g : Dev Cert.MemX.nD → PrngReg), Pre_MemX m →
    θ_run (Cert.MemX.defs (F := Bits)) (onTc (τ := Cert.MemX.τ) (Cert.MemX.main (F := Bits))) ⟨m, fun _ => 0, g⟩ (fun r => (∀ c : Dev Cert.MemX.nD,
      r.2.mem ((c.tc : Thread Cert.MemX.nD Cert.MemX.τ).loc Cert.MemX.main_arg0) = m ((c.tc : Thread Cert.MemX.nD Cert.MemX.τ).loc Cert.MemX.main_arg0)
      ∧ r.2.mem ((c.tc : Thread Cert.MemX.nD Cert.MemX.τ).loc Cert.MemX.main_arg1) = m ((c.tc : Thread Cert.MemX.nD Cert.MemX.τ).loc Cert.MemX.main_arg1))
      ∧ r.2.sem = fun _ => 0)

def quiescent_MemXIdeal [hMemXIdeal : Cert.MemXIdeal.Facts] : Prop :=
  ∀ (m : (ℓ : Loc Cert.MemXIdeal.nD Cert.MemXIdeal.τ Cert.MemXIdeal.sig) → Buf (Elt Ideal) ℓ) (g : Dev Cert.MemXIdeal.nD → PrngReg), Pre_MemXIdeal m →
    θ_run (Cert.MemXIdeal.defs (F := Ideal)) (onTc (τ := Cert.MemXIdeal.τ) (Cert.MemXIdeal.main (F := Ideal))) ⟨m, fun _ => 0, g⟩ (fun r => (∀ c : Dev Cert.MemXIdeal.nD,
      r.2.mem ((c.tc : Thread Cert.MemXIdeal.nD Cert.MemXIdeal.τ).loc Cert.MemXIdeal.main_arg0) = m ((c.tc : Thread Cert.MemXIdeal.nD Cert.MemXIdeal.τ).loc Cert.MemXIdeal.main_arg0)
      ∧ r.2.mem ((c.tc : Thread Cert.MemXIdeal.nD Cert.MemXIdeal.τ).loc Cert.MemXIdeal.main_arg1) = m ((c.tc : Thread Cert.MemXIdeal.nD Cert.MemXIdeal.τ).loc Cert.MemXIdeal.main_arg1))
      ∧ r.2.sem = fun _ => 0)

def quiescent_RefMemXIdeal [hRefMemXIdeal : Cert.RefMemXIdeal.Facts] : Prop :=
  ∀ (m : (ℓ : Loc Cert.RefMemXIdeal.nD Cert.RefMemXIdeal.τ Cert.RefMemXIdeal.sig) → Buf (Elt Ideal) ℓ) (g : Dev Cert.RefMemXIdeal.nD → PrngReg), Pre_RefMemXIdeal m →
    θ_run (Cert.RefMemXIdeal.defs (F := Ideal)) (onTc (τ := Cert.RefMemXIdeal.τ) (Cert.RefMemXIdeal.main (F := Ideal))) ⟨m, fun _ => 0, g⟩ (fun r => (∀ c : Dev Cert.RefMemXIdeal.nD,
      r.2.mem ((c.tc : Thread Cert.RefMemXIdeal.nD Cert.RefMemXIdeal.τ).loc Cert.RefMemXIdeal.main_arg0) = m ((c.tc : Thread Cert.RefMemXIdeal.nD Cert.RefMemXIdeal.τ).loc Cert.RefMemXIdeal.main_arg0)
      ∧ r.2.mem ((c.tc : Thread Cert.RefMemXIdeal.nD Cert.RefMemXIdeal.τ).loc Cert.RefMemXIdeal.main_arg1) = m ((c.tc : Thread Cert.RefMemXIdeal.nD Cert.RefMemXIdeal.τ).loc Cert.RefMemXIdeal.main_arg1))
      ∧ r.2.sem = fun _ => 0)

def quiescent_MemW [hMemW : Cert.MemW.Facts] : Prop :=
  ∀ (m : (ℓ : Loc Cert.MemW.nD Cert.MemW.τ Cert.MemW.sig) → Buf (Elt Bits) ℓ) (g : Dev Cert.MemW.nD → PrngReg), Pre_MemW m →
    θ_run (Cert.MemW.defs (F := Bits)) (onTc (τ := Cert.MemW.τ) (Cert.MemW.main (F := Bits))) ⟨m, fun _ => 0, g⟩ (fun r => (∀ c : Dev Cert.MemW.nD,
      r.2.mem ((c.tc : Thread Cert.MemW.nD Cert.MemW.τ).loc Cert.MemW.main_arg0) = m ((c.tc : Thread Cert.MemW.nD Cert.MemW.τ).loc Cert.MemW.main_arg0)
      ∧ r.2.mem ((c.tc : Thread Cert.MemW.nD Cert.MemW.τ).loc Cert.MemW.main_arg1) = m ((c.tc : Thread Cert.MemW.nD Cert.MemW.τ).loc Cert.MemW.main_arg1))
      ∧ r.2.sem = fun _ => 0)

def quiescent_MemWIdeal [hMemWIdeal : Cert.MemWIdeal.Facts] : Prop :=
  ∀ (m : (ℓ : Loc Cert.MemWIdeal.nD Cert.MemWIdeal.τ Cert.MemWIdeal.sig) → Buf (Elt Ideal) ℓ) (g : Dev Cert.MemWIdeal.nD → PrngReg), Pre_MemWIdeal m →
    θ_run (Cert.MemWIdeal.defs (F := Ideal)) (onTc (τ := Cert.MemWIdeal.τ) (Cert.MemWIdeal.main (F := Ideal))) ⟨m, fun _ => 0, g⟩ (fun r => (∀ c : Dev Cert.MemWIdeal.nD,
      r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
      ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ r.2.sem = fun _ => 0)

def quiescent_RefMemWIdeal [hRefMemWIdeal : Cert.RefMemWIdeal.Facts] : Prop :=
  ∀ (m : (ℓ : Loc Cert.RefMemWIdeal.nD Cert.RefMemWIdeal.τ Cert.RefMemWIdeal.sig) → Buf (Elt Ideal) ℓ) (g : Dev Cert.RefMemWIdeal.nD → PrngReg), Pre_RefMemWIdeal m →
    θ_run (Cert.RefMemWIdeal.defs (F := Ideal)) (onTc (τ := Cert.RefMemWIdeal.τ) (Cert.RefMemWIdeal.main (F := Ideal))) ⟨m, fun _ => 0, g⟩ (fun r => (∀ c : Dev Cert.RefMemWIdeal.nD,
      r.2.mem ((c.tc : Thread Cert.RefMemWIdeal.nD Cert.RefMemWIdeal.τ).loc Cert.RefMemWIdeal.main_arg0) = m ((c.tc : Thread Cert.RefMemWIdeal.nD Cert.RefMemWIdeal.τ).loc Cert.RefMemWIdeal.main_arg0)
      ∧ r.2.mem ((c.tc : Thread Cert.RefMemWIdeal.nD Cert.RefMemWIdeal.τ).loc Cert.RefMemWIdeal.main_arg1) = m ((c.tc : Thread Cert.RefMemWIdeal.nD Cert.RefMemWIdeal.τ).loc Cert.RefMemWIdeal.main_arg1))
      ∧ r.2.sem = fun _ => 0)

def quiescent_InY [hInY : Cert.InY.Facts] : Prop :=
  ∀ (m : (ℓ : Loc Cert.InY.nD Cert.InY.τ Cert.InY.sig) → Buf (Elt Bits) ℓ) (g : Dev Cert.InY.nD → PrngReg), Pre_InY m →
    θ_run (Cert.InY.defs (F := Bits)) (onTc (τ := Cert.InY.τ) (Cert.InY.main (F := Bits))) ⟨m, fun _ => 0, g⟩ (fun r => (∀ c : Dev Cert.InY.nD,
      r.2.mem ((c.tc : Thread Cert.InY.nD Cert.InY.τ).loc Cert.InY.main_arg0) = m ((c.tc : Thread Cert.InY.nD Cert.InY.τ).loc Cert.InY.main_arg0)
      ∧ r.2.mem ((c.tc : Thread Cert.InY.nD Cert.InY.τ).loc Cert.InY.main_arg1) = m ((c.tc : Thread Cert.InY.nD Cert.InY.τ).loc Cert.InY.main_arg1))
      ∧ r.2.sem = fun _ => 0)

def quiescent_InYIdeal [hInYIdeal : Cert.InYIdeal.Facts] : Prop :=
  ∀ (m : (ℓ : Loc Cert.InYIdeal.nD Cert.InYIdeal.τ Cert.InYIdeal.sig) → Buf (Elt Ideal) ℓ) (g : Dev Cert.InYIdeal.nD → PrngReg), Pre_InYIdeal m →
    θ_run (Cert.InYIdeal.defs (F := Ideal)) (onTc (τ := Cert.InYIdeal.τ) (Cert.InYIdeal.main (F := Ideal))) ⟨m, fun _ => 0, g⟩ (fun r => (∀ c : Dev Cert.InYIdeal.nD,
      r.2.mem ((c.tc : Thread Cert.InYIdeal.nD Cert.InYIdeal.τ).loc Cert.InYIdeal.main_arg0) = m ((c.tc : Thread Cert.InYIdeal.nD Cert.InYIdeal.τ).loc Cert.InYIdeal.main_arg0)
      ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ r.2.sem = fun _ => 0)

def quiescent_RefInYIdeal [hRefInYIdeal : Cert.RefInYIdeal.Facts] : Prop :=
  ∀ (m : (ℓ : Loc Cert.RefInYIdeal.nD Cert.RefInYIdeal.τ Cert.RefInYIdeal.sig) → Buf (Elt Ideal) ℓ) (g : Dev Cert.RefInYIdeal.nD → PrngReg), Pre_RefInYIdeal m →
    θ_run (Cert.RefInYIdeal.defs (F := Ideal)) (onTc (τ := Cert.RefInYIdeal.τ) (Cert.RefInYIdeal.main (F := Ideal))) ⟨m, fun _ => 0, g⟩ (fun r => (∀ c : Dev Cert.RefInYIdeal.nD,
      r.2.mem ((c.tc : Thread Cert.RefInYIdeal.nD Cert.RefInYIdeal.τ).loc Cert.RefInYIdeal.main_arg0) = m ((c.tc : Thread Cert.RefInYIdeal.nD Cert.RefInYIdeal.τ).loc Cert.RefInYIdeal.main_arg0)
      ∧ r.2.mem ((c.tc : Thread Cert.RefInYIdeal.nD Cert.RefInYIdeal.τ).loc Cert.RefInYIdeal.main_arg1) = m ((c.tc : Thread Cert.RefInYIdeal.nD Cert.RefInYIdeal.τ).loc Cert.RefInYIdeal.main_arg1))
      ∧ r.2.sem = fun _ => 0)

def quiescent_GateY [hGateY : Cert.GateY.Facts] : Prop :=
  ∀ (m : (ℓ : Loc Cert.GateY.nD Cert.GateY.τ Cert.GateY.sig) → Buf (Elt Bits) ℓ) (g : Dev Cert.GateY.nD → PrngReg), Pre_GateY m →
    θ_run (Cert.GateY.defs (F := Bits)) (onTc (τ := Cert.GateY.τ) (Cert.GateY.main (F := Bits))) ⟨m, fun _ => 0, g⟩ (fun r => (∀ c : Dev Cert.GateY.nD,
      r.2.mem ((c.tc : Thread Cert.GateY.nD Cert.GateY.τ).loc Cert.GateY.main_arg0) = m ((c.tc : Thread Cert.GateY.nD Cert.GateY.τ).loc Cert.GateY.main_arg0)
      ∧ r.2.mem ((c.tc : Thread Cert.GateY.nD Cert.GateY.τ).loc Cert.GateY.main_arg1) = m ((c.tc : Thread Cert.GateY.nD Cert.GateY.τ).loc Cert.GateY.main_arg1))
      ∧ r.2.sem = fun _ => 0)

def quiescent_GateYIdeal [hGateYIdeal : Cert.GateYIdeal.Facts] : Prop :=
  ∀ (m : (ℓ : Loc Cert.GateYIdeal.nD Cert.GateYIdeal.τ Cert.GateYIdeal.sig) → Buf (Elt Ideal) ℓ) (g : Dev Cert.GateYIdeal.nD → PrngReg), Pre_GateYIdeal m →
    θ_run (Cert.GateYIdeal.defs (F := Ideal)) (onTc (τ := Cert.GateYIdeal.τ) (Cert.GateYIdeal.main (F := Ideal))) ⟨m, fun _ => 0, g⟩ (fun r => (∀ c : Dev Cert.GateYIdeal.nD,
      r.2.mem ((c.tc : Thread Cert.GateYIdeal.nD Cert.GateYIdeal.τ).loc Cert.GateYIdeal.main_arg0) = m ((c.tc : Thread Cert.GateYIdeal.nD Cert.GateYIdeal.τ).loc Cert.GateYIdeal.main_arg0)
      ∧ r.2.mem ((c.tc : Thread Cert.GateYIdeal.nD Cert.GateYIdeal.τ).loc Cert.GateYIdeal.main_arg1) = m ((c.tc : Thread Cert.GateYIdeal.nD Cert.GateYIdeal.τ).loc Cert.GateYIdeal.main_arg1))
      ∧ r.2.sem = fun _ => 0)

def quiescent_RefGateYIdeal [hRefGateYIdeal : Cert.RefGateYIdeal.Facts] : Prop :=
  ∀ (m : (ℓ : Loc Cert.RefGateYIdeal.nD Cert.RefGateYIdeal.τ Cert.RefGateYIdeal.sig) → Buf (Elt Ideal) ℓ) (g : Dev Cert.RefGateYIdeal.nD → PrngReg), Pre_RefGateYIdeal m →
    θ_run (Cert.RefGateYIdeal.defs (F := Ideal)) (onTc (τ := Cert.RefGateYIdeal.τ) (Cert.RefGateYIdeal.main (F := Ideal))) ⟨m, fun _ => 0, g⟩ (fun r => (∀ c : Dev Cert.RefGateYIdeal.nD,
      r.2.mem ((c.tc : Thread Cert.RefGateYIdeal.nD Cert.RefGateYIdeal.τ).loc Cert.RefGateYIdeal.main_arg0) = m ((c.tc : Thread Cert.RefGateYIdeal.nD Cert.RefGateYIdeal.τ).loc Cert.RefGateYIdeal.main_arg0)
      ∧ r.2.mem ((c.tc : Thread Cert.RefGateYIdeal.nD Cert.RefGateYIdeal.τ).loc Cert.RefGateYIdeal.main_arg1) = m ((c.tc : Thread Cert.RefGateYIdeal.nD Cert.RefGateYIdeal.τ).loc Cert.RefGateYIdeal.main_arg1))
      ∧ r.2.sem = fun _ => 0)

def quiescent_BrY [hBrY : Cert.BrY.Facts] : Prop :=
  ∀ (m : (ℓ : Loc Cert.BrY.nD Cert.BrY.τ Cert.BrY.sig) → Buf (Elt Bits) ℓ) (g : Dev Cert.BrY.nD → PrngReg), Pre_BrY m →
    θ_run (Cert.BrY.defs (F := Bits)) (onTc (τ := Cert.BrY.τ) (Cert.BrY.main (F := Bits))) ⟨m, fun _ => 0, g⟩ (fun r => (∀ c : Dev Cert.BrY.nD,
      r.2.mem ((c.tc : Thread Cert.BrY.nD Cert.BrY.τ).loc Cert.BrY.main_arg0) = m ((c.tc : Thread Cert.BrY.nD Cert.BrY.τ).loc Cert.BrY.main_arg0)
      ∧ r.2.mem ((c.tc : Thread Cert.BrY.nD Cert.BrY.τ).loc Cert.BrY.main_arg1) = m ((c.tc : Thread Cert.BrY.nD Cert.BrY.τ).loc Cert.BrY.main_arg1))
      ∧ r.2.sem = fun _ => 0)

def quiescent_BrYIdeal [hBrYIdeal : Cert.BrYIdeal.Facts] : Prop :=
  ∀ (m : (ℓ : Loc Cert.BrYIdeal.nD Cert.BrYIdeal.τ Cert.BrYIdeal.sig) → Buf (Elt Ideal) ℓ) (g : Dev Cert.BrYIdeal.nD → PrngReg), Pre_BrYIdeal m →
    θ_run (Cert.BrYIdeal.defs (F := Ideal)) (onTc (τ := Cert.BrYIdeal.τ) (Cert.BrYIdeal.main (F := Ideal))) ⟨m, fun _ => 0, g⟩ (fun r => (∀ c : Dev Cert.BrYIdeal.nD,
      r.2.mem ((c.tc : Thread Cert.BrYIdeal.nD Cert.BrYIdeal.τ).loc Cert.BrYIdeal.main_arg0) = m ((c.tc : Thread Cert.BrYIdeal.nD Cert.BrYIdeal.τ).loc Cert.BrYIdeal.main_arg0)
      ∧ r.2.mem ((c.tc : Thread Cert.BrYIdeal.nD Cert.BrYIdeal.τ).loc Cert.BrYIdeal.main_arg1) = m ((c.tc : Thread Cert.BrYIdeal.nD Cert.BrYIdeal.τ).loc Cert.BrYIdeal.main_arg1))
      ∧ r.2.sem = fun _ => 0)

def quiescent_RefBrYIdeal [hRefBrYIdeal : Cert.RefBrYIdeal.Facts] : Prop :=
  ∀ (m : (ℓ : Loc Cert.RefBrYIdeal.nD Cert.RefBrYIdeal.τ Cert.RefBrYIdeal.sig) → Buf (Elt Ideal) ℓ) (g : Dev Cert.RefBrYIdeal.nD → PrngReg), Pre_RefBrYIdeal m →
    θ_run (Cert.RefBrYIdeal.defs (F := Ideal)) (onTc (τ := Cert.RefBrYIdeal.τ) (Cert.RefBrYIdeal.main (F := Ideal))) ⟨m, fun _ => 0, g⟩ (fun r => (∀ c : Dev Cert.RefBrYIdeal.nD,
      r.2.mem ((c.tc : Thread Cert.RefBrYIdeal.nD Cert.RefBrYIdeal.τ).loc Cert.RefBrYIdeal.main_arg0) = m ((c.tc : Thread Cert.RefBrYIdeal.nD Cert.RefBrYIdeal.τ).loc Cert.RefBrYIdeal.main_arg0)
      ∧ r.2.mem ((c.tc : Thread Cert.RefBrYIdeal.nD Cert.RefBrYIdeal.τ).loc Cert.RefBrYIdeal.main_arg1) = m ((c.tc : Thread Cert.RefBrYIdeal.nD Cert.RefBrYIdeal.τ).loc Cert.RefBrYIdeal.main_arg1))
      ∧ r.2.sem = fun _ => 0)

def quiescent_UpY [hUpY : Cert.UpY.Facts] : Prop :=
  ∀ (m : (ℓ : Loc Cert.UpY.nD Cert.UpY.τ Cert.UpY.sig) → Buf (Elt Bits) ℓ) (g : Dev Cert.UpY.nD → PrngReg), Pre_UpY m →
    θ_run (Cert.UpY.defs (F := Bits)) (onTc (τ := Cert.UpY.τ) (Cert.UpY.main (F := Bits))) ⟨m, fun _ => 0, g⟩ (fun r => (∀ c : Dev Cert.UpY.nD,
      r.2.mem ((c.tc : Thread Cert.UpY.nD Cert.UpY.τ).loc Cert.UpY.main_arg0) = m ((c.tc : Thread Cert.UpY.nD Cert.UpY.τ).loc Cert.UpY.main_arg0)
      ∧ r.2.mem ((c.tc : Thread Cert.UpY.nD Cert.UpY.τ).loc Cert.UpY.main_arg1) = m ((c.tc : Thread Cert.UpY.nD Cert.UpY.τ).loc Cert.UpY.main_arg1))
      ∧ r.2.sem = fun _ => 0)

def quiescent_UpYIdeal [hUpYIdeal : Cert.UpYIdeal.Facts] : Prop :=
  ∀ (m : (ℓ : Loc Cert.UpYIdeal.nD Cert.UpYIdeal.τ Cert.UpYIdeal.sig) → Buf (Elt Ideal) ℓ) (g : Dev Cert.UpYIdeal.nD → PrngReg), Pre_UpYIdeal m →
    θ_run (Cert.UpYIdeal.defs (F := Ideal)) (onTc (τ := Cert.UpYIdeal.τ) (Cert.UpYIdeal.main (F := Ideal))) ⟨m, fun _ => 0, g⟩ (fun r => (∀ c : Dev Cert.UpYIdeal.nD,
      r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
      ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ r.2.sem = fun _ => 0)

def quiescent_RefUpYIdeal [hRefUpYIdeal : Cert.RefUpYIdeal.Facts] : Prop :=
  ∀ (m : (ℓ : Loc Cert.RefUpYIdeal.nD Cert.RefUpYIdeal.τ Cert.RefUpYIdeal.sig) → Buf (Elt Ideal) ℓ) (g : Dev Cert.RefUpYIdeal.nD → PrngReg), Pre_RefUpYIdeal m →
    θ_run (Cert.RefUpYIdeal.defs (F := Ideal)) (onTc (τ := Cert.RefUpYIdeal.τ) (Cert.RefUpYIdeal.main (F := Ideal))) ⟨m, fun _ => 0, g⟩ (fun r => (∀ c : Dev Cert.RefUpYIdeal.nD,
      r.2.mem ((c.tc : Thread Cert.RefUpYIdeal.nD Cert.RefUpYIdeal.τ).loc Cert.RefUpYIdeal.main_arg0) = m ((c.tc : Thread Cert.RefUpYIdeal.nD Cert.RefUpYIdeal.τ).loc Cert.RefUpYIdeal.main_arg0)
      ∧ r.2.mem ((c.tc : Thread Cert.RefUpYIdeal.nD Cert.RefUpYIdeal.τ).loc Cert.RefUpYIdeal.main_arg1) = m ((c.tc : Thread Cert.RefUpYIdeal.nD Cert.RefUpYIdeal.τ).loc Cert.RefUpYIdeal.main_arg1))
      ∧ r.2.sem = fun _ => 0)

def quiescent_OutY [hOutY : Cert.OutY.Facts] : Prop :=
  ∀ (m : (ℓ : Loc Cert.OutY.nD Cert.OutY.τ Cert.OutY.sig) → Buf (Elt Bits) ℓ) (g : Dev Cert.OutY.nD → PrngReg), Pre_OutY m →
    θ_run (Cert.OutY.defs (F := Bits)) (onTc (τ := Cert.OutY.τ) (Cert.OutY.main (F := Bits))) ⟨m, fun _ => 0, g⟩ (fun r => (∀ c : Dev Cert.OutY.nD,
      r.2.mem ((c.tc : Thread Cert.OutY.nD Cert.OutY.τ).loc Cert.OutY.main_arg0) = m ((c.tc : Thread Cert.OutY.nD Cert.OutY.τ).loc Cert.OutY.main_arg0)
      ∧ r.2.mem ((c.tc : Thread Cert.OutY.nD Cert.OutY.τ).loc Cert.OutY.main_arg1) = m ((c.tc : Thread Cert.OutY.nD Cert.OutY.τ).loc Cert.OutY.main_arg1))
      ∧ r.2.sem = fun _ => 0)

def quiescent_OutYIdeal [hOutYIdeal : Cert.OutYIdeal.Facts] : Prop :=
  ∀ (m : (ℓ : Loc Cert.OutYIdeal.nD Cert.OutYIdeal.τ Cert.OutYIdeal.sig) → Buf (Elt Ideal) ℓ) (g : Dev Cert.OutYIdeal.nD → PrngReg), Pre_OutYIdeal m →
    θ_run (Cert.OutYIdeal.defs (F := Ideal)) (onTc (τ := Cert.OutYIdeal.τ) (Cert.OutYIdeal.main (F := Ideal))) ⟨m, fun _ => 0, g⟩ (fun r => (∀ c : Dev Cert.OutYIdeal.nD,
      r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
      ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1))
      ∧ r.2.sem = fun _ => 0)

def quiescent_RefOutYIdeal [hRefOutYIdeal : Cert.RefOutYIdeal.Facts] : Prop :=
  ∀ (m : (ℓ : Loc Cert.RefOutYIdeal.nD Cert.RefOutYIdeal.τ Cert.RefOutYIdeal.sig) → Buf (Elt Ideal) ℓ) (g : Dev Cert.RefOutYIdeal.nD → PrngReg), Pre_RefOutYIdeal m →
    θ_run (Cert.RefOutYIdeal.defs (F := Ideal)) (onTc (τ := Cert.RefOutYIdeal.τ) (Cert.RefOutYIdeal.main (F := Ideal))) ⟨m, fun _ => 0, g⟩ (fun r => (∀ c : Dev Cert.RefOutYIdeal.nD,
      r.2.mem ((c.tc : Thread Cert.RefOutYIdeal.nD Cert.RefOutYIdeal.τ).loc Cert.RefOutYIdeal.main_arg0) = m ((c.tc : Thread Cert.RefOutYIdeal.nD Cert.RefOutYIdeal.τ).loc Cert.RefOutYIdeal.main_arg0)
      ∧ r.2.mem ((c.tc : Thread Cert.RefOutYIdeal.nD Cert.RefOutYIdeal.τ).loc Cert.RefOutYIdeal.main_arg1) = m ((c.tc : Thread Cert.RefOutYIdeal.nD Cert.RefOutYIdeal.τ).loc Cert.RefOutYIdeal.main_arg1))
      ∧ r.2.sem = fun _ => 0)

def quiescent_DownY [hDownY : Cert.DownY.Facts] : Prop :=
  ∀ (m : (ℓ : Loc Cert.DownY.nD Cert.DownY.τ Cert.DownY.sig) → Buf (Elt Bits) ℓ) (g : Dev Cert.DownY.nD → PrngReg), Pre_DownY m →
    θ_run (Cert.DownY.defs (F := Bits)) (onTc (τ := Cert.DownY.τ) (Cert.DownY.main (F := Bits))) ⟨m, fun _ => 0, g⟩ (fun r => (∀ c : Dev Cert.DownY.nD,
      r.2.mem ((c.tc : Thread Cert.DownY.nD Cert.DownY.τ).loc Cert.DownY.main_arg0) = m ((c.tc : Thread Cert.DownY.nD Cert.DownY.τ).loc Cert.DownY.main_arg0)
      ∧ r.2.mem ((c.tc : Thread Cert.DownY.nD Cert.DownY.τ).loc Cert.DownY.main_arg1) = m ((c.tc : Thread Cert.DownY.nD Cert.DownY.τ).loc Cert.DownY.main_arg1))
      ∧ r.2.sem = fun _ => 0)

def quiescent_DownYIdeal [hDownYIdeal : Cert.DownYIdeal.Facts] : Prop :=
  ∀ (m : (ℓ : Loc Cert.DownYIdeal.nD Cert.DownYIdeal.τ Cert.DownYIdeal.sig) → Buf (Elt Ideal) ℓ) (g : Dev Cert.DownYIdeal.nD → PrngReg), Pre_DownYIdeal m →
    θ_run (Cert.DownYIdeal.defs (F := Ideal)) (onTc (τ := Cert.DownYIdeal.τ) (Cert.DownYIdeal.main (F := Ideal))) ⟨m, fun _ => 0, g⟩ (fun r => (∀ c : Dev Cert.DownYIdeal.nD,
      r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
      ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1))
      ∧ r.2.sem = fun _ => 0)

def quiescent_RefDownYIdeal [hRefDownYIdeal : Cert.RefDownYIdeal.Facts] : Prop :=
  ∀ (m : (ℓ : Loc Cert.RefDownYIdeal.nD Cert.RefDownYIdeal.τ Cert.RefDownYIdeal.sig) → Buf (Elt Ideal) ℓ) (g : Dev Cert.RefDownYIdeal.nD → PrngReg), Pre_RefDownYIdeal m →
    θ_run (Cert.RefDownYIdeal.defs (F := Ideal)) (onTc (τ := Cert.RefDownYIdeal.τ) (Cert.RefDownYIdeal.main (F := Ideal))) ⟨m, fun _ => 0, g⟩ (fun r => (∀ c : Dev Cert.RefDownYIdeal.nD,
      r.2.mem ((c.tc : Thread Cert.RefDownYIdeal.nD Cert.RefDownYIdeal.τ).loc Cert.RefDownYIdeal.main_arg0) = m ((c.tc : Thread Cert.RefDownYIdeal.nD Cert.RefDownYIdeal.τ).loc Cert.RefDownYIdeal.main_arg0)
      ∧ r.2.mem ((c.tc : Thread Cert.RefDownYIdeal.nD Cert.RefDownYIdeal.τ).loc Cert.RefDownYIdeal.main_arg1) = m ((c.tc : Thread Cert.RefDownYIdeal.nD Cert.RefDownYIdeal.τ).loc Cert.RefDownYIdeal.main_arg1))
      ∧ r.2.sem = fun _ => 0)

def quiescent_MemY [hMemY : Cert.MemY.Facts] : Prop :=
  ∀ (m : (ℓ : Loc Cert.MemY.nD Cert.MemY.τ Cert.MemY.sig) → Buf (Elt Bits) ℓ) (g : Dev Cert.MemY.nD → PrngReg), Pre_MemY m →
    θ_run (Cert.MemY.defs (F := Bits)) (onTc (τ := Cert.MemY.τ) (Cert.MemY.main (F := Bits))) ⟨m, fun _ => 0, g⟩ (fun r => (∀ c : Dev Cert.MemY.nD,
      r.2.mem ((c.tc : Thread Cert.MemY.nD Cert.MemY.τ).loc Cert.MemY.main_arg0) = m ((c.tc : Thread Cert.MemY.nD Cert.MemY.τ).loc Cert.MemY.main_arg0)
      ∧ r.2.mem ((c.tc : Thread Cert.MemY.nD Cert.MemY.τ).loc Cert.MemY.main_arg1) = m ((c.tc : Thread Cert.MemY.nD Cert.MemY.τ).loc Cert.MemY.main_arg1))
      ∧ r.2.sem = fun _ => 0)

def quiescent_MemYIdeal [hMemYIdeal : Cert.MemYIdeal.Facts] : Prop :=
  ∀ (m : (ℓ : Loc Cert.MemYIdeal.nD Cert.MemYIdeal.τ Cert.MemYIdeal.sig) → Buf (Elt Ideal) ℓ) (g : Dev Cert.MemYIdeal.nD → PrngReg), Pre_MemYIdeal m →
    θ_run (Cert.MemYIdeal.defs (F := Ideal)) (onTc (τ := Cert.MemYIdeal.τ) (Cert.MemYIdeal.main (F := Ideal))) ⟨m, fun _ => 0, g⟩ (fun r => (∀ c : Dev Cert.MemYIdeal.nD,
      r.2.mem ((c.tc : Thread Cert.MemYIdeal.nD Cert.MemYIdeal.τ).loc Cert.MemYIdeal.main_arg0) = m ((c.tc : Thread Cert.MemYIdeal.nD Cert.MemYIdeal.τ).loc Cert.MemYIdeal.main_arg0)
      ∧ r.2.mem ((c.tc : Thread Cert.MemYIdeal.nD Cert.MemYIdeal.τ).loc Cert.MemYIdeal.main_arg1) = m ((c.tc : Thread Cert.MemYIdeal.nD Cert.MemYIdeal.τ).loc Cert.MemYIdeal.main_arg1))
      ∧ r.2.sem = fun _ => 0)

def quiescent_RefMemYIdeal [hRefMemYIdeal : Cert.RefMemYIdeal.Facts] : Prop :=
  ∀ (m : (ℓ : Loc Cert.RefMemYIdeal.nD Cert.RefMemYIdeal.τ Cert.RefMemYIdeal.sig) → Buf (Elt Ideal) ℓ) (g : Dev Cert.RefMemYIdeal.nD → PrngReg), Pre_RefMemYIdeal m →
    θ_run (Cert.RefMemYIdeal.defs (F := Ideal)) (onTc (τ := Cert.RefMemYIdeal.τ) (Cert.RefMemYIdeal.main (F := Ideal))) ⟨m, fun _ => 0, g⟩ (fun r => (∀ c : Dev Cert.RefMemYIdeal.nD,
      r.2.mem ((c.tc : Thread Cert.RefMemYIdeal.nD Cert.RefMemYIdeal.τ).loc Cert.RefMemYIdeal.main_arg0) = m ((c.tc : Thread Cert.RefMemYIdeal.nD Cert.RefMemYIdeal.τ).loc Cert.RefMemYIdeal.main_arg0)
      ∧ r.2.mem ((c.tc : Thread Cert.RefMemYIdeal.nD Cert.RefMemYIdeal.τ).loc Cert.RefMemYIdeal.main_arg1) = m ((c.tc : Thread Cert.RefMemYIdeal.nD Cert.RefMemYIdeal.τ).loc Cert.RefMemYIdeal.main_arg1))
      ∧ r.2.sem = fun _ => 0)

def quiescent_XaG [hXaG : Cert.XaG.Facts] : Prop :=
  ∀ (m : (ℓ : Loc Cert.XaG.nD Cert.XaG.τ Cert.XaG.sig) → Buf (Elt Bits) ℓ) (g : Dev Cert.XaG.nD → PrngReg), Pre_XaG m →
    θ_run (Cert.XaG.defs (F := Bits)) (onTc (τ := Cert.XaG.τ) (Cert.XaG.main (F := Bits))) ⟨m, fun _ => 0, g⟩ (fun r => (∀ c : Dev Cert.XaG.nD,
      r.2.mem ((c.tc : Thread Cert.XaG.nD Cert.XaG.τ).loc Cert.XaG.main_arg0) = m ((c.tc : Thread Cert.XaG.nD Cert.XaG.τ).loc Cert.XaG.main_arg0)
      ∧ r.2.mem ((c.tc : Thread Cert.XaG.nD Cert.XaG.τ).loc Cert.XaG.main_arg1) = m ((c.tc : Thread Cert.XaG.nD Cert.XaG.τ).loc Cert.XaG.main_arg1)
      ∧ r.2.mem ((c.tc : Thread Cert.XaG.nD Cert.XaG.τ).loc Cert.XaG.main_arg2) = m ((c.tc : Thread Cert.XaG.nD Cert.XaG.τ).loc Cert.XaG.main_arg2))
      ∧ r.2.sem = fun _ => 0)

def quiescent_XaGIdeal [hXaGIdeal : Cert.XaGIdeal.Facts] : Prop :=
  ∀ (m : (ℓ : Loc Cert.XaGIdeal.nD Cert.XaGIdeal.τ Cert.XaGIdeal.sig) → Buf (Elt Ideal) ℓ) (g : Dev Cert.XaGIdeal.nD → PrngReg), Pre_XaGIdeal m →
    θ_run (Cert.XaGIdeal.defs (F := Ideal)) (onTc (τ := Cert.XaGIdeal.τ) (Cert.XaGIdeal.main (F := Ideal))) ⟨m, fun _ => 0, g⟩ (fun r => (∀ c : Dev Cert.XaGIdeal.nD,
      r.2.mem ((c.tc : Thread Cert.XaGIdeal.nD Cert.XaGIdeal.τ).loc Cert.XaGIdeal.main_arg0) = m ((c.tc : Thread Cert.XaGIdeal.nD Cert.XaGIdeal.τ).loc Cert.XaGIdeal.main_arg0)
      ∧ r.2.mem ((c.tc : Thread Cert.XaGIdeal.nD Cert.XaGIdeal.τ).loc Cert.XaGIdeal.main_arg1) = m ((c.tc : Thread Cert.XaGIdeal.nD Cert.XaGIdeal.τ).loc Cert.XaGIdeal.main_arg1)
      ∧ r.2.mem ((c.tc : Thread Cert.XaGIdeal.nD Cert.XaGIdeal.τ).loc Cert.XaGIdeal.main_arg2) = m ((c.tc : Thread Cert.XaGIdeal.nD Cert.XaGIdeal.τ).loc Cert.XaGIdeal.main_arg2))
      ∧ r.2.sem = fun _ => 0)

def quiescent_XaGIdeal_pre_scored [hXaGIdeal : Cert.XaGIdeal.Facts] [hPre_scored : Cert.Pre_scored.Facts] : Prop :=
  ∀ (m : (ℓ : Loc Cert.XaGIdeal.nD Cert.XaGIdeal.τ Cert.XaGIdeal.sig) → Buf (Elt Ideal) ℓ) (g : Dev Cert.XaGIdeal.nD → PrngReg), Pre_XaGIdeal_scored m →
    θ_run (Cert.XaGIdeal.defs (F := Ideal)) (onTc (τ := Cert.XaGIdeal.τ) (Cert.XaGIdeal.main (F := Ideal))) ⟨m, fun _ => 0, g⟩ (fun r => (∀ c : Dev Cert.XaGIdeal.nD,
      r.2.mem ((c.tc : Thread Cert.XaGIdeal.nD Cert.XaGIdeal.τ).loc Cert.XaGIdeal.main_arg0) = m ((c.tc : Thread Cert.XaGIdeal.nD Cert.XaGIdeal.τ).loc Cert.XaGIdeal.main_arg0)
      ∧ r.2.mem ((c.tc : Thread Cert.XaGIdeal.nD Cert.XaGIdeal.τ).loc Cert.XaGIdeal.main_arg1) = m ((c.tc : Thread Cert.XaGIdeal.nD Cert.XaGIdeal.τ).loc Cert.XaGIdeal.main_arg1)
      ∧ r.2.mem ((c.tc : Thread Cert.XaGIdeal.nD Cert.XaGIdeal.τ).loc Cert.XaGIdeal.main_arg2) = m ((c.tc : Thread Cert.XaGIdeal.nD Cert.XaGIdeal.τ).loc Cert.XaGIdeal.main_arg2))
      ∧ r.2.sem = fun _ => 0)

def quiescent_RefXaGIdeal [hRefXaGIdeal : Cert.RefXaGIdeal.Facts] : Prop :=
  ∀ (m : (ℓ : Loc Cert.RefXaGIdeal.nD Cert.RefXaGIdeal.τ Cert.RefXaGIdeal.sig) → Buf (Elt Ideal) ℓ) (g : Dev Cert.RefXaGIdeal.nD → PrngReg), Pre_RefXaGIdeal m →
    θ_run (Cert.RefXaGIdeal.defs (F := Ideal)) (onTc (τ := Cert.RefXaGIdeal.τ) (Cert.RefXaGIdeal.main (F := Ideal))) ⟨m, fun _ => 0, g⟩ (fun r => (∀ c : Dev Cert.RefXaGIdeal.nD,
      r.2.mem ((c.tc : Thread Cert.RefXaGIdeal.nD Cert.RefXaGIdeal.τ).loc Cert.RefXaGIdeal.main_arg0) = m ((c.tc : Thread Cert.RefXaGIdeal.nD Cert.RefXaGIdeal.τ).loc Cert.RefXaGIdeal.main_arg0)
      ∧ r.2.mem ((c.tc : Thread Cert.RefXaGIdeal.nD Cert.RefXaGIdeal.τ).loc Cert.RefXaGIdeal.main_arg1) = m ((c.tc : Thread Cert.RefXaGIdeal.nD Cert.RefXaGIdeal.τ).loc Cert.RefXaGIdeal.main_arg1)
      ∧ r.2.mem ((c.tc : Thread Cert.RefXaGIdeal.nD Cert.RefXaGIdeal.τ).loc Cert.RefXaGIdeal.main_arg2) = m ((c.tc : Thread Cert.RefXaGIdeal.nD Cert.RefXaGIdeal.τ).loc Cert.RefXaGIdeal.main_arg2))
      ∧ r.2.sem = fun _ => 0)

def quiescent_RefXaGIdeal_pre_scored [hRefXaGIdeal : Cert.RefXaGIdeal.Facts] [hPre_scored : Cert.Pre_scored.Facts] : Prop :=
  ∀ (m : (ℓ : Loc Cert.RefXaGIdeal.nD Cert.RefXaGIdeal.τ Cert.RefXaGIdeal.sig) → Buf (Elt Ideal) ℓ) (g : Dev Cert.RefXaGIdeal.nD → PrngReg), Pre_RefXaGIdeal_scored m →
    θ_run (Cert.RefXaGIdeal.defs (F := Ideal)) (onTc (τ := Cert.RefXaGIdeal.τ) (Cert.RefXaGIdeal.main (F := Ideal))) ⟨m, fun _ => 0, g⟩ (fun r => (∀ c : Dev Cert.RefXaGIdeal.nD,
      r.2.mem ((c.tc : Thread Cert.RefXaGIdeal.nD Cert.RefXaGIdeal.τ).loc Cert.RefXaGIdeal.main_arg0) = m ((c.tc : Thread Cert.RefXaGIdeal.nD Cert.RefXaGIdeal.τ).loc Cert.RefXaGIdeal.main_arg0)
      ∧ r.2.mem ((c.tc : Thread Cert.RefXaGIdeal.nD Cert.RefXaGIdeal.τ).loc Cert.RefXaGIdeal.main_arg1) = m ((c.tc : Thread Cert.RefXaGIdeal.nD Cert.RefXaGIdeal.τ).loc Cert.RefXaGIdeal.main_arg1)
      ∧ r.2.mem ((c.tc : Thread Cert.RefXaGIdeal.nD Cert.RefXaGIdeal.τ).loc Cert.RefXaGIdeal.main_arg2) = m ((c.tc : Thread Cert.RefXaGIdeal.nD Cert.RefXaGIdeal.τ).loc Cert.RefXaGIdeal.main_arg2))
      ∧ r.2.sem = fun _ => 0)

def quiescent_XaY [hXaY : Cert.XaY.Facts] : Prop :=
  ∀ (m : (ℓ : Loc Cert.XaY.nD Cert.XaY.τ Cert.XaY.sig) → Buf (Elt Bits) ℓ) (g : Dev Cert.XaY.nD → PrngReg), Pre_XaY m →
    θ_run (Cert.XaY.defs (F := Bits)) (onTc (τ := Cert.XaY.τ) (Cert.XaY.main (F := Bits))) ⟨m, fun _ => 0, g⟩ (fun r => (∀ c : Dev Cert.XaY.nD,
      r.2.mem ((c.tc : Thread Cert.XaY.nD Cert.XaY.τ).loc Cert.XaY.main_arg0) = m ((c.tc : Thread Cert.XaY.nD Cert.XaY.τ).loc Cert.XaY.main_arg0)
      ∧ r.2.mem ((c.tc : Thread Cert.XaY.nD Cert.XaY.τ).loc Cert.XaY.main_arg1) = m ((c.tc : Thread Cert.XaY.nD Cert.XaY.τ).loc Cert.XaY.main_arg1))
      ∧ r.2.sem = fun _ => 0)

def quiescent_XaYIdeal [hXaYIdeal : Cert.XaYIdeal.Facts] : Prop :=
  ∀ (m : (ℓ : Loc Cert.XaYIdeal.nD Cert.XaYIdeal.τ Cert.XaYIdeal.sig) → Buf (Elt Ideal) ℓ) (g : Dev Cert.XaYIdeal.nD → PrngReg), Pre_XaYIdeal m →
    θ_run (Cert.XaYIdeal.defs (F := Ideal)) (onTc (τ := Cert.XaYIdeal.τ) (Cert.XaYIdeal.main (F := Ideal))) ⟨m, fun _ => 0, g⟩ (fun r => (∀ c : Dev Cert.XaYIdeal.nD,
      r.2.mem ((c.tc : Thread Cert.XaYIdeal.nD Cert.XaYIdeal.τ).loc Cert.XaYIdeal.main_arg0) = m ((c.tc : Thread Cert.XaYIdeal.nD Cert.XaYIdeal.τ).loc Cert.XaYIdeal.main_arg0)
      ∧ r.2.mem ((c.tc : Thread Cert.XaYIdeal.nD Cert.XaYIdeal.τ).loc Cert.XaYIdeal.main_arg1) = m ((c.tc : Thread Cert.XaYIdeal.nD Cert.XaYIdeal.τ).loc Cert.XaYIdeal.main_arg1))
      ∧ r.2.sem = fun _ => 0)

def quiescent_RefXaYIdeal [hRefXaYIdeal : Cert.RefXaYIdeal.Facts] : Prop :=
  ∀ (m : (ℓ : Loc Cert.RefXaYIdeal.nD Cert.RefXaYIdeal.τ Cert.RefXaYIdeal.sig) → Buf (Elt Ideal) ℓ) (g : Dev Cert.RefXaYIdeal.nD → PrngReg), Pre_RefXaYIdeal m →
    θ_run (Cert.RefXaYIdeal.defs (F := Ideal)) (onTc (τ := Cert.RefXaYIdeal.τ) (Cert.RefXaYIdeal.main (F := Ideal))) ⟨m, fun _ => 0, g⟩ (fun r => (∀ c : Dev Cert.RefXaYIdeal.nD,
      r.2.mem ((c.tc : Thread Cert.RefXaYIdeal.nD Cert.RefXaYIdeal.τ).loc Cert.RefXaYIdeal.main_arg0) = m ((c.tc : Thread Cert.RefXaYIdeal.nD Cert.RefXaYIdeal.τ).loc Cert.RefXaYIdeal.main_arg0)
      ∧ r.2.mem ((c.tc : Thread Cert.RefXaYIdeal.nD Cert.RefXaYIdeal.τ).loc Cert.RefXaYIdeal.main_arg1) = m ((c.tc : Thread Cert.RefXaYIdeal.nD Cert.RefXaYIdeal.τ).loc Cert.RefXaYIdeal.main_arg1))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DownX_DownXIdeal : Prop :=
  True

def algebraic_DownXIdeal_RefDownXIdeal [hDownXIdeal : Cert.DownXIdeal.Facts] [hRefDownXIdeal : Cert.RefDownXIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.RefDownXIdeal.nD Cert.RefDownXIdeal.τ Cert.RefDownXIdeal.sig) → Buf (Elt Ideal) ℓ) (g' : Dev Cert.RefDownXIdeal.nD → PrngReg), Pre_DownXIdeal m →
    (∀ c : Dev Cert.DownXIdeal.nD,
      m' ((c.tc : Thread Cert.RefDownXIdeal.nD Cert.RefDownXIdeal.τ).loc Cert.RefDownXIdeal.main_arg0) = m ((c.tc : Thread Cert.DownXIdeal.nD Cert.DownXIdeal.τ).loc Cert.DownXIdeal.main_arg0)
      ∧ m' ((c.tc : Thread Cert.RefDownXIdeal.nD Cert.RefDownXIdeal.τ).loc Cert.RefDownXIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.RefDownXIdeal.defs (F := Ideal)) (onTc (τ := Cert.RefDownXIdeal.τ) (Cert.RefDownXIdeal.main (F := Ideal))) ⟨m', fun _ => 0, g'⟩ (fun r => ∀ c : Dev Cert.RefDownXIdeal.nD,
          r.2.mem ((c.tc : Thread Cert.RefDownXIdeal.nD Cert.RefDownXIdeal.τ).loc Cert.RefDownXIdeal.main_v4) = v0 c
          ∧ r.2.mem ((c.tc : Thread Cert.RefDownXIdeal.nD Cert.RefDownXIdeal.τ).loc Cert.RefDownXIdeal.main_arg0) = m' ((c.tc : Thread Cert.RefDownXIdeal.nD Cert.RefDownXIdeal.τ).loc Cert.RefDownXIdeal.main_arg0)
          ∧ r.2.mem ((c.tc : Thread Cert.RefDownXIdeal.nD Cert.RefDownXIdeal.τ).loc Cert.RefDownXIdeal.main_arg1) = m' ((c.tc : Thread Cert.RefDownXIdeal.nD Cert.RefDownXIdeal.τ).loc Cert.RefDownXIdeal.main_arg1))

def preserves_DownW_DownWIdeal : Prop :=
  True

def algebraic_DownWIdeal_RefDownWIdeal [hDownWIdeal : Cert.DownWIdeal.Facts] [hRefDownWIdeal : Cert.RefDownWIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.RefDownWIdeal.nD Cert.RefDownWIdeal.τ Cert.RefDownWIdeal.sig) → Buf (Elt Ideal) ℓ) (g' : Dev Cert.RefDownWIdeal.nD → PrngReg), Pre_DownWIdeal m →
    (∀ c : Dev Cert.DownWIdeal.nD,
      m' ((c.tc : Thread Cert.RefDownWIdeal.nD Cert.RefDownWIdeal.τ).loc Cert.RefDownWIdeal.main_arg0) = m ((c.tc : Thread Cert.DownWIdeal.nD Cert.DownWIdeal.τ).loc Cert.DownWIdeal.main_arg0)
      ∧ m' ((c.tc : Thread Cert.RefDownWIdeal.nD Cert.RefDownWIdeal.τ).loc Cert.RefDownWIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.RefDownWIdeal.defs (F := Ideal)) (onTc (τ := Cert.RefDownWIdeal.τ) (Cert.RefDownWIdeal.main (F := Ideal))) ⟨m', fun _ => 0, g'⟩ (fun r => ∀ c : Dev Cert.RefDownWIdeal.nD,
          r.2.mem ((c.tc : Thread Cert.RefDownWIdeal.nD Cert.RefDownWIdeal.τ).loc Cert.RefDownWIdeal.main_v6) = v0 c
          ∧ r.2.mem ((c.tc : Thread Cert.RefDownWIdeal.nD Cert.RefDownWIdeal.τ).loc Cert.RefDownWIdeal.main_arg0) = m' ((c.tc : Thread Cert.RefDownWIdeal.nD Cert.RefDownWIdeal.τ).loc Cert.RefDownWIdeal.main_arg0)
          ∧ r.2.mem ((c.tc : Thread Cert.RefDownWIdeal.nD Cert.RefDownWIdeal.τ).loc Cert.RefDownWIdeal.main_arg1) = m' ((c.tc : Thread Cert.RefDownWIdeal.nD Cert.RefDownWIdeal.τ).loc Cert.RefDownWIdeal.main_arg1))

def preserves_OutX_OutXIdeal : Prop :=
  True

def algebraic_OutXIdeal_RefOutXIdeal [hOutXIdeal : Cert.OutXIdeal.Facts] [hRefOutXIdeal : Cert.RefOutXIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.RefOutXIdeal.nD Cert.RefOutXIdeal.τ Cert.RefOutXIdeal.sig) → Buf (Elt Ideal) ℓ) (g' : Dev Cert.RefOutXIdeal.nD → PrngReg), Pre_OutXIdeal m →
    (∀ c : Dev Cert.OutXIdeal.nD,
      m' ((c.tc : Thread Cert.RefOutXIdeal.nD Cert.RefOutXIdeal.τ).loc Cert.RefOutXIdeal.main_arg0) = m ((c.tc : Thread Cert.OutXIdeal.nD Cert.OutXIdeal.τ).loc Cert.OutXIdeal.main_arg0)
      ∧ m' ((c.tc : Thread Cert.RefOutXIdeal.nD Cert.RefOutXIdeal.τ).loc Cert.RefOutXIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.RefOutXIdeal.defs (F := Ideal)) (onTc (τ := Cert.RefOutXIdeal.τ) (Cert.RefOutXIdeal.main (F := Ideal))) ⟨m', fun _ => 0, g'⟩ (fun r => ∀ c : Dev Cert.RefOutXIdeal.nD,
          r.2.mem ((c.tc : Thread Cert.RefOutXIdeal.nD Cert.RefOutXIdeal.τ).loc Cert.RefOutXIdeal.main_v4) = v0 c
          ∧ r.2.mem ((c.tc : Thread Cert.RefOutXIdeal.nD Cert.RefOutXIdeal.τ).loc Cert.RefOutXIdeal.main_arg0) = m' ((c.tc : Thread Cert.RefOutXIdeal.nD Cert.RefOutXIdeal.τ).loc Cert.RefOutXIdeal.main_arg0)
          ∧ r.2.mem ((c.tc : Thread Cert.RefOutXIdeal.nD Cert.RefOutXIdeal.τ).loc Cert.RefOutXIdeal.main_arg1) = m' ((c.tc : Thread Cert.RefOutXIdeal.nD Cert.RefOutXIdeal.τ).loc Cert.RefOutXIdeal.main_arg1))

def preserves_OutW_OutWIdeal : Prop :=
  True

def algebraic_OutWIdeal_RefOutWIdeal [hOutWIdeal : Cert.OutWIdeal.Facts] [hRefOutWIdeal : Cert.RefOutWIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.RefOutWIdeal.nD Cert.RefOutWIdeal.τ Cert.RefOutWIdeal.sig) → Buf (Elt Ideal) ℓ) (g' : Dev Cert.RefOutWIdeal.nD → PrngReg), Pre_OutWIdeal m →
    (∀ c : Dev Cert.OutWIdeal.nD,
      m' ((c.tc : Thread Cert.RefOutWIdeal.nD Cert.RefOutWIdeal.τ).loc Cert.RefOutWIdeal.main_arg0) = m ((c.tc : Thread Cert.OutWIdeal.nD Cert.OutWIdeal.τ).loc Cert.OutWIdeal.main_arg0)
      ∧ m' ((c.tc : Thread Cert.RefOutWIdeal.nD Cert.RefOutWIdeal.τ).loc Cert.RefOutWIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.RefOutWIdeal.defs (F := Ideal)) (onTc (τ := Cert.RefOutWIdeal.τ) (Cert.RefOutWIdeal.main (F := Ideal))) ⟨m', fun _ => 0, g'⟩ (fun r => ∀ c : Dev Cert.RefOutWIdeal.nD,
          r.2.mem ((c.tc : Thread Cert.RefOutWIdeal.nD Cert.RefOutWIdeal.τ).loc Cert.RefOutWIdeal.main_v6) = v0 c
          ∧ r.2.mem ((c.tc : Thread Cert.RefOutWIdeal.nD Cert.RefOutWIdeal.τ).loc Cert.RefOutWIdeal.main_arg0) = m' ((c.tc : Thread Cert.RefOutWIdeal.nD Cert.RefOutWIdeal.τ).loc Cert.RefOutWIdeal.main_arg0)
          ∧ r.2.mem ((c.tc : Thread Cert.RefOutWIdeal.nD Cert.RefOutWIdeal.τ).loc Cert.RefOutWIdeal.main_arg1) = m' ((c.tc : Thread Cert.RefOutWIdeal.nD Cert.RefOutWIdeal.τ).loc Cert.RefOutWIdeal.main_arg1))

def preserves_UpX_UpXIdeal : Prop :=
  True

def algebraic_UpXIdeal_RefUpXIdeal [hUpXIdeal : Cert.UpXIdeal.Facts] [hRefUpXIdeal : Cert.RefUpXIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.RefUpXIdeal.nD Cert.RefUpXIdeal.τ Cert.RefUpXIdeal.sig) → Buf (Elt Ideal) ℓ) (g' : Dev Cert.RefUpXIdeal.nD → PrngReg), Pre_UpXIdeal m →
    (∀ c : Dev Cert.UpXIdeal.nD,
      m' ((c.tc : Thread Cert.RefUpXIdeal.nD Cert.RefUpXIdeal.τ).loc Cert.RefUpXIdeal.main_arg0) = m ((c.tc : Thread Cert.UpXIdeal.nD Cert.UpXIdeal.τ).loc Cert.UpXIdeal.main_arg0)
      ∧ m' ((c.tc : Thread Cert.RefUpXIdeal.nD Cert.RefUpXIdeal.τ).loc Cert.RefUpXIdeal.main_arg1) = m ((c.tc : Thread Cert.UpXIdeal.nD Cert.UpXIdeal.τ).loc Cert.UpXIdeal.main_arg1)
      ∧ m' ((c.tc : Thread Cert.RefUpXIdeal.nD Cert.RefUpXIdeal.τ).loc Cert.RefUpXIdeal.main_arg2) = m ((c.tc : Thread Cert.UpXIdeal.nD Cert.UpXIdeal.τ).loc Cert.UpXIdeal.main_arg2)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ θ_run (Cert.RefUpXIdeal.defs (F := Ideal)) (onTc (τ := Cert.RefUpXIdeal.τ) (Cert.RefUpXIdeal.main (F := Ideal))) ⟨m', fun _ => 0, g'⟩ (fun r => ∀ c : Dev Cert.RefUpXIdeal.nD,
          r.2.mem ((c.tc : Thread Cert.RefUpXIdeal.nD Cert.RefUpXIdeal.τ).loc Cert.RefUpXIdeal.main_v7) = v0 c
          ∧ r.2.mem ((c.tc : Thread Cert.RefUpXIdeal.nD Cert.RefUpXIdeal.τ).loc Cert.RefUpXIdeal.main_arg0) = m' ((c.tc : Thread Cert.RefUpXIdeal.nD Cert.RefUpXIdeal.τ).loc Cert.RefUpXIdeal.main_arg0)
          ∧ r.2.mem ((c.tc : Thread Cert.RefUpXIdeal.nD Cert.RefUpXIdeal.τ).loc Cert.RefUpXIdeal.main_arg1) = m' ((c.tc : Thread Cert.RefUpXIdeal.nD Cert.RefUpXIdeal.τ).loc Cert.RefUpXIdeal.main_arg1)
          ∧ r.2.mem ((c.tc : Thread Cert.RefUpXIdeal.nD Cert.RefUpXIdeal.τ).loc Cert.RefUpXIdeal.main_arg2) = m' ((c.tc : Thread Cert.RefUpXIdeal.nD Cert.RefUpXIdeal.τ).loc Cert.RefUpXIdeal.main_arg2))

def preserves_UpW_UpWIdeal : Prop :=
  True

def algebraic_UpWIdeal_RefUpWIdeal [hUpWIdeal : Cert.UpWIdeal.Facts] [hRefUpWIdeal : Cert.RefUpWIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.RefUpWIdeal.nD Cert.RefUpWIdeal.τ Cert.RefUpWIdeal.sig) → Buf (Elt Ideal) ℓ) (g' : Dev Cert.RefUpWIdeal.nD → PrngReg), Pre_UpWIdeal m →
    (∀ c : Dev Cert.UpWIdeal.nD,
      m' ((c.tc : Thread Cert.RefUpWIdeal.nD Cert.RefUpWIdeal.τ).loc Cert.RefUpWIdeal.main_arg0) = m ((c.tc : Thread Cert.UpWIdeal.nD Cert.UpWIdeal.τ).loc Cert.UpWIdeal.main_arg0)
      ∧ m' ((c.tc : Thread Cert.RefUpWIdeal.nD Cert.RefUpWIdeal.τ).loc Cert.RefUpWIdeal.main_arg1) = m ((c.tc : Thread Cert.UpWIdeal.nD Cert.UpWIdeal.τ).loc Cert.UpWIdeal.main_arg1)
      ∧ m' ((c.tc : Thread Cert.RefUpWIdeal.nD Cert.RefUpWIdeal.τ).loc Cert.RefUpWIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.RefUpWIdeal.defs (F := Ideal)) (onTc (τ := Cert.RefUpWIdeal.τ) (Cert.RefUpWIdeal.main (F := Ideal))) ⟨m', fun _ => 0, g'⟩ (fun r => ∀ c : Dev Cert.RefUpWIdeal.nD,
          r.2.mem ((c.tc : Thread Cert.RefUpWIdeal.nD Cert.RefUpWIdeal.τ).loc Cert.RefUpWIdeal.main_v9) = v0 c
          ∧ r.2.mem ((c.tc : Thread Cert.RefUpWIdeal.nD Cert.RefUpWIdeal.τ).loc Cert.RefUpWIdeal.main_arg0) = m' ((c.tc : Thread Cert.RefUpWIdeal.nD Cert.RefUpWIdeal.τ).loc Cert.RefUpWIdeal.main_arg0)
          ∧ r.2.mem ((c.tc : Thread Cert.RefUpWIdeal.nD Cert.RefUpWIdeal.τ).loc Cert.RefUpWIdeal.main_arg1) = m' ((c.tc : Thread Cert.RefUpWIdeal.nD Cert.RefUpWIdeal.τ).loc Cert.RefUpWIdeal.main_arg1)
          ∧ r.2.mem ((c.tc : Thread Cert.RefUpWIdeal.nD Cert.RefUpWIdeal.τ).loc Cert.RefUpWIdeal.main_arg2) = m' ((c.tc : Thread Cert.RefUpWIdeal.nD Cert.RefUpWIdeal.τ).loc Cert.RefUpWIdeal.main_arg2))

def preserves_InX_InXIdeal : Prop :=
  True

def algebraic_InXIdeal_RefInXIdeal [hInXIdeal : Cert.InXIdeal.Facts] [hRefInXIdeal : Cert.RefInXIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.RefInXIdeal.nD Cert.RefInXIdeal.τ Cert.RefInXIdeal.sig) → Buf (Elt Ideal) ℓ) (g' : Dev Cert.RefInXIdeal.nD → PrngReg), Pre_InXIdeal m →
    (∀ c : Dev Cert.InXIdeal.nD,
      m' ((c.tc : Thread Cert.RefInXIdeal.nD Cert.RefInXIdeal.τ).loc Cert.RefInXIdeal.main_arg0) = m ((c.tc : Thread Cert.InXIdeal.nD Cert.InXIdeal.τ).loc Cert.InXIdeal.main_arg0)
      ∧ m' ((c.tc : Thread Cert.RefInXIdeal.nD Cert.RefInXIdeal.τ).loc Cert.RefInXIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.RefInXIdeal.defs (F := Ideal)) (onTc (τ := Cert.RefInXIdeal.τ) (Cert.RefInXIdeal.main (F := Ideal))) ⟨m', fun _ => 0, g'⟩ (fun r => ∀ c : Dev Cert.RefInXIdeal.nD,
          r.2.mem ((c.tc : Thread Cert.RefInXIdeal.nD Cert.RefInXIdeal.τ).loc Cert.RefInXIdeal.main_v6) = v0 c
          ∧ r.2.mem ((c.tc : Thread Cert.RefInXIdeal.nD Cert.RefInXIdeal.τ).loc Cert.RefInXIdeal.main_arg0) = m' ((c.tc : Thread Cert.RefInXIdeal.nD Cert.RefInXIdeal.τ).loc Cert.RefInXIdeal.main_arg0)
          ∧ r.2.mem ((c.tc : Thread Cert.RefInXIdeal.nD Cert.RefInXIdeal.τ).loc Cert.RefInXIdeal.main_arg1) = m' ((c.tc : Thread Cert.RefInXIdeal.nD Cert.RefInXIdeal.τ).loc Cert.RefInXIdeal.main_arg1))

def preserves_InW_InWIdeal : Prop :=
  True

def algebraic_InWIdeal_RefInWIdeal [hInWIdeal : Cert.InWIdeal.Facts] [hRefInWIdeal : Cert.RefInWIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.RefInWIdeal.nD Cert.RefInWIdeal.τ Cert.RefInWIdeal.sig) → Buf (Elt Ideal) ℓ) (g' : Dev Cert.RefInWIdeal.nD → PrngReg), Pre_InWIdeal m →
    (∀ c : Dev Cert.InWIdeal.nD,
      m' ((c.tc : Thread Cert.RefInWIdeal.nD Cert.RefInWIdeal.τ).loc Cert.RefInWIdeal.main_arg0) = m ((c.tc : Thread Cert.InWIdeal.nD Cert.InWIdeal.τ).loc Cert.InWIdeal.main_arg0)
      ∧ m' ((c.tc : Thread Cert.RefInWIdeal.nD Cert.RefInWIdeal.τ).loc Cert.RefInWIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.RefInWIdeal.defs (F := Ideal)) (onTc (τ := Cert.RefInWIdeal.τ) (Cert.RefInWIdeal.main (F := Ideal))) ⟨m', fun _ => 0, g'⟩ (fun r => ∀ c : Dev Cert.RefInWIdeal.nD,
          r.2.mem ((c.tc : Thread Cert.RefInWIdeal.nD Cert.RefInWIdeal.τ).loc Cert.RefInWIdeal.main_v8) = v0 c
          ∧ r.2.mem ((c.tc : Thread Cert.RefInWIdeal.nD Cert.RefInWIdeal.τ).loc Cert.RefInWIdeal.main_arg0) = m' ((c.tc : Thread Cert.RefInWIdeal.nD Cert.RefInWIdeal.τ).loc Cert.RefInWIdeal.main_arg0)
          ∧ r.2.mem ((c.tc : Thread Cert.RefInWIdeal.nD Cert.RefInWIdeal.τ).loc Cert.RefInWIdeal.main_arg1) = m' ((c.tc : Thread Cert.RefInWIdeal.nD Cert.RefInWIdeal.τ).loc Cert.RefInWIdeal.main_arg1))

def preserves_BrX_BrXIdeal : Prop :=
  True

def algebraic_BrXIdeal_RefBrXIdeal [hBrXIdeal : Cert.BrXIdeal.Facts] [hRefBrXIdeal : Cert.RefBrXIdeal.Facts] : Prop :=
  ∀ (m : (ℓ : Loc Cert.BrXIdeal.nD Cert.BrXIdeal.τ Cert.BrXIdeal.sig) → Buf (Elt Ideal) ℓ) (g : Dev Cert.BrXIdeal.nD → PrngReg)
    (m' : (ℓ : Loc Cert.RefBrXIdeal.nD Cert.RefBrXIdeal.τ Cert.RefBrXIdeal.sig) → Buf (Elt Ideal) ℓ) (g' : Dev Cert.RefBrXIdeal.nD → PrngReg), Pre_BrXIdeal m →
    (∀ c : Dev Cert.BrXIdeal.nD,
      m' ((c.tc : Thread Cert.RefBrXIdeal.nD Cert.RefBrXIdeal.τ).loc Cert.RefBrXIdeal.main_arg0) = m ((c.tc : Thread Cert.BrXIdeal.nD Cert.BrXIdeal.τ).loc Cert.BrXIdeal.main_arg0)
      ∧ m' ((c.tc : Thread Cert.RefBrXIdeal.nD Cert.RefBrXIdeal.τ).loc Cert.RefBrXIdeal.main_arg1) = m ((c.tc : Thread Cert.BrXIdeal.nD Cert.BrXIdeal.τ).loc Cert.BrXIdeal.main_arg1)) →
    ∃ (v0 : (c : Dev Cert.BrXIdeal.nD) → Buf (Elt Ideal) ((c.tc : Thread Cert.BrXIdeal.nD Cert.BrXIdeal.τ).loc Cert.BrXIdeal.main_v0)),
      θ_run (Cert.BrXIdeal.defs (F := Ideal)) (onTc (τ := Cert.BrXIdeal.τ) (Cert.BrXIdeal.main (F := Ideal))) ⟨m, fun _ => 0, g⟩ (fun r => ∀ c : Dev Cert.BrXIdeal.nD,
          r.2.mem ((c.tc : Thread Cert.BrXIdeal.nD Cert.BrXIdeal.τ).loc Cert.BrXIdeal.main_v0) = v0 c
          ∧ r.2.mem ((c.tc : Thread Cert.BrXIdeal.nD Cert.BrXIdeal.τ).loc Cert.BrXIdeal.main_arg0) = m ((c.tc : Thread Cert.BrXIdeal.nD Cert.BrXIdeal.τ).loc Cert.BrXIdeal.main_arg0)
          ∧ r.2.mem ((c.tc : Thread Cert.BrXIdeal.nD Cert.BrXIdeal.τ).loc Cert.BrXIdeal.main_arg1) = m ((c.tc : Thread Cert.BrXIdeal.nD Cert.BrXIdeal.τ).loc Cert.BrXIdeal.main_arg1))
      ∧ θ_run (Cert.RefBrXIdeal.defs (F := Ideal)) (onTc (τ := Cert.RefBrXIdeal.τ) (Cert.RefBrXIdeal.main (F := Ideal))) ⟨m', fun _ => 0, g'⟩ (fun r => ∀ c : Dev Cert.RefBrXIdeal.nD,
          r.2.mem ((c.tc : Thread Cert.RefBrXIdeal.nD Cert.RefBrXIdeal.τ).loc Cert.RefBrXIdeal.main_v7) = v0 c
          ∧ r.2.mem ((c.tc : Thread Cert.RefBrXIdeal.nD Cert.RefBrXIdeal.τ).loc Cert.RefBrXIdeal.main_arg0) = m' ((c.tc : Thread Cert.RefBrXIdeal.nD Cert.RefBrXIdeal.τ).loc Cert.RefBrXIdeal.main_arg0)
          ∧ r.2.mem ((c.tc : Thread Cert.RefBrXIdeal.nD Cert.RefBrXIdeal.τ).loc Cert.RefBrXIdeal.main_arg1) = m' ((c.tc : Thread Cert.RefBrXIdeal.nD Cert.RefBrXIdeal.τ).loc Cert.RefBrXIdeal.main_arg1))

def preserves_BrW_BrWIdeal : Prop :=
  True

def algebraic_BrWIdeal_RefBrWIdeal [hBrWIdeal : Cert.BrWIdeal.Facts] [hRefBrWIdeal : Cert.RefBrWIdeal.Facts] : Prop :=
  ∀ (m : (ℓ : Loc Cert.BrWIdeal.nD Cert.BrWIdeal.τ Cert.BrWIdeal.sig) → Buf (Elt Ideal) ℓ) (g : Dev Cert.BrWIdeal.nD → PrngReg)
    (m' : (ℓ : Loc Cert.RefBrWIdeal.nD Cert.RefBrWIdeal.τ Cert.RefBrWIdeal.sig) → Buf (Elt Ideal) ℓ) (g' : Dev Cert.RefBrWIdeal.nD → PrngReg), Pre_BrWIdeal m →
    (∀ c : Dev Cert.BrWIdeal.nD,
      m' ((c.tc : Thread Cert.RefBrWIdeal.nD Cert.RefBrWIdeal.τ).loc Cert.RefBrWIdeal.main_arg0) = m ((c.tc : Thread Cert.BrWIdeal.nD Cert.BrWIdeal.τ).loc Cert.BrWIdeal.main_arg0)
      ∧ m' ((c.tc : Thread Cert.RefBrWIdeal.nD Cert.RefBrWIdeal.τ).loc Cert.RefBrWIdeal.main_arg1) = m ((c.tc : Thread Cert.BrWIdeal.nD Cert.BrWIdeal.τ).loc Cert.BrWIdeal.main_arg1)) →
    ∃ (v0 : (c : Dev Cert.BrWIdeal.nD) → Buf (Elt Ideal) ((c.tc : Thread Cert.BrWIdeal.nD Cert.BrWIdeal.τ).loc Cert.BrWIdeal.main_v0)),
      θ_run (Cert.BrWIdeal.defs (F := Ideal)) (onTc (τ := Cert.BrWIdeal.τ) (Cert.BrWIdeal.main (F := Ideal))) ⟨m, fun _ => 0, g⟩ (fun r => ∀ c : Dev Cert.BrWIdeal.nD,
          r.2.mem ((c.tc : Thread Cert.BrWIdeal.nD Cert.BrWIdeal.τ).loc Cert.BrWIdeal.main_v0) = v0 c
          ∧ r.2.mem ((c.tc : Thread Cert.BrWIdeal.nD Cert.BrWIdeal.τ).loc Cert.BrWIdeal.main_arg0) = m ((c.tc : Thread Cert.BrWIdeal.nD Cert.BrWIdeal.τ).loc Cert.BrWIdeal.main_arg0)
          ∧ r.2.mem ((c.tc : Thread Cert.BrWIdeal.nD Cert.BrWIdeal.τ).loc Cert.BrWIdeal.main_arg1) = m ((c.tc : Thread Cert.BrWIdeal.nD Cert.BrWIdeal.τ).loc Cert.BrWIdeal.main_arg1))
      ∧ θ_run (Cert.RefBrWIdeal.defs (F := Ideal)) (onTc (τ := Cert.RefBrWIdeal.τ) (Cert.RefBrWIdeal.main (F := Ideal))) ⟨m', fun _ => 0, g'⟩ (fun r => ∀ c : Dev Cert.RefBrWIdeal.nD,
          r.2.mem ((c.tc : Thread Cert.RefBrWIdeal.nD Cert.RefBrWIdeal.τ).loc Cert.RefBrWIdeal.main_v8) = v0 c
          ∧ r.2.mem ((c.tc : Thread Cert.RefBrWIdeal.nD Cert.RefBrWIdeal.τ).loc Cert.RefBrWIdeal.main_arg0) = m' ((c.tc : Thread Cert.RefBrWIdeal.nD Cert.RefBrWIdeal.τ).loc Cert.RefBrWIdeal.main_arg0)
          ∧ r.2.mem ((c.tc : Thread Cert.RefBrWIdeal.nD Cert.RefBrWIdeal.τ).loc Cert.RefBrWIdeal.main_arg1) = m' ((c.tc : Thread Cert.RefBrWIdeal.nD Cert.RefBrWIdeal.τ).loc Cert.RefBrWIdeal.main_arg1))

def preserves_GmX_GmXIdeal : Prop :=
  True

def algebraic_GmXIdeal_RefGmXIdeal [hGmXIdeal : Cert.GmXIdeal.Facts] [hRefGmXIdeal : Cert.RefGmXIdeal.Facts] : Prop :=
  ∀ (m : (ℓ : Loc Cert.GmXIdeal.nD Cert.GmXIdeal.τ Cert.GmXIdeal.sig) → Buf (Elt Ideal) ℓ) (g : Dev Cert.GmXIdeal.nD → PrngReg)
    (m' : (ℓ : Loc Cert.RefGmXIdeal.nD Cert.RefGmXIdeal.τ Cert.RefGmXIdeal.sig) → Buf (Elt Ideal) ℓ) (g' : Dev Cert.RefGmXIdeal.nD → PrngReg), Pre_GmXIdeal m →
    (∀ c : Dev Cert.GmXIdeal.nD,
      m' ((c.tc : Thread Cert.RefGmXIdeal.nD Cert.RefGmXIdeal.τ).loc Cert.RefGmXIdeal.main_arg0) = m ((c.tc : Thread Cert.GmXIdeal.nD Cert.GmXIdeal.τ).loc Cert.GmXIdeal.main_arg0)
      ∧ m' ((c.tc : Thread Cert.RefGmXIdeal.nD Cert.RefGmXIdeal.τ).loc Cert.RefGmXIdeal.main_arg1) = m ((c.tc : Thread Cert.GmXIdeal.nD Cert.GmXIdeal.τ).loc Cert.GmXIdeal.main_arg1)) →
    ∃ (v0 : (c : Dev Cert.GmXIdeal.nD) → Buf (Elt Ideal) ((c.tc : Thread Cert.GmXIdeal.nD Cert.GmXIdeal.τ).loc Cert.GmXIdeal.main_v0)),
      θ_run (Cert.GmXIdeal.defs (F := Ideal)) (onTc (τ := Cert.GmXIdeal.τ) (Cert.GmXIdeal.main (F := Ideal))) ⟨m, fun _ => 0, g⟩ (fun r => ∀ c : Dev Cert.GmXIdeal.nD,
          r.2.mem ((c.tc : Thread Cert.GmXIdeal.nD Cert.GmXIdeal.τ).loc Cert.GmXIdeal.main_v0) = v0 c
          ∧ r.2.mem ((c.tc : Thread Cert.GmXIdeal.nD Cert.GmXIdeal.τ).loc Cert.GmXIdeal.main_arg0) = m ((c.tc : Thread Cert.GmXIdeal.nD Cert.GmXIdeal.τ).loc Cert.GmXIdeal.main_arg0)
          ∧ r.2.mem ((c.tc : Thread Cert.GmXIdeal.nD Cert.GmXIdeal.τ).loc Cert.GmXIdeal.main_arg1) = m ((c.tc : Thread Cert.GmXIdeal.nD Cert.GmXIdeal.τ).loc Cert.GmXIdeal.main_arg1))
      ∧ θ_run (Cert.RefGmXIdeal.defs (F := Ideal)) (onTc (τ := Cert.RefGmXIdeal.τ) (Cert.RefGmXIdeal.main (F := Ideal))) ⟨m', fun _ => 0, g'⟩ (fun r => ∀ c : Dev Cert.RefGmXIdeal.nD,
          r.2.mem ((c.tc : Thread Cert.RefGmXIdeal.nD Cert.RefGmXIdeal.τ).loc Cert.RefGmXIdeal.main_v6) = v0 c
          ∧ r.2.mem ((c.tc : Thread Cert.RefGmXIdeal.nD Cert.RefGmXIdeal.τ).loc Cert.RefGmXIdeal.main_arg0) = m' ((c.tc : Thread Cert.RefGmXIdeal.nD Cert.RefGmXIdeal.τ).loc Cert.RefGmXIdeal.main_arg0)
          ∧ r.2.mem ((c.tc : Thread Cert.RefGmXIdeal.nD Cert.RefGmXIdeal.τ).loc Cert.RefGmXIdeal.main_arg1) = m' ((c.tc : Thread Cert.RefGmXIdeal.nD Cert.RefGmXIdeal.τ).loc Cert.RefGmXIdeal.main_arg1))

def preserves_MemX_MemXIdeal : Prop :=
  True

def algebraic_MemXIdeal_RefMemXIdeal [hMemXIdeal : Cert.MemXIdeal.Facts] [hRefMemXIdeal : Cert.RefMemXIdeal.Facts] : Prop :=
  ∀ (m : (ℓ : Loc Cert.MemXIdeal.nD Cert.MemXIdeal.τ Cert.MemXIdeal.sig) → Buf (Elt Ideal) ℓ) (g : Dev Cert.MemXIdeal.nD → PrngReg)
    (m' : (ℓ : Loc Cert.RefMemXIdeal.nD Cert.RefMemXIdeal.τ Cert.RefMemXIdeal.sig) → Buf (Elt Ideal) ℓ) (g' : Dev Cert.RefMemXIdeal.nD → PrngReg), Pre_MemXIdeal m →
    (∀ c : Dev Cert.MemXIdeal.nD,
      m' ((c.tc : Thread Cert.RefMemXIdeal.nD Cert.RefMemXIdeal.τ).loc Cert.RefMemXIdeal.main_arg0) = m ((c.tc : Thread Cert.MemXIdeal.nD Cert.MemXIdeal.τ).loc Cert.MemXIdeal.main_arg0)
      ∧ m' ((c.tc : Thread Cert.RefMemXIdeal.nD Cert.RefMemXIdeal.τ).loc Cert.RefMemXIdeal.main_arg1) = m ((c.tc : Thread Cert.MemXIdeal.nD Cert.MemXIdeal.τ).loc Cert.MemXIdeal.main_arg1)) →
    ∃ (v0 : (c : Dev Cert.MemXIdeal.nD) → Buf (Elt Ideal) ((c.tc : Thread Cert.MemXIdeal.nD Cert.MemXIdeal.τ).loc Cert.MemXIdeal.main_v0)),
      θ_run (Cert.MemXIdeal.defs (F := Ideal)) (onTc (τ := Cert.MemXIdeal.τ) (Cert.MemXIdeal.main (F := Ideal))) ⟨m, fun _ => 0, g⟩ (fun r => ∀ c : Dev Cert.MemXIdeal.nD,
          r.2.mem ((c.tc : Thread Cert.MemXIdeal.nD Cert.MemXIdeal.τ).loc Cert.MemXIdeal.main_v0) = v0 c
          ∧ r.2.mem ((c.tc : Thread Cert.MemXIdeal.nD Cert.MemXIdeal.τ).loc Cert.MemXIdeal.main_arg0) = m ((c.tc : Thread Cert.MemXIdeal.nD Cert.MemXIdeal.τ).loc Cert.MemXIdeal.main_arg0)
          ∧ r.2.mem ((c.tc : Thread Cert.MemXIdeal.nD Cert.MemXIdeal.τ).loc Cert.MemXIdeal.main_arg1) = m ((c.tc : Thread Cert.MemXIdeal.nD Cert.MemXIdeal.τ).loc Cert.MemXIdeal.main_arg1))
      ∧ θ_run (Cert.RefMemXIdeal.defs (F := Ideal)) (onTc (τ := Cert.RefMemXIdeal.τ) (Cert.RefMemXIdeal.main (F := Ideal))) ⟨m', fun _ => 0, g'⟩ (fun r => ∀ c : Dev Cert.RefMemXIdeal.nD,
          r.2.mem ((c.tc : Thread Cert.RefMemXIdeal.nD Cert.RefMemXIdeal.τ).loc Cert.RefMemXIdeal.main_v4) = v0 c
          ∧ r.2.mem ((c.tc : Thread Cert.RefMemXIdeal.nD Cert.RefMemXIdeal.τ).loc Cert.RefMemXIdeal.main_arg0) = m' ((c.tc : Thread Cert.RefMemXIdeal.nD Cert.RefMemXIdeal.τ).loc Cert.RefMemXIdeal.main_arg0)
          ∧ r.2.mem ((c.tc : Thread Cert.RefMemXIdeal.nD Cert.RefMemXIdeal.τ).loc Cert.RefMemXIdeal.main_arg1) = m' ((c.tc : Thread Cert.RefMemXIdeal.nD Cert.RefMemXIdeal.τ).loc Cert.RefMemXIdeal.main_arg1))

def preserves_MemW_MemWIdeal : Prop :=
  True

def algebraic_MemWIdeal_RefMemWIdeal [hMemWIdeal : Cert.MemWIdeal.Facts] [hRefMemWIdeal : Cert.RefMemWIdeal.Facts] : Prop :=
  ∀ (m : (ℓ : Loc Cert.MemWIdeal.nD Cert.MemWIdeal.τ Cert.MemWIdeal.sig) → Buf (Elt Ideal) ℓ) (g : Dev Cert.MemWIdeal.nD → PrngReg)
    (m' : (ℓ : Loc Cert.RefMemWIdeal.nD Cert.RefMemWIdeal.τ Cert.RefMemWIdeal.sig) → Buf (Elt Ideal) ℓ) (g' : Dev Cert.RefMemWIdeal.nD → PrngReg), Pre_MemWIdeal m →
    (∀ c : Dev Cert.MemWIdeal.nD,
      m' ((c.tc : Thread Cert.RefMemWIdeal.nD Cert.RefMemWIdeal.τ).loc Cert.RefMemWIdeal.main_arg0) = m ((c.tc : Thread Cert.MemWIdeal.nD Cert.MemWIdeal.τ).loc Cert.MemWIdeal.main_arg0)
      ∧ m' ((c.tc : Thread Cert.RefMemWIdeal.nD Cert.RefMemWIdeal.τ).loc Cert.RefMemWIdeal.main_arg1) = m ((c.tc : Thread Cert.MemWIdeal.nD Cert.MemWIdeal.τ).loc Cert.MemWIdeal.main_arg1)) →
    ∃ (v0 : (c : Dev Cert.MemWIdeal.nD) → Buf (Elt Ideal) ((c.tc : Thread Cert.MemWIdeal.nD Cert.MemWIdeal.τ).loc Cert.MemWIdeal.main_v0)),
      θ_run (Cert.MemWIdeal.defs (F := Ideal)) (onTc (τ := Cert.MemWIdeal.τ) (Cert.MemWIdeal.main (F := Ideal))) ⟨m, fun _ => 0, g⟩ (fun r => ∀ c : Dev Cert.MemWIdeal.nD,
          r.2.mem ((c.tc : Thread Cert.MemWIdeal.nD Cert.MemWIdeal.τ).loc Cert.MemWIdeal.main_v0) = v0 c
          ∧ r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
          ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ θ_run (Cert.RefMemWIdeal.defs (F := Ideal)) (onTc (τ := Cert.RefMemWIdeal.τ) (Cert.RefMemWIdeal.main (F := Ideal))) ⟨m', fun _ => 0, g'⟩ (fun r => ∀ c : Dev Cert.RefMemWIdeal.nD,
          r.2.mem ((c.tc : Thread Cert.RefMemWIdeal.nD Cert.RefMemWIdeal.τ).loc Cert.RefMemWIdeal.main_v6) = v0 c
          ∧ r.2.mem ((c.tc : Thread Cert.RefMemWIdeal.nD Cert.RefMemWIdeal.τ).loc Cert.RefMemWIdeal.main_arg0) = m' ((c.tc : Thread Cert.RefMemWIdeal.nD Cert.RefMemWIdeal.τ).loc Cert.RefMemWIdeal.main_arg0)
          ∧ r.2.mem ((c.tc : Thread Cert.RefMemWIdeal.nD Cert.RefMemWIdeal.τ).loc Cert.RefMemWIdeal.main_arg1) = m' ((c.tc : Thread Cert.RefMemWIdeal.nD Cert.RefMemWIdeal.τ).loc Cert.RefMemWIdeal.main_arg1))

def preserves_InY_InYIdeal : Prop :=
  True

def algebraic_InYIdeal_RefInYIdeal [hInYIdeal : Cert.InYIdeal.Facts] [hRefInYIdeal : Cert.RefInYIdeal.Facts] : Prop :=
  ∀ (m : (ℓ : Loc Cert.InYIdeal.nD Cert.InYIdeal.τ Cert.InYIdeal.sig) → Buf (Elt Ideal) ℓ) (g : Dev Cert.InYIdeal.nD → PrngReg)
    (m' : (ℓ : Loc Cert.RefInYIdeal.nD Cert.RefInYIdeal.τ Cert.RefInYIdeal.sig) → Buf (Elt Ideal) ℓ) (g' : Dev Cert.RefInYIdeal.nD → PrngReg), Pre_InYIdeal m →
    (∀ c : Dev Cert.InYIdeal.nD,
      m' ((c.tc : Thread Cert.RefInYIdeal.nD Cert.RefInYIdeal.τ).loc Cert.RefInYIdeal.main_arg0) = m ((c.tc : Thread Cert.InYIdeal.nD Cert.InYIdeal.τ).loc Cert.InYIdeal.main_arg0)
      ∧ m' ((c.tc : Thread Cert.RefInYIdeal.nD Cert.RefInYIdeal.τ).loc Cert.RefInYIdeal.main_arg1) = m ((c.tc : Thread Cert.InYIdeal.nD Cert.InYIdeal.τ).loc Cert.InYIdeal.main_arg1)) →
    ∃ (v0 : (c : Dev Cert.InYIdeal.nD) → Buf (Elt Ideal) ((c.tc : Thread Cert.InYIdeal.nD Cert.InYIdeal.τ).loc Cert.InYIdeal.main_v0_0)) (v1 : (c : Dev Cert.InYIdeal.nD) → Buf (Elt Ideal) ((c.tc : Thread Cert.InYIdeal.nD Cert.InYIdeal.τ).loc Cert.InYIdeal.main_v0_1)),
      θ_run (Cert.InYIdeal.defs (F := Ideal)) (onTc (τ := Cert.InYIdeal.τ) (Cert.InYIdeal.main (F := Ideal))) ⟨m, fun _ => 0, g⟩ (fun r => ∀ c : Dev Cert.InYIdeal.nD,
          r.2.mem ((c.tc : Thread Cert.InYIdeal.nD Cert.InYIdeal.τ).loc Cert.InYIdeal.main_v0_0) = v0 c
          ∧ r.2.mem ((c.tc : Thread Cert.InYIdeal.nD Cert.InYIdeal.τ).loc Cert.InYIdeal.main_v0_1) = v1 c
          ∧ r.2.mem ((c.tc : Thread Cert.InYIdeal.nD Cert.InYIdeal.τ).loc Cert.InYIdeal.main_arg0) = m ((c.tc : Thread Cert.InYIdeal.nD Cert.InYIdeal.τ).loc Cert.InYIdeal.main_arg0)
          ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ θ_run (Cert.RefInYIdeal.defs (F := Ideal)) (onTc (τ := Cert.RefInYIdeal.τ) (Cert.RefInYIdeal.main (F := Ideal))) ⟨m', fun _ => 0, g'⟩ (fun r => ∀ c : Dev Cert.RefInYIdeal.nD,
          r.2.mem ((c.tc : Thread Cert.RefInYIdeal.nD Cert.RefInYIdeal.τ).loc Cert.RefInYIdeal.main_v4) = v0 c
          ∧ r.2.mem ((c.tc : Thread Cert.RefInYIdeal.nD Cert.RefInYIdeal.τ).loc Cert.RefInYIdeal.main_v5) = v1 c
          ∧ r.2.mem ((c.tc : Thread Cert.RefInYIdeal.nD Cert.RefInYIdeal.τ).loc Cert.RefInYIdeal.main_arg0) = m' ((c.tc : Thread Cert.RefInYIdeal.nD Cert.RefInYIdeal.τ).loc Cert.RefInYIdeal.main_arg0)
          ∧ r.2.mem ((c.tc : Thread Cert.RefInYIdeal.nD Cert.RefInYIdeal.τ).loc Cert.RefInYIdeal.main_arg1) = m' ((c.tc : Thread Cert.RefInYIdeal.nD Cert.RefInYIdeal.τ).loc Cert.RefInYIdeal.main_arg1))

def preserves_GateY_GateYIdeal : Prop :=
  True

def algebraic_GateYIdeal_RefGateYIdeal [hGateYIdeal : Cert.GateYIdeal.Facts] [hRefGateYIdeal : Cert.RefGateYIdeal.Facts] : Prop :=
  ∀ (m : (ℓ : Loc Cert.GateYIdeal.nD Cert.GateYIdeal.τ Cert.GateYIdeal.sig) → Buf (Elt Ideal) ℓ) (g : Dev Cert.GateYIdeal.nD → PrngReg)
    (m' : (ℓ : Loc Cert.RefGateYIdeal.nD Cert.RefGateYIdeal.τ Cert.RefGateYIdeal.sig) → Buf (Elt Ideal) ℓ) (g' : Dev Cert.RefGateYIdeal.nD → PrngReg), Pre_GateYIdeal m →
    (∀ c : Dev Cert.GateYIdeal.nD,
      m' ((c.tc : Thread Cert.RefGateYIdeal.nD Cert.RefGateYIdeal.τ).loc Cert.RefGateYIdeal.main_arg0) = m ((c.tc : Thread Cert.GateYIdeal.nD Cert.GateYIdeal.τ).loc Cert.GateYIdeal.main_arg0)
      ∧ m' ((c.tc : Thread Cert.RefGateYIdeal.nD Cert.RefGateYIdeal.τ).loc Cert.RefGateYIdeal.main_arg1) = m ((c.tc : Thread Cert.GateYIdeal.nD Cert.GateYIdeal.τ).loc Cert.GateYIdeal.main_arg1)) →
    ∃ (v0 : (c : Dev Cert.GateYIdeal.nD) → Buf (Elt Ideal) ((c.tc : Thread Cert.GateYIdeal.nD Cert.GateYIdeal.τ).loc Cert.GateYIdeal.main_v0)),
      θ_run (Cert.GateYIdeal.defs (F := Ideal)) (onTc (τ := Cert.GateYIdeal.τ) (Cert.GateYIdeal.main (F := Ideal))) ⟨m, fun _ => 0, g⟩ (fun r => ∀ c : Dev Cert.GateYIdeal.nD,
          r.2.mem ((c.tc : Thread Cert.GateYIdeal.nD Cert.GateYIdeal.τ).loc Cert.GateYIdeal.main_v0) = v0 c
          ∧ r.2.mem ((c.tc : Thread Cert.GateYIdeal.nD Cert.GateYIdeal.τ).loc Cert.GateYIdeal.main_arg0) = m ((c.tc : Thread Cert.GateYIdeal.nD Cert.GateYIdeal.τ).loc Cert.GateYIdeal.main_arg0)
          ∧ r.2.mem ((c.tc : Thread Cert.GateYIdeal.nD Cert.GateYIdeal.τ).loc Cert.GateYIdeal.main_arg1) = m ((c.tc : Thread Cert.GateYIdeal.nD Cert.GateYIdeal.τ).loc Cert.GateYIdeal.main_arg1))
      ∧ θ_run (Cert.RefGateYIdeal.defs (F := Ideal)) (onTc (τ := Cert.RefGateYIdeal.τ) (Cert.RefGateYIdeal.main (F := Ideal))) ⟨m', fun _ => 0, g'⟩ (fun r => ∀ c : Dev Cert.RefGateYIdeal.nD,
          r.2.mem ((c.tc : Thread Cert.RefGateYIdeal.nD Cert.RefGateYIdeal.τ).loc Cert.RefGateYIdeal.main_v4) = v0 c
          ∧ r.2.mem ((c.tc : Thread Cert.RefGateYIdeal.nD Cert.RefGateYIdeal.τ).loc Cert.RefGateYIdeal.main_arg0) = m' ((c.tc : Thread Cert.RefGateYIdeal.nD Cert.RefGateYIdeal.τ).loc Cert.RefGateYIdeal.main_arg0)
          ∧ r.2.mem ((c.tc : Thread Cert.RefGateYIdeal.nD Cert.RefGateYIdeal.τ).loc Cert.RefGateYIdeal.main_arg1) = m' ((c.tc : Thread Cert.RefGateYIdeal.nD Cert.RefGateYIdeal.τ).loc Cert.RefGateYIdeal.main_arg1))

def preserves_BrY_BrYIdeal : Prop :=
  True

def algebraic_BrYIdeal_RefBrYIdeal [hBrYIdeal : Cert.BrYIdeal.Facts] [hRefBrYIdeal : Cert.RefBrYIdeal.Facts] : Prop :=
  ∀ (m : (ℓ : Loc Cert.BrYIdeal.nD Cert.BrYIdeal.τ Cert.BrYIdeal.sig) → Buf (Elt Ideal) ℓ) (g : Dev Cert.BrYIdeal.nD → PrngReg)
    (m' : (ℓ : Loc Cert.RefBrYIdeal.nD Cert.RefBrYIdeal.τ Cert.RefBrYIdeal.sig) → Buf (Elt Ideal) ℓ) (g' : Dev Cert.RefBrYIdeal.nD → PrngReg), Pre_BrYIdeal m →
    (∀ c : Dev Cert.BrYIdeal.nD,
      m' ((c.tc : Thread Cert.RefBrYIdeal.nD Cert.RefBrYIdeal.τ).loc Cert.RefBrYIdeal.main_arg0) = m ((c.tc : Thread Cert.BrYIdeal.nD Cert.BrYIdeal.τ).loc Cert.BrYIdeal.main_arg0)
      ∧ m' ((c.tc : Thread Cert.RefBrYIdeal.nD Cert.RefBrYIdeal.τ).loc Cert.RefBrYIdeal.main_arg1) = m ((c.tc : Thread Cert.BrYIdeal.nD Cert.BrYIdeal.τ).loc Cert.BrYIdeal.main_arg1)) →
    ∃ (v0 : (c : Dev Cert.BrYIdeal.nD) → Buf (Elt Ideal) ((c.tc : Thread Cert.BrYIdeal.nD Cert.BrYIdeal.τ).loc Cert.BrYIdeal.main_v0)),
      θ_run (Cert.BrYIdeal.defs (F := Ideal)) (onTc (τ := Cert.BrYIdeal.τ) (Cert.BrYIdeal.main (F := Ideal))) ⟨m, fun _ => 0, g⟩ (fun r => ∀ c : Dev Cert.BrYIdeal.nD,
          r.2.mem ((c.tc : Thread Cert.BrYIdeal.nD Cert.BrYIdeal.τ).loc Cert.BrYIdeal.main_v0) = v0 c
          ∧ r.2.mem ((c.tc : Thread Cert.BrYIdeal.nD Cert.BrYIdeal.τ).loc Cert.BrYIdeal.main_arg0) = m ((c.tc : Thread Cert.BrYIdeal.nD Cert.BrYIdeal.τ).loc Cert.BrYIdeal.main_arg0)
          ∧ r.2.mem ((c.tc : Thread Cert.BrYIdeal.nD Cert.BrYIdeal.τ).loc Cert.BrYIdeal.main_arg1) = m ((c.tc : Thread Cert.BrYIdeal.nD Cert.BrYIdeal.τ).loc Cert.BrYIdeal.main_arg1))
      ∧ θ_run (Cert.RefBrYIdeal.defs (F := Ideal)) (onTc (τ := Cert.RefBrYIdeal.τ) (Cert.RefBrYIdeal.main (F := Ideal))) ⟨m', fun _ => 0, g'⟩ (fun r => ∀ c : Dev Cert.RefBrYIdeal.nD,
          r.2.mem ((c.tc : Thread Cert.RefBrYIdeal.nD Cert.RefBrYIdeal.τ).loc Cert.RefBrYIdeal.main_v5) = v0 c
          ∧ r.2.mem ((c.tc : Thread Cert.RefBrYIdeal.nD Cert.RefBrYIdeal.τ).loc Cert.RefBrYIdeal.main_arg0) = m' ((c.tc : Thread Cert.RefBrYIdeal.nD Cert.RefBrYIdeal.τ).loc Cert.RefBrYIdeal.main_arg0)
          ∧ r.2.mem ((c.tc : Thread Cert.RefBrYIdeal.nD Cert.RefBrYIdeal.τ).loc Cert.RefBrYIdeal.main_arg1) = m' ((c.tc : Thread Cert.RefBrYIdeal.nD Cert.RefBrYIdeal.τ).loc Cert.RefBrYIdeal.main_arg1))

def preserves_UpY_UpYIdeal : Prop :=
  True

def algebraic_UpYIdeal_RefUpYIdeal [hUpYIdeal : Cert.UpYIdeal.Facts] [hRefUpYIdeal : Cert.RefUpYIdeal.Facts] : Prop :=
  ∀ (m : (ℓ : Loc Cert.UpYIdeal.nD Cert.UpYIdeal.τ Cert.UpYIdeal.sig) → Buf (Elt Ideal) ℓ) (g : Dev Cert.UpYIdeal.nD → PrngReg)
    (m' : (ℓ : Loc Cert.RefUpYIdeal.nD Cert.RefUpYIdeal.τ Cert.RefUpYIdeal.sig) → Buf (Elt Ideal) ℓ) (g' : Dev Cert.RefUpYIdeal.nD → PrngReg), Pre_UpYIdeal m →
    (∀ c : Dev Cert.UpYIdeal.nD,
      m' ((c.tc : Thread Cert.RefUpYIdeal.nD Cert.RefUpYIdeal.τ).loc Cert.RefUpYIdeal.main_arg0) = m ((c.tc : Thread Cert.UpYIdeal.nD Cert.UpYIdeal.τ).loc Cert.UpYIdeal.main_arg0)
      ∧ m' ((c.tc : Thread Cert.RefUpYIdeal.nD Cert.RefUpYIdeal.τ).loc Cert.RefUpYIdeal.main_arg1) = m ((c.tc : Thread Cert.UpYIdeal.nD Cert.UpYIdeal.τ).loc Cert.UpYIdeal.main_arg1)) →
    ∃ (v0 : (c : Dev Cert.UpYIdeal.nD) → Buf (Elt Ideal) ((c.tc : Thread Cert.UpYIdeal.nD Cert.UpYIdeal.τ).loc Cert.UpYIdeal.main_v0)),
      θ_run (Cert.UpYIdeal.defs (F := Ideal)) (onTc (τ := Cert.UpYIdeal.τ) (Cert.UpYIdeal.main (F := Ideal))) ⟨m, fun _ => 0, g⟩ (fun r => ∀ c : Dev Cert.UpYIdeal.nD,
          r.2.mem ((c.tc : Thread Cert.UpYIdeal.nD Cert.UpYIdeal.τ).loc Cert.UpYIdeal.main_v0) = v0 c
          ∧ r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
          ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ θ_run (Cert.RefUpYIdeal.defs (F := Ideal)) (onTc (τ := Cert.RefUpYIdeal.τ) (Cert.RefUpYIdeal.main (F := Ideal))) ⟨m', fun _ => 0, g'⟩ (fun r => ∀ c : Dev Cert.RefUpYIdeal.nD,
          r.2.mem ((c.tc : Thread Cert.RefUpYIdeal.nD Cert.RefUpYIdeal.τ).loc Cert.RefUpYIdeal.main_v4) = v0 c
          ∧ r.2.mem ((c.tc : Thread Cert.RefUpYIdeal.nD Cert.RefUpYIdeal.τ).loc Cert.RefUpYIdeal.main_arg0) = m' ((c.tc : Thread Cert.RefUpYIdeal.nD Cert.RefUpYIdeal.τ).loc Cert.RefUpYIdeal.main_arg0)
          ∧ r.2.mem ((c.tc : Thread Cert.RefUpYIdeal.nD Cert.RefUpYIdeal.τ).loc Cert.RefUpYIdeal.main_arg1) = m' ((c.tc : Thread Cert.RefUpYIdeal.nD Cert.RefUpYIdeal.τ).loc Cert.RefUpYIdeal.main_arg1))

def preserves_OutY_OutYIdeal : Prop :=
  True

def algebraic_OutYIdeal_RefOutYIdeal [hOutYIdeal : Cert.OutYIdeal.Facts] [hRefOutYIdeal : Cert.RefOutYIdeal.Facts] : Prop :=
  ∀ (m : (ℓ : Loc Cert.OutYIdeal.nD Cert.OutYIdeal.τ Cert.OutYIdeal.sig) → Buf (Elt Ideal) ℓ) (g : Dev Cert.OutYIdeal.nD → PrngReg)
    (m' : (ℓ : Loc Cert.RefOutYIdeal.nD Cert.RefOutYIdeal.τ Cert.RefOutYIdeal.sig) → Buf (Elt Ideal) ℓ) (g' : Dev Cert.RefOutYIdeal.nD → PrngReg), Pre_OutYIdeal m →
    (∀ c : Dev Cert.OutYIdeal.nD,
      m' ((c.tc : Thread Cert.RefOutYIdeal.nD Cert.RefOutYIdeal.τ).loc Cert.RefOutYIdeal.main_arg0) = m ((c.tc : Thread Cert.OutYIdeal.nD Cert.OutYIdeal.τ).loc Cert.OutYIdeal.main_arg0)
      ∧ m' ((c.tc : Thread Cert.RefOutYIdeal.nD Cert.RefOutYIdeal.τ).loc Cert.RefOutYIdeal.main_arg1) = m ((c.tc : Thread Cert.OutYIdeal.nD Cert.OutYIdeal.τ).loc Cert.OutYIdeal.main_arg1)) →
    ∃ (v0 : (c : Dev Cert.OutYIdeal.nD) → Buf (Elt Ideal) ((c.tc : Thread Cert.OutYIdeal.nD Cert.OutYIdeal.τ).loc Cert.OutYIdeal.main_v0)),
      θ_run (Cert.OutYIdeal.defs (F := Ideal)) (onTc (τ := Cert.OutYIdeal.τ) (Cert.OutYIdeal.main (F := Ideal))) ⟨m, fun _ => 0, g⟩ (fun r => ∀ c : Dev Cert.OutYIdeal.nD,
          r.2.mem ((c.tc : Thread Cert.OutYIdeal.nD Cert.OutYIdeal.τ).loc Cert.OutYIdeal.main_v0) = v0 c
          ∧ r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
          ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1))
      ∧ θ_run (Cert.RefOutYIdeal.defs (F := Ideal)) (onTc (τ := Cert.RefOutYIdeal.τ) (Cert.RefOutYIdeal.main (F := Ideal))) ⟨m', fun _ => 0, g'⟩ (fun r => ∀ c : Dev Cert.RefOutYIdeal.nD,
          r.2.mem ((c.tc : Thread Cert.RefOutYIdeal.nD Cert.RefOutYIdeal.τ).loc Cert.RefOutYIdeal.main_v2) = v0 c
          ∧ r.2.mem ((c.tc : Thread Cert.RefOutYIdeal.nD Cert.RefOutYIdeal.τ).loc Cert.RefOutYIdeal.main_arg0) = m' ((c.tc : Thread Cert.RefOutYIdeal.nD Cert.RefOutYIdeal.τ).loc Cert.RefOutYIdeal.main_arg0)
          ∧ r.2.mem ((c.tc : Thread Cert.RefOutYIdeal.nD Cert.RefOutYIdeal.τ).loc Cert.RefOutYIdeal.main_arg1) = m' ((c.tc : Thread Cert.RefOutYIdeal.nD Cert.RefOutYIdeal.τ).loc Cert.RefOutYIdeal.main_arg1))

def preserves_DownY_DownYIdeal : Prop :=
  True

def algebraic_DownYIdeal_RefDownYIdeal [hDownYIdeal : Cert.DownYIdeal.Facts] [hRefDownYIdeal : Cert.RefDownYIdeal.Facts] : Prop :=
  ∀ (m : (ℓ : Loc Cert.DownYIdeal.nD Cert.DownYIdeal.τ Cert.DownYIdeal.sig) → Buf (Elt Ideal) ℓ) (g : Dev Cert.DownYIdeal.nD → PrngReg)
    (m' : (ℓ : Loc Cert.RefDownYIdeal.nD Cert.RefDownYIdeal.τ Cert.RefDownYIdeal.sig) → Buf (Elt Ideal) ℓ) (g' : Dev Cert.RefDownYIdeal.nD → PrngReg), Pre_DownYIdeal m →
    (∀ c : Dev Cert.DownYIdeal.nD,
      m' ((c.tc : Thread Cert.RefDownYIdeal.nD Cert.RefDownYIdeal.τ).loc Cert.RefDownYIdeal.main_arg0) = m ((c.tc : Thread Cert.DownYIdeal.nD Cert.DownYIdeal.τ).loc Cert.DownYIdeal.main_arg0)
      ∧ m' ((c.tc : Thread Cert.RefDownYIdeal.nD Cert.RefDownYIdeal.τ).loc Cert.RefDownYIdeal.main_arg1) = m ((c.tc : Thread Cert.DownYIdeal.nD Cert.DownYIdeal.τ).loc Cert.DownYIdeal.main_arg1)) →
    ∃ (v0 : (c : Dev Cert.DownYIdeal.nD) → Buf (Elt Ideal) ((c.tc : Thread Cert.DownYIdeal.nD Cert.DownYIdeal.τ).loc Cert.DownYIdeal.main_v0)),
      θ_run (Cert.DownYIdeal.defs (F := Ideal)) (onTc (τ := Cert.DownYIdeal.τ) (Cert.DownYIdeal.main (F := Ideal))) ⟨m, fun _ => 0, g⟩ (fun r => ∀ c : Dev Cert.DownYIdeal.nD,
          r.2.mem ((c.tc : Thread Cert.DownYIdeal.nD Cert.DownYIdeal.τ).loc Cert.DownYIdeal.main_v0) = v0 c
          ∧ r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
          ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1))
      ∧ θ_run (Cert.RefDownYIdeal.defs (F := Ideal)) (onTc (τ := Cert.RefDownYIdeal.τ) (Cert.RefDownYIdeal.main (F := Ideal))) ⟨m', fun _ => 0, g'⟩ (fun r => ∀ c : Dev Cert.RefDownYIdeal.nD,
          r.2.mem ((c.tc : Thread Cert.RefDownYIdeal.nD Cert.RefDownYIdeal.τ).loc Cert.RefDownYIdeal.main_v2) = v0 c
          ∧ r.2.mem ((c.tc : Thread Cert.RefDownYIdeal.nD Cert.RefDownYIdeal.τ).loc Cert.RefDownYIdeal.main_arg0) = m' ((c.tc : Thread Cert.RefDownYIdeal.nD Cert.RefDownYIdeal.τ).loc Cert.RefDownYIdeal.main_arg0)
          ∧ r.2.mem ((c.tc : Thread Cert.RefDownYIdeal.nD Cert.RefDownYIdeal.τ).loc Cert.RefDownYIdeal.main_arg1) = m' ((c.tc : Thread Cert.RefDownYIdeal.nD Cert.RefDownYIdeal.τ).loc Cert.RefDownYIdeal.main_arg1))

def preserves_MemY_MemYIdeal : Prop :=
  True

def algebraic_MemYIdeal_RefMemYIdeal [hMemYIdeal : Cert.MemYIdeal.Facts] [hRefMemYIdeal : Cert.RefMemYIdeal.Facts] : Prop :=
  ∀ (m : (ℓ : Loc Cert.MemYIdeal.nD Cert.MemYIdeal.τ Cert.MemYIdeal.sig) → Buf (Elt Ideal) ℓ) (g : Dev Cert.MemYIdeal.nD → PrngReg)
    (m' : (ℓ : Loc Cert.RefMemYIdeal.nD Cert.RefMemYIdeal.τ Cert.RefMemYIdeal.sig) → Buf (Elt Ideal) ℓ) (g' : Dev Cert.RefMemYIdeal.nD → PrngReg), Pre_MemYIdeal m →
    (∀ c : Dev Cert.MemYIdeal.nD,
      m' ((c.tc : Thread Cert.RefMemYIdeal.nD Cert.RefMemYIdeal.τ).loc Cert.RefMemYIdeal.main_arg0) = m ((c.tc : Thread Cert.MemYIdeal.nD Cert.MemYIdeal.τ).loc Cert.MemYIdeal.main_arg0)
      ∧ m' ((c.tc : Thread Cert.RefMemYIdeal.nD Cert.RefMemYIdeal.τ).loc Cert.RefMemYIdeal.main_arg1) = m ((c.tc : Thread Cert.MemYIdeal.nD Cert.MemYIdeal.τ).loc Cert.MemYIdeal.main_arg1)) →
    ∃ (v0 : (c : Dev Cert.MemYIdeal.nD) → Buf (Elt Ideal) ((c.tc : Thread Cert.MemYIdeal.nD Cert.MemYIdeal.τ).loc Cert.MemYIdeal.main_v0)),
      θ_run (Cert.MemYIdeal.defs (F := Ideal)) (onTc (τ := Cert.MemYIdeal.τ) (Cert.MemYIdeal.main (F := Ideal))) ⟨m, fun _ => 0, g⟩ (fun r => ∀ c : Dev Cert.MemYIdeal.nD,
          r.2.mem ((c.tc : Thread Cert.MemYIdeal.nD Cert.MemYIdeal.τ).loc Cert.MemYIdeal.main_v0) = v0 c
          ∧ r.2.mem ((c.tc : Thread Cert.MemYIdeal.nD Cert.MemYIdeal.τ).loc Cert.MemYIdeal.main_arg0) = m ((c.tc : Thread Cert.MemYIdeal.nD Cert.MemYIdeal.τ).loc Cert.MemYIdeal.main_arg0)
          ∧ r.2.mem ((c.tc : Thread Cert.MemYIdeal.nD Cert.MemYIdeal.τ).loc Cert.MemYIdeal.main_arg1) = m ((c.tc : Thread Cert.MemYIdeal.nD Cert.MemYIdeal.τ).loc Cert.MemYIdeal.main_arg1))
      ∧ θ_run (Cert.RefMemYIdeal.defs (F := Ideal)) (onTc (τ := Cert.RefMemYIdeal.τ) (Cert.RefMemYIdeal.main (F := Ideal))) ⟨m', fun _ => 0, g'⟩ (fun r => ∀ c : Dev Cert.RefMemYIdeal.nD,
          r.2.mem ((c.tc : Thread Cert.RefMemYIdeal.nD Cert.RefMemYIdeal.τ).loc Cert.RefMemYIdeal.main_v3) = v0 c
          ∧ r.2.mem ((c.tc : Thread Cert.RefMemYIdeal.nD Cert.RefMemYIdeal.τ).loc Cert.RefMemYIdeal.main_arg0) = m' ((c.tc : Thread Cert.RefMemYIdeal.nD Cert.RefMemYIdeal.τ).loc Cert.RefMemYIdeal.main_arg0)
          ∧ r.2.mem ((c.tc : Thread Cert.RefMemYIdeal.nD Cert.RefMemYIdeal.τ).loc Cert.RefMemYIdeal.main_arg1) = m' ((c.tc : Thread Cert.RefMemYIdeal.nD Cert.RefMemYIdeal.τ).loc Cert.RefMemYIdeal.main_arg1))

def preserves_XaG_XaGIdeal : Prop :=
  True

def algebraic_XaGIdeal_RefXaGIdeal_pre_scored [hXaGIdeal : Cert.XaGIdeal.Facts] [hRefXaGIdeal : Cert.RefXaGIdeal.Facts] [hPre_scored : Cert.Pre_scored.Facts] : Prop :=
  ∀ (m : (ℓ : Loc Cert.XaGIdeal.nD Cert.XaGIdeal.τ Cert.XaGIdeal.sig) → Buf (Elt Ideal) ℓ) (g : Dev Cert.XaGIdeal.nD → PrngReg)
    (m' : (ℓ : Loc Cert.RefXaGIdeal.nD Cert.RefXaGIdeal.τ Cert.RefXaGIdeal.sig) → Buf (Elt Ideal) ℓ) (g' : Dev Cert.RefXaGIdeal.nD → PrngReg), Pre_XaGIdeal_scored m →
    (∀ c : Dev Cert.XaGIdeal.nD,
      m' ((c.tc : Thread Cert.RefXaGIdeal.nD Cert.RefXaGIdeal.τ).loc Cert.RefXaGIdeal.main_arg0) = m ((c.tc : Thread Cert.XaGIdeal.nD Cert.XaGIdeal.τ).loc Cert.XaGIdeal.main_arg0)
      ∧ m' ((c.tc : Thread Cert.RefXaGIdeal.nD Cert.RefXaGIdeal.τ).loc Cert.RefXaGIdeal.main_arg1) = m ((c.tc : Thread Cert.XaGIdeal.nD Cert.XaGIdeal.τ).loc Cert.XaGIdeal.main_arg1)
      ∧ m' ((c.tc : Thread Cert.RefXaGIdeal.nD Cert.RefXaGIdeal.τ).loc Cert.RefXaGIdeal.main_arg2) = m ((c.tc : Thread Cert.XaGIdeal.nD Cert.XaGIdeal.τ).loc Cert.XaGIdeal.main_arg2)) →
    ∃ (v0 : (c : Dev Cert.XaGIdeal.nD) → Buf (Elt Ideal) ((c.tc : Thread Cert.XaGIdeal.nD Cert.XaGIdeal.τ).loc Cert.XaGIdeal.main_v0_0)) (v1 : (c : Dev Cert.XaGIdeal.nD) → Buf (Elt Ideal) ((c.tc : Thread Cert.XaGIdeal.nD Cert.XaGIdeal.τ).loc Cert.XaGIdeal.main_v0_1)) (v2 : (c : Dev Cert.XaGIdeal.nD) → Buf (Elt Ideal) ((c.tc : Thread Cert.XaGIdeal.nD Cert.XaGIdeal.τ).loc Cert.XaGIdeal.main_v0_2)),
      θ_run (Cert.XaGIdeal.defs (F := Ideal)) (onTc (τ := Cert.XaGIdeal.τ) (Cert.XaGIdeal.main (F := Ideal))) ⟨m, fun _ => 0, g⟩ (fun r => ∀ c : Dev Cert.XaGIdeal.nD,
          r.2.mem ((c.tc : Thread Cert.XaGIdeal.nD Cert.XaGIdeal.τ).loc Cert.XaGIdeal.main_v0_0) = v0 c
          ∧ r.2.mem ((c.tc : Thread Cert.XaGIdeal.nD Cert.XaGIdeal.τ).loc Cert.XaGIdeal.main_v0_1) = v1 c
          ∧ r.2.mem ((c.tc : Thread Cert.XaGIdeal.nD Cert.XaGIdeal.τ).loc Cert.XaGIdeal.main_v0_2) = v2 c
          ∧ r.2.mem ((c.tc : Thread Cert.XaGIdeal.nD Cert.XaGIdeal.τ).loc Cert.XaGIdeal.main_arg0) = m ((c.tc : Thread Cert.XaGIdeal.nD Cert.XaGIdeal.τ).loc Cert.XaGIdeal.main_arg0)
          ∧ r.2.mem ((c.tc : Thread Cert.XaGIdeal.nD Cert.XaGIdeal.τ).loc Cert.XaGIdeal.main_arg1) = m ((c.tc : Thread Cert.XaGIdeal.nD Cert.XaGIdeal.τ).loc Cert.XaGIdeal.main_arg1)
          ∧ r.2.mem ((c.tc : Thread Cert.XaGIdeal.nD Cert.XaGIdeal.τ).loc Cert.XaGIdeal.main_arg2) = m ((c.tc : Thread Cert.XaGIdeal.nD Cert.XaGIdeal.τ).loc Cert.XaGIdeal.main_arg2))
      ∧ θ_run (Cert.RefXaGIdeal.defs (F := Ideal)) (onTc (τ := Cert.RefXaGIdeal.τ) (Cert.RefXaGIdeal.main (F := Ideal))) ⟨m', fun _ => 0, g'⟩ (fun r => ∀ c : Dev Cert.RefXaGIdeal.nD,
          r.2.mem ((c.tc : Thread Cert.RefXaGIdeal.nD Cert.RefXaGIdeal.τ).loc Cert.RefXaGIdeal.main_v78) = v0 c
          ∧ r.2.mem ((c.tc : Thread Cert.RefXaGIdeal.nD Cert.RefXaGIdeal.τ).loc Cert.RefXaGIdeal.main_v79) = v1 c
          ∧ r.2.mem ((c.tc : Thread Cert.RefXaGIdeal.nD Cert.RefXaGIdeal.τ).loc Cert.RefXaGIdeal.main_v80) = v2 c
          ∧ r.2.mem ((c.tc : Thread Cert.RefXaGIdeal.nD Cert.RefXaGIdeal.τ).loc Cert.RefXaGIdeal.main_arg0) = m' ((c.tc : Thread Cert.RefXaGIdeal.nD Cert.RefXaGIdeal.τ).loc Cert.RefXaGIdeal.main_arg0)
          ∧ r.2.mem ((c.tc : Thread Cert.RefXaGIdeal.nD Cert.RefXaGIdeal.τ).loc Cert.RefXaGIdeal.main_arg1) = m' ((c.tc : Thread Cert.RefXaGIdeal.nD Cert.RefXaGIdeal.τ).loc Cert.RefXaGIdeal.main_arg1)
          ∧ r.2.mem ((c.tc : Thread Cert.RefXaGIdeal.nD Cert.RefXaGIdeal.τ).loc Cert.RefXaGIdeal.main_arg2) = m' ((c.tc : Thread Cert.RefXaGIdeal.nD Cert.RefXaGIdeal.τ).loc Cert.RefXaGIdeal.main_arg2))

def preserves_XaY_XaYIdeal : Prop :=
  True

def algebraic_XaYIdeal_RefXaYIdeal [hXaYIdeal : Cert.XaYIdeal.Facts] [hRefXaYIdeal : Cert.RefXaYIdeal.Facts] : Prop :=
  ∀ (m : (ℓ : Loc Cert.XaYIdeal.nD Cert.XaYIdeal.τ Cert.XaYIdeal.sig) → Buf (Elt Ideal) ℓ) (g : Dev Cert.XaYIdeal.nD → PrngReg)
    (m' : (ℓ : Loc Cert.RefXaYIdeal.nD Cert.RefXaYIdeal.τ Cert.RefXaYIdeal.sig) → Buf (Elt Ideal) ℓ) (g' : Dev Cert.RefXaYIdeal.nD → PrngReg), Pre_XaYIdeal m →
    (∀ c : Dev Cert.XaYIdeal.nD,
      m' ((c.tc : Thread Cert.RefXaYIdeal.nD Cert.RefXaYIdeal.τ).loc Cert.RefXaYIdeal.main_arg0) = m ((c.tc : Thread Cert.XaYIdeal.nD Cert.XaYIdeal.τ).loc Cert.XaYIdeal.main_arg0)
      ∧ m' ((c.tc : Thread Cert.RefXaYIdeal.nD Cert.RefXaYIdeal.τ).loc Cert.RefXaYIdeal.main_arg1) = m ((c.tc : Thread Cert.XaYIdeal.nD Cert.XaYIdeal.τ).loc Cert.XaYIdeal.main_arg1)) →
    ∃ (v0 : (c : Dev Cert.XaYIdeal.nD) → Buf (Elt Ideal) ((c.tc : Thread Cert.XaYIdeal.nD Cert.XaYIdeal.τ).loc Cert.XaYIdeal.main_v0)),
      θ_run (Cert.XaYIdeal.defs (F := Ideal)) (onTc (τ := Cert.XaYIdeal.τ) (Cert.XaYIdeal.main (F := Ideal))) ⟨m, fun _ => 0, g⟩ (fun r => ∀ c : Dev Cert.XaYIdeal.nD,
          r.2.mem ((c.tc : Thread Cert.XaYIdeal.nD Cert.XaYIdeal.τ).loc Cert.XaYIdeal.main_v0) = v0 c
          ∧ r.2.mem ((c.tc : Thread Cert.XaYIdeal.nD Cert.XaYIdeal.τ).loc Cert.XaYIdeal.main_arg0) = m ((c.tc : Thread Cert.XaYIdeal.nD Cert.XaYIdeal.τ).loc Cert.XaYIdeal.main_arg0)
          ∧ r.2.mem ((c.tc : Thread Cert.XaYIdeal.nD Cert.XaYIdeal.τ).loc Cert.XaYIdeal.main_arg1) = m ((c.tc : Thread Cert.XaYIdeal.nD Cert.XaYIdeal.τ).loc Cert.XaYIdeal.main_arg1))
      ∧ θ_run (Cert.RefXaYIdeal.defs (F := Ideal)) (onTc (τ := Cert.RefXaYIdeal.τ) (Cert.RefXaYIdeal.main (F := Ideal))) ⟨m', fun _ => 0, g'⟩ (fun r => ∀ c : Dev Cert.RefXaYIdeal.nD,
          r.2.mem ((c.tc : Thread Cert.RefXaYIdeal.nD Cert.RefXaYIdeal.τ).loc Cert.RefXaYIdeal.main_v30) = v0 c
          ∧ r.2.mem ((c.tc : Thread Cert.RefXaYIdeal.nD Cert.RefXaYIdeal.τ).loc Cert.RefXaYIdeal.main_arg0) = m' ((c.tc : Thread Cert.RefXaYIdeal.nD Cert.RefXaYIdeal.τ).loc Cert.RefXaYIdeal.main_arg0)
          ∧ r.2.mem ((c.tc : Thread Cert.RefXaYIdeal.nD Cert.RefXaYIdeal.τ).loc Cert.RefXaYIdeal.main_arg1) = m' ((c.tc : Thread Cert.RefXaYIdeal.nD Cert.RefXaYIdeal.τ).loc Cert.RefXaYIdeal.main_arg1))

def Claim : Prop :=
  ∃ (hKernel : Cert.Kernel.Facts) (hKernelIdeal : Cert.KernelIdeal.Facts) (hReferenceIdeal : Cert.ReferenceIdeal.Facts) (hDownX : Cert.DownX.Facts) (hDownXIdeal : Cert.DownXIdeal.Facts) (hRefDownXIdeal : Cert.RefDownXIdeal.Facts) (hDownW : Cert.DownW.Facts) (hDownWIdeal : Cert.DownWIdeal.Facts) (hRefDownWIdeal : Cert.RefDownWIdeal.Facts) (hOutX : Cert.OutX.Facts) (hOutXIdeal : Cert.OutXIdeal.Facts) (hRefOutXIdeal : Cert.RefOutXIdeal.Facts) (hOutW : Cert.OutW.Facts) (hOutWIdeal : Cert.OutWIdeal.Facts) (hRefOutWIdeal : Cert.RefOutWIdeal.Facts) (hUpX : Cert.UpX.Facts) (hUpXIdeal : Cert.UpXIdeal.Facts) (hRefUpXIdeal : Cert.RefUpXIdeal.Facts) (hUpW : Cert.UpW.Facts) (hUpWIdeal : Cert.UpWIdeal.Facts) (hRefUpWIdeal : Cert.RefUpWIdeal.Facts) (hInX : Cert.InX.Facts) (hInXIdeal : Cert.InXIdeal.Facts) (hRefInXIdeal : Cert.RefInXIdeal.Facts) (hInW : Cert.InW.Facts) (hInWIdeal : Cert.InWIdeal.Facts) (hRefInWIdeal : Cert.RefInWIdeal.Facts) (hBrX : Cert.BrX.Facts) (hBrXIdeal : Cert.BrXIdeal.Facts) (hRefBrXIdeal : Cert.RefBrXIdeal.Facts) (hBrW : Cert.BrW.Facts) (hBrWIdeal : Cert.BrWIdeal.Facts) (hRefBrWIdeal : Cert.RefBrWIdeal.Facts) (hGmX : Cert.GmX.Facts) (hGmXIdeal : Cert.GmXIdeal.Facts) (hRefGmXIdeal : Cert.RefGmXIdeal.Facts) (hMemX : Cert.MemX.Facts) (hMemXIdeal : Cert.MemXIdeal.Facts) (hRefMemXIdeal : Cert.RefMemXIdeal.Facts) (hMemW : Cert.MemW.Facts) (hMemWIdeal : Cert.MemWIdeal.Facts) (hRefMemWIdeal : Cert.RefMemWIdeal.Facts) (hInY : Cert.InY.Facts) (hInYIdeal : Cert.InYIdeal.Facts) (hRefInYIdeal : Cert.RefInYIdeal.Facts) (hGateY : Cert.GateY.Facts) (hGateYIdeal : Cert.GateYIdeal.Facts) (hRefGateYIdeal : Cert.RefGateYIdeal.Facts) (hBrY : Cert.BrY.Facts) (hBrYIdeal : Cert.BrYIdeal.Facts) (hRefBrYIdeal : Cert.RefBrYIdeal.Facts) (hUpY : Cert.UpY.Facts) (hUpYIdeal : Cert.UpYIdeal.Facts) (hRefUpYIdeal : Cert.RefUpYIdeal.Facts) (hOutY : Cert.OutY.Facts) (hOutYIdeal : Cert.OutYIdeal.Facts) (hRefOutYIdeal : Cert.RefOutYIdeal.Facts) (hDownY : Cert.DownY.Facts) (hDownYIdeal : Cert.DownYIdeal.Facts) (hRefDownYIdeal : Cert.RefDownYIdeal.Facts) (hMemY : Cert.MemY.Facts) (hMemYIdeal : Cert.MemYIdeal.Facts) (hRefMemYIdeal : Cert.RefMemYIdeal.Facts) (hXaG : Cert.XaG.Facts) (hXaGIdeal : Cert.XaGIdeal.Facts) (hRefXaGIdeal : Cert.RefXaGIdeal.Facts) (hXaY : Cert.XaY.Facts) (hXaYIdeal : Cert.XaYIdeal.Facts) (hRefXaYIdeal : Cert.RefXaYIdeal.Facts) (hPre_finite : Cert.Pre_finite.Facts) (hPre_scored : Cert.Pre_scored.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownX (hDownX := hDownX)
    ∧ quiescent_DownXIdeal (hDownXIdeal := hDownXIdeal)
    ∧ quiescent_RefDownXIdeal (hRefDownXIdeal := hRefDownXIdeal)
    ∧ quiescent_DownW (hDownW := hDownW)
    ∧ quiescent_DownWIdeal (hDownWIdeal := hDownWIdeal)
    ∧ quiescent_RefDownWIdeal (hRefDownWIdeal := hRefDownWIdeal)
    ∧ quiescent_OutX (hOutX := hOutX)
    ∧ quiescent_OutXIdeal (hOutXIdeal := hOutXIdeal)
    ∧ quiescent_RefOutXIdeal (hRefOutXIdeal := hRefOutXIdeal)
    ∧ quiescent_OutW (hOutW := hOutW)
    ∧ quiescent_OutWIdeal (hOutWIdeal := hOutWIdeal)
    ∧ quiescent_RefOutWIdeal (hRefOutWIdeal := hRefOutWIdeal)
    ∧ quiescent_UpX (hUpX := hUpX)
    ∧ quiescent_UpXIdeal (hUpXIdeal := hUpXIdeal)
    ∧ quiescent_RefUpXIdeal (hRefUpXIdeal := hRefUpXIdeal)
    ∧ quiescent_UpW (hUpW := hUpW)
    ∧ quiescent_UpWIdeal (hUpWIdeal := hUpWIdeal)
    ∧ quiescent_RefUpWIdeal (hRefUpWIdeal := hRefUpWIdeal)
    ∧ quiescent_InX (hInX := hInX)
    ∧ quiescent_InXIdeal (hInXIdeal := hInXIdeal)
    ∧ quiescent_RefInXIdeal (hRefInXIdeal := hRefInXIdeal)
    ∧ quiescent_InW (hInW := hInW)
    ∧ quiescent_InWIdeal (hInWIdeal := hInWIdeal)
    ∧ quiescent_RefInWIdeal (hRefInWIdeal := hRefInWIdeal)
    ∧ quiescent_BrX (hBrX := hBrX)
    ∧ quiescent_BrXIdeal (hBrXIdeal := hBrXIdeal)
    ∧ quiescent_RefBrXIdeal (hRefBrXIdeal := hRefBrXIdeal)
    ∧ quiescent_BrW (hBrW := hBrW)
    ∧ quiescent_BrWIdeal (hBrWIdeal := hBrWIdeal)
    ∧ quiescent_RefBrWIdeal (hRefBrWIdeal := hRefBrWIdeal)
    ∧ quiescent_GmX (hGmX := hGmX)
    ∧ quiescent_GmXIdeal (hGmXIdeal := hGmXIdeal)
    ∧ quiescent_RefGmXIdeal (hRefGmXIdeal := hRefGmXIdeal)
    ∧ quiescent_MemX (hMemX := hMemX)
    ∧ quiescent_MemXIdeal (hMemXIdeal := hMemXIdeal)
    ∧ quiescent_RefMemXIdeal (hRefMemXIdeal := hRefMemXIdeal)
    ∧ quiescent_MemW (hMemW := hMemW)
    ∧ quiescent_MemWIdeal (hMemWIdeal := hMemWIdeal)
    ∧ quiescent_RefMemWIdeal (hRefMemWIdeal := hRefMemWIdeal)
    ∧ quiescent_InY (hInY := hInY)
    ∧ quiescent_InYIdeal (hInYIdeal := hInYIdeal)
    ∧ quiescent_RefInYIdeal (hRefInYIdeal := hRefInYIdeal)
    ∧ quiescent_GateY (hGateY := hGateY)
    ∧ quiescent_GateYIdeal (hGateYIdeal := hGateYIdeal)
    ∧ quiescent_RefGateYIdeal (hRefGateYIdeal := hRefGateYIdeal)
    ∧ quiescent_BrY (hBrY := hBrY)
    ∧ quiescent_BrYIdeal (hBrYIdeal := hBrYIdeal)
    ∧ quiescent_RefBrYIdeal (hRefBrYIdeal := hRefBrYIdeal)
    ∧ quiescent_UpY (hUpY := hUpY)
    ∧ quiescent_UpYIdeal (hUpYIdeal := hUpYIdeal)
    ∧ quiescent_RefUpYIdeal (hRefUpYIdeal := hRefUpYIdeal)
    ∧ quiescent_OutY (hOutY := hOutY)
    ∧ quiescent_OutYIdeal (hOutYIdeal := hOutYIdeal)
    ∧ quiescent_RefOutYIdeal (hRefOutYIdeal := hRefOutYIdeal)
    ∧ quiescent_DownY (hDownY := hDownY)
    ∧ quiescent_DownYIdeal (hDownYIdeal := hDownYIdeal)
    ∧ quiescent_RefDownYIdeal (hRefDownYIdeal := hRefDownYIdeal)
    ∧ quiescent_MemY (hMemY := hMemY)
    ∧ quiescent_MemYIdeal (hMemYIdeal := hMemYIdeal)
    ∧ quiescent_RefMemYIdeal (hRefMemYIdeal := hRefMemYIdeal)
    ∧ quiescent_XaG (hXaG := hXaG)
    ∧ quiescent_XaGIdeal (hXaGIdeal := hXaGIdeal)
    ∧ quiescent_XaGIdeal_pre_scored (hXaGIdeal := hXaGIdeal) (hPre_scored := hPre_scored)
    ∧ quiescent_RefXaGIdeal (hRefXaGIdeal := hRefXaGIdeal)
    ∧ quiescent_RefXaGIdeal_pre_scored (hRefXaGIdeal := hRefXaGIdeal) (hPre_scored := hPre_scored)
    ∧ quiescent_XaY (hXaY := hXaY)
    ∧ quiescent_XaYIdeal (hXaYIdeal := hXaYIdeal)
    ∧ quiescent_RefXaYIdeal (hRefXaYIdeal := hRefXaYIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownX_DownXIdeal
    ∧ algebraic_DownXIdeal_RefDownXIdeal (hDownXIdeal := hDownXIdeal) (hRefDownXIdeal := hRefDownXIdeal)
    ∧ preserves_DownW_DownWIdeal
    ∧ algebraic_DownWIdeal_RefDownWIdeal (hDownWIdeal := hDownWIdeal) (hRefDownWIdeal := hRefDownWIdeal)
    ∧ preserves_OutX_OutXIdeal
    ∧ algebraic_OutXIdeal_RefOutXIdeal (hOutXIdeal := hOutXIdeal) (hRefOutXIdeal := hRefOutXIdeal)
    ∧ preserves_OutW_OutWIdeal
    ∧ algebraic_OutWIdeal_RefOutWIdeal (hOutWIdeal := hOutWIdeal) (hRefOutWIdeal := hRefOutWIdeal)
    ∧ preserves_UpX_UpXIdeal
    ∧ algebraic_UpXIdeal_RefUpXIdeal (hUpXIdeal := hUpXIdeal) (hRefUpXIdeal := hRefUpXIdeal)
    ∧ preserves_UpW_UpWIdeal
    ∧ algebraic_UpWIdeal_RefUpWIdeal (hUpWIdeal := hUpWIdeal) (hRefUpWIdeal := hRefUpWIdeal)
    ∧ preserves_InX_InXIdeal
    ∧ algebraic_InXIdeal_RefInXIdeal (hInXIdeal := hInXIdeal) (hRefInXIdeal := hRefInXIdeal)
    ∧ preserves_InW_InWIdeal
    ∧ algebraic_InWIdeal_RefInWIdeal (hInWIdeal := hInWIdeal) (hRefInWIdeal := hRefInWIdeal)
    ∧ preserves_BrX_BrXIdeal
    ∧ algebraic_BrXIdeal_RefBrXIdeal (hBrXIdeal := hBrXIdeal) (hRefBrXIdeal := hRefBrXIdeal)
    ∧ preserves_BrW_BrWIdeal
    ∧ algebraic_BrWIdeal_RefBrWIdeal (hBrWIdeal := hBrWIdeal) (hRefBrWIdeal := hRefBrWIdeal)
    ∧ preserves_GmX_GmXIdeal
    ∧ algebraic_GmXIdeal_RefGmXIdeal (hGmXIdeal := hGmXIdeal) (hRefGmXIdeal := hRefGmXIdeal)
    ∧ preserves_MemX_MemXIdeal
    ∧ algebraic_MemXIdeal_RefMemXIdeal (hMemXIdeal := hMemXIdeal) (hRefMemXIdeal := hRefMemXIdeal)
    ∧ preserves_MemW_MemWIdeal
    ∧ algebraic_MemWIdeal_RefMemWIdeal (hMemWIdeal := hMemWIdeal) (hRefMemWIdeal := hRefMemWIdeal)
    ∧ preserves_InY_InYIdeal
    ∧ algebraic_InYIdeal_RefInYIdeal (hInYIdeal := hInYIdeal) (hRefInYIdeal := hRefInYIdeal)
    ∧ preserves_GateY_GateYIdeal
    ∧ algebraic_GateYIdeal_RefGateYIdeal (hGateYIdeal := hGateYIdeal) (hRefGateYIdeal := hRefGateYIdeal)
    ∧ preserves_BrY_BrYIdeal
    ∧ algebraic_BrYIdeal_RefBrYIdeal (hBrYIdeal := hBrYIdeal) (hRefBrYIdeal := hRefBrYIdeal)
    ∧ preserves_UpY_UpYIdeal
    ∧ algebraic_UpYIdeal_RefUpYIdeal (hUpYIdeal := hUpYIdeal) (hRefUpYIdeal := hRefUpYIdeal)
    ∧ preserves_OutY_OutYIdeal
    ∧ algebraic_OutYIdeal_RefOutYIdeal (hOutYIdeal := hOutYIdeal) (hRefOutYIdeal := hRefOutYIdeal)
    ∧ preserves_DownY_DownYIdeal
    ∧ algebraic_DownYIdeal_RefDownYIdeal (hDownYIdeal := hDownYIdeal) (hRefDownYIdeal := hRefDownYIdeal)
    ∧ preserves_MemY_MemYIdeal
    ∧ algebraic_MemYIdeal_RefMemYIdeal (hMemYIdeal := hMemYIdeal) (hRefMemYIdeal := hRefMemYIdeal)
    ∧ preserves_XaG_XaGIdeal
    ∧ algebraic_XaGIdeal_RefXaGIdeal_pre_scored (hXaGIdeal := hXaGIdeal) (hRefXaGIdeal := hRefXaGIdeal) (hPre_scored := hPre_scored)
    ∧ preserves_XaY_XaYIdeal
    ∧ algebraic_XaYIdeal_RefXaYIdeal (hXaYIdeal := hXaYIdeal) (hRefXaYIdeal := hRefXaYIdeal)
-- ==== Pre_finite.lean ====
abbrev S2048x6144 : Shape := ⟨2, ![2048, 6144]⟩
abbrev S2048x1024 : Shape := ⟨2, ![2048, 1024]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  bcast_S_S2048x1024 : S_.BroadcastsInDim S2048x1024 (![] : Fin 0 → Fin S2048x1024.rank)

variable [Facts]

def fn {F : FTy → Type} [FloatOps F] (main_arg0 : FVec F S2048x6144 .bf16) (main_arg1 : FVec F S2048x1024 .bf16) : IVec S2048x6144 1 × IVec S2048x1024 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  (main_v3, main_v7)
-- ==== Pre_scored.lean ====
abbrev S2048x6144 : Shape := ⟨2, ![2048, 6144]⟩
abbrev S256x2048 : Shape := ⟨2, ![256, 2048]⟩
abbrev S2048x1024 : Shape := ⟨2, ![2048, 1024]⟩
abbrev S_ : Shape := ⟨0, ![]⟩
abbrev S256x1024 : Shape := ⟨2, ![256, 1024]⟩

class Facts : Prop where
  slices_S2048x6144_S2048x1024_0_5120 : S2048x6144.Slices ![0, 5120] S2048x1024
  bitsLt_bf16_f32 : FTy.bits .bf16 < FTy.bits .f32
  bcast_S_S2048x1024 : S_.BroadcastsInDim S2048x1024 (![] : Fin 0 → Fin S2048x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S2048x6144 .bf16) (main_arg1 : FVec F S256x2048 .bf16) (main_arg2 : FVec F S2048x1024 .bf16) : IVec S2048x1024 1 × IVec S256x1024 1 :=
  let main_v0 : FVec F S2048x1024 .bf16 := (extractStridedSlice S2048x1024 ![0, 5120] · slices_S2048x6144_S2048x1024_0_5120) main_arg0
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  (main_v4, main_v9)
-- ==== Kernel.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S2048x8 : Shape := ⟨2, ![2048, 8]⟩
abbrev S1x2048x8 : Shape := ⟨3, ![1, 2048, 8]⟩
abbrev S128x1024 : Shape := ⟨2, ![128, 1024]⟩
abbrev S1x128x8 : Shape := ⟨3, ![1, 128, 8]⟩
abbrev S128x128 : Shape := ⟨2, ![128, 128]⟩
abbrev S128x1 : Shape := ⟨2, ![128, 1]⟩
abbrev S1x128x1 : Shape := ⟨3, ![1, 128, 1]⟩
abbrev S128 : Shape := ⟨1, ![128]⟩

abbrev nBuf : Space → Nat
  | .hbm => 46
  | .vmem => 15
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x8x128, .f32⟩
  | .hbm, ⟨5, _⟩ => ⟨S2048x1024, .bf16⟩
  | .hbm, ⟨6, _⟩ => ⟨S2048x1024, .f32⟩
  | .hbm, ⟨7, _⟩ => ⟨S2048x8x128, .f32⟩
  | .hbm, ⟨8, _⟩ => ⟨S8x2048x2048, .f32⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S2048x8, .f32⟩
  | .hbm, ⟨42, _⟩ => ⟨S1x2048x8, .f32⟩
  | .hbm, ⟨43, _⟩ => ⟨S2048x1024, .bf16⟩
  | .hbm, ⟨44, _⟩ => ⟨S2048x1024, .bf16⟩
  | .hbm, ⟨45, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .bf16⟩
  | .local _ .vmem, ⟨6, _⟩ => ⟨S1x128x8, .f32⟩
  | .local _ .vmem, ⟨7, _⟩ => ⟨S1x128x8, .f32⟩
  | .local _ .vmem, ⟨8, _⟩ => ⟨S128x1024, .bf16⟩
  | .local _ .vmem, ⟨9, _⟩ => ⟨S128x1024, .bf16⟩
  | .local _ .vmem, ⟨10, _⟩ => ⟨S2048x1024, .bf16⟩
  | .local _ .vmem, ⟨11, _⟩ => ⟨S2048x1024, .bf16⟩
  | .local _ .vmem, ⟨12, _⟩ => ⟨S128x1024, .f32⟩
  | .local _ .vmem, ⟨13, _⟩ => ⟨S2048x1024, .f32⟩
  | .local _ .vmem, ⟨14, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 16], ![false, false]⟩

@[reducible] def k0_t1_loop (i : grid0.Coords) : Scf.Loop 32 :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_4 : BitVec 32 := 1#32
  ⟨c0_i32_3, v23, c1_i32_4⟩
def k0_mult1 (i : grid0.Coords) (k0_t1 : Fin (k0_t1_loop i).trips) : BitVec 32 :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  v770
def k0_off1 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v773 : Index := Scalar.indexCast v771
  let c0_336 : Index := 0#32
  ![v773.toNat, 0]
def k0_off2 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v794 : Index := Scalar.indexCast v771
  let c128_346 : Index := 128#32
  ![v794.toNat, 128]
def k0_off3 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v815 : Index := Scalar.indexCast v771
  let c256_356 : Index := 256#32
  ![v815.toNat, 256]
def k0_off4 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v836 : Index := Scalar.indexCast v771
  let c384_366 : Index := 384#32
  ![v836.toNat, 384]
def k0_off5 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v857 : Index := Scalar.indexCast v771
  let c512_376 : Index := 512#32
  ![v857.toNat, 512]
def k0_off6 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v878 : Index := Scalar.indexCast v771
  let c640_386 : Index := 640#32
  ![v878.toNat, 640]
def k0_off7 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v899 : Index := Scalar.indexCast v771
  let c768_396 : Index := 768#32
  ![v899.toNat, 768]
def k0_off8 (i : grid0.Coords) (k0_t1 : Fin (k0_t1_loop i).trips) : Fin 2 → Nat :=
  let c0_i32_3 : BitVec 32 := 0#32
  let c1_i32_4 : BitVec 32 := 1#32
  let arg13 : BitVec 32 := Scf.iv c0_i32_3 c1_i32_4 k0_t1
  let c128_i32_333 : BitVec 32 := 128#32
  let v770 : BitVec 32 := Scalar.muli arg13 c128_i32_333
  let v771 : BitVec 32 := v770
  let v920 : Index := Scalar.indexCast v771
  let c896_406 : Index := 896#32
  ![v920.toNat, 896]
@[reducible] def k0_t2_loop (i : grid0.Coords) : Scf.Loop 32 :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let v20 : BitVec 32 := Scalar.addi c0_i32_3 v19
  let c1_i32_5 : BitVec 32 := 1#32
  ⟨v23, v20, c1_i32_5⟩
def k0_mult2 (i : grid0.Coords) (k0_t2 : Fin (k0_t2_loop i).trips) : BitVec 32 :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  v770
def k0_off9 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v773 : Index := Scalar.indexCast v771
  let c0_336 : Index := 0#32
  ![v773.toNat, 0]
def k0_off10 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v794 : Index := Scalar.indexCast v771
  let c128_346 : Index := 128#32
  ![v794.toNat, 128]
def k0_off11 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v815 : Index := Scalar.indexCast v771
  let c256_356 : Index := 256#32
  ![v815.toNat, 256]
def k0_off12 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v836 : Index := Scalar.indexCast v771
  let c384_366 : Index := 384#32
  ![v836.toNat, 384]
def k0_off13 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v857 : Index := Scalar.indexCast v771
  let c512_376 : Index := 512#32
  ![v857.toNat, 512]
def k0_off14 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v878 : Index := Scalar.indexCast v771
  let c640_386 : Index := 640#32
  ![v878.toNat, 640]
def k0_off15 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v899 : Index := Scalar.indexCast v771
  let c768_396 : Index := 768#32
  ![v899.toNat, 768]
def k0_off16 (i : grid0.Coords) (k0_t2 : Fin (k0_t2_loop i).trips) : Fin 2 → Nat :=
  let c0_i32_3 : BitVec 32 := 0#32
  let arg1 : BitVec 32 := BitVec.ofNat 32 (i 1).val
  let v19 : BitVec 32 := Scalar.subi arg1 c0_i32_3
  let c1_i32 : BitVec 32 := 1#32
  let v21 : BitVec 32 := Scalar.divsi v19 c1_i32
  let v22 : BitVec 32 := Scalar.muli v21 c1_i32
  let v23 : BitVec 32 := Scalar.addi c0_i32_3 v22
  let c1_i32_5 : BitVec 32 := 1#32
  let arg13 : BitVec 32 := Scf.iv v23 c1_i32_5 k0_t2
  let c128_i32_333 : BitVec 32 := 128#32
  let v770 : BitVec 32 := Scalar.muli arg13 c128_i32_333
  let v771 : BitVec 32 := v770
  let v920 : Index := Scalar.indexCast v771
  let c896_406 : Index := 896#32
  ![v920.toNat, 896]
def k0_mult3 (i : grid0.Coords) : BitVec 32 :=
  let arg1 : BitVec 32 := BitVec.ofNat 32 (i 1).val
  let c128_i32 : BitVec 32 := 128#32
  let v26 : BitVec 32 := Scalar.muli arg1 c128_i32
  v26
def k0_off17 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v29 : Index := Scalar.indexCast v27
  let c0_8 : Index := 0#32
  ![v29.toNat, 0]
def k0_off18 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v52 : Index := Scalar.indexCast v27
  let c128_18 : Index := 128#32
  ![v52.toNat, 128]
def k0_off19 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v75 : Index := Scalar.indexCast v27
  let c256_28 : Index := 256#32
  ![v75.toNat, 256]
def k0_off20 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v98 : Index := Scalar.indexCast v27
  let c384_38 : Index := 384#32
  ![v98.toNat, 384]
def k0_off21 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v121 : Index := Scalar.indexCast v27
  let c512_48 : Index := 512#32
  ![v121.toNat, 512]
def k0_off22 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v144 : Index := Scalar.indexCast v27
  let c640_58 : Index := 640#32
  ![v144.toNat, 640]
def k0_off23 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v167 : Index := Scalar.indexCast v27
  let c768_68 : Index := 768#32
  ![v167.toNat, 768]
def k0_off24 (i : grid0.Coords) : Fin 2 → Nat :=
  let arg1 : BitVec 32 := BitVec.ofNat 32 (i 1).val
  let c128_i32 : BitVec 32 := 128#32
  let v26 : BitVec 32 := Scalar.muli arg1 c128_i32
  let v27 : BitVec 32 := v26
  let v190 : Index := Scalar.indexCast v27
  let c896_78 : Index := 896#32
  ![v190.toNat, 896]
def k0_cond2 (i : grid0.Coords) : BitVec 1 :=
  let arg1 : BitVec 32 := BitVec.ofNat 32 (i 1).val
  let c15_i32 : BitVec 32 := 15#32
  let v767 : BitVec 1 := Scalar.cmpi .eq arg1 c15_i32
  let v768 : BitVec 32 := Scalar.extui v767
  let c0_i32_332 : BitVec 32 := 0#32
  let v769 : BitVec 1 := Scalar.cmpi .ne v768 c0_i32_332
  v769

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x128x2048 : Shape := ⟨3, ![8, 128, 2048]⟩
abbrev S8x2048x128 : Shape := ⟨3, ![8, 2048, 128]⟩

abbrev nBuf : Space → Nat
  | .hbm => 186
  | .vmem => 0
  | .smem => 0
  | _ => 0

abbrev hbmTy0_0 (i : Nat) : BufTy := match i % 128 with
  | 0 => ⟨S2048x6144, .bf16⟩
  | 1 => ⟨S2048x1024, .bf16⟩
  | 2 => ⟨S2048x1024, .bf16⟩
  | 3 => ⟨S2048x8x128, .bf16⟩
  | 4 => ⟨S2048x1024, .bf16⟩
  | 5 => ⟨S2048x8x128, .bf16⟩
  | 6 => ⟨S2048x1024, .bf16⟩
  | 7 => ⟨S2048x8x128, .bf16⟩
  | 8 => ⟨S2048x8x128, .f32⟩
  | 9 => ⟨S2048x8x128, .f32⟩
  | 10 => ⟨S8x2048x2048, .f32⟩
  | 11 => ⟨S8x2048x2048, .bf16⟩
  | 12 => ⟨S8x2048x2048, .f32⟩
  | 13 => ⟨S_, .f32⟩
  | 14 => ⟨S_, .f32⟩
  | 15 => ⟨S8x2048x2048, .f32⟩
  | 16 => ⟨S8x2048x2048, .f32⟩
  | 17 => ⟨S2048x2048, .i32⟩
  | 18 => ⟨S2048x2048, .i32⟩
  | 19 => ⟨S2048x2048, .i1⟩
  | 20 => ⟨S1x2048x2048, .i1⟩
  | 21 => ⟨S8x2048x2048, .f32⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .i1⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .i1⟩
  | 40 => ⟨S_, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .i1⟩
  | 46 => ⟨S_, .f32⟩
  | 47 => ⟨S8x2048x2048, .f32⟩
  | 48 => ⟨S8x2048x2048, .f32⟩
  | 49 => ⟨S8x2048x2048, .f32⟩
  | 50 => ⟨S8x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x2048x2048, .f32⟩
  | 59 => ⟨S8x2048x2048, .i1⟩
  | 60 => ⟨S_, .f32⟩
  | 61 => ⟨S8x2048x2048, .f32⟩
  | 62 => ⟨S8x2048x2048, .f32⟩
  | 63 => ⟨S8x2048x2048, .f32⟩
  | 64 => ⟨S8x2048x2048, .f32⟩
  | 65 => ⟨S8x2048x2048, .f32⟩
  | 66 => ⟨S_, .f32⟩
  | 67 => ⟨S8x2048x2048, .f32⟩
  | 68 => ⟨S8x2048x2048, .f32⟩
  | 69 => ⟨S8x2048x2048, .f32⟩
  | 70 => ⟨S_, .f32⟩
  | 71 => ⟨S_, .f32⟩
  | 72 => ⟨S8x2048x2048, .i1⟩
  | 73 => ⟨S8x2048x2048, .f32⟩
  | 74 => ⟨S8x2048x2048, .f32⟩
  | 75 => ⟨S_, .f32⟩
  | 76 => ⟨S8x2048x2048, .f32⟩
  | 77 => ⟨S_, .f32⟩
  | 78 => ⟨S_, .f32⟩
  | 79 => ⟨S8x2048x2048, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .f32⟩
  | 85 => ⟨S8x2048x2048, .f32⟩
  | 86 => ⟨S8x2048x2048, .f32⟩
  | 87 => ⟨S8x2048x2048, .i1⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S_, .f32⟩
  | 97 => ⟨S8x2048x2048, .f32⟩
  | 98 => ⟨S8x2048x2048, .i1⟩
  | 99 => ⟨S_, .f32⟩
  | 100 => ⟨S8x2048x2048, .f32⟩
  | 101 => ⟨S8x2048x2048, .f32⟩
  | 102 => ⟨S_, .f32⟩
  | 103 => ⟨S8x2048x2048, .f32⟩
  | 104 => ⟨S8x2048x2048, .i1⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8x2048x2048, .f32⟩
  | 118 => ⟨S8x2048x2048, .i1⟩
  | 119 => ⟨S_, .f32⟩
  | 120 => ⟨S8x2048x2048, .f32⟩
  | 121 => ⟨S8x2048x2048, .f32⟩
  | 122 => ⟨S8x2048x2048, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .f32⟩
  | _ => ⟨S2048x6144, .bf16⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S_, .f32⟩
  | 4 => ⟨S_, .f32⟩
  | 5 => ⟨S8x2048x2048, .i1⟩
  | 6 => ⟨S8x2048x2048, .f32⟩
  | 7 => ⟨S8x2048x2048, .f32⟩
  | 8 => ⟨S_, .f32⟩
  | 9 => ⟨S8x2048x2048, .f32⟩
  | 10 => ⟨S8x2048x2048, .bf16⟩
  | 11 => ⟨S8x2048x2048, .f32⟩
  | 12 => ⟨S2048x8x128, .f32⟩
  | 13 => ⟨S8x128x2048, .f32⟩
  | 14 => ⟨S2048x8x128, .f32⟩
  | 15 => ⟨S2048x8x128, .bf16⟩
  | 16 => ⟨S2048x8x128, .bf16⟩
  | 17 => ⟨S2048x8x128, .f32⟩
  | 18 => ⟨S8x128x2048, .f32⟩
  | 19 => ⟨S8x2048x2048, .f32⟩
  | 20 => ⟨S8x128x2048, .f32⟩
  | 21 => ⟨S2048x8x128, .f32⟩
  | 22 => ⟨S2048x8x128, .bf16⟩
  | 23 => ⟨S8x2048x2048, .bf16⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S_, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S8x2048x2048, .f32⟩
  | 45 => ⟨S8x2048x2048, .f32⟩
  | 46 => ⟨S8x2048x2048, .f32⟩
  | 47 => ⟨S8x2048x2048, .bf16⟩
  | 48 => ⟨S8x2048x2048, .f32⟩
  | 49 => ⟨S8x2048x128, .f32⟩
  | 50 => ⟨S2048x8x128, .f32⟩
  | 51 => ⟨S8x2048x128, .f32⟩
  | 52 => ⟨S2048x8x128, .f32⟩
  | 53 => ⟨S2048x8x128, .bf16⟩
  | 54 => ⟨S2048x8x128, .bf16⟩
  | 55 => ⟨S2048x1024, .bf16⟩
  | 56 => ⟨S2048x1024, .bf16⟩
  | 57 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_call5_cst : Ref sig .tc := ⟨.hbm, 153, rfl⟩
abbrev main_call5_v0 : Ref sig .tc := ⟨.hbm, 154, rfl⟩
abbrev main_v42 : Ref sig .tc := ⟨.hbm, 155, rfl⟩
abbrev main_v43 : Ref sig .tc := ⟨.hbm, 156, rfl⟩
abbrev main_call6_v0 : Ref sig .tc := ⟨.hbm, 157, rfl⟩
abbrev main_call6_v1 : Ref sig .tc := ⟨.hbm, 158, rfl⟩
abbrev main_v44 : Ref sig .tc := ⟨.hbm, 159, rfl⟩
abbrev main_v45 : Ref sig .tc := ⟨.hbm, 160, rfl⟩
abbrev main_call7_cst : Ref sig .tc := ⟨.hbm, 161, rfl⟩
abbrev main_call7_v0 : Ref sig .tc := ⟨.hbm, 162, rfl⟩
abbrev main_v46 : Ref sig .tc := ⟨.hbm, 163, rfl⟩
abbrev main_v47 : Ref sig .tc := ⟨.hbm, 164, rfl⟩
abbrev main_call8_cst : Ref sig .tc := ⟨.hbm, 165, rfl⟩
abbrev main_call8_v0 : Ref sig .tc := ⟨.hbm, 166, rfl⟩
abbrev main_v48 : Ref sig .tc := ⟨.hbm, 167, rfl⟩
abbrev main_call9_v0 : Ref sig .tc := ⟨.hbm, 168, rfl⟩
abbrev main_call9_v1 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩

abbrev nD : Nat := 1
abbrev τ : Topo := Topo.v7x

variable {F : FTy → Type} [FloatOps F]
-- ==== DownX.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownXIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownW.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownWIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutX.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutXIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutWIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpX.lean ====
abbrev S2048x5632 : Shape := ⟨2, ![2048, 5632]⟩
abbrev S8x2048x1408 : Shape := ⟨3, ![8, 2048, 1408]⟩
abbrev S2048x2048 : Shape := ⟨2, ![2048, 2048]⟩
abbrev S512x2816 : Shape := ⟨2, ![512, 2816]⟩
abbrev S2x2048x1408 : Shape := ⟨3, ![2, 2048, 1408]⟩
abbrev S512x2048 : Shape := ⟨2, ![512, 2048]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S2048x2048, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2x2048x1408, .bf16⟩
  | .local _ .vmem, ⟨5, _⟩ => ⟨S2x2048x1408, .bf16⟩
  | .local _ .vmem, ⟨6, _⟩ => ⟨S512x2048, .f32⟩
  | .local _ .vmem, ⟨7, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_11 : BitVec 32 := 0#32
  let v19 : BitVec 1 := Scalar.cmpi .eq arg1 c0_i32_11
  let v20 : BitVec 32 := Scalar.extui v19
  let c0_i32_12 : BitVec 32 := 0#32
  let v21 : BitVec 1 := Scalar.cmpi .ne v20 c0_i32_12
  v21

def k0_cond3 (i : grid0.Coords) : BitVec 1 :=
  let arg1 : BitVec 32 := BitVec.ofNat 32 (i 1).val
  let c0_i32_13 : BitVec 32 := 0#32
  let v22 : BitVec 1 := Scalar.cmpi .sgt arg1 c0_i32_13
  let v23 : BitVec 32 := Scalar.extui v22
  let c0_i32_14 : BitVec 32 := 0#32
  let v24 : BitVec 1 := Scalar.cmpi .ne v23 c0_i32_14
  v24

def k0_cond4 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond5 (i : grid0.Coords) : BitVec 1 :=
  let arg1 : BitVec 32 := BitVec.ofNat 32 (i 1).val
  let c0_i32_11 : BitVec 32 := 0#32
  let v19 : BitVec 1 := Scalar.cmpi .eq arg1 c0_i32_11
  let v20 : BitVec 32 := Scalar.extui v19
  let c0_i32_12 : BitVec 32 := 0#32
  let v21 : BitVec 1 := Scalar.cmpi .ne v20 c0_i32_12
  v21

def k0_cond6 (i : grid0.Coords) : BitVec 1 :=
  let arg1 : BitVec 32 := BitVec.ofNat 32 (i 1).val
  let c0_i32_13 : BitVec 32 := 0#32
  let v22 : BitVec 1 := Scalar.cmpi .sgt arg1 c0_i32_13
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefUpXIdeal.lean ====
abbrev S2048x5632 : Shape := ⟨2, ![2048, 5632]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S2048x11264, .bf16⟩
  | .hbm, ⟨7, _⟩ => ⟨S_, .f32⟩
  | .hbm, ⟨8, _⟩ => ⟨S2048x2048, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== UpW.lean ====
abbrev S2048x2048 : Shape := ⟨2, ![2048, 2048]⟩
abbrev S2048x5632 : Shape := ⟨2, ![2048, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c4_i32_1 : BitVec 32 := 4#32
  let v5 : BitVec 1 := Scalar.cmpi .sge arg1 c4_i32_1
  let c8_i32 : BitVec 32 := 8#32
  let v6 : BitVec 1 := Scalar.cmpi .slt arg1 c8_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefUpWIdeal.lean ====
abbrev S2048x2048 : Shape := ⟨2, ![2048, 2048]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x11264, .bf16⟩
  | .hbm, ⟨4, _⟩ => ⟨S_, .f32⟩
  | .hbm, ⟨5, _⟩ => ⟨S2048x11264, .f32⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InX.lean ====
abbrev S2048x6144 : Shape := ⟨2, ![2048, 6144]⟩
abbrev S8x2048x768 : Shape := ⟨3, ![8, 2048, 768]⟩
abbrev S2048x2048 : Shape := ⟨2, ![2048, 2048]⟩
abbrev S512x3072 : Shape := ⟨2, ![512, 3072]⟩
abbrev S4x2048x768 : Shape := ⟨3, ![4, 2048, 768]⟩
abbrev S512x2048 : Shape := ⟨2, ![512, 2048]⟩
abbrev S512x768 : Shape := ⟨2, ![512, 768]⟩
abbrev S1x2048x768 : Shape := ⟨3, ![1, 2048, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .local _ .vmem, ⟨0, _⟩ => ⟨S512x3072, .bf16⟩
  | .local _ .vmem, ⟨1, _⟩ => ⟨S512x3072, .bf16⟩
  | .local _ .vmem, ⟨2, _⟩ => ⟨S4x2048x768, .bf16⟩
  | .local _ .vmem, ⟨3, _⟩ => ⟨S4x2048x768, .bf16⟩
  | .local _ .vmem, ⟨4, _⟩ => ⟨S512x2048, .f32⟩
  | .local _ .vmem, ⟨5, _⟩ => ⟨S512x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_17 : BitVec 32 := 0#32
  let v24 : BitVec 1 := Scalar.cmpi .eq arg1 c0_i32_17
  let v25 : BitVec 32 := Scalar.extui v24
  let c0_i32_18 : BitVec 32 := 0#32
  let v26 : BitVec 1 := Scalar.cmpi .ne v25 c0_i32_18
  v26

def k0_cond3 (i : grid0.Coords) : BitVec 1 :=
  let arg1 : BitVec 32 := BitVec.ofNat 32 (i 1).val
  let c0_i32_19 : BitVec 32 := 0#32
  let v27 : BitVec 1 := Scalar.cmpi .sgt arg1 c0_i32_19
  let v28 : BitVec 32 := Scalar.extui v27
  let c0_i32_20 : BitVec 32 := 0#32
  let v29 : BitVec 1 := Scalar.cmpi .ne v28 c0_i32_20
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefInXIdeal.lean ====
abbrev S2048x6144 : Shape := ⟨2, ![2048, 6144]⟩
abbrev S8x2048x768 : Shape := ⟨3, ![8, 2048, 768]⟩
abbrev S2048x8x768 : Shape := ⟨3, ![2048, 8, 768]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S8x2048x768, .f32⟩
  | .hbm, ⟨3, _⟩ => ⟨S2048x8x768, .f32⟩
  | .hbm, ⟨4, _⟩ => ⟨S2048x6144, .f32⟩
  | .hbm, ⟨5, _⟩ => ⟨S_, .f32⟩
  | .hbm, ⟨6, _⟩ => ⟨S2048x2048, .f32⟩
  | .hbm, ⟨7, _⟩ => ⟨S2048x6144, .f32⟩
  | .hbm, ⟨8, _⟩ => ⟨S2048x6144, .f32⟩
  | .hbm, ⟨9, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InW.lean ====
abbrev S2048x2048 : Shape := ⟨2, ![2048, 2048]⟩
abbrev S2048x6144 : Shape := ⟨2, ![2048, 6144]⟩
abbrev S8x2048x768 : Shape := ⟨3, ![8, 2048, 768]⟩
abbrev S2048x768 : Shape := ⟨2, ![2048, 768]⟩
abbrev S1x2048x768 : Shape := ⟨3, ![1, 2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S8x2048x768, .bf16⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S1x2048x768, .bf16⟩
  | .local _ .vmem, ⟨4, _⟩ => ⟨S1x2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInWIdeal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | .hbm, ⟨11, _⟩ => ⟨S8x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BrX.lean ====
abbrev S2048x2048 : Shape := ⟨2, ![2048, 2048]⟩
abbrev S8x1024x256 : Shape := ⟨3, ![8, 1024, 256]⟩
abbrev S2048x1024 : Shape := ⟨2, ![2048, 1024]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S8x1024x256, .bf16⟩
  | .local _ .vmem, ⟨3, _⟩ => ⟨S512x1024, .bf16⟩
  | .local _ .vmem, ⟨4, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefBrXIdeal.lean ====
abbrev S2048x2048 : Shape := ⟨2, ![2048, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S_, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BrW.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefBrWIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GmX.lean ====
abbrev S2048x2048 : Shape := ⟨2, ![2048, 2048]⟩
abbrev S8x1024x256 : Shape := ⟨3, ![8, 1024, 256]⟩
abbrev S2048x1024 : Shape := ⟨2, ![2048, 1024]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefGmXIdeal.lean ====
abbrev S2048x2048 : Shape := ⟨2, ![2048, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S_, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemX.lean ====
abbrev S256x2048 : Shape := ⟨2, ![256, 2048]⟩
abbrev S2048x2048 : Shape := ⟨2, ![2048, 2048]⟩
abbrev S512x2048 : Shape := ⟨2, ![512, 2048]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S512x2048, .bf16⟩
  | .local _ .vmem, ⟨2, _⟩ => ⟨S512x2048, .bf16⟩
  | .local _ .vmem, ⟨3, _⟩ => ⟨S256x512, .f32⟩
  | .local _ .vmem, ⟨4, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMemXIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemW.lean ====
abbrev S256x2048 : Shape := ⟨2, ![256, 2048]⟩
abbrev S2048x2048 : Shape := ⟨2, ![2048, 2048]⟩
abbrev S256x512 : Shape := ⟨2, ![256, 512]⟩
abbrev S256x1024 : Shape := ⟨2, ![256, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2048x2048, .bf16⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMemWIdeal.lean ====
abbrev S256x2048 : Shape := ⟨2, ![256, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InY.lean ====
abbrev S2048x2048 : Shape := ⟨2, ![2048, 2048]⟩
abbrev S8x2048x768 : Shape := ⟨3, ![8, 2048, 768]⟩
abbrev S2048x6144 : Shape := ⟨2, ![2048, 6144]⟩
abbrev S1x2048x768 : Shape := ⟨3, ![1, 2048, 768]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .f32⟩
  | .hbm, ⟨3, _⟩ => ⟨S2048x6144, .bf16⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | .local _ .vmem, ⟨5, _⟩ => ⟨S2048x768, .bf16⟩
  | .local _ .vmem, ⟨6, _⟩ => ⟨S2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefInYIdeal.lean ====
abbrev S2048x2048 : Shape := ⟨2, ![2048, 2048]⟩
abbrev S8x2048x768 : Shape := ⟨3, ![8, 2048, 768]⟩
abbrev S2048x8x768 : Shape := ⟨3, ![2048, 8, 768]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x2048x768, .f32⟩
  | .hbm, ⟨3, _⟩ => ⟨S2048x8x768, .f32⟩
  | .hbm, ⟨4, _⟩ => ⟨S2048x6144, .f32⟩
  | .hbm, ⟨5, _⟩ => ⟨S2048x2048, .f32⟩
  | .hbm, ⟨6, _⟩ => ⟨S2048x6144, .f32⟩
  | .hbm, ⟨7, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GateY.lean ====
abbrev S2048x2048 : Shape := ⟨2, ![2048, 2048]⟩
abbrev S8x2048x768 : Shape := ⟨3, ![8, 2048, 768]⟩
abbrev S2048x6144 : Shape := ⟨2, ![2048, 6144]⟩
abbrev S1x2048x768 : Shape := ⟨3, ![1, 2048, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGateYIdeal.lean ====
abbrev S2048x2048 : Shape := ⟨2, ![2048, 2048]⟩
abbrev S8x2048x768 : Shape := ⟨3, ![8, 2048, 768]⟩
abbrev S2048x8x768 : Shape := ⟨3, ![2048, 8, 768]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x2048x768, .f32⟩
  | .hbm, ⟨3, _⟩ => ⟨S2048x8x768, .f32⟩
  | .hbm, ⟨4, _⟩ => ⟨S2048x6144, .f32⟩
  | .hbm, ⟨5, _⟩ => ⟨S2048x2048, .f32⟩
  | .hbm, ⟨6, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BrY.lean ====
abbrev S2048x1024 : Shape := ⟨2, ![2048, 1024]⟩
abbrev S8x1024x256 : Shape := ⟨3, ![8, 1024, 256]⟩
abbrev S2048x2048 : Shape := ⟨2, ![2048, 2048]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .bf16⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2048x256, .bf16⟩
  | .local _ .vmem, ⟨4, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefBrYIdeal.lean ====
abbrev S2048x1024 : Shape := ⟨2, ![2048, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S2048x1024, .f32⟩
  | .hbm, ⟨6, _⟩ => ⟨S2048x2048, .f32⟩
  | .hbm, ⟨7, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpY.lean ====
abbrev S2048x2048 : Shape := ⟨2, ![2048, 2048]⟩
abbrev S8x2048x1408 : Shape := ⟨3, ![8, 2048, 1408]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefUpYIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S2048x2048, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutY.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutYIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownY.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownYIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S5632x2048, .f32⟩
  | .hbm, ⟨3, _⟩ => ⟨S2048x5632, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemY.lean ====
abbrev S256x2048 : Shape := ⟨2, ![256, 2048]⟩
abbrev S2048x2048 : Shape := ⟨2, ![2048, 2048]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .bf16⟩
  | .local _ .vmem, ⟨4, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMemYIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S2048x2048, .f32⟩
  | .hbm, ⟨3, _⟩ => ⟨S256x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XaG.lean ====
abbrev S2048x6144 : Shape := ⟨2, ![2048, 6144]⟩
abbrev S256x2048 : Shape := ⟨2, ![256, 2048]⟩
abbrev S2048x1024 : Shape := ⟨2, ![2048, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S2048x6144, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S256x1024, .bf16⟩
  | .hbm, ⟨5, _⟩ => ⟨S256x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .vmem, ⟨15, _⟩ => ⟨S256x256, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefXaGIdeal.lean ====
abbrev S2048x6144 : Shape := ⟨2, ![2048, 6144]⟩
abbrev S256x2048 : Shape := ⟨2, ![256, 2048]⟩
abbrev S2048x1024 : Shape := ⟨2, ![2048, 1024]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 98
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S256x2048, .bf16⟩
  | .hbm, ⟨2, _⟩ => ⟨S2048x1024, .bf16⟩
  | .hbm, ⟨3, _⟩ => ⟨S256x1024, .bf16⟩
  | .hbm, ⟨4, _⟩ => ⟨S256x1024, .bf16⟩
  | .hbm, ⟨5, _⟩ => ⟨S2048x1024, .bf16⟩
  | .hbm, ⟨6, _⟩ => ⟨S2048x4x256, .bf16⟩
  | .hbm, ⟨7, _⟩ => ⟨S256x4x256, .bf16⟩
  | .hbm, ⟨8, _⟩ => ⟨S256x4x256, .bf16⟩
  | .hbm, ⟨9, _⟩ => ⟨S2048x4x256, .f32⟩
  | .hbm, ⟨10, _⟩ => ⟨S256x4x256, .f32⟩
  | .hbm, ⟨11, _⟩ => ⟨S4x2048x256, .f32⟩
  | .hbm, ⟨12, _⟩ => ⟨S4x2048x256, .bf16⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .i1⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S4x2048, .i1⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x256, .f32⟩
  | .hbm, ⟨50, _⟩ => ⟨S4x2048x256, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x2048x256, .bf16⟩
  | .hbm, ⟨56, _⟩ => ⟨S4x2048x256, .f32⟩
  | .hbm, ⟨57, _⟩ => ⟨S256x4x256, .f32⟩
  | .hbm, ⟨58, _⟩ => ⟨S4x256x2048, .f32⟩
  | .hbm, ⟨59, _⟩ => ⟨S2048x4x256, .f32⟩
  | .hbm, ⟨60, _⟩ => ⟨S2048x4x256, .bf16⟩
  | .hbm, ⟨61, _⟩ => ⟨S2048x4x256, .bf16⟩
  | .hbm, ⟨62, _⟩ => ⟨S2048x4x256, .f32⟩
  | .hbm, ⟨63, _⟩ => ⟨S4x256x2048, .f32⟩
  | .hbm, ⟨64, _⟩ => ⟨S4x2048x256, .f32⟩
  | .hbm, ⟨65, _⟩ => ⟨S4x256x256, .f32⟩
  | .hbm, ⟨66, _⟩ => ⟨S256x4x256, .f32⟩
  | .hbm, ⟨67, _⟩ => ⟨S256x4x256, .bf16⟩
  | .hbm, ⟨68, _⟩ => ⟨S4x2048x256, .bf16⟩
  | .hbm, ⟨69, _⟩ => ⟨S4x2048x256, .f32⟩
  | .hbm, ⟨70, _⟩ => ⟨S4x2048x256, .f32⟩
  | .hbm, ⟨71, _⟩ => ⟨S4x2048x256, .f32⟩
  | .hbm, ⟨72, _⟩ => ⟨S4x2048x256, .f32⟩
  | .hbm, ⟨73, _⟩ => ⟨S_, .f32⟩
  | .hbm, ⟨74, _⟩ => ⟨S4x2048, .f32⟩
  | .hbm, ⟨75, _⟩ => ⟨S4x2048x1, .f32⟩
  | .hbm, ⟨76, _⟩ => ⟨S4x2048x1, .f32⟩
  | .hbm, ⟨77, _⟩ => ⟨S4x2048x256, .f32⟩
  | .hbm, ⟨78, _⟩ => ⟨S4x2048x256, .f32⟩
  | .hbm, ⟨79, _⟩ => ⟨S_, .f32⟩
  | .hbm, ⟨80, _⟩ => ⟨S4x2048, .f32⟩
  | .hbm, ⟨81, _⟩ => ⟨S4x2048x256, .f32⟩
  | .hbm, ⟨82, _⟩ => ⟨S4x2048x256, .f32⟩
  | .hbm, ⟨83, _⟩ => ⟨S4x2048x256, .f32⟩
  | .hbm, ⟨84, _⟩ => ⟨S_, .f32⟩
  | .hbm, ⟨85, _⟩ => ⟨S4x2048x256, .f32⟩
  | .hbm, ⟨86, _⟩ => ⟨S4x2048x256, .f32⟩
  | .hbm, ⟨87, _⟩ => ⟨S4x2048x256, .bf16⟩
  | .hbm, ⟨88, _⟩ => ⟨S4x2048x256, .f32⟩
  | .hbm, ⟨89, _⟩ => ⟨S4x256x256, .f32⟩
  | .hbm, ⟨90, _⟩ => ⟨S256x4x256, .f32⟩
  | .hbm, ⟨91, _⟩ => ⟨S4x2048x256, .f32⟩
  | .hbm, ⟨92, _⟩ => ⟨S2048x4x256, .f32⟩
  | .hbm, ⟨93, _⟩ => ⟨S256x4x256, .bf16⟩
  | .hbm, ⟨94, _⟩ => ⟨S2048x4x256, .bf16⟩
  | .hbm, ⟨95, _⟩ => ⟨S2048x1024, .bf16⟩
  | .hbm, ⟨96, _⟩ => ⟨S256x1024, .bf16⟩
  | .hbm, ⟨97, _⟩ => ⟨S256x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== XaY.lean ====
abbrev S2048x6144 : Shape := ⟨2, ![2048, 6144]⟩
abbrev S256x2048 : Shape := ⟨2, ![256, 2048]⟩
abbrev S2048x1024 : Shape := ⟨2, ![2048, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x6144, .bf16⟩
  | .hbm, ⟨1, _⟩ => ⟨S256x2048, .bf16⟩
  | .hbm, ⟨2, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefXaYIdeal.lean ====
abbrev S2048x6144 : Shape := ⟨2, ![2048, 6144]⟩
abbrev S256x2048 : Shape := ⟨2, ![256, 2048]⟩
abbrev S256x1024 : Shape := ⟨2, ![256, 1024]⟩
abbrev S2048x1024 : Shape := ⟨2, ![2048, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S256x2048, .bf16⟩
  | .hbm, ⟨2, _⟩ => ⟨S256x1024, .bf16⟩
  | .hbm, ⟨3, _⟩ => ⟨S256x1024, .bf16⟩
  | .hbm, ⟨4, _⟩ => ⟨S2048x1024, .bf16⟩
  | .hbm, ⟨5, _⟩ => ⟨S2048x4x256, .bf16⟩
  | .hbm, ⟨6, _⟩ => ⟨S256x4x256, .bf16⟩
  | .hbm, ⟨7, _⟩ => ⟨S256x4x256, .bf16⟩
  | .hbm, ⟨8, _⟩ => ⟨S2048x4x256, .f32⟩
  | .hbm, ⟨9, _⟩ => ⟨S256x4x256, .f32⟩
  | .hbm, ⟨10, _⟩ => ⟨S4x2048x256, .f32⟩
  | .hbm, ⟨11, _⟩ => ⟨S4x2048x256, .bf16⟩
  | .hbm, ⟨12, _⟩ => ⟨S4x2048x256, .f32⟩
  | .hbm, ⟨13, _⟩ => ⟨S_, .f32⟩
  | .hbm, ⟨14, _⟩ => ⟨S4x2048x256, .f32⟩
  | .hbm, ⟨15, _⟩ => ⟨S4x2048x256, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048x1, .f32⟩
  | .hbm, ⟨22, _⟩ => ⟨S4x2048x256, .f32⟩
  | .hbm, ⟨23, _⟩ => ⟨S4x2048x256, .f32⟩
  | .hbm, ⟨24, _⟩ => ⟨S4x2048x256, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x256, .f32⟩
  | .hbm, ⟨29, _⟩ => ⟨S4x2048x256, .f32⟩
  | .hbm, ⟨30, _⟩ => ⟨S4x2048x256, .bf16⟩
  | .hbm, ⟨31, _⟩ => ⟨S4x2048x256, .f32⟩
  | .hbm, ⟨32, _⟩ => ⟨S256x4x256, .f32⟩
  | .hbm, ⟨33, _⟩ => ⟨S4x256x2048, .f32⟩
  | .hbm, ⟨34, _⟩ => ⟨S2048x4x256, .f32⟩
  | .hbm, ⟨35, _⟩ => ⟨S2048x4x256, .bf16⟩
  | .hbm, ⟨36, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Proof.Tile.lean ====
/- What the kernel computes on ONE 128 x 128 tile of scores of one head, as functions of the tiles it
   loads.  The loop over the earlier key blocks and the block on the diagonal compute the same, apart
   from `sel`, which keeps every entry in the loop and only the earlier keys on the diagonal. -/
module

public import proofs.«01_k».proof.Proof.Gen.KernelIdeal.Value

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

local notation "M" => FVec F S128x128 FTy.f32
local notation "B" => FVec F S128x128 FTy.bf16
local notation "C1" => FVec F S128x1 FTy.f32

/-- A tile of zeros. -/
def zeros : M := broadcast S128x128 (Scalar.ofBits .f32 0x00000000#32 : F .f32)
/-- A tile of ones. -/
def ones : M := broadcast S128x128 (Scalar.ofBits .f32 0x3F800000#32 : F .f32)
/-- A tile of `1/√128`. -/
def scales : M := broadcast S128x128 (Named.named κ "scale" 0x3DB504F3#32 : F .f32)

/-- `a bᵀ`, rows by rows. -/
def dotNT (a b : B) : M :=
  matmul dot_S128x128_S128x128_S128x128_1_1_0_0_n_n none a b (constant S128x128 .f32 0x00000000#32)
/-- `a b`. -/
def dotNN (a b : B) : M :=
  matmul dot_S128x128_S128x128_S128x128_1_0_0_1_n_n none a b (constant S128x128 .f32 0x00000000#32)
/-- `aᵀ b`. -/
def dotTN (a b : B) : M :=
  matmul dot_S128x128_S128x128_S128x128_0_0_1_1_n_n none a b (constant S128x128 .f32 0x00000000#32)

/-- A product of a float32 tile with a triangle of ones, the tile in two bfloat16 parts. -/
def split (v : M) (tri : B) : M :=
  addf (dotNN (truncf .bf16 v bitsLt_bf16_f32) tri)
    (dotNN (truncf .bf16 (subf v (extf .f32 (truncf .bf16 v bitsLt_bf16_f32) bitsLt_bf16_f32)) bitsLt_bf16_f32) tri)

/-- The scores. -/
def score (q k : B) : M := mulf (dotNT q k) scales
/-- `log (1 + exp (-|z|))`. -/
def soft (q k : B) : M := log (addf ones (exp (subf zeros (absf (score q k)))))
/-- The logarithm of the sigmoid of the scores. -/
def lb (q k : B) : M := subf (minimumf (score q k) zeros) (soft q k)
/-- The logarithm of one minus the sigmoid, on the entries kept. -/
def lk (sel : M → M) (q k : B) : M := sel (subf (minimumf (subf zeros (score q k)) zeros) (soft q k))
/-- The attention weights. -/
def wt (sel : M → M) (q k : B) (tot c0 : C1) : M :=
  sel (exp (addf (lb q k) (subf (broadcastTo S128x128 tot broadcasts_S128x1_S128x128)
    (addf (split (lk sel q k) k0_pay271) (broadcastTo S128x128 c0 broadcasts_S128x1_S128x128)))))
/-- The gradient of the logarithms of the weights. -/
def dla (sel : M → M) (q k v g : B) (tot c0 : C1) : M := mulf (dotNT g v) (wt sel q k tot c0)
/-- The gradient that reaches a key from the weights of the earlier keys. -/
def dkeep (sel : M → M) (q k v g : B) (tot c0 c1 : C1) : M :=
  sel (addf (split (dla sel q k v g tot c0) k0_pay272) (broadcastTo S128x128 c1 broadcasts_S128x1_S128x128))
/-- The gradient of the unscaled scores. -/
def dz (sel : M → M) (q k v g : B) (tot c0 c1 : C1) : B :=
  truncf .bf16 (mulf (subf (mulf (dla sel q k v g tot c0) (subf ones (exp (lb q k))))
    (mulf (dkeep sel q k v g tot c0 c1) (exp (lb q k)))) scales) bitsLt_bf16_f32
/-- The contribution to the gradient of the queries. -/
def dqT (sel : M → M) (q k v g : B) (tot c0 c1 : C1) : M := dotNN (dz sel q k v g tot c0 c1) k
/-- The contribution to the gradient of the keys. -/
def dkT (sel : M → M) (q k v g : B) (tot c0 c1 : C1) : M := dotTN (dz sel q k v g tot c0 c1) q
/-- The contribution to the gradient of the values. -/
def dvT (sel : M → M) (q k g : B) (tot c0 : C1) : M := dotTN (truncf .bf16 (wt sel q k tot c0) bitsLt_bf16_f32) g
/-- The sums of a tile's rows, as a column. -/
def rowSums (x : M) : C1 :=
  shapeCast S128x1 (multiReduction .add [1] S128 x 0x00000000#32 reduces_S128x128_S128 (.inl rfl) rfl) shapeCasts_S128_S128x1
/-- What the carried sum of `lk` becomes. -/
def c0T (q k : B) (c0 : C1) : C1 := addf c0 (rowSums (lk id q k))
/-- What the carried sum of `dla` becomes. -/
def c1T (q k v g : B) (tot c0 c1 : C1) : C1 := addf c1 (rowSums (dla id q k v g tot c0))
/-- Only the earlier keys of the diagonal block. -/
def keep (x : M) : M := select k0_pay270 x zeros
/-- An accumulator's tile after a contribution. -/
def plus (old t : M) : M := shapeCast S128x128 (addf old t) shapeCasts_S128x128_S128x128

/-- The columns of head `h` fit the width. -/
theorem col_inb (h : Fin 8) {r n : Nat} (hr : r + 128 ≤ n) :
    ∀ a, (![r, 128 * h.val] : Fin 2 → Nat) a + S128x128.size a ≤ (⟨2, ![n, 1024]⟩ : Shape).size a := by
  intro a; fin_cases a
  · simpa [S128x128] using hr
  · have := h.isLt; simp [S128x128]; omega

section trip
variable (𝒱 : Variants) (c : Dev nD) (bd : Option 𝒱.V) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty)

/-- Rows of a whole [128, 1024] block at the columns of head `h`. -/
def ldRow {e : EltTy} (a : Memref sig .tc .vmem S128x1024 e) (X : BufTy.Contents (Elt F) a.view.ty) (h : Fin 8) :
    Vec F S128x128 e :=
  View.readAt (Elt F) a.view (Rect.unit (s := S128x1024) ![0, 128 * h.val] S128x128.size (col_inb h (by omega))).toLoadRect X
/-- 128 rows from row `r` of a whole [2048, 1024] block at the columns of head `h`. -/
def ldAt {e : EltTy} (a : Memref sig .tc .vmem S2048x1024 e) (X : BufTy.Contents (Elt F) a.view.ty) (r : Nat)
    (hr : r + 128 ≤ 2048) (h : Fin 8) : Vec F S128x128 e :=
  View.readAt (Elt F) a.view (Rect.unit (s := S2048x1024) ![r, 128 * h.val] S128x128.size (col_inb h hr)).toLoadRect X
theorem tot_inb (h : Fin 8) : ∀ a, (![0, 0, h.val] : Fin 3 → Nat) a + S1x128x1.size a ≤ S1x128x8.size a := by
  intro a; have := h.isLt; fin_cases a <;> simp [S1x128x1, S1x128x8] <;> omega
/-- The column of totals of head `h`. -/
def ldTot (a : Memref sig .tc .vmem S1x128x8 .f32) (X : BufTy.Contents (Elt F) a.view.ty) (h : Fin 8) : C1 :=
  shapeCast S128x1 (View.readAt (Elt F) a.view (Rect.unit (s := S1x128x8) ![0, 0, h.val] S1x128x1.size (tot_inb h)).toLoadRect X)
    shapeCasts_S1x128x1_S128x1

/-- The first row of the key block of trip `k`. -/
def rowOff (k : Fin (k0_t1_loop i).trips) : Nat := k0_off1 i k 0
theorem rowOff_le (k : Fin (k0_t1_loop i).trips) : rowOff i k + 128 ≤ 2048 := k0_off1_inb i k 0

end trip

end Cert.KernelIdeal.Tile
-- ==== Proof.Trip.lean ====
/- What ONE TRIP of the kernel's loop over the earlier key blocks yields and writes, head by head, in
   the functions of Tile.lean. -/
module

public import proofs.«01_k».proof.Proof.Tile

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

local notation "M" => FVec F S128x128 FTy.f32
local notation "B" => FVec F S128x128 FTy.bf16
local notation "C1" => FVec F S128x1 FTy.f32

/-- The carried values: per head the sums of `lk` and of `dla` over the keys before. -/
abbrev Carry (F : FTy → Type) := FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32 × FVec F S128x1 FTy.f32
/-- The sums of `lk`, by head. -/
def cr0 (x : Carry F) : Fin 8 → C1 := ![x.1, x.2.2.1, x.2.2.2.2.1, x.2.2.2.2.2.2.1, x.2.2.2.2.2.2.2.2.1, x.2.2.2.2.2.2.2.2.2.2.1, x.2.2.2.2.2.2.2.2.2.2.2.2.1, x.2.2.2.2.2.2.2.2.2.2.2.2.2.2.1]
/-- The sums of `dla`, by head. -/
def cr1 (x : Carry F) : Fin 8 → C1 := ![x.2.1, x.2.2.2.1, x.2.2.2.2.2.1, x.2.2.2.2.2.2.2.1, x.2.2.2.2.2.2.2.2.2.1, x.2.2.2.2.2.2.2.2.2.2.2.1, x.2.2.2.2.2.2.2.2.2.2.2.2.2.1, x.2.2.2.2.2.2.2.2.2.2.2.2.2.2.2]

/-- The pieces of the eight heads at rows from `r`, the last head's first. -/
def boxes {n : Nat} (r : Nat) (hr : r + 128 ≤ n) (P : Fin 8 → M) : List (View.Piece (Elt F) ⟨2, ![n, 1024]⟩ .f32) :=
  ([7, 6, 5, 4, 3, 2, 1, 0] : List (Fin 8)).map fun h => ⟨Rect.unit (s := ⟨2, ![n, 1024]⟩) ![r, 128 * h.val] S128x128.size (col_inb h hr), P h⟩

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty)
  (k : Fin (k0_t1_loop i).trips) (acc : Carry F) (f10 : BufTy.Contents (Elt F) arg10.view.ty)
  (f11 : BufTy.Contents (Elt F) arg11.view.ty) (f12 : BufTy.Contents (Elt F) arg12.view.ty)

theorem trip_dq : (trip_k0_t1 (F := F) Variants.none c none i arg2 harg2 arg3 harg3 arg4 harg4 arg5 harg5 arg6 harg6 arg7 harg7 arg8 harg8 arg9 harg9 arg10 harg10 arg11 harg11 arg12 harg12 X2 X3 X4 X5 X6 k).2.1 acc f10 f11 f12
    = boxes 0 (by omega) (fun h => plus (ldRow arg10 f10 h) (dqT id (ldRow arg2 X2 h) (ldAt arg3 X3 (rowOff i k) (rowOff_le i k) h) (ldAt arg4 X4 (rowOff i k) (rowOff_le i k) h) (ldRow arg5 X5 h) (ldTot arg6 X6 h) (cr0 acc h) (cr1 acc h))) := by
  unfold trip_k0_t1; rfl

theorem trip_dk : (trip_k0_t1 (F := F) Variants.none c none i arg2 harg2 arg3 harg3 arg4 harg4 arg5 harg5 arg6 harg6 arg7 harg7 arg8 harg8 arg9 harg9 arg10 harg10 arg11 harg11 arg12 harg12 X2 X3 X4 X5 X6 k).2.2.1 acc f10 f11 f12
    = boxes (rowOff i k) (rowOff_le i k) (fun h => plus (ldAt arg11 f11 (rowOff i k) (rowOff_le i k) h)
      (dkT id (ldRow arg2 X2 h) (ldAt arg3 X3 (rowOff i k) (rowOff_le i k) h) (ldAt arg4 X4 (rowOff i k) (rowOff_le i k) h) (ldRow arg5 X5 h) (ldTot arg6 X6 h) (cr0 acc h) (cr1 acc h))) := by
  unfold trip_k0_t1; rfl

theorem trip_dv : (trip_k0_t1 (F := F) Variants.none c none i arg2 harg2 arg3 harg3 arg4 harg4 arg5 harg5 arg6 harg6 arg7 harg7 arg8 harg8 arg9 harg9 arg10 harg10 arg11 harg11 arg12 harg12 X2 X3 X4 X5 X6 k).2.2.2.1 acc f10 f11 f12
    = boxes (rowOff i k) (rowOff_le i k) (fun h => plus (ldAt arg12 f12 (rowOff i k) (rowOff_le i k) h)
      (dvT id (ldRow arg2 X2 h) (ldAt arg3 X3 (rowOff i k) (rowOff_le i k) h) (ldRow arg5 X5 h) (ldTot arg6 X6 h) (cr0 acc h))) := by
  unfold trip_k0_t1; rfl

set_option maxHeartbeats 4000000 in
theorem trip_c0 : cr0 ((trip_k0_t1 (F := F) Variants.none c none i arg2 harg2 arg3 harg3 arg4 harg4 arg5 harg5 arg6 harg6 arg7 harg7 arg8 harg8 arg9 harg9 arg10 harg10 arg11 harg11 arg12 harg12 X2 X3 X4 X5 X6 k).1 acc f10 f11 f12) = fun h => c0T (ldRow arg2 X2 h) (ldAt arg3 X3 (rowOff i k) (rowOff_le i k) h) (cr0 acc h) := by
  unfold trip_k0_t1
  funext h
  fin_cases h <;> rfl

set_option maxHeartbeats 4000000 in
theorem trip_c1 : cr1 ((trip_k0_t1 (F := F) Variants.none c none i arg2 harg2 arg3 harg3 arg4 harg4 arg5 harg5 arg6 harg6 arg7 harg7 arg8 harg8 arg9 harg9 arg10 harg10 arg11 harg11 arg12 harg12 X2 X3 X4 X5 X6 k).1 acc f10 f11 f12) = fun h => c1T (ldRow arg2 X2 h) (ldAt arg3 X3 (rowOff i k) (rowOff_le i k) h) (ldAt arg4 X4 (rowOff i k) (rowOff_le i k) h) (ldRow arg5 X5 h) (ldTot arg6 X6 h) (cr0 acc h) (cr1 acc h) := by
  unfold trip_k0_t1
  funext h
  fin_cases h <;> rfl

end Cert.KernelIdeal.Tile
-- ==== Proof.Diag.lean ====
/- What the kernel writes at ONE GRID POINT: the pieces of the loop over the earlier key blocks, then
   the eight heads' pieces of the block on the diagonal, in the functions of Tile.lean. -/
module

public import proofs.«01_k».proof.Proof.Trip

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

local notation "M" => FVec F S128x128 FTy.f32
local notation "B" => FVec F S128x128 FTy.bf16
local notation "C1" => FVec F S128x1 FTy.f32

/-- No carried sums yet. -/
def carry0 : Carry F := (k0_pay276, k0_pay276, k0_pay276, k0_pay276, k0_pay276, k0_pay276, k0_pay276, k0_pay276, k0_pay276, k0_pay276, k0_pay276, k0_pay276, k0_pay276, k0_pay276, k0_pay276, k0_pay276)
/-- No products yet. -/
def zeroRow : List (View.Piece (Elt F) S128x1024 .f32) := [⟨Rect.unit (s := S128x1024) ![0, 0] S128x1024.size inb_S128x1024_S128x1024_0_0, k0_pay275⟩]
def zeroK : List (View.Piece (Elt F) S2048x1024 .f32) := [⟨Rect.unit (s := S2048x1024) ![0, 0] S2048x1024.size inb_S2048x1024_S2048x1024_0_0, k0_pay273⟩]
def zeroV : List (View.Piece (Elt F) S2048x1024 .f32) := [⟨Rect.unit (s := S2048x1024) ![0, 0] S2048x1024.size inb_S2048x1024_S2048x1024_0_0, k0_pay274⟩]

/-- The pieces of `n` heads, last first, each adding to what the pieces before left. -/
def adds {N : Nat} (a : Memref sig .tc .vmem ⟨2, ![N, 1024]⟩ .f32) (f : BufTy.Contents (Elt F) a.view.ty) (r : Nat)
    (hr : r + 128 ≤ N) (T : Fin 8 → M) (L : List (View.Piece (Elt F) ⟨2, ![N, 1024]⟩ .f32)) :
    (n : Nat) → n ≤ 8 → List (View.Piece (Elt F) ⟨2, ![N, 1024]⟩ .f32)
  | 0, _ => L
  | n + 1, hn => ⟨Rect.unit (s := ⟨2, ![N, 1024]⟩) ![r, 128 * n] S128x128.size (col_inb ⟨n, hn⟩ hr),
      plus (View.readAt (Elt F) a.view (Rect.unit (s := ⟨2, ![N, 1024]⟩) ![r, 128 * n] S128x128.size (col_inb ⟨n, hn⟩ hr)).toLoadRect
        (a.view.writes (Elt F) f (adds a f r hr T L n (by omega)))) (T ⟨n, hn⟩)⟩ :: adds a f r hr T L n (by omega)

/-- The first row of the block on the diagonal. -/
def diagOff (i : grid0.Coords) : Nat := k0_off17 i 0
theorem diagOff_le (i : grid0.Coords) : diagOff i + 128 ≤ 2048 := k0_off17_inb i 0

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)

section
variable
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty)
  (f10 : BufTy.Contents (Elt F) arg10.view.ty) (f11 : BufTy.Contents (Elt F) arg11.view.ty) (f12 : BufTy.Contents (Elt F) arg12.view.ty)
/-- The state after the loop over the earlier key blocks, from the contents `f10`, `f11`, `f12`. -/
def st1 := st_k0_t1 (F := F) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 (Scf.trips (k0_t1_loop i).lb (k0_t1_loop i).ub (k0_t1_loop i).st)
/-- The state after the loop's remainder, which has no trip. -/
def st2 (init : Carry F) := st_k0_t2 (F := F) Variants.none c none i arg2 harg2 arg3 harg3 arg4 harg4 arg5 harg5 arg6 harg6 arg7 harg7 arg8 harg8 arg9 harg9 arg10 harg10 arg11 harg11 arg12 harg12 (k0_t2_loop i).lb X2 X3 X4 X5 X6 f10 f11 f12 init (Scf.trips (k0_t2_loop i).lb (k0_t2_loop i).ub (k0_t2_loop i).st)

/-- The contributions of the diagonal block, by head. -/
def diagDq (x : Carry F) (h : Fin 8) : M :=
  dqT keep (ldRow arg2 X2 h) (ldAt arg3 X3 (diagOff i) (diagOff_le i) h) (ldAt arg4 X4 (diagOff i) (diagOff_le i) h) (ldRow arg5 X5 h) (ldTot arg6 X6 h) (cr0 x h) (cr1 x h)
def diagDk (x : Carry F) (h : Fin 8) : M :=
  dkT keep (ldRow arg2 X2 h) (ldAt arg3 X3 (diagOff i) (diagOff_le i) h) (ldAt arg4 X4 (diagOff i) (diagOff_le i) h) (ldRow arg5 X5 h) (ldTot arg6 X6 h) (cr0 x h) (cr1 x h)
def diagDv (x : Carry F) (h : Fin 8) : M :=
  dvT keep (ldRow arg2 X2 h) (ldAt arg3 X3 (diagOff i) (diagOff_le i) h) (ldRow arg5 X5 h) (ldTot arg6 X6 h) (cr0 x h)
end

end Cert.KernelIdeal.Tile
-- ==== Proof.Model.lean ====
/- One head of the attention and its gradient over the REAL numbers: queries `q`, keys `k`, values `v` and the
   gradient of the output `g`, each a table of rows.  Key `s` is earlier than query `t` where `s < t`. -/
module

public import Idealize.ShloMosaic.PureOps.Ideal

@[expose] public section

noncomputable section

namespace Cert.Model

open Finset

/-- One head's tables. -/
structure Head where
  q : ℕ → Fin 128 → ℝ
  k : ℕ → Fin 128 → ℝ
  v : ℕ → Fin 128 → ℝ
  g : ℕ → Fin 128 → ℝ

/-- `1/√128`. -/
def sc : ℝ := (Real.sqrt 128)⁻¹
/-- `log (1 + exp (-|z|))`. -/
def softR (z : ℝ) : ℝ := Real.log (1 + Real.exp (-|z|))
/-- The logarithm of the sigmoid of `z`. -/
def lbR (z : ℝ) : ℝ := min z 0 - softR z
/-- The logarithm of one minus the sigmoid of `z`. -/
def lkR (z : ℝ) : ℝ := min (-z) 0 - softR z

namespace Head
variable (H : Head)

/-- The scores. -/
def z (t s : ℕ) : ℝ := (∑ d, H.q t d * H.k s d) * sc
/-- The logarithm of one minus the sigmoid, on the earlier keys. -/
def L (t s : ℕ) : ℝ := if s < t then lkR (H.z t s) else 0
/-- Its sum over all keys. -/
def tot (t : ℕ) : ℝ := ∑ s ∈ range 2048, H.L t s
/-- Its sum over the keys up to `s`. -/
def pre (t s : ℕ) : ℝ := ∑ s' ∈ range (s + 1), H.L t s'
/-- The weights. -/
def A (t s : ℕ) : ℝ := if s < t then Real.exp (lbR (H.z t s) + (H.tot t - H.pre t s)) else 0
/-- The gradient of the weights. -/
def DA (t s : ℕ) : ℝ := ∑ d, H.g t d * H.v s d
/-- The gradient of the logarithms of the weights. -/
def D (t s : ℕ) : ℝ := H.DA t s * H.A t s
/-- What the weights of the keys before `s` send to key `s`. -/
def KP (t s : ℕ) : ℝ := if s < t then ∑ s' ∈ range s, H.D t s' else 0
/-- The gradient of the unscaled scores. -/
def DZ (t s : ℕ) : ℝ :=
  (H.D t s * (1 - Real.exp (lbR (H.z t s))) - H.KP t s * Real.exp (lbR (H.z t s))) * sc

theorem A_off {t s : ℕ} (h : ¬ s < t) : H.A t s = 0 := if_neg h
theorem D_off {t s : ℕ} (h : ¬ s < t) : H.D t s = 0 := by simp [D, H.A_off h]
theorem DZ_off {t s : ℕ} (h : ¬ s < t) : H.DZ t s = 0 := by simp [DZ, H.D_off h, KP, h]

/-- The gradients of the queries, the keys and the values. -/
def dq (t : ℕ) (d : Fin 128) : ℝ := ∑ s ∈ range 2048, H.DZ t s * H.k s d
def dk (s : ℕ) (d : Fin 128) : ℝ := ∑ t ∈ range 2048, H.DZ t s * H.q t d
def dv (s : ℕ) (d : Fin 128) : ℝ := ∑ t ∈ range 2048, H.A t s * H.g t d

end Head

end Cert.Model
-- ==== Proof.TileValue.lean ====
/- The tile functions of Tile.lean read at the ideal numbers: on tiles of real entries they are the
   corresponding tiles of the tables of Model.lean. -/
module

public import proofs.«01_k».proof.Proof.Tile
public import proofs.«01_k».proof.Proof.Model
public import Idealize.ShloMosaic.Lib.Pointwise

@[expose] public section

set_option maxRecDepth 16384

noncomputable section

namespace Cert.KernelIdeal.Tile

open Idealize.ShloMosaic Idealize.ShloMosaic.TcCoe
open Cert.KernelIdeal Cert.KernelIdeal.Gen
open Finset Cert.Model

local notation "M" => FVec Ideal S128x128 FTy.f32
local notation "B" => FVec Ideal S128x128 FTy.bf16
local notation "C1" => FVec Ideal S128x1 FTy.f32

/-! ## The operations, at an entry -/

theorem dotNT_apply (a b : B) (r c : Fin 128) :
    dotNT a b (ix2 r c) = ∑ d : Fin 128, a (ix2 r d) * b (ix2 c d) := by
  pointwise [dotNT]
theorem dotNN_apply (a b : B) (r c : Fin 128) :
    dotNN a b (ix2 r c) = ∑ d : Fin 128, a (ix2 r d) * b (ix2 d c) := by
  pointwise [dotNN]
theorem dotTN_apply (a b : B) (r c : Fin 128) :
    dotTN a b (ix2 r c) = ∑ d : Fin 128, a (ix2 d r) * b (ix2 d c) := by
  pointwise [dotTN]
theorem zeros_apply (r c : Fin 128) : (zeros : M) (ix2 r c) = 0 := by
  pointwise [zeros]
theorem ones_apply (r c : Fin 128) : (ones : M) (ix2 r c) = 1 := by
  pointwise [ones]
theorem scales_apply (r c : Fin 128) : (scales : M) (ix2 r c) = ((sc : ℝ) : EReal) := by
  have e : Named.named (F := Ideal) Cert.KernelIdeal.κ "scale" (φ := .f32) 0x3DB504F3#32 = (((Real.sqrt 128)⁻¹ : ℝ) : EReal) :=
    IdealRules.named_const.ideal_named_scalar _ _ _ _ rfl
  show Named.named (F := Ideal) Cert.KernelIdeal.κ "scale" (φ := .f32) 0x3DB504F3#32 = _
  rw [e]; rfl

theorem toInt_small (r : Fin 128) : (BitVec.ofNat 32 r.val).toInt = (r.val : ℤ) := by
  have := r.isLt
  rw [BitVec.toInt_eq_toNat_of_lt (by rw [BitVec.toNat_ofNat]; omega), BitVec.toNat_ofNat]
  omega
theorem slt_small (r c : Fin 128) : IntOp.cmpi .slt (BitVec.ofNat 32 r.val) (BitVec.ofNat 32 c.val) = if r < c then 1#1 else 0#1 := by
  simp only [IntOp.cmpi, BitVec.slt, toInt_small, Nat.cast_lt, Fin.lt_def]
  by_cases h : r.val < c.val <;> simp [h]
theorem sle_small (r c : Fin 128) : IntOp.cmpi .sle (BitVec.ofNat 32 r.val) (BitVec.ofNat 32 c.val) = if r ≤ c then 1#1 else 0#1 := by
  simp only [IntOp.cmpi, BitVec.sle, toInt_small, Nat.cast_le, Fin.le_def]
  by_cases h : r.val ≤ c.val <;> simp [h]

theorem upto_apply (r c : Fin 128) : (k0_pay271 : B) (ix2 r c) = if r ≤ c then 1 else 0 := by
  pointwise [k0_pay271]
  rw [sle_small]
  split <;> simp [FloatOps.sitofp]
theorem earlier_apply (r c : Fin 128) : (k0_pay272 : B) (ix2 r c) = if r < c then 1 else 0 := by
  pointwise [k0_pay272]
  rw [slt_small]
  split <;> simp [FloatOps.sitofp]
theorem keep_apply (x : M) (r c : Fin 128) : keep x (ix2 r c) = if c < r then x (ix2 r c) else 0 := by
  pointwise [keep, k0_pay270, zeros]
  rw [slt_small]
  split <;> simp [Scalar.select]
theorem rowSums_apply (x : M) (r : Fin 128) : rowSums x (ix2 r 0) = ∑ c : Fin 128, x (ix2 r c) := by
  pointwise [rowSums]
theorem split_apply (v : M) (tri : B) (r c : Fin 128) :
    split v tri (ix2 r c) = (∑ d : Fin 128, v (ix2 r d) * tri (ix2 d c)) + ∑ d : Fin 128, (v (ix2 r d) - v (ix2 r d)) * tri (ix2 d c) := by
  pointwise [split, dotNN]
theorem plus_apply (x y : M) (r c : Fin 128) : plus x y (ix2 r c) = x (ix2 r c) + y (ix2 r c) := by
  pointwise [plus]

theorem coe_min (x y : ℝ) : ((min x y : ℝ) : EReal) = min (x : EReal) (y : EReal) :=
  EReal.coe_strictMono.monotone.map_min

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- The part of a sum over a block of 128 that lies before `n`. -/
theorem sum_before (f : ℕ → ℝ) (n : ℕ) (hn : n ≤ 128) :
    ∑ d : Fin 128, (if d.val < n then f d.val else 0) = ∑ d ∈ range n, f d := by
  rw [Fin.sum_univ_eq_sum_range (fun d => if d < n then f d else 0) 128, ← sum_filter]
  congr 1
  ext x; simp; omega

/-- A row of reals times a triangle of ones is the row's partial sum. -/
theorem split_real (v : M) (tri : B) (r c : Fin 128) (f : ℕ → ℝ) (n : ℕ) (hn : n ≤ 128)
    (hv : ∀ d : Fin 128, v (ix2 r d) = (f d.val : EReal))
    (ht : ∀ d : Fin 128, tri (ix2 d c) = if d.val < n then 1 else 0) :
    split v tri (ix2 r c) = ((∑ d ∈ range n, f d : ℝ) : EReal) := by
  rw [split_apply, ← sum_before f n hn, coe_sum]
  have e2 : ∑ d : Fin 128, (v (ix2 r d) - v (ix2 r d)) * tri (ix2 d c) = 0 :=
    sum_eq_zero fun d _ => by rw [hv, ← EReal.coe_sub]; simp
  rw [e2, add_zero]
  refine sum_congr rfl fun d _ => ?_
  rw [hv, ht]
  split <;> simp

/-! ## A tile of one head -/

section tile
variable (H : Head) (R C : ℕ) (sel : M → M) (q k v g : B) (tot c0 c1 : C1)

/-- The tiles hold the head's rows from `R` and its keys from `C`. -/
structure Holds : Prop where
  q : ∀ r d : Fin 128, q (ix2 r d) = (H.q (R + r.val) d : EReal)
  k : ∀ c d : Fin 128, k (ix2 c d) = (H.k (C + c.val) d : EReal)
  v : ∀ c d : Fin 128, v (ix2 c d) = (H.v (C + c.val) d : EReal)
  g : ∀ r d : Fin 128, g (ix2 r d) = (H.g (R + r.val) d : EReal)
  tot : ∀ r : Fin 128, tot (ix2 r 0) = (H.tot (R + r.val) : EReal)
  c0 : ∀ r : Fin 128, c0 (ix2 r 0) = ((∑ s ∈ range C, H.L (R + r.val) s : ℝ) : EReal)
  c1 : ∀ r : Fin 128, c1 (ix2 r 0) = ((∑ s ∈ range C, H.D (R + r.val) s : ℝ) : EReal)
  sel : ∀ (x : M) (r c : Fin 128), sel x (ix2 r c) = if C + c.val < R + r.val then x (ix2 r c) else 0

variable {H R C sel q k v g tot c0 c1} (W : Holds H R C sel q k v g tot c0 c1)
include W

theorem score_real (r c : Fin 128) : score q k (ix2 r c) = (H.z (R + r.val) (C + c.val) : EReal) := by
  have e : score q k (ix2 r c) = dotNT q k (ix2 r c) * (scales : M) (ix2 r c) := by pointwise [score]
  rw [e, dotNT_apply, scales_apply, Head.z, EReal.coe_mul, coe_sum]
  congr 1
  exact sum_congr rfl fun d _ => by rw [W.q, W.k, EReal.coe_mul]

theorem soft_real (r c : Fin 128) : soft q k (ix2 r c) = (softR (H.z (R + r.val) (C + c.val)) : EReal) := by
  have e : soft q k (ix2 r c) = Ideal.log ((ones : M) (ix2 r c) + Ideal.exp ((zeros : M) (ix2 r c) - max (score q k (ix2 r c)) (-(score q k (ix2 r c))))) := by
    pointwise [soft]; rfl
  rw [e, score_real W, ones_apply, zeros_apply, softR]
  have hm : max ((H.z (R + r.val) (C + c.val) : ℝ) : EReal) (-((H.z (R + r.val) (C + c.val) : ℝ) : EReal))
      = ((|H.z (R + r.val) (C + c.val)| : ℝ) : EReal) := by
    rw [← EReal.coe_neg, abs_eq_max_neg]
    exact (EReal.coe_strictMono.monotone.map_max).symm
  rw [hm, zero_sub, ← EReal.coe_neg, Ideal.exp_coe, ← EReal.coe_one, ← EReal.coe_add, Ideal.log_coe, if_neg]
  have := Real.exp_pos (-|H.z (R + r.val) (C + c.val)|)
  linarith

theorem lb_real (r c : Fin 128) : lb q k (ix2 r c) = (lbR (H.z (R + r.val) (C + c.val)) : EReal) := by
  have e : lb q k (ix2 r c) = min (score q k (ix2 r c)) ((zeros : M) (ix2 r c)) - soft q k (ix2 r c) := by pointwise [lb]
  rw [e, score_real W, soft_real W, zeros_apply, lbR, EReal.coe_sub, coe_min, EReal.coe_zero]

theorem lk_real (r c : Fin 128) : lk sel q k (ix2 r c) = (H.L (R + r.val) (C + c.val) : EReal) := by
  have e : (subf (minimumf (subf zeros (score q k)) zeros) (soft q k)) (ix2 r c)
      = min ((zeros : M) (ix2 r c) - score q k (ix2 r c)) ((zeros : M) (ix2 r c)) - soft q k (ix2 r c) := by pointwise []
  rw [lk, W.sel, e, score_real W, soft_real W, zeros_apply, Head.L]
  split
  · rw [lkR, EReal.coe_sub, coe_min, EReal.coe_zero, EReal.coe_neg, zero_sub]
  · rw [EReal.coe_zero]

theorem wt_real (r c : Fin 128) : wt sel q k tot c0 (ix2 r c) = (H.A (R + r.val) (C + c.val) : EReal) := by
  have e : (exp (addf (lb q k) (subf (broadcastTo S128x128 tot broadcasts_S128x1_S128x128)
    (addf (split (lk sel q k) k0_pay271) (broadcastTo S128x128 c0 broadcasts_S128x1_S128x128))))) (ix2 r c)
      = Ideal.exp (lb q k (ix2 r c) + (tot (ix2 r 0) - (split (lk sel q k) k0_pay271 (ix2 r c) + c0 (ix2 r 0)))) := by
    pointwise []
  rw [wt, W.sel, e, lb_real W, W.tot, W.c0, Head.A,
    split_real (lk sel q k) k0_pay271 r c (fun d => H.L (R + r.val) (C + d)) (c.val + 1) (by omega) (fun d => lk_real W r d)
      (fun d => by rw [upto_apply]; simp only [Nat.lt_succ_iff, Fin.le_def])]
  have hp : H.pre (R + r.val) (C + c.val) = (∑ d ∈ range (c.val + 1), H.L (R + r.val) (C + d)) + ∑ s ∈ range C, H.L (R + r.val) s := by
    rw [Head.pre, show C + c.val + 1 = C + (c.val + 1) by omega, sum_range_add, add_comm]
  split
  · rw [← EReal.coe_add, ← hp, ← EReal.coe_sub, ← EReal.coe_add]; rfl
  · rw [EReal.coe_zero]

theorem dla_real (r c : Fin 128) : dla sel q k v g tot c0 (ix2 r c) = (H.D (R + r.val) (C + c.val) : EReal) := by
  have e : dla sel q k v g tot c0 (ix2 r c) = dotNT g v (ix2 r c) * wt sel q k tot c0 (ix2 r c) := by pointwise [dla]
  rw [e, dotNT_apply, wt_real W, Head.D, EReal.coe_mul, Head.DA, coe_sum]
  congr 1
  exact sum_congr rfl fun d _ => by rw [W.g, W.v, EReal.coe_mul]

theorem dkeep_real (r c : Fin 128) : dkeep sel q k v g tot c0 c1 (ix2 r c) = (H.KP (R + r.val) (C + c.val) : EReal) := by
  have e : (addf (split (dla sel q k v g tot c0) k0_pay272) (broadcastTo S128x128 c1 broadcasts_S128x1_S128x128)) (ix2 r c)
      = split (dla sel q k v g tot c0) k0_pay272 (ix2 r c) + c1 (ix2 r 0) := by pointwise []
  rw [dkeep, W.sel, e, W.c1, Head.KP,
    split_real (dla sel q k v g tot c0) k0_pay272 r c (fun d => H.D (R + r.val) (C + d)) c.val (by omega) (fun d => dla_real W r d)
      (fun d => by rw [earlier_apply]; simp only [Fin.lt_def])]
  split
  · rw [sum_range_add, add_comm, EReal.coe_add]
  · rw [EReal.coe_zero]

theorem dz_real (r c : Fin 128) : dz sel q k v g tot c0 c1 (ix2 r c) = (H.DZ (R + r.val) (C + c.val) : EReal) := by
  have e : dz sel q k v g tot c0 c1 (ix2 r c) = (dla sel q k v g tot c0 (ix2 r c) * ((ones : M) (ix2 r c) - Ideal.exp (lb q k (ix2 r c))) -
        dkeep sel q k v g tot c0 c1 (ix2 r c) * Ideal.exp (lb q k (ix2 r c))) * (scales : M) (ix2 r c) := by pointwise [dz]
  rw [e, dla_real W, dkeep_real W, lb_real W, ones_apply, scales_apply, Head.DZ]
  rw [Ideal.exp_coe, ← EReal.coe_one, ← EReal.coe_sub, ← EReal.coe_mul, ← EReal.coe_mul, ← EReal.coe_sub, ← EReal.coe_mul]

theorem dqT_real (r d : Fin 128) : dqT sel q k v g tot c0 c1 (ix2 r d)
    = ((∑ c : Fin 128, H.DZ (R + r.val) (C + c.val) * H.k (C + c.val) d : ℝ) : EReal) := by
  rw [dqT, dotNN_apply, coe_sum]
  exact sum_congr rfl fun c _ => by rw [dz_real W, W.k, EReal.coe_mul]

theorem dkT_real (c d : Fin 128) : dkT sel q k v g tot c0 c1 (ix2 c d)
    = ((∑ r : Fin 128, H.DZ (R + r.val) (C + c.val) * H.q (R + r.val) d : ℝ) : EReal) := by
  rw [dkT, dotTN_apply, coe_sum]
  exact sum_congr rfl fun r _ => by rw [dz_real W, W.q, EReal.coe_mul]

theorem dvT_real (c d : Fin 128) : dvT sel q k g tot c0 (ix2 c d)
    = ((∑ r : Fin 128, H.A (R + r.val) (C + c.val) * H.g (R + r.val) d : ℝ) : EReal) := by
  rw [dvT, dotTN_apply, coe_sum]
  refine sum_congr rfl fun r _ => ?_
  have e : (truncf .bf16 (wt sel q k tot c0) bitsLt_bf16_f32 : B) (ix2 r c) = wt sel q k tot c0 (ix2 r c) := by pointwise []
  rw [e, wt_real W, W.g, EReal.coe_mul]

end tile

section carry
variable {H : Head} {R C : ℕ} {q k v g : B} {tot c0 c1 : C1} (W : Holds H R C id q k v g tot c0 c1)
include W

theorem c0T_real (r : Fin 128) : c0T q k c0 (ix2 r 0) = ((∑ s ∈ range (C + 128), H.L (R + r.val) s : ℝ) : EReal) := by
  have e : c0T q k c0 (ix2 r 0) = c0 (ix2 r 0) + rowSums (lk id q k) (ix2 r 0) := by pointwise [c0T]
  rw [e, W.c0, rowSums_apply, sum_range_add, EReal.coe_add, ← Fin.sum_univ_eq_sum_range (fun x => H.L (R + r.val) (C + x)), coe_sum univ]
  congr 1
  exact sum_congr rfl fun c _ => lk_real W r c

theorem c1T_real (r : Fin 128) : c1T q k v g tot c0 c1 (ix2 r 0) = ((∑ s ∈ range (C + 128), H.D (R + r.val) s : ℝ) : EReal) := by
  have e : c1T q k v g tot c0 c1 (ix2 r 0) = c1 (ix2 r 0) + rowSums (dla id q k v g tot c0) (ix2 r 0) := by pointwise [c1T]
  rw [e, W.c1, rowSums_apply, sum_range_add, EReal.coe_add, ← Fin.sum_univ_eq_sum_range (fun x => H.D (R + r.val) (C + x)), coe_sum univ]
  congr 1
  exact sum_congr rfl fun c _ => dla_real W r c

end carry

end Cert.KernelIdeal.Tile
-- ==== Proof.Lists.lean ====
/- What an accumulator holds after a list of the kernel's pieces: every head's tile has the contribution
   added, every other entry is what it was. -/
module

public import proofs.«01_k».proof.Proof.Diag
public import proofs.«01_k».proof.Proof.TileValue
public import Idealize.ShloMosaic.Lib.WritesUnit

@[expose] public section

set_option maxRecDepth 16384

noncomputable section

namespace Cert.KernelIdeal.Tile

open Idealize.ShloMosaic Idealize.ShloMosaic.TcCoe
open Cert.KernelIdeal Cert.KernelIdeal.Gen

local notation "M" => FVec Ideal S128x128 FTy.f32

/-- Column `d` of head `h`. -/
def col (h : Fin 8) (d : Fin 128) : Fin 1024 := ⟨128 * h.val + d.val, by omega⟩

theorem exists_col (x : Fin 1024) : ∃ h d, x = col h d :=
  ⟨⟨x.val / 128, by omega⟩, ⟨x.val % 128, by omega⟩, Fin.ext (by simp only [col]; omega)⟩

variable {N : Nat} {e : EltTy}

theorem readAt_ix (a : Memref sig .tc .vmem ⟨2, ![N, 1024]⟩ e) (F : BufTy.Contents (Elt Ideal) a.view.ty) (r : Nat) (h : Fin 8)
    (hr : r + 128 ≤ N) (inb) (p d : Fin 128) :
    View.readAt (Elt Ideal) a.view (Rect.unit (s := ⟨2, ![N, 1024]⟩) ![r, 128 * h.val] S128x128.size inb).toLoadRect F (ix2 p d)
      = a.view.read (Elt Ideal) F (ix2 ⟨r + p.val, by omega⟩ (col h d)) := by
  rw [View.readAt_apply]
  congr 1
  funext x
  refine Fin.ext ?_
  fin_cases x
  · show r + 1 * p.val = r + p.val
    omega
  · show 128 * h.val + 1 * d.val = 128 * h.val + d.val
    omega

theorem read_step (a : Memref sig .tc .vmem ⟨2, ![N, 1024]⟩ .f32) (f : BufTy.Contents (Elt Ideal) a.view.ty) (r : Nat) (n : Nat)
    (inb) (w : M) (L : List (View.Piece (Elt Ideal) ⟨2, ![N, 1024]⟩ .f32)) (y : Fin N) (h : Fin 8) (d : Fin 128) :
    a.view.read (Elt Ideal) (a.view.writes (Elt Ideal) f
        (⟨Rect.unit (s := ⟨2, ![N, 1024]⟩) ![r, 128 * n] S128x128.size inb, w⟩ :: L)) (ix2 y (col h d))
      = if hy : h.val = n ∧ r ≤ y.val ∧ y.val < r + 128 then w (ix2 ⟨y.val - r, by omega⟩ d)
        else a.view.read (Elt Ideal) (a.view.writes (Elt Ideal) f L) (ix2 y (col h d)) := by
  split
  · rename_i hy
    obtain ⟨rfl, h1, h2⟩ := hy
    refine View.read_writes_cons_unit_of_mem a.view f inb w L (ix2 y (col h d)) (ix2 ⟨y.val - r, by omega⟩ d) rfl ?_
    intro x; fin_cases x
    · show y.val = r + (y.val - r); omega
    · rfl
  · rename_i hy
    by_cases hn : h.val = n
    · refine View.read_writes_cons_unit_of_not_mem a.view f inb w L _ rfl (0 : Fin 2) ?_
      show y.val < r ∨ r + 128 ≤ y.val
      omega
    · refine View.read_writes_cons_unit_of_not_mem a.view f inb w L _ rfl (1 : Fin 2) ?_
      show 128 * h.val + d.val < 128 * n ∨ 128 * n + 128 ≤ 128 * h.val + d.val
      omega

/-- The first `n` heads' pieces, each adding to the contents `f`. -/
def boxesN (a : Memref sig .tc .vmem ⟨2, ![N, 1024]⟩ .f32) (f : BufTy.Contents (Elt Ideal) a.view.ty) (r : Nat)
    (hr : r + 128 ≤ N) (T : Fin 8 → M) : (n : Nat) → n ≤ 8 → List (View.Piece (Elt Ideal) ⟨2, ![N, 1024]⟩ .f32)
  | 0, _ => []
  | n + 1, hn => ⟨Rect.unit (s := ⟨2, ![N, 1024]⟩) ![r, 128 * n] S128x128.size (col_inb ⟨n, hn⟩ hr),
      plus (View.readAt (Elt Ideal) a.view (Rect.unit (s := ⟨2, ![N, 1024]⟩) ![r, 128 * n] S128x128.size (col_inb ⟨n, hn⟩ hr)).toLoadRect f)
        (T ⟨n, hn⟩)⟩ :: boxesN a f r hr T n (by omega)

theorem read_boxesN (a : Memref sig .tc .vmem ⟨2, ![N, 1024]⟩ .f32) (f : BufTy.Contents (Elt Ideal) a.view.ty) (r : Nat)
    (hr : r + 128 ≤ N) (T : Fin 8 → M) (y : Fin N) (h : Fin 8) (d : Fin 128) : (n : Nat) → (hn : n ≤ 8) →
    a.view.read (Elt Ideal) (a.view.writes (Elt Ideal) f (boxesN a f r hr T n hn)) (ix2 y (col h d))
      = if hy : h.val < n ∧ r ≤ y.val ∧ y.val < r + 128 then
          a.view.read (Elt Ideal) f (ix2 y (col h d)) + T h (ix2 ⟨y.val - r, by omega⟩ d)
        else a.view.read (Elt Ideal) f (ix2 y (col h d))
  | 0, _ => by rw [dif_neg (by omega)]; rfl
  | n + 1, hn => by
    rw [boxesN, read_step a f r n (col_inb ⟨n, hn⟩ hr)]
    by_cases hy : h.val = n ∧ r ≤ y.val ∧ y.val < r + 128
    · obtain ⟨rfl, h1, h2⟩ := hy
      rw [dif_pos ⟨rfl, h1, h2⟩, dif_pos ⟨by omega, h1, h2⟩, plus_apply, readAt_ix a f r h hr]
      congr 2
      refine congrArg (fun z => ix2 z (col h d)) (Fin.ext ?_)
      show r + (y.val - r) = y.val
      omega
    · rw [dif_neg hy, read_boxesN a f r hr T y h d n (by omega)]
      by_cases hy2 : h.val < n ∧ r ≤ y.val ∧ y.val < r + 128
      · rw [dif_pos hy2, dif_pos ⟨by omega, hy2.2⟩]
      · rw [dif_neg hy2, dif_neg (by omega)]

/-- After the eight heads' pieces of one trip. -/
theorem read_boxes (a : Memref sig .tc .vmem ⟨2, ![N, 1024]⟩ .f32) (f : BufTy.Contents (Elt Ideal) a.view.ty) (r : Nat)
    (hr : r + 128 ≤ N) (T : Fin 8 → M) (y : Fin N) (h : Fin 8) (d : Fin 128) :
    a.view.read (Elt Ideal) (a.view.writes (Elt Ideal) f (boxes r hr fun h =>
        plus (View.readAt (Elt Ideal) a.view (Rect.unit (s := ⟨2, ![N, 1024]⟩) ![r, 128 * h.val] S128x128.size (col_inb h hr)).toLoadRect f) (T h)))
        (ix2 y (col h d))
      = a.view.read (Elt Ideal) f (ix2 y (col h d))
        + if hy : r ≤ y.val ∧ y.val < r + 128 then T h (ix2 ⟨y.val - r, by omega⟩ d) else 0 := by
  have e := read_boxesN a f r hr T y h d 8 (by omega)
  refine Eq.trans ?_ (e.trans ?_)
  · rfl
  · by_cases hy : r ≤ y.val ∧ y.val < r + 128
    · rw [dif_pos ⟨h.isLt, hy⟩, dif_pos hy]
    · rw [dif_neg (fun q => hy q.2), dif_neg hy, add_zero]

theorem read_addsN (a : Memref sig .tc .vmem ⟨2, ![N, 1024]⟩ .f32) (f : BufTy.Contents (Elt Ideal) a.view.ty) (r : Nat)
    (hr : r + 128 ≤ N) (T : Fin 8 → M) (L) (y : Fin N) (h : Fin 8) (d : Fin 128) : (n : Nat) → (hn : n ≤ 8) →
    a.view.read (Elt Ideal) (a.view.writes (Elt Ideal) f (adds a f r hr T L n hn)) (ix2 y (col h d))
      = if hy : h.val < n ∧ r ≤ y.val ∧ y.val < r + 128 then
          a.view.read (Elt Ideal) (a.view.writes (Elt Ideal) f L) (ix2 y (col h d)) + T h (ix2 ⟨y.val - r, by omega⟩ d)
        else a.view.read (Elt Ideal) (a.view.writes (Elt Ideal) f L) (ix2 y (col h d))
  | 0, _ => by rw [dif_neg (by omega)]; rfl
  | n + 1, hn => by
    rw [adds, read_step a f r n (col_inb ⟨n, hn⟩ hr)]
    by_cases hy : h.val = n ∧ r ≤ y.val ∧ y.val < r + 128
    · obtain ⟨rfl, h1, h2⟩ := hy
      rw [dif_pos ⟨rfl, h1, h2⟩, dif_pos ⟨by omega, h1, h2⟩, plus_apply, readAt_ix a _ r h hr]
      have e : (ix2 (⟨r + (⟨y.val - r, by omega⟩ : Fin 128).val, by omega⟩ : Fin N) (col h d)) = ix2 y (col h d) :=
        congrArg (fun z => ix2 z (col h d)) (Fin.ext (by show r + (y.val - r) = y.val; omega))
      rw [e, read_addsN a f r hr T L y h d h.val (by omega), dif_neg (by omega)]
    · rw [dif_neg hy, read_addsN a f r hr T L y h d n (by omega)]
      by_cases hy2 : h.val < n ∧ r ≤ y.val ∧ y.val < r + 128
      · rw [dif_pos hy2, dif_pos ⟨by omega, hy2.2⟩]
      · rw [dif_neg hy2, dif_neg (by omega)]

/-- After the eight heads' pieces of the diagonal block. -/
theorem read_adds (a : Memref sig .tc .vmem ⟨2, ![N, 1024]⟩ .f32) (f : BufTy.Contents (Elt Ideal) a.view.ty) (r : Nat)
    (hr : r + 128 ≤ N) (T : Fin 8 → M) (L) (y : Fin N) (h : Fin 8) (d : Fin 128) :
    a.view.read (Elt Ideal) (a.view.writes (Elt Ideal) f (adds a f r hr T L 8 (by omega))) (ix2 y (col h d))
      = a.view.read (Elt Ideal) (a.view.writes (Elt Ideal) f L) (ix2 y (col h d))
        + if hy : r ≤ y.val ∧ y.val < r + 128 then T h (ix2 ⟨y.val - r, by omega⟩ d) else 0 := by
  rw [read_addsN]
  by_cases hy : r ≤ y.val ∧ y.val < r + 128
  · rw [dif_pos ⟨h.isLt, hy⟩, dif_pos hy]
  · rw [dif_neg (fun q => hy q.2), dif_neg hy, add_zero]

end Cert.KernelIdeal.Tile
-- ==== Proof.Loop.lean ====
/- What the accumulators hold after the loop over the earlier key blocks: the carried values are the sums over the
   keys before, the query block's gradient and the gradients of the earlier keys have their sums added. -/
module

public import proofs.«01_k».proof.Proof.Lists

@[expose] public section

set_option maxRecDepth 16384

noncomputable section

namespace Cert.KernelIdeal.Tile

open Idealize.ShloMosaic Idealize.ShloMosaic.TcCoe
open Cert.KernelIdeal Cert.KernelIdeal.Gen Cert.Model
open Finset

local notation "M" => FVec Ideal S128x128 FTy.f32
local notation "C1" => FVec Ideal S128x1 FTy.f32

/-! ## The loops' bounds -/

theorem trips1_eq (i : grid0.Coords) : (k0_t1_loop i).trips = (i 1).val := by
  have key : ∀ x : Fin 16, (Scf.Loop.mk 0#32 (Scalar.addi 0#32 (Scalar.muli (Scalar.divsi (Scalar.subi (BitVec.ofNat 32 x.val) 0#32) 1#32) 1#32)) 1#32 : Scf.Loop 32).trips = x.val := by
    decide
  exact key (i 1)

theorem trips2_eq (i : grid0.Coords) : (k0_t2_loop i).trips = 0 := by
  have key : ∀ x : Fin 16, (Scf.Loop.mk (Scalar.addi 0#32 (Scalar.muli (Scalar.divsi (Scalar.subi (BitVec.ofNat 32 x.val) 0#32) 1#32) 1#32)) (Scalar.addi 0#32 (Scalar.subi (BitVec.ofNat 32 x.val) 0#32)) 1#32 : Scf.Loop 32).trips = 0 := by
    decide
  exact key (i 1)

theorem rowOff_eq (i : grid0.Coords) (k : Fin (k0_t1_loop i).trips) : rowOff i k = 128 * k.val := by
  have key : ∀ x : Fin 16, (Scalar.indexCast (Scalar.muli (Scf.iv 0#32 1#32 x.val) 128#32)).toNat = 128 * x.val := by decide
  have h : k.val < 16 := by
    exact lt_trans (lt_of_lt_of_eq k.isLt (trips1_eq i)) (i 1).isLt
  exact key ⟨k.val, h⟩

theorem diagOff_eq (i : grid0.Coords) : diagOff i = 128 * (i 1).val := by
  have key : ∀ x : Fin 16, (Scalar.indexCast (Scalar.muli (BitVec.ofNat 32 x.val) 128#32)).toNat = 128 * x.val := by decide
  exact key (i 1)

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty)
  (HH : Fin 8 → Head)

/-- The blocks of point `i` hold the heads' rows from `128 i`, the whole keys and the whole values. -/
structure Inputs : Prop where
  q : ∀ (r : Fin 128) h d, arg2.view.read (Elt Ideal) X2 (ix2 r (col h d)) = ((HH h).q (128 * (i 1).val + r.val) d : EReal)
  k : ∀ (s : Fin 2048) h d, arg3.view.read (Elt Ideal) X3 (ix2 s (col h d)) = ((HH h).k s.val d : EReal)
  v : ∀ (s : Fin 2048) h d, arg4.view.read (Elt Ideal) X4 (ix2 s (col h d)) = ((HH h).v s.val d : EReal)
  g : ∀ (r : Fin 128) h d, arg5.view.read (Elt Ideal) X5 (ix2 r (col h d)) = ((HH h).g (128 * (i 1).val + r.val) d : EReal)
  tot : ∀ (r : Fin 128) h, ldTot arg6 X6 h (ix2 r 0) = ((HH h).tot (128 * (i 1).val + r.val) : EReal)

variable {arg2 arg3 arg4 arg5 arg6 X2 X3 X4 X5 X6 HH i} (V : Inputs i arg2 arg3 arg4 arg5 arg6 X2 X3 X4 X5 X6 HH)

include V in
/-- The tiles at the key block from `C` hold the head's. -/
theorem Inputs.holds (h : Fin 8) (C : ℕ) (hC : C + 128 ≤ 2048) (C' : ℕ) (hC' : C' + 128 ≤ 2048) (e : C' = C) (sel : M → M) (c0 c1 : C1)
    (w0 : ∀ r : Fin 128, c0 (ix2 r 0) = ((∑ s ∈ range C, (HH h).L (128 * (i 1).val + r.val) s : ℝ) : EReal))
    (w1 : ∀ r : Fin 128, c1 (ix2 r 0) = ((∑ s ∈ range C, (HH h).D (128 * (i 1).val + r.val) s : ℝ) : EReal))
    (ws : ∀ (x : M) (r c : Fin 128), sel x (ix2 r c) = if C + c.val < 128 * (i 1).val + r.val then x (ix2 r c) else 0) :
    Holds (HH h) (128 * (i 1).val) C sel (ldRow arg2 X2 h) (ldAt arg3 X3 C' hC' h) (ldAt arg4 X4 C' hC' h) (ldRow arg5 X5 h)
      (ldTot arg6 X6 h) c0 c1 := by
  subst e
  refine ⟨fun r d => ?_, fun r d => ?_, fun r d => ?_, fun r d => ?_, fun r => V.tot r h, w0, w1, ws⟩
  · refine (readAt_ix arg2 X2 0 h (by omega) (col_inb h (by omega)) r d).trans ?_
    rw [← V.q]
    exact congrArg (fun z => arg2.view.read (Elt Ideal) X2 (ix2 z (col h d))) (Fin.ext (Nat.zero_add _))
  · exact (readAt_ix arg3 X3 C' h hC (col_inb h hC) r d).trans (V.k ⟨C' + r.val, by omega⟩ h d)
  · exact (readAt_ix arg4 X4 C' h hC (col_inb h hC) r d).trans (V.v ⟨C' + r.val, by omega⟩ h d)
  · refine (readAt_ix arg5 X5 0 h (by omega) (col_inb h (by omega)) r d).trans ?_
    rw [← V.g]
    exact congrArg (fun z => arg5.view.read (Elt Ideal) X5 (ix2 z (col h d))) (Fin.ext (Nat.zero_add _))

section state
variable (i HH) (f10 : BufTy.Contents (Elt Ideal) arg10.view.ty) (f11 : BufTy.Contents (Elt Ideal) arg11.view.ty)
  (f12 : BufTy.Contents (Elt Ideal) arg12.view.ty)

/-- After the keys before `n`: the carried values and the three accumulators. -/
structure After (n : ℕ) (x : Carry Ideal) (L10 : List (View.Piece (Elt Ideal) S128x1024 .f32))
    (L11 L12 : List (View.Piece (Elt Ideal) S2048x1024 .f32)) : Prop where
  c0 : ∀ h (r : Fin 128), cr0 x h (ix2 r 0) = ((∑ s ∈ range n, (HH h).L (128 * (i 1).val + r.val) s : ℝ) : EReal)
  c1 : ∀ h (r : Fin 128), cr1 x h (ix2 r 0) = ((∑ s ∈ range n, (HH h).D (128 * (i 1).val + r.val) s : ℝ) : EReal)
  dq : ∀ (r : Fin 128) h d, arg10.view.read (Elt Ideal) (arg10.view.writes (Elt Ideal) f10 L10) (ix2 r (col h d))
    = arg10.view.read (Elt Ideal) f10 (ix2 r (col h d)) + ((∑ s ∈ range n, (HH h).DZ (128 * (i 1).val + r.val) s * (HH h).k s d : ℝ) : EReal)
  dk : ∀ (s : Fin 2048) h d, arg11.view.read (Elt Ideal) (arg11.view.writes (Elt Ideal) f11 L11) (ix2 s (col h d))
    = arg11.view.read (Elt Ideal) f11 (ix2 s (col h d))
      + ((if s.val < n then ∑ r : Fin 128, (HH h).DZ (128 * (i 1).val + r.val) s * (HH h).q (128 * (i 1).val + r.val) d else 0 : ℝ) : EReal)
  dv : ∀ (s : Fin 2048) h d, arg12.view.read (Elt Ideal) (arg12.view.writes (Elt Ideal) f12 L12) (ix2 s (col h d))
    = arg12.view.read (Elt Ideal) f12 (ix2 s (col h d))
      + ((if s.val < n then ∑ r : Fin 128, (HH h).A (128 * (i 1).val + r.val) s * (HH h).g (128 * (i 1).val + r.val) d else 0 : ℝ) : EReal)
end state

/-- One more block of sums over the keys. -/
theorem sum_block (n : ℕ) (f : ℕ → ℝ) : ∑ s ∈ range (n + 128), f s = ∑ s ∈ range n, f s + ∑ c : Fin 128, f (n + c.val) := by
  rw [sum_range_add, ← Fin.sum_univ_eq_sum_range (fun x => f (n + x))]

/-- Rows added block by block. -/
theorem rows_block (n : ℕ) (s : ℕ) (x : ℝ) (T : EReal) (hT : n ≤ s ∧ s < n + 128 → T = (x : EReal)) :
    (((if s < n then x else 0 : ℝ) : ℝ) : EReal) + (if n ≤ s ∧ s < n + 128 then T else 0)
      = ((if s < n + 128 then x else 0 : ℝ) : EReal) := by
  by_cases h1 : s < n
  · rw [if_pos h1, if_neg (by omega), if_pos (by omega), add_zero]
  · by_cases h2 : s < n + 128
    · rw [if_neg h1, if_pos ⟨by omega, h2⟩, if_pos h2, EReal.coe_zero, zero_add, hT ⟨by omega, h2⟩]
    · rw [if_neg h1, if_neg (by omega), if_neg h2, EReal.coe_zero, add_zero]

variable {arg10 arg11 arg12} (f10 : BufTy.Contents (Elt Ideal) arg10.view.ty) (f11 : BufTy.Contents (Elt Ideal) arg11.view.ty)
  (f12 : BufTy.Contents (Elt Ideal) arg12.view.ty)

include V in
/-- After `j` trips. -/
theorem after_trips (hz : ∀ h (r : Fin 128), cr0 (carry0 : Carry Ideal) h (ix2 r 0) = 0 ∧ cr1 (carry0 : Carry Ideal) h (ix2 r 0) = 0) : (j : ℕ) → j ≤ (k0_t1_loop i).trips →
    After i arg10 arg11 arg12 HH f10 f11 f12 (128 * j)
      (st_k0_t1 (F := Ideal) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 j).1
      (st_k0_t1 (F := Ideal) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 j).2.1
      (st_k0_t1 (F := Ideal) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 j).2.2.1
      (st_k0_t1 (F := Ideal) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 j).2.2.2
  | 0, _ => by
    rw [st_k0_t1.eq_1]
    refine ⟨fun h r => ?_, fun h r => ?_, fun r h d => ?_, fun s h d => ?_, fun s h d => ?_⟩
    · rw [Nat.mul_zero, range_zero, sum_empty]; exact (hz h r).1
    · rw [Nat.mul_zero, range_zero, sum_empty]; exact (hz h r).2
    · rw [Nat.mul_zero, range_zero, sum_empty, EReal.coe_zero, add_zero]; rfl
    · rw [Nat.mul_zero, if_neg (Nat.not_lt_zero _), EReal.coe_zero, add_zero]; rfl
    · rw [Nat.mul_zero, if_neg (Nat.not_lt_zero _), EReal.coe_zero, add_zero]; rfl
  | j + 1, hj => by
    have I := after_trips hz j (by omega)
    have ej := st_k0_t1_succ (F := Ideal) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 ⟨j, hj⟩
    rw [show st_k0_t1 (F := Ideal) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 (j + 1) = _ from ej]
    simp only [tripR_k0_t1, tripL_k0_t1]
    generalize st_k0_t1 (F := Ideal) Variants.none c none i arg2 harg2 arg3 harg3 arg4 harg4 arg5 harg5 arg6 harg6 arg7 harg7 arg8 harg8 arg9 harg9 arg10 harg10 arg11 harg11 arg12 harg12 X2 X3 X4 X5 X6 f10 f11 f12 carry0 j = S at I ⊢
    have hle := rowOff_le i ⟨j, hj⟩
    have hr := rowOff_eq i ⟨j, hj⟩
    have hj16 : j + 1 ≤ (i 1).val := by rw [← trips1_eq i]; exact hj
    have hi16 : (i 1).val < 16 := (i 1).isLt
    have W : ∀ h, Holds (HH h) (128 * (i 1).val) (128 * j) id (ldRow arg2 X2 h) (ldAt arg3 X3 (rowOff i ⟨j, hj⟩) hle h)
        (ldAt arg4 X4 (rowOff i ⟨j, hj⟩) hle h) (ldRow arg5 X5 h) (ldTot arg6 X6 h) (cr0 S.1 h) (cr1 S.1 h) := fun h =>
      V.holds h (128 * j) (by omega) _ hle hr id _ _ (I.c0 h) (I.c1 h) (fun x r c => by rw [if_pos (by omega)]; rfl)
    rw [trip_dq, trip_dk, trip_dv]
    rw [show 128 * (j + 1) = 128 * j + 128 by omega]
    refine ⟨fun h r => ?_, fun h r => ?_, fun r h d => ?_, fun s h d => ?_, fun s h d => ?_⟩
    · rw [trip_c0]; exact c0T_real (W h) r
    · rw [trip_c1]; exact c1T_real (W h) r
    · rw [View.writes_append]
      refine (read_boxes arg10 _ 0 (by omega) _ r h d).trans ?_
      rw [I.dq, dif_pos ⟨Nat.zero_le _, by omega⟩, sum_block, EReal.coe_add, ← add_assoc]
      exact congrArg _ (dqT_real (W h) _ d)
    · rw [View.writes_append]
      refine (read_boxes arg11 _ (rowOff i ⟨j, hj⟩) hle _ s h d).trans ?_
      rw [I.dk, add_assoc]
      congr 1
      refine Eq.trans ?_ (rows_block (128 * j) s.val _ (if hs : 128 * j ≤ s.val ∧ s.val < 128 * j + 128 then dkT id (ldRow arg2 X2 h) (ldAt arg3 X3 (rowOff i ⟨j, hj⟩) hle h)
        (ldAt arg4 X4 (rowOff i ⟨j, hj⟩) hle h) (ldRow arg5 X5 h) (ldTot arg6 X6 h) (cr0 S.1 h) (cr1 S.1 h) (ix2 ⟨s.val - 128 * j, by omega⟩ d) else 0) ?_)
      · congr 1
        by_cases hs : 128 * j ≤ s.val ∧ s.val < 128 * j + 128
        · rw [if_pos hs, dif_pos hs, dif_pos (by rw [hr]; exact hs)]
          congr 3
          rw [hr]
        · rw [if_neg hs, dif_neg (by rw [hr]; exact hs)]
      · intro hs
        rw [dif_pos hs, dkT_real (W h)]
        have e : 128 * j + (s.val - 128 * j) = s.val := by omega
        simp only [e]
    · rw [View.writes_append]
      refine (read_boxes arg12 _ (rowOff i ⟨j, hj⟩) hle _ s h d).trans ?_
      rw [I.dv, add_assoc]
      congr 1
      refine Eq.trans ?_ (rows_block (128 * j) s.val _ (if hs : 128 * j ≤ s.val ∧ s.val < 128 * j + 128 then dvT id (ldRow arg2 X2 h) (ldAt arg3 X3 (rowOff i ⟨j, hj⟩) hle h)
        (ldRow arg5 X5 h) (ldTot arg6 X6 h) (cr0 S.1 h) (ix2 ⟨s.val - 128 * j, by omega⟩ d) else 0) ?_)
      · congr 1
        by_cases hs : 128 * j ≤ s.val ∧ s.val < 128 * j + 128
        · rw [if_pos hs, dif_pos hs, dif_pos (by rw [hr]; exact hs)]
          congr 3
          rw [hr]
        · rw [if_neg hs, dif_neg (by rw [hr]; exact hs)]
      · intro hs
        rw [dif_pos hs, dvT_real (W h)]
        have e : 128 * j + (s.val - 128 * j) = s.val := by omega
        simp only [e]

end Cert.KernelIdeal.Tile
-- ==== Proof.Point.lean ====
/- What ONE GRID POINT leaves: its rows of the query gradient are complete, and the gradients of the keys and
   the values have the point's sums added. -/
module

public import proofs.«01_k».proof.Proof.Loop

@[expose] public section

set_option maxRecDepth 16384

noncomputable section

namespace Cert.KernelIdeal.Tile

open Idealize.ShloMosaic Idealize.ShloMosaic.TcCoe
open Cert.KernelIdeal Cert.KernelIdeal.Gen Cert.Model
open Finset

local notation "M" => FVec Ideal S128x128 FTy.f32
local notation "C1" => FVec Ideal S128x1 FTy.f32

/-! ## The zeros the kernel starts from -/

theorem pay276_apply (r : Fin 128) : (k0_pay276 : C1) (ix2 r 0) = 0 := by
  pointwise [k0_pay276]

theorem carry0_zero (h : Fin 8) (r : Fin 128) :
    cr0 (carry0 : Carry Ideal) h (ix2 r 0) = 0 ∧ cr1 (carry0 : Carry Ideal) h (ix2 r 0) = 0 := by
  fin_cases h <;> exact ⟨pay276_apply r, pay276_apply r⟩

theorem pay275_apply (r : Fin 128) (x : Fin 1024) : (k0_pay275 : FVec Ideal S128x1024 .f32) (ix2 r x) = 0 := by
  pointwise [k0_pay275]
theorem pay273_apply (r : Fin 2048) (x : Fin 1024) : (k0_pay273 : FVec Ideal S2048x1024 .f32) (ix2 r x) = 0 := by
  pointwise [k0_pay273]
theorem pay274_apply (r : Fin 2048) (x : Fin 1024) : (k0_pay274 : FVec Ideal S2048x1024 .f32) (ix2 r x) = 0 := by
  pointwise [k0_pay274]

/-- A whole piece read back. -/
theorem read_whole {sig' : RefSig} {κ' : Kind} {sp' : Space} {N : Nat} {e : EltTy} (v : View sig' κ' sp' ⟨2, ![N, 1024]⟩ e) (f : v.ty.Contents (Elt Ideal)) (inb)
    (w : Vec Ideal ⟨2, ![N, 1024]⟩ e) (L : List (View.Piece (Elt Ideal) ⟨2, ![N, 1024]⟩ e)) (y : Fin N) (x : Fin 1024) :
    v.read (Elt Ideal) (v.writes (Elt Ideal) f (⟨Rect.unit (s := ⟨2, ![N, 1024]⟩) ![0, 0] ![N, 1024] inb, w⟩ :: L)) (ix2 y x) = w (ix2 y x) := by
  refine View.read_writes_cons_unit_of_mem v f inb w L (ix2 y x) (ix2 y x) rfl ?_
  intro a; fin_cases a <;> exact (Nat.zero_add _).symm

/-- The whole of an array loaded. -/
theorem readAt_whole {sig' : RefSig} {κ' : Kind} {sp' : Space} {N : Nat} {e : EltTy} (v : View sig' κ' sp' ⟨2, ![N, 1024]⟩ e) (f : v.ty.Contents (Elt Ideal)) (inb)
    (y : Fin N) (x : Fin 1024) :
    View.readAt (Elt Ideal) v (Rect.unit (s := ⟨2, ![N, 1024]⟩) ![0, 0] ![N, 1024] inb).toLoadRect f (ix2 y x) = v.read (Elt Ideal) f (ix2 y x) := by
  rw [View.readAt_apply]
  congr 1
  funext a
  refine Fin.ext ?_
  fin_cases a
  · show 0 + 1 * y.val = y.val
    omega
  · show 0 + 1 * x.val = x.val
    omega

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty)
  (HH : Fin 8 → Head)

/-- The loop's remainder has no trip. -/
theorem st2_eq (f10 : BufTy.Contents (Elt Ideal) arg10.view.ty) (f11 : BufTy.Contents (Elt Ideal) arg11.view.ty)
    (f12 : BufTy.Contents (Elt Ideal) arg12.view.ty) (init : Carry Ideal) :
    st2 c i arg2 harg2 arg3 harg3 arg4 harg4 arg5 harg5 arg6 harg6 arg7 harg7 arg8 harg8 arg9 harg9 arg10 harg10 arg11 harg11 arg12 harg12 X2 X3 X4 X5 X6 f10 f11 f12 init = (init, [], [], []) := by
  unfold st2
  rw [show Scf.trips (k0_t2_loop i).lb (k0_t2_loop i).ub (k0_t2_loop i).st = 0 from trips2_eq i, st_k0_t2.eq_1]

variable {arg2 arg3 arg4 arg5 arg6 X2 X3 X4 X5 X6 HH i} (V : Inputs i arg2 arg3 arg4 arg5 arg6 X2 X3 X4 X5 X6 HH)
include V

variable {arg10 arg11 arg12} in
theorem after_st1 (f10 : BufTy.Contents (Elt Ideal) arg10.view.ty) (f11 : BufTy.Contents (Elt Ideal) arg11.view.ty)
    (f12 : BufTy.Contents (Elt Ideal) arg12.view.ty) :
    After i arg10 arg11 arg12 HH f10 f11 f12 (128 * (i 1).val) (st1 c i arg2 harg2 arg3 harg3 arg4 harg4 arg5 harg5 arg6 harg6 arg7 harg7 arg8 harg8 arg9 harg9 arg10 harg10 arg11 harg11 arg12 harg12 X2 X3 X4 X5 X6 f10 f11 f12).1
      (st1 c i arg2 harg2 arg3 harg3 arg4 harg4 arg5 harg5 arg6 harg6 arg7 harg7 arg8 harg8 arg9 harg9 arg10 harg10 arg11 harg11 arg12 harg12 X2 X3 X4 X5 X6 f10 f11 f12).2.1 (st1 c i arg2 harg2 arg3 harg3 arg4 harg4 arg5 harg5 arg6 harg6 arg7 harg7 arg8 harg8 arg9 harg9 arg10 harg10 arg11 harg11 arg12 harg12 X2 X3 X4 X5 X6 f10 f11 f12).2.2.1 (st1 c i arg2 harg2 arg3 harg3 arg4 harg4 arg5 harg5 arg6 harg6 arg7 harg7 arg8 harg8 arg9 harg9 arg10 harg10 arg11 harg11 arg12 harg12 X2 X3 X4 X5 X6 f10 f11 f12).2.2.2 := by
  have e : 128 * (i 1).val = 128 * (k0_t1_loop i).trips := by rw [trips1_eq]
  rw [e]
  exact after_trips c harg2 harg3 harg4 harg5 harg6 arg7 harg7 arg8 harg8 arg9 harg9 harg10 harg11 harg12 V f10 f11 f12 carry0_zero _ (le_refl _)

section diag
variable {arg10 arg11 arg12} {x : Carry Ideal}
  (c0 : ∀ h (r : Fin 128), cr0 x h (ix2 r 0) = ((∑ s ∈ range (128 * (i 1).val), (HH h).L (128 * (i 1).val + r.val) s : ℝ) : EReal))
  (c1 : ∀ h (r : Fin 128), cr1 x h (ix2 r 0) = ((∑ s ∈ range (128 * (i 1).val), (HH h).D (128 * (i 1).val + r.val) s : ℝ) : EReal))

include c0 c1 in
theorem diag_holds (h : Fin 8) : Holds (HH h) (128 * (i 1).val) (128 * (i 1).val) keep (ldRow arg2 X2 h) (ldAt arg3 X3 (diagOff i) (diagOff_le i) h)
    (ldAt arg4 X4 (diagOff i) (diagOff_le i) h) (ldRow arg5 X5 h) (ldTot arg6 X6 h) (cr0 x h) (cr1 x h) := by
  have hi16 : (i 1).val < 16 := (i 1).isLt
  refine V.holds h (128 * (i 1).val) (by omega) _ (diagOff_le i) (diagOff_eq i) keep _ _ (c0 h) (c1 h) (fun y r c => ?_)
  rw [keep_apply]
  by_cases hc : c < r
  · rw [if_pos hc, if_pos (by have := Fin.lt_def.mp hc; omega)]
  · rw [if_neg hc, if_neg (by have := fun q => hc (Fin.lt_def.mpr q); omega)]

include c0 c1 in
/-- The rows of the query gradient after the diagonal block. -/
theorem diag_dq (F : BufTy.Contents (Elt Ideal) arg10.view.ty) (L : List (View.Piece (Elt Ideal) S128x1024 .f32)) (r : Fin 128) (h : Fin 8) (d : Fin 128)
    (hL : arg10.view.read (Elt Ideal) (arg10.view.writes (Elt Ideal) F L) (ix2 r (col h d))
      = ((∑ s ∈ range (128 * (i 1).val), (HH h).DZ (128 * (i 1).val + r.val) s * (HH h).k s d : ℝ) : EReal)) :
    arg10.view.read (Elt Ideal) (arg10.view.writes (Elt Ideal) F (adds arg10 F 0 (by omega) (diagDq i arg2 arg3 arg4 arg5 arg6 X2 X3 X4 X5 X6 x) L 8 (by omega))) (ix2 r (col h d))
      = ((HH h).dq (128 * (i 1).val + r.val) d : EReal) := by
  have hi16 : (i 1).val < 16 := (i 1).isLt
  refine (read_adds arg10 F 0 (by omega) _ L r h d).trans ?_
  rw [hL, dif_pos ⟨Nat.zero_le _, by omega⟩]
  have e : diagDq i arg2 arg3 arg4 arg5 arg6 X2 X3 X4 X5 X6 x h (ix2 r d) = ((∑ c : Fin 128, (HH h).DZ (128 * (i 1).val + r.val) (128 * (i 1).val + c.val) * (HH h).k (128 * (i 1).val + c.val) d : ℝ) : EReal) :=
    dqT_real (diag_holds V c0 c1 h) r d
  refine (congrArg _ e).trans ?_
  rw [← EReal.coe_add, ← sum_block, Head.dq, show 2048 = (128 * (i 1).val + 128) + (1920 - 128 * (i 1).val) by omega, sum_range_add (n := 128 * (i 1).val + 128)]
  rw [sum_eq_zero (s := range (1920 - 128 * (i 1).val)), add_zero]
  intro s _
  rw [(HH h).DZ_off (by omega), zero_mul]

/-- Rows of the key gradient from what the earlier blocks left. -/
theorem rows_all (s : Fin 2048) (f : ℕ → ℝ) (hf : ∀ r : Fin 128, ¬ s.val < 128 * (i 1).val + r.val → f r.val = 0) (T : EReal)
    (hT : 128 * (i 1).val ≤ s.val ∧ s.val < 128 * (i 1).val + 128 → T = ((∑ r : Fin 128, f r.val : ℝ) : EReal)) :
    (((if s.val < 128 * (i 1).val then ∑ r : Fin 128, f r.val else 0 : ℝ) : ℝ) : EReal) + (if 128 * (i 1).val ≤ s.val ∧ s.val < 128 * (i 1).val + 128 then T else 0)
      = ((∑ r : Fin 128, f r.val : ℝ) : EReal) := by
  rw [rows_block _ _ _ _ hT]
  split
  · rfl
  · rw [sum_eq_zero]
    intro r _
    exact hf r (by omega)

include c0 c1 in
/-- The key gradient after the diagonal block. -/
theorem diag_dk (F : BufTy.Contents (Elt Ideal) arg11.view.ty) (L : List (View.Piece (Elt Ideal) S2048x1024 .f32)) (s : Fin 2048) (h : Fin 8) (d : Fin 128) (B : EReal)
    (hL : arg11.view.read (Elt Ideal) (arg11.view.writes (Elt Ideal) F L) (ix2 s (col h d))
      = B + ((if s.val < 128 * (i 1).val then ∑ r : Fin 128, (HH h).DZ (128 * (i 1).val + r.val) s * (HH h).q (128 * (i 1).val + r.val) d else 0 : ℝ) : EReal)) :
    arg11.view.read (Elt Ideal) (arg11.view.writes (Elt Ideal) F (adds arg11 F (diagOff i) (diagOff_le i) (diagDk i arg2 arg3 arg4 arg5 arg6 X2 X3 X4 X5 X6 x) L 8 (by omega))) (ix2 s (col h d))
      = B + ((∑ r : Fin 128, (HH h).DZ (128 * (i 1).val + r.val) s * (HH h).q (128 * (i 1).val + r.val) d : ℝ) : EReal) := by
  have hr := diagOff_eq i
  refine (read_adds arg11 F (diagOff i) (diagOff_le i) _ L s h d).trans ?_
  rw [hL, add_assoc]
  congr 1
  refine Eq.trans ?_ (rows_all V s (fun r => (HH h).DZ (128 * (i 1).val + r) s * (HH h).q (128 * (i 1).val + r) d)
    (fun r hs => by rw [(HH h).DZ_off hs, zero_mul]) (if hs : 128 * (i 1).val ≤ s.val ∧ s.val < 128 * (i 1).val + 128 then diagDk i arg2 arg3 arg4 arg5 arg6 X2 X3 X4 X5 X6 x h (ix2 ⟨s.val - 128 * (i 1).val, by omega⟩ d) else 0) ?_)
  · congr 1
    by_cases hs : 128 * (i 1).val ≤ s.val ∧ s.val < 128 * (i 1).val + 128
    · rw [if_pos hs, dif_pos hs, dif_pos (by rw [hr]; exact hs)]
      congr 3
      rw [hr]
    · rw [if_neg hs, dif_neg (by rw [hr]; exact hs)]
  · intro hs
    rw [dif_pos hs]
    refine (dkT_real (diag_holds V c0 c1 h) _ d).trans ?_
    have e : 128 * (i 1).val + (s.val - 128 * (i 1).val) = s.val := by omega
    simp only [e]

include c0 c1 in
/-- The value gradient after the diagonal block. -/
theorem diag_dv (F : BufTy.Contents (Elt Ideal) arg12.view.ty) (L : List (View.Piece (Elt Ideal) S2048x1024 .f32)) (s : Fin 2048) (h : Fin 8) (d : Fin 128) (B : EReal)
    (hL : arg12.view.read (Elt Ideal) (arg12.view.writes (Elt Ideal) F L) (ix2 s (col h d))
      = B + ((if s.val < 128 * (i 1).val then ∑ r : Fin 128, (HH h).A (128 * (i 1).val + r.val) s * (HH h).g (128 * (i 1).val + r.val) d else 0 : ℝ) : EReal)) :
    arg12.view.read (Elt Ideal) (arg12.view.writes (Elt Ideal) F (adds arg12 F (diagOff i) (diagOff_le i) (diagDv i arg2 arg3 arg5 arg6 X2 X3 X5 X6 x) L 8 (by omega))) (ix2 s (col h d))
      = B + ((∑ r : Fin 128, (HH h).A (128 * (i 1).val + r.val) s * (HH h).g (128 * (i 1).val + r.val) d : ℝ) : EReal) := by
  have hr := diagOff_eq i
  refine (read_adds arg12 F (diagOff i) (diagOff_le i) _ L s h d).trans ?_
  rw [hL, add_assoc]
  congr 1
  refine Eq.trans ?_ (rows_all V s (fun r => (HH h).A (128 * (i 1).val + r) s * (HH h).g (128 * (i 1).val + r) d)
    (fun r hs => by rw [(HH h).A_off hs, zero_mul]) (if hs : 128 * (i 1).val ≤ s.val ∧ s.val < 128 * (i 1).val + 128 then diagDv i arg2 arg3 arg5 arg6 X2 X3 X5 X6 x h (ix2 ⟨s.val - 128 * (i 1).val, by omega⟩ d) else 0) ?_)
  · congr 1
    by_cases hs : 128 * (i 1).val ≤ s.val ∧ s.val < 128 * (i 1).val + 128
    · rw [if_pos hs, dif_pos hs, dif_pos (by rw [hr]; exact hs)]
      congr 3
      rw [hr]
    · rw [if_neg hs, dif_neg (by rw [hr]; exact hs)]
  · intro hs
    rw [dif_pos hs]
    refine (dvT_real (diag_holds V c0 c1 h) _ d).trans ?_
    have e : 128 * (i 1).val + (s.val - 128 * (i 1).val) = s.val := by omega
    simp only [e]

end diag

end Cert.KernelIdeal.Tile
-- ==== Proof.DiagA.lean ====
/- The pieces the kernel writes at the first grid point, in the functions of Tile.lean and Diag.lean. -/
module

public import proofs.«01_k».proof.Proof.Diag

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

local notation "M" => FVec F S128x128 FTy.f32
local notation "B" => FVec F S128x128 FTy.bf16
local notation "C1" => FVec F S128x1 FTy.f32

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (x0 : Vec F S128x1024 .bf16) (x1 : Vec F S2048x1024 .bf16) (x2 : Vec F S2048x1024 .bf16) (x3 : Vec F S128x1024 .bf16) (x4 : Vec F S1x128x8 .f32)

attribute [local irreducible] st_k0_t1 st_k0_t2 Scf.trips

set_option maxHeartbeats 4000000 in
theorem dq_A (hc0 : cond0_0 i) (hc1 : ¬cond0_1 i) : (kernelRun0_A (F := F) c i arg2 harg2 arg3 harg3 arg4 harg4 arg5 harg5 arg6 harg6 arg7 harg7 arg8 harg8 arg9 harg9 arg10 harg10 arg11 harg11 arg12 harg12 hc0 hc1 x0 x1 x2 x3 x4 ).1
    = [⟨Rect.unit (s := S128x1024) ![0, 0] ![128, 1024] inb_S128x1024_S128x1024_0_0, k0_pay1 (arg10.view.readCov (adds arg10 arg10.view.junk 0 (by omega) (diagDq i arg2 arg3 arg4 arg5 arg6 (harg2.unread x0) (harg3.unread x1) (harg4.unread x2) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.1 ++ zeroRow)) (arg11.view.writes (Elt F) arg11.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.1 ++ zeroK)) (arg12.view.writes (Elt F) arg12.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.2 ++ zeroV)) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.1 ++ zeroRow)) (arg11.view.writes (Elt F) arg11.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.1 ++ zeroK)) (arg12.view.writes (Elt F) arg12.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.2 ++ zeroV)) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).1).2.1 ++ ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.1 ++ zeroRow)) 8 (by omega)) (Rect.unit (s := S128x1024) ![0, 0] ![128, 1024] inb_S128x1024_S128x1024_0_0).toLoadRect)⟩] := rfl

set_option maxHeartbeats 4000000 in
theorem dk_A (hc0 : cond0_0 i) (hc1 : ¬cond0_1 i) : (kernelRun0_A (F := F) c i arg2 harg2 arg3 harg3 arg4 harg4 arg5 harg5 arg6 harg6 arg7 harg7 arg8 harg8 arg9 harg9 arg10 harg10 arg11 harg11 arg12 harg12 hc0 hc1 x0 x1 x2 x3 x4 ).2.2.2.1
    = (adds arg11 arg11.view.junk (diagOff i) (diagOff_le i) (diagDk i arg2 arg3 arg4 arg5 arg6 (harg2.unread x0) (harg3.unread x1) (harg4.unread x2) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.1 ++ zeroRow)) (arg11.view.writes (Elt F) arg11.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.1 ++ zeroK)) (arg12.view.writes (Elt F) arg12.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.2 ++ zeroV)) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.1 ++ zeroRow)) (arg11.view.writes (Elt F) arg11.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.1 ++ zeroK)) (arg12.view.writes (Elt F) arg12.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.2 ++ zeroV)) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).1).2.2.1 ++ ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.1 ++ zeroK)) 8 (by omega)) := rfl

set_option maxHeartbeats 4000000 in
theorem dv_A (hc0 : cond0_0 i) (hc1 : ¬cond0_1 i) : (kernelRun0_A (F := F) c i arg2 harg2 arg3 harg3 arg4 harg4 arg5 harg5 arg6 harg6 arg7 harg7 arg8 harg8 arg9 harg9 arg10 harg10 arg11 harg11 arg12 harg12 hc0 hc1 x0 x1 x2 x3 x4 ).2.2.2.2.1
    = (adds arg12 arg12.view.junk (diagOff i) (diagOff_le i) (diagDv i arg2 arg3 arg5 arg6 (harg2.unread x0) (harg3.unread x1) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.1 ++ zeroRow)) (arg11.view.writes (Elt F) arg11.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.1 ++ zeroK)) (arg12.view.writes (Elt F) arg12.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.2 ++ zeroV)) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.1 ++ zeroRow)) (arg11.view.writes (Elt F) arg11.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.1 ++ zeroK)) (arg12.view.writes (Elt F) arg12.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.2 ++ zeroV)) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).1).2.2.2 ++ ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (arg11.view.writes (Elt F) arg11.view.junk zeroK) (arg12.view.writes (Elt F) arg12.view.junk zeroV)).2.2.2 ++ zeroV)) 8 (by omega)) := rfl

end Cert.KernelIdeal.Tile
-- ==== Proof.DiagB.lean ====
/- The pieces the kernel writes at the grid points between, in the functions of Tile.lean and Diag.lean. -/
module

public import proofs.«01_k».proof.Proof.Diag

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

local notation "M" => FVec F S128x128 FTy.f32
local notation "B" => FVec F S128x128 FTy.bf16
local notation "C1" => FVec F S128x1 FTy.f32

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (x0 : Vec F S128x1024 .bf16) (x1 : Vec F S2048x1024 .bf16) (x2 : Vec F S2048x1024 .bf16) (x3 : Vec F S128x1024 .bf16) (x4 : Vec F S1x128x8 .f32)

attribute [local irreducible] st_k0_t1 st_k0_t2 Scf.trips

set_option maxHeartbeats 4000000 in
theorem dq_B (hc0 : ¬cond0_0 i) (hc1 : ¬cond0_1 i) (xs1 : Vec F S2048x1024 .f32) (xs2 : Vec F S2048x1024 .f32) : (kernelRun0_B (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).1
    = [⟨Rect.unit (s := S128x1024) ![0, 0] ![128, 1024] inb_S128x1024_S128x1024_0_0, k0_pay1 (arg10.view.readCov (adds arg10 arg10.view.junk 0 (by omega) (diagDq i arg2 arg3 arg4 arg5 arg6 (harg2.unread x0) (harg3.unread x1) (harg4.unread x2) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).2.1 ++ ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) 8 (by omega)) (Rect.unit (s := S128x1024) ![0, 0] ![128, 1024] inb_S128x1024_S128x1024_0_0).toLoadRect)⟩] := rfl

set_option maxHeartbeats 4000000 in
theorem dk_B (hc0 : ¬cond0_0 i) (hc1 : ¬cond0_1 i) (xs1 : Vec F S2048x1024 .f32) (xs2 : Vec F S2048x1024 .f32) : (kernelRun0_B (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.2.2.1
    = (adds arg11 (harg11.unread xs1) (diagOff i) (diagOff_le i) (diagDk i arg2 arg3 arg4 arg5 arg6 (harg2.unread x0) (harg3.unread x1) (harg4.unread x2) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).2.2.1 ++ (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) 8 (by omega)) := rfl

set_option maxHeartbeats 4000000 in
theorem dv_B (hc0 : ¬cond0_0 i) (hc1 : ¬cond0_1 i) (xs1 : Vec F S2048x1024 .f32) (xs2 : Vec F S2048x1024 .f32) : (kernelRun0_B (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.2.2.2.1
    = (adds arg12 (harg12.unread xs2) (diagOff i) (diagOff_le i) (diagDv i arg2 arg3 arg5 arg6 (harg2.unread x0) (harg3.unread x1) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).2.2.2 ++ (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) 8 (by omega)) := rfl

end Cert.KernelIdeal.Tile
-- ==== Proof.DiagC.lean ====
/- The pieces the kernel writes at the last grid point, in the functions of Tile.lean and Diag.lean. -/
module

public import proofs.«01_k».proof.Proof.Diag

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

local notation "M" => FVec F S128x128 FTy.f32
local notation "B" => FVec F S128x128 FTy.bf16
local notation "C1" => FVec F S128x1 FTy.f32

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (x0 : Vec F S128x1024 .bf16) (x1 : Vec F S2048x1024 .bf16) (x2 : Vec F S2048x1024 .bf16) (x3 : Vec F S128x1024 .bf16) (x4 : Vec F S1x128x8 .f32)

attribute [local irreducible] st_k0_t1 st_k0_t2 Scf.trips

set_option maxHeartbeats 4000000 in
theorem dq_C (hc0 : ¬cond0_0 i) (hc1 : cond0_1 i) (xs1 : Vec F S2048x1024 .f32) (xs2 : Vec F S2048x1024 .f32) : (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).1
    = [⟨Rect.unit (s := S128x1024) ![0, 0] ![128, 1024] inb_S128x1024_S128x1024_0_0, k0_pay1 (arg10.view.readCov (adds arg10 arg10.view.junk 0 (by omega) (diagDq i arg2 arg3 arg4 arg5 arg6 (harg2.unread x0) (harg3.unread x1) (harg4.unread x2) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).2.1 ++ ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) 8 (by omega)) (Rect.unit (s := S128x1024) ![0, 0] ![128, 1024] inb_S128x1024_S128x1024_0_0).toLoadRect)⟩] := rfl

set_option maxHeartbeats 4000000 in
theorem dk_C (hc0 : ¬cond0_0 i) (hc1 : cond0_1 i) (xs1 : Vec F S2048x1024 .f32) (xs2 : Vec F S2048x1024 .f32) : (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.2.2.1
    = (adds arg11 (harg11.unread xs1) (diagOff i) (diagOff_le i) (diagDk i arg2 arg3 arg4 arg5 arg6 (harg2.unread x0) (harg3.unread x1) (harg4.unread x2) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).2.2.1 ++ (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) 8 (by omega)) := rfl

set_option maxHeartbeats 4000000 in
theorem dv_C (hc0 : ¬cond0_0 i) (hc1 : cond0_1 i) (xs1 : Vec F S2048x1024 .f32) (xs2 : Vec F S2048x1024 .f32) : (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.2.2.2.1
    = (adds arg12 (harg12.unread xs2) (diagOff i) (diagOff_le i) (diagDv i arg2 arg3 arg5 arg6 (harg2.unread x0) (harg3.unread x1) (harg5.unread x3) (harg6.unread x4) (st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).1) ((st2 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk ((st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.1 ++ zeroRow)) (arg11.view.writes (Elt F) (harg11.unread xs1) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.1) (arg12.view.writes (Elt F) (harg12.unread xs2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).1).2.2.2 ++ (st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt F) arg10.view.junk zeroRow) (harg11.unread xs1) (harg12.unread xs2)).2.2.2) 8 (by omega)) := rfl

theorem dkOut_C (hc0 : ¬cond0_0 i) (hc1 : cond0_1 i) (xs1 : Vec F S2048x1024 .f32) (xs2 : Vec F S2048x1024 .f32) : (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.1
    = [⟨Rect.unit (s := S2048x1024) ![0, 0] ![2048, 1024] inb_S2048x1024_S2048x1024_0_0, k0_pay2 (View.readAt (Elt F) arg11.view (Rect.unit (s := S2048x1024) ![0, 0] ![2048, 1024] inb_S2048x1024_S2048x1024_0_0).toLoadRect (arg11.view.writes (Elt F) (harg11.unread xs1) (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.2.2.1))⟩] := rfl

theorem dvOut_C (hc0 : ¬cond0_0 i) (hc1 : cond0_1 i) (xs1 : Vec F S2048x1024 .f32) (xs2 : Vec F S2048x1024 .f32) : (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.2.1
    = [⟨Rect.unit (s := S2048x1024) ![0, 0] ![2048, 1024] inb_S2048x1024_S2048x1024_0_0, k0_pay3 (View.readAt (Elt F) arg12.view (Rect.unit (s := S2048x1024) ![0, 0] ![2048, 1024] inb_S2048x1024_S2048x1024_0_0).toLoadRect (arg12.view.writes (Elt F) (harg12.unread xs2) (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 xs1 xs2).2.2.2.2.1))⟩] := rfl

end Cert.KernelIdeal.Tile
-- ==== Proof.Cases.lean ====
/- What each grid point leaves in the outputs and in the carried gradients, over the reals. -/
module

public import proofs.«01_k».proof.Proof.Point
public import proofs.«01_k».proof.Proof.DiagA
public import proofs.«01_k».proof.Proof.DiagB
public import proofs.«01_k».proof.Proof.DiagC

@[expose] public section

set_option maxRecDepth 16384

noncomputable section

namespace Cert.KernelIdeal.Tile

open Idealize.ShloMosaic Idealize.ShloMosaic.TcCoe
open Cert.KernelIdeal Cert.KernelIdeal.Gen Cert.Model
open Finset

theorem pay1_apply (x : FVec Ideal S128x1024 .f32) (r : Fin 128) (y : Fin 1024) : (k0_pay1 (F := Ideal) x (ix2 r y) : EReal) = (x (ix2 r y) : EReal) := by
  pointwise [k0_pay1]
theorem pay2_apply (x : FVec Ideal S2048x1024 .f32) (r : Fin 2048) (y : Fin 1024) : (k0_pay2 (F := Ideal) x (ix2 r y) : EReal) = (x (ix2 r y) : EReal) := by
  pointwise [k0_pay2]
theorem pay3_apply (x : FVec Ideal S2048x1024 .f32) (r : Fin 2048) (y : Fin 1024) : (k0_pay3 (F := Ideal) x (ix2 r y) : EReal) = (x (ix2 r y) : EReal) := by
  pointwise [k0_pay3]

variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S128x1024 .bf16) (harg5 : arg5.IsWhole)
  (arg6 : Memref sig .tc .vmem S1x128x8 .f32) (harg6 : arg6.IsWhole)
  (arg7 : Memref sig .tc .vmem S128x1024 .bf16) (harg7 : arg7.IsWhole)
  (arg8 : Memref sig .tc .vmem S2048x1024 .bf16) (harg8 : arg8.IsWhole)
  (arg9 : Memref sig .tc .vmem S2048x1024 .bf16) (harg9 : arg9.IsWhole)
  (arg10 : Memref sig .tc .vmem S128x1024 .f32) (harg10 : arg10.IsWhole)
  (arg11 : Memref sig .tc .vmem S2048x1024 .f32) (harg11 : arg11.IsWhole)
  (arg12 : Memref sig .tc .vmem S2048x1024 .f32) (harg12 : arg12.IsWhole)
  (x0 : Vec Ideal S128x1024 .bf16) (x1 : Vec Ideal S2048x1024 .bf16) (x2 : Vec Ideal S2048x1024 .bf16) (x3 : Vec Ideal S128x1024 .bf16) (x4 : Vec Ideal S1x128x8 .f32)
  (HH : Fin 8 → Head)

attribute [local irreducible] st_k0_t1 st_k0_t2 Scf.trips

variable {arg2 harg2 arg3 harg3 arg4 harg4 arg5 harg5 arg6 harg6 x0 x1 x2 x3 x4 HH i}
  (V : Inputs i arg2 arg3 arg4 arg5 arg6 (harg2.unread x0) (harg3.unread x1) (harg4.unread x2) (harg5.unread x3) (harg6.unread x4) HH)

theorem row_zero (r : Fin 128) (h : Fin 8) (d : Fin 128) :
    arg10.view.read (Elt Ideal) (arg10.view.writes (Elt Ideal) arg10.view.junk zeroRow) (ix2 r (col h d)) = 0 :=
  (read_whole arg10.view _ _ _ [] r (col h d)).trans (pay275_apply r _)
theorem key_zero (s : Fin 2048) (h : Fin 8) (d : Fin 128) :
    arg11.view.read (Elt Ideal) (arg11.view.writes (Elt Ideal) arg11.view.junk zeroK) (ix2 s (col h d)) = 0 :=
  (read_whole arg11.view _ _ _ [] s (col h d)).trans (pay273_apply s _)
theorem value_zero (s : Fin 2048) (h : Fin 8) (d : Fin 128) :
    arg12.view.read (Elt Ideal) (arg12.view.writes (Elt Ideal) arg12.view.junk zeroV) (ix2 s (col h d)) = 0 :=
  (read_whole arg12.view _ _ _ [] s (col h d)).trans (pay274_apply s _)

include V

theorem out_A_5 (hc0 : cond0_0 i) (hc1 : ¬cond0_1 i) (r : Fin 128) (h : Fin 8) (d : Fin 128) :
    out0_A_5 c i arg2 harg2 arg3 harg3 arg4 harg4 arg5 harg5 arg6 harg6 arg7 harg7 arg8 harg8 arg9 harg9 arg10 harg10 arg11 harg11 arg12 harg12 hc0 hc1 x0 x1 x2 x3 x4 (ix2 r (col h d)) = ((HH h).dq (128 * (i 1).val + r.val) d : EReal) := by
  unfold out0_A_5
  rw [dq_A]
  refine (read_whole VO0_5 _ _ _ [] r (col h d)).trans ?_
  refine (pay1_apply _ r _).trans ?_
  refine (readAt_whole arg10.view _ _ r (col h d)).trans ?_
  have I := after_st1 c harg2 harg3 harg4 harg5 harg6 arg7 harg7 arg8 harg8 arg9 harg9 harg10 harg11 harg12 V (arg10.view.writes (Elt Ideal) arg10.view.junk zeroRow) (arg11.view.writes (Elt Ideal) arg11.view.junk zeroK) (arg12.view.writes (Elt Ideal) arg12.view.junk zeroV)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (arg11.view.writes (Elt Ideal) arg11.view.junk zeroK) (arg12.view.writes (Elt Ideal) arg12.view.junk zeroV) = S at I ⊢
  rw [st2_eq]
  refine diag_dq V I.c0 I.c1 _ _ r h d ?_
  rw [List.nil_append, View.writes_append, I.dq, row_zero arg10, zero_add]

theorem sout_A_1 (hc0 : cond0_0 i) (hc1 : ¬cond0_1 i) (s : Fin 2048) (h : Fin 8) (d : Fin 128) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 (ix2 s (col h d))
      = 0 + ((∑ r : Fin 128, (HH h).DZ (128 * (i 1).val + r.val) s * (HH h).q (128 * (i 1).val + r.val) d : ℝ) : EReal) := by
  have e := View.read_writes_of_cover VS0_1 VS0_1.junk arg11.view arg11.view.junk _ (scover0_A_1 c i arg2 harg2 arg3 harg3 arg4 harg4 arg5 harg5 arg6 harg6 arg7 harg7 arg8 harg8 arg9 harg9 arg10 harg10 arg11 harg11 arg12 harg12 hc0 hc1 x0 x1 x2 x3 x4)
  rw [sout0_A_1, e, dk_A]
  have I := after_st1 c harg2 harg3 harg4 harg5 harg6 arg7 harg7 arg8 harg8 arg9 harg9 harg10 harg11 harg12 V (arg10.view.writes (Elt Ideal) arg10.view.junk zeroRow) (arg11.view.writes (Elt Ideal) arg11.view.junk zeroK) (arg12.view.writes (Elt Ideal) arg12.view.junk zeroV)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (arg11.view.writes (Elt Ideal) arg11.view.junk zeroK) (arg12.view.writes (Elt Ideal) arg12.view.junk zeroV) = S at I ⊢
  rw [st2_eq]
  refine diag_dk V I.c0 I.c1 _ _ s h d _ ?_
  rw [List.nil_append, View.writes_append, I.dk, key_zero arg11]

theorem sout_A_2 (hc0 : cond0_0 i) (hc1 : ¬cond0_1 i) (s : Fin 2048) (h : Fin 8) (d : Fin 128) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 (ix2 s (col h d))
      = 0 + ((∑ r : Fin 128, (HH h).A (128 * (i 1).val + r.val) s * (HH h).g (128 * (i 1).val + r.val) d : ℝ) : EReal) := by
  have e := View.read_writes_of_cover VS0_2 VS0_2.junk arg12.view arg12.view.junk _ (scover0_A_2 c i arg2 harg2 arg3 harg3 arg4 harg4 arg5 harg5 arg6 harg6 arg7 harg7 arg8 harg8 arg9 harg9 arg10 harg10 arg11 harg11 arg12 harg12 hc0 hc1 x0 x1 x2 x3 x4)
  rw [sout0_A_2, e, dv_A]
  have I := after_st1 c harg2 harg3 harg4 harg5 harg6 arg7 harg7 arg8 harg8 arg9 harg9 harg10 harg11 harg12 V (arg10.view.writes (Elt Ideal) arg10.view.junk zeroRow) (arg11.view.writes (Elt Ideal) arg11.view.junk zeroK) (arg12.view.writes (Elt Ideal) arg12.view.junk zeroV)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (arg11.view.writes (Elt Ideal) arg11.view.junk zeroK) (arg12.view.writes (Elt Ideal) arg12.view.junk zeroV) = S at I ⊢
  rw [st2_eq]
  refine diag_dv V I.c0 I.c1 _ _ s h d _ ?_
  rw [List.nil_append, View.writes_append, I.dv, value_zero arg12]

theorem out_B_5 (hc0 : ¬cond0_0 i) (hc1 : ¬cond0_1 i) (xs1 : Vec Ideal S2048x1024 .f32) (xs2 : Vec Ideal S2048x1024 .f32) (r : Fin 128) (h : Fin 8) (d : Fin 128) :
    out0_B_5 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 r (col h d)) = ((HH h).dq (128 * (i 1).val + r.val) d : EReal) := by
  unfold out0_B_5
  rw [dq_B]
  refine (read_whole VO0_5 _ _ _ [] r (col h d)).trans ?_
  refine (pay1_apply _ r _).trans ?_
  refine (readAt_whole arg10.view _ _ r (col h d)).trans ?_
  have I := after_st1 c harg2 harg3 harg4 harg5 harg6 arg7 harg7 arg8 harg8 arg9 harg9 harg10 harg11 harg12 V (arg10.view.writes (Elt Ideal) arg10.view.junk zeroRow) (harg11.unread xs1) (harg12.unread xs2)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (harg11.unread xs1) (harg12.unread xs2) = S at I ⊢
  rw [st2_eq]
  refine diag_dq V I.c0 I.c1 _ _ r h d ?_
  rw [List.nil_append, View.writes_append, I.dq, row_zero arg10, zero_add]

theorem sout_B_1 (hc0 : ¬cond0_0 i) (hc1 : ¬cond0_1 i) (xs1 : Vec Ideal S2048x1024 .f32) (xs2 : Vec Ideal S2048x1024 .f32) (s : Fin 2048) (h : Fin 8) (d : Fin 128) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s (col h d))
      = xs1 (ix2 s (col h d)) + ((∑ r : Fin 128, (HH h).DZ (128 * (i 1).val + r.val) s * (HH h).q (128 * (i 1).val + r.val) d : ℝ) : EReal) := by
  unfold sout0_B_1
  rw [dk_B]
  have I := after_st1 c harg2 harg3 harg4 harg5 harg6 arg7 harg7 arg8 harg8 arg9 harg9 harg10 harg11 harg12 V (arg10.view.writes (Elt Ideal) arg10.view.junk zeroRow) (harg11.unread xs1) (harg12.unread xs2)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (harg11.unread xs1) (harg12.unread xs2) = S at I ⊢
  rw [st2_eq]
  refine diag_dk V I.c0 I.c1 _ _ s h d _ ?_
  rw [List.nil_append, I.dk, harg11.read_unread]

theorem sout_B_2 (hc0 : ¬cond0_0 i) (hc1 : ¬cond0_1 i) (xs1 : Vec Ideal S2048x1024 .f32) (xs2 : Vec Ideal S2048x1024 .f32) (s : Fin 2048) (h : Fin 8) (d : Fin 128) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s (col h d))
      = xs2 (ix2 s (col h d)) + ((∑ r : Fin 128, (HH h).A (128 * (i 1).val + r.val) s * (HH h).g (128 * (i 1).val + r.val) d : ℝ) : EReal) := by
  unfold sout0_B_2
  rw [dv_B]
  have I := after_st1 c harg2 harg3 harg4 harg5 harg6 arg7 harg7 arg8 harg8 arg9 harg9 harg10 harg11 harg12 V (arg10.view.writes (Elt Ideal) arg10.view.junk zeroRow) (harg11.unread xs1) (harg12.unread xs2)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (harg11.unread xs1) (harg12.unread xs2) = S at I ⊢
  rw [st2_eq]
  refine diag_dv V I.c0 I.c1 _ _ s h d _ ?_
  rw [List.nil_append, I.dv, harg12.read_unread]

theorem out_C_5 (hc0 : ¬cond0_0 i) (hc1 : cond0_1 i) (xs1 : Vec Ideal S2048x1024 .f32) (xs2 : Vec Ideal S2048x1024 .f32) (r : Fin 128) (h : Fin 8) (d : Fin 128) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 r (col h d)) = ((HH h).dq (128 * (i 1).val + r.val) d : EReal) := by
  unfold out0_C_5
  rw [dq_C]
  refine (read_whole VO0_5 _ _ _ [] r (col h d)).trans ?_
  refine (pay1_apply _ r _).trans ?_
  refine (readAt_whole arg10.view _ _ r (col h d)).trans ?_
  have I := after_st1 c harg2 harg3 harg4 harg5 harg6 arg7 harg7 arg8 harg8 arg9 harg9 harg10 harg11 harg12 V (arg10.view.writes (Elt Ideal) arg10.view.junk zeroRow) (harg11.unread xs1) (harg12.unread xs2)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (harg11.unread xs1) (harg12.unread xs2) = S at I ⊢
  rw [st2_eq]
  refine diag_dq V I.c0 I.c1 _ _ r h d ?_
  rw [List.nil_append, View.writes_append, I.dq, row_zero arg10, zero_add]

theorem sout_C_1 (hc0 : ¬cond0_0 i) (hc1 : cond0_1 i) (xs1 : Vec Ideal S2048x1024 .f32) (xs2 : Vec Ideal S2048x1024 .f32) (s : Fin 2048) (h : Fin 8) (d : Fin 128) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s (col h d))
      = xs1 (ix2 s (col h d)) + ((∑ r : Fin 128, (HH h).DZ (128 * (i 1).val + r.val) s * (HH h).q (128 * (i 1).val + r.val) d : ℝ) : EReal) := by
  unfold sout0_C_1
  rw [dk_C]
  have I := after_st1 c harg2 harg3 harg4 harg5 harg6 arg7 harg7 arg8 harg8 arg9 harg9 harg10 harg11 harg12 V (arg10.view.writes (Elt Ideal) arg10.view.junk zeroRow) (harg11.unread xs1) (harg12.unread xs2)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (harg11.unread xs1) (harg12.unread xs2) = S at I ⊢
  rw [st2_eq]
  refine diag_dk V I.c0 I.c1 _ _ s h d _ ?_
  rw [List.nil_append, I.dk, harg11.read_unread]

theorem sout_C_2 (hc0 : ¬cond0_0 i) (hc1 : cond0_1 i) (xs1 : Vec Ideal S2048x1024 .f32) (xs2 : Vec Ideal S2048x1024 .f32) (s : Fin 2048) (h : Fin 8) (d : Fin 128) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s (col h d))
      = xs2 (ix2 s (col h d)) + ((∑ r : Fin 128, (HH h).A (128 * (i 1).val + r.val) s * (HH h).g (128 * (i 1).val + r.val) d : ℝ) : EReal) := by
  unfold sout0_C_2
  rw [dv_C]
  have I := after_st1 c harg2 harg3 harg4 harg5 harg6 arg7 harg7 arg8 harg8 arg9 harg9 harg10 harg11 harg12 V (arg10.view.writes (Elt Ideal) arg10.view.junk zeroRow) (harg11.unread xs1) (harg12.unread xs2)
  generalize st1 c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg10.view.writes (Elt Ideal) arg10.view.junk zeroRow) (harg11.unread xs1) (harg12.unread xs2) = S at I ⊢
  rw [st2_eq]
  refine diag_dv V I.c0 I.c1 _ _ s h d _ ?_
  rw [List.nil_append, I.dv, harg12.read_unread]

omit V in
theorem out_C_6 (hc0 : ¬cond0_0 i) (hc1 : cond0_1 i) (xs1 : Vec Ideal S2048x1024 .f32) (xs2 : Vec Ideal S2048x1024 .f32) (s : Fin 2048) (y : Fin 1024) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s y) = sout0_C_1 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s y) := by
  unfold out0_C_6
  rw [dkOut_C]
  refine (read_whole VO0_6 _ _ _ [] s y).trans ?_
  refine (pay2_apply _ s _).trans ?_
  exact readAt_whole arg11.view _ _ s y

omit V in
theorem out_C_7 (hc0 : ¬cond0_0 i) (hc1 : cond0_1 i) (xs1 : Vec Ideal S2048x1024 .f32) (xs2 : Vec Ideal S2048x1024 .f32) (s : Fin 2048) (y : Fin 1024) :
    out0_C_7 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s y) = sout0_C_2 c i arg2 harg2 arg3 harg3 arg4 harg4 arg5 harg5 arg6 harg6 arg7 harg7 arg8 harg8 arg9 harg9 arg10 harg10 arg11 harg11 arg12 harg12 hc0 hc1 x0 x1 x2 x3 x4 xs1 xs2 (ix2 s y) := by
  unfold out0_C_7
  rw [dvOut_C]
  refine (read_whole VO0_7 _ _ _ [] s y).trans ?_
  refine (pay3_apply _ s _).trans ?_
  exact readAt_whole arg12.view _ _ s y

end Cert.KernelIdeal.Tile
-- ==== Proof.Fold.lean ====
/- The carried gradients over the sixteen grid points: after point `n` they hold the sums over the first `128 (n + 1)`
   queries, and each point writes its own queries' gradients. -/
module

public import proofs.«01_k».proof.Proof.Cases
public import proofs.«01_k».proof.Proof.Gen.KernelIdeal.Value

@[expose] public section

set_option maxRecDepth 16384

noncomputable section

namespace Cert.KernelIdeal.Tile

open Idealize.ShloMosaic Idealize.ShloMosaic.TcCoe
open Cert.KernelIdeal Cert.KernelIdeal.Gen Cert.KernelIdeal.Value Cert.Model
open Finset

/-- The second coordinate of the grid is the point's number. -/
theorem coord_eq (t : Fin cfg0.N) : ((grid0.coords t) 1).val = t.val :=
  (by decide +kernel : ∀ t : Fin grid0.N, ((grid0.coords t) 1).val = t.val) t

theorem sum_range_succ_block (n : ℕ) (f : ℕ → ℝ) :
    ∑ t ∈ range (128 * (n + 1)), f t = ∑ t ∈ range (128 * n), f t + ∑ r : Fin 128, f (128 * n + r.val) := by
  rw [show 128 * (n + 1) = 128 * n + 128 from by ring, sum_range_add, Fin.sum_univ_eq_sum_range (fun r => f (128 * n + r)) 128]

variable (m : (ℓ : Loc nD τ sig) → Buf (Elt Ideal) ℓ) (c : Dev nD) (HH : Fin 8 → Head)

/-- Every point's blocks hold the heads' tables. -/
abbrev AllInputs : Prop := ∀ t : Fin cfg0.N,
  Inputs (grid0.coords t) (ms0_0 t) (ms0_1 t) (ms0_2 t) (ms0_3 t) (ms0_4 t) ((hs0_0 t).unread (iblk m c 0 t))
    ((hs0_1 t).unread (iblk m c 1 t)) ((hs0_2 t).unread (iblk m c 2 t)) ((hs0_3 t).unread (iblk m c 3 t))
    ((hs0_4 t).unread (iblk m c 4 t)) HH

attribute [local irreducible] out0_A_5 out0_B_5 out0_C_5 out0_C_6 out0_C_7 sout0_A_1 sout0_B_1 sout0_C_1 sout0_A_2 sout0_B_2 sout0_C_2 stAt0 outsAt0

variable {m c HH} (V : AllInputs m c HH)
include V

theorem point_dq (t : Fin cfg0.N) acc (r : Fin 128) (h : Fin 8) (d : Fin 128) :
    (stAt0 m c t.val t.isLt acc).1 (ix2 r (col h d)) = ((HH h).dq (128 * t.val + r.val) d : EReal) := by
  by_cases h0 : t.val % 16 = 0
  · have h1 : ¬ t.val % 16 = 15 := by omega
    rw [stAt0_A m c t acc h0 h1]
    have e := out_A_5 c (ms0_5 t) (hs0_5 t) (ms0_6 t) (hs0_6 t) (ms0_7 t) (hs0_7 t) scM0_0 (Memref.isWhole_whole _) scM0_1 (Memref.isWhole_whole _) scM0_2 (Memref.isWhole_whole _) (V t) ((hcond0_0 t).mpr h0) (fun h => h1 ((hcond0_1 t).mp h)) r h d
    rw [coord_eq t] at e
    exact e
  · by_cases h1 : t.val % 16 = 15
    · rw [stAt0_C m c t acc h0 h1]
      have e := out_C_5 c (ms0_5 t) (hs0_5 t) (ms0_6 t) (hs0_6 t) (ms0_7 t) (hs0_7 t) scM0_0 (Memref.isWhole_whole _) scM0_1 (Memref.isWhole_whole _) scM0_2 (Memref.isWhole_whole _) (V t) (fun h => h0 ((hcond0_0 t).mp h)) ((hcond0_1 t).mpr h1) acc.2.2.2.1 acc.2.2.2.2 r h d
      rw [coord_eq t] at e
      exact e
    · rw [stAt0_B m c t acc h0 h1]
      have e := out_B_5 c (ms0_5 t) (hs0_5 t) (ms0_6 t) (hs0_6 t) (ms0_7 t) (hs0_7 t) scM0_0 (Memref.isWhole_whole _) scM0_1 (Memref.isWhole_whole _) scM0_2 (Memref.isWhole_whole _) (V t) (fun h => h0 ((hcond0_0 t).mp h)) (fun h => h1 ((hcond0_1 t).mp h)) acc.2.2.2.1 acc.2.2.2.2 r h d
      rw [coord_eq t] at e
      exact e

theorem point_dk_first (t : Fin cfg0.N) acc (h0 : t.val % 16 = 0) (s : Fin 2048) (h : Fin 8) (d : Fin 128) :
    (stAt0 m c t.val t.isLt acc).2.2.2.1 (ix2 s (col h d))
      = 0 + ((∑ r : Fin 128, (HH h).DZ (128 * t.val + r.val) s * (HH h).q (128 * t.val + r.val) d : ℝ) : EReal) := by
  have h1 : ¬ t.val % 16 = 15 := by omega
  rw [stAt0_A m c t acc h0 h1]
  have e := sout_A_1 c (ms0_5 t) (hs0_5 t) (ms0_6 t) (hs0_6 t) (ms0_7 t) (hs0_7 t) scM0_0 (Memref.isWhole_whole _) scM0_1 (Memref.isWhole_whole _) scM0_2 (Memref.isWhole_whole _) (V t) ((hcond0_0 t).mpr h0) (fun h => h1 ((hcond0_1 t).mp h)) s h d
  rw [coord_eq t] at e
  exact e

theorem point_dk_next (t : Fin cfg0.N) acc (h0 : ¬ t.val % 16 = 0) (s : Fin 2048) (h : Fin 8) (d : Fin 128) :
    (stAt0 m c t.val t.isLt acc).2.2.2.1 (ix2 s (col h d))
      = acc.2.2.2.1 (ix2 s (col h d)) + ((∑ r : Fin 128, (HH h).DZ (128 * t.val + r.val) s * (HH h).q (128 * t.val + r.val) d : ℝ) : EReal) := by
  by_cases h1 : t.val % 16 = 15
  · rw [stAt0_C m c t acc h0 h1]
    have e := sout_C_1 c (ms0_5 t) (hs0_5 t) (ms0_6 t) (hs0_6 t) (ms0_7 t) (hs0_7 t) scM0_0 (Memref.isWhole_whole _) scM0_1 (Memref.isWhole_whole _) scM0_2 (Memref.isWhole_whole _) (V t) (fun h => h0 ((hcond0_0 t).mp h)) ((hcond0_1 t).mpr h1) acc.2.2.2.1 acc.2.2.2.2 s h d
    rw [coord_eq t] at e
    exact e
  · rw [stAt0_B m c t acc h0 h1]
    have e := sout_B_1 c (ms0_5 t) (hs0_5 t) (ms0_6 t) (hs0_6 t) (ms0_7 t) (hs0_7 t) scM0_0 (Memref.isWhole_whole _) scM0_1 (Memref.isWhole_whole _) scM0_2 (Memref.isWhole_whole _) (V t) (fun h => h0 ((hcond0_0 t).mp h)) (fun h => h1 ((hcond0_1 t).mp h)) acc.2.2.2.1 acc.2.2.2.2 s h d
    rw [coord_eq t] at e
    exact e

/-- What is carried after point `n`. -/
theorem carried_dk : ∀ (n : ℕ) (hn : n < cfg0.N) (s : Fin 2048) (h : Fin 8) (d : Fin 128),
    (outsAt0 m c n hn).2.2.2.1 (ix2 s (col h d))
      = ((∑ t ∈ range (128 * (n + 1)), (HH h).DZ t s * (HH h).q t d : ℝ) : EReal)
  | 0, hn, s, h, d => by
    rw [outsAt0_zero m c hn]
    refine (point_dk_first V ⟨0, hn⟩ _ rfl s h d).trans ?_
    rw [zero_add, sum_range_succ_block 0]
    simp
  | n + 1, hn, s, h, d => by
    have hN := lt_of_lt_of_eq hn (show cfg0.N = 16 from N_0)
    rw [outsAt0_succ m c n hn]
    refine (point_dk_next V ⟨n + 1, hn⟩ _ (by show ¬ (n + 1) % 16 = 0; omega) s h d).trans ?_
    rw [carried_dk n _ s h d, ← EReal.coe_add, sum_range_succ_block (n + 1)]

theorem point_dv_first (t : Fin cfg0.N) acc (h0 : t.val % 16 = 0) (s : Fin 2048) (h : Fin 8) (d : Fin 128) :
    (stAt0 m c t.val t.isLt acc).2.2.2.2 (ix2 s (col h d))
      = 0 + ((∑ r : Fin 128, (HH h).A (128 * t.val + r.val) s * (HH h).g (128 * t.val + r.val) d : ℝ) : EReal) := by
  have h1 : ¬ t.val % 16 = 15 := by omega
  rw [stAt0_A m c t acc h0 h1]
  have e := sout_A_2 c (ms0_5 t) (hs0_5 t) (ms0_6 t) (hs0_6 t) (ms0_7 t) (hs0_7 t) scM0_0 (Memref.isWhole_whole _) scM0_1 (Memref.isWhole_whole _) scM0_2 (Memref.isWhole_whole _) (V t) ((hcond0_0 t).mpr h0) (fun h => h1 ((hcond0_1 t).mp h)) s h d
  rw [coord_eq t] at e
  exact e

theorem point_dv_next (t : Fin cfg0.N) acc (h0 : ¬ t.val % 16 = 0) (s : Fin 2048) (h : Fin 8) (d : Fin 128) :
    (stAt0 m c t.val t.isLt acc).2.2.2.2 (ix2 s (col h d))
      = acc.2.2.2.2 (ix2 s (col h d)) + ((∑ r : Fin 128, (HH h).A (128 * t.val + r.val) s * (HH h).g (128 * t.val + r.val) d : ℝ) : EReal) := by
  by_cases h1 : t.val % 16 = 15
  · rw [stAt0_C m c t acc h0 h1]
    have e := sout_C_2 c (ms0_5 t) (hs0_5 t) (ms0_6 t) (hs0_6 t) (ms0_7 t) (hs0_7 t) scM0_0 (Memref.isWhole_whole _) scM0_1 (Memref.isWhole_whole _) scM0_2 (Memref.isWhole_whole _) (V t) (fun h => h0 ((hcond0_0 t).mp h)) ((hcond0_1 t).mpr h1) acc.2.2.2.1 acc.2.2.2.2 s h d
    rw [coord_eq t] at e
    exact e
  · rw [stAt0_B m c t acc h0 h1]
    have e := sout_B_2 c (ms0_5 t) (hs0_5 t) (ms0_6 t) (hs0_6 t) (ms0_7 t) (hs0_7 t) scM0_0 (Memref.isWhole_whole _) scM0_1 (Memref.isWhole_whole _) scM0_2 (Memref.isWhole_whole _) (V t) (fun h => h0 ((hcond0_0 t).mp h)) (fun h => h1 ((hcond0_1 t).mp h)) acc.2.2.2.1 acc.2.2.2.2 s h d
    rw [coord_eq t] at e
    exact e

/-- What is carried after point `n`. -/
theorem carried_dv : ∀ (n : ℕ) (hn : n < cfg0.N) (s : Fin 2048) (h : Fin 8) (d : Fin 128),
    (outsAt0 m c n hn).2.2.2.2 (ix2 s (col h d))
      = ((∑ t ∈ range (128 * (n + 1)), (HH h).A t s * (HH h).g t d : ℝ) : EReal)
  | 0, hn, s, h, d => by
    rw [outsAt0_zero m c hn]
    refine (point_dv_first V ⟨0, hn⟩ _ rfl s h d).trans ?_
    rw [zero_add, sum_range_succ_block 0]
    simp
  | n + 1, hn, s, h, d => by
    have hN := lt_of_lt_of_eq hn (show cfg0.N = 16 from N_0)
    rw [outsAt0_succ m c n hn]
    refine (point_dv_next V ⟨n + 1, hn⟩ _ (by show ¬ (n + 1) % 16 = 0; omega) s h d).trans ?_
    rw [carried_dv n _ s h d, ← EReal.coe_add, sum_range_succ_block (n + 1)]

omit V in
/-- The last point writes the carried gradients out. -/
theorem point_out (t : Fin cfg0.N) acc (h1 : t.val % 16 = 15) (s : Fin 2048) (y : Fin 1024) :
    (stAt0 m c t.val t.isLt acc).2.1 (ix2 s y) = (stAt0 m c t.val t.isLt acc).2.2.2.1 (ix2 s y)
    ∧ (stAt0 m c t.val t.isLt acc).2.2.1 (ix2 s y) = (stAt0 m c t.val t.isLt acc).2.2.2.2 (ix2 s y) := by
  have h0 : ¬ t.val % 16 = 0 := by omega
  rw [stAt0_C m c t acc h0 h1]
  dsimp only
  exact ⟨out_C_6 c (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) acc.2.2.2.1 acc.2.2.2.2 s y,
    out_C_7 c (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) acc.2.2.2.1 acc.2.2.2.2 s y⟩

/-- The array of the queries' gradients. -/
theorem result_dq (t : Fin 2048) (h : Fin 8) (d : Fin 128) : G5 m c (ix2 t (col h d)) = ((HH h).dq t d : EReal) := by
  have ht := t.isLt
  have hN : cfg0.N = 16 := N_0
  have hc : (col h d).val < 1024 := (col h d).isLt
  have hp : pt5Of (ix2 t (col h d)) = t.val / 128 := by
    show 1 * (t.val / 128 - 0) + 1 * ((col h d).val / 1024 - 0) = _
    omega
  have hl : loc5Of (ix2 t (col h d)) = ix2 ⟨t.val % 128, Nat.mod_lt _ (by decide)⟩ (col h d) := by
    funext a; apply Fin.ext
    match a with
    | ⟨0, _⟩ => rfl
    | ⟨1, _⟩ => show (col h d).val % 1024 = (col h d).val; omega
  unfold G5
  rw [dif_pos (by rw [hp, hN]; omega), hl, fold0_congr m c _ _ (t.val / 128) (by rw [hN]; omega) hp, ← outsAt0_sweep m c (t.val / 128) (by rw [hN]; omega)]
  have key : ∀ n (hn : n < cfg0.N) (r : Fin 128), (outsAt0 m c n hn).1 (ix2 r (col h d)) = ((HH h).dq (128 * n + r.val) d : EReal) := by
    intro n hn r
    match n, hn with
    | 0, hn => rw [outsAt0_zero m c hn]; exact point_dq V ⟨0, hn⟩ _ r h d
    | n + 1, hn => rw [outsAt0_succ m c n hn]; exact point_dq V ⟨n + 1, hn⟩ _ r h d
  rw [key]
  show ((HH h).dq (128 * (t.val / 128) + t.val % 128) d : EReal) = _
  rw [Nat.div_add_mod]

theorem result_dk (s : Fin 2048) (h : Fin 8) (d : Fin 128) : G6 m c (ix2 s (col h d)) = ((HH h).dk s d : EReal) := by
  have hN : (15 : ℕ) < cfg0.N := lt_of_lt_of_eq (by decide) N_0.symm
  rw [G6_last, ← outsAt0_sweep m c 15 hN]
  refine Eq.trans ?_ (carried_dk V 15 hN s h d)
  have e : outsAt0 m c 15 hN = stAt0 m c 15 hN (outsAt0 m c 14 (Nat.lt_of_succ_lt hN)) := outsAt0_succ m c 14 hN
  rw [e]
  exact (point_out ⟨15, hN⟩ (outsAt0 m c 14 (Nat.lt_of_succ_lt hN)) rfl s (col h d)).1

theorem result_dv (s : Fin 2048) (h : Fin 8) (d : Fin 128) : G7 m c (ix2 s (col h d)) = ((HH h).dv s d : EReal) := by
  have hN : (15 : ℕ) < cfg0.N := lt_of_lt_of_eq (by decide) N_0.symm
  rw [G7_last, ← outsAt0_sweep m c 15 hN]
  refine Eq.trans ?_ (carried_dv V 15 hN s h d)
  have e : outsAt0 m c 15 hN = stAt0 m c 15 hN (outsAt0 m c 14 (Nat.lt_of_succ_lt hN)) := outsAt0_succ m c 14 hN
  rw [e]
  exact (point_out ⟨15, hN⟩ (outsAt0 m c 14 (Nat.lt_of_succ_lt hN)) rfl s (col h d)).2

end Cert.KernelIdeal.Tile
-- ==== Proof.Host.lean ====
/- What the host computes before the launch: the sum over the keys of the logarithms of one minus the sigmoid. -/
module

public import proofs.«01_k».proof.Proof.Fold
public import Idealize.ShloMosaic.Lib.StableHlo.RunRead
public import Idealize.ShloMosaic.Lib.StableHlo.ReadAt

@[expose] public section

set_option maxRecDepth 16384

noncomputable section

namespace Cert.KernelIdeal.Tile

open Idealize.ShloMosaic Idealize.ShloMosaic.TcCoe Idealize.ShloMosaic.StableHlo
open Cert.KernelIdeal Cert.KernelIdeal.Gen Cert.KernelIdeal.Value Cert.Model
open Facts
open Finset

abbrev P := FVec Ideal S2048x6144 .bf16
abbrev C3 := FVec Ideal S8x2048x2048 .f32

/-- The scores. -/
def hostZ (p : P) : C3 :=
  mulf (Host.dotGeneral dot_S2048x8x128_S2048x8x128_S8x2048x2048_2_2_0_0_1_1 none
      (shapeCast S2048x8x128 (extf .f32 (extractStridedSlice S2048x1024 ![0, 0] p slices_S2048x6144_S2048x1024_0_0) bitsLt_bf16_f32) shapeCasts_S2048x1024_S2048x8x128 : FVec Ideal S2048x8x128 .f32)
      (shapeCast S2048x8x128 (extf .f32 (extractStridedSlice S2048x1024 ![0, 1024] p slices_S2048x6144_S2048x1024_0_1024) bitsLt_bf16_f32) shapeCasts_S2048x1024_S2048x8x128 : FVec Ideal S2048x8x128 .f32))
    (broadcastInDim S8x2048x2048 ![] bcast_S_S8x2048x2048 (Host.rsqrt (constant S_ .f32 0x43000000#32 : FVec Ideal S_ .f32)))

def zero3 : C3 := broadcastInDim S8x2048x2048 ![] bcast_S_S8x2048x2048 (constant S_ .f32 0x00000000#32 : FVec Ideal S_ .f32)

/-- `log_sigmoid x`, of `x` and of `-x`. -/
def hostLogSig (x : C3) : C3 :=
  Host.negf (select (cmpf .une (subf (Host.negf x) zero3) (subf (Host.negf x) zero3)) (addf (Host.negf x) zero3)
    (addf (maximumf (Host.negf x) zero3) (Host.log1p (Host.exp (Host.negf (Host.absf (subf (Host.negf x) zero3)))))))

def hostMask : IVec S8x2048x2048 1 :=
  broadcastInDim S8x2048x2048 ![0, 1, 2] bcast_S1x2048x2048_S8x2048x2048_0_1_2
    (broadcastInDim S1x2048x2048 ![1, 2] bcast_S2048x2048_S1x2048x2048_1_2 (cmpi .slt (iotaInDim S2048x2048 32 1) (iotaInDim S2048x2048 32 0)))

def hostL (p : P) : C3 := select hostMask (hostLogSig (Host.negf (hostZ p))) zero3

def hostTot (p : P) : FVec Ideal S1x2048x8 .f32 :=
  broadcastInDim S1x2048x8 ![1, 2] bcast_S2048x8_S1x2048x8_1_2
    (transpose S2048x8 [1, 0] (Host.reduceAdd (hostL p) (constant S_ .f32 0x00000000#32 : FVec Ideal S_ .f32) reducesTo_S8x2048x2048_S8x2048_d2 h_S_) transposes_S8x2048_S2048x8_1_0)

variable (m : (ℓ : Loc nD τ sig) → Buf (Elt Ideal) ℓ) (c : Dev nD)

theorem V_tot : V m c main_v19 = hostTot (m ((c : Thread nD τ).loc main_arg0)) := by
  unfold V
  simp only [List.flatten_cons, List.flatten_nil, List.append_nil, List.cons_append, List.nil_append]
  after_reads_simp
  simp -implicitDefEqProofs only [StableHlo.TRef.toBuf, StableHlo.TRef.ofBuf, cast_eq]
  rfl

end Cert.KernelIdeal.Tile
-- ==== Proof.Window.lean ====
/- The host's running sums along the last axis, over the extended reals. -/
module

public import proofs.«01_k».proof.Proof.Gen.ReferenceIdeal.Read
public import proofs.«01_k».proof.Proof.Model
public import Idealize.ShloMosaic.Lib.Pointwise

@[expose] public section

noncomputable section

namespace Cert.ReferenceIdeal.Meet

open Idealize.ShloMosaic Idealize.ShloMosaic.TcCoe
open Cert.ReferenceIdeal Cert.ReferenceIdeal.Gen Cert.ReferenceIdeal.Read
open Finset

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

theorem foldl_add {β : Type*} (l : List β) (g : β → EReal) (v : EReal) : l.foldl (fun r n => r + g n) v = v + (l.map g).sum := by
  induction l generalizing v with
  | nil => simp
  | cons a l ih => rw [List.foldl_cons, ih, List.map_cons, List.sum_cons, add_assoc]

/-- A window of the whole last axis, padded low by `lo`. -/
theorem window_sum (lo hi : ℕ) (x : S8x2048x2048.Idx → EReal)
    (hw : S8x2048x2048.ReduceWindows (![1, 1, 2048] : Fin 3 → ℕ) ![1, 1, 1] ![0, 0, lo] ![0, 0, hi] S8x2048x2048)
    (a : Fin 8) (b c : Fin 2048) :
    Ideal.hostReduceWindowAdd (s := S8x2048x2048) ![1, 1, 2048] ![1, 1, 1] ![0, 0, lo] ![0, 0, hi] hw x 0 (ix3 a b c)
      = ∑ n : Fin 2048, if hn : lo ≤ c.val + n.val ∧ c.val + n.val - lo < 2048 then x (ix3 a b ⟨c.val + n.val - lo, hn.2⟩) else 0 := by
  unfold Ideal.hostReduceWindowAdd Host.reduceWindow
  dsimp only
  rw [foldl_add, zero_add, ← Fin.sum_univ_def]
  have e := Equiv.sum_comp (⟨3, ![1, 1, 2048]⟩ : Shape).rowMajor.symm (fun w : (⟨3, ![1, 1, 2048]⟩ : Shape).Idx =>
    if hin : ∀ d : Fin 3, (![0, 0, lo] : Fin 3 → ℕ) d ≤ ((ix3 a b c : S8x2048x2048.Idx) d).val * (![1, 1, 1] : Fin 3 → ℕ) d + (w d).val
        ∧ ((ix3 a b c : S8x2048x2048.Idx) d).val * (![1, 1, 1] : Fin 3 → ℕ) d + (w d).val - (![0, 0, lo] : Fin 3 → ℕ) d < S8x2048x2048.size d
      then x (fun d => ⟨_, (hin d).2⟩) else 0)
  have key : ∀ (p : Prop) (i1 i2 : Decidable p) (t : p → EReal) (e : ¬p → EReal), @dite _ p i1 t e = @dite _ p i2 t e := by
    intro p i1 i2 t e
    rw [Subsingleton.elim i1 i2]
  refine Eq.trans (sum_congr rfl fun i _ => ?_) (e.trans ?_)
  · exact key _ _ _ _ _
  rw [sum_idx3]
  rw [Fin.sum_univ_one, Fin.sum_univ_one]
  refine sum_congr rfl fun n _ => ?_
  by_cases hn : lo ≤ c.val + n.val ∧ c.val + n.val - lo < 2048
  · rw [dif_pos hn, dif_pos]
    · refine congrArg x (funext fun d => Fin.ext ?_)
      match d with
      | ⟨0, _⟩ => show a.val * 1 + 0 - 0 = a.val; omega
      | ⟨1, _⟩ => show b.val * 1 + 0 - 0 = b.val; omega
      | ⟨2, _⟩ => show c.val * 1 + n.val - lo = c.val + n.val - lo; omega
    · intro d
      match d with
      | ⟨0, _⟩ => exact ⟨Nat.zero_le _, by show a.val * 1 + 0 - 0 < 8; omega⟩
      | ⟨1, _⟩ => exact ⟨Nat.zero_le _, by show b.val * 1 + 0 - 0 < 2048; omega⟩
      | ⟨2, _⟩ => exact ⟨by show lo ≤ c.val * 1 + n.val; omega, by show c.val * 1 + n.val - lo < 2048; omega⟩
  · rw [dif_neg hn, dif_neg]
    intro hin
    have h2 := hin 2
    apply hn
    have h3 : lo ≤ c.val * 1 + n.val ∧ c.val * 1 + n.val - lo < 2048 := h2
    omega

/-- The running sum from the end. -/
theorem rev_real (x : FVec Ideal S8x2048x2048 .f32) (init : FVec Ideal S_ .f32) (hinit : ∀ i, init i = 0) (hw) (hu) (a : Fin 8) (b c : Fin 2048)
    (f : ℕ → ℝ) (hx : ∀ s : Fin 2048, x (ix3 a b s) = (f s : EReal)) :
    Host.reduceWindowAdd (s := S8x2048x2048) (t := S8x2048x2048) ![1, 1, 2048] ![1, 1, 1] ![0, 0, 0] ![0, 0, 2047] x init hw hu (ix3 a b c)
      = ((∑ s ∈ range 2048, f s - ∑ s ∈ range c.val, f s : ℝ) : EReal) := by
  have hc := c.isLt
  unfold Host.reduceWindowAdd
  rw [Ideal.hostReduceWindowAdd_def, hinit, window_sum]
  have e : ∀ n : Fin 2048, (if hn : 0 ≤ c.val + n.val ∧ c.val + n.val - 0 < 2048 then x (ix3 a b ⟨c.val + n.val - 0, hn.2⟩) else 0)
      = (((if c.val + n.val < 2048 then f (c.val + n.val) else 0) : ℝ) : EReal) := by
    intro n
    by_cases hn : c.val + n.val < 2048
    · rw [dif_pos ⟨Nat.zero_le _, hn⟩, if_pos hn, hx]; rfl
    · rw [dif_neg (fun h => hn h.2), if_neg hn]; rfl
  rw [sum_congr rfl fun n _ => e n, ← coe_sum]
  congr 1
  rw [Fin.sum_univ_eq_sum_range (fun n => if c.val + n < 2048 then f (c.val + n) else 0) 2048, ← sum_filter]
  have e2 : (range 2048).filter (fun n => c.val + n < 2048) = range (2048 - c.val) := by
    ext n; simp; omega
  rw [e2, eq_sub_iff_add_eq, add_comm]
  have e3 : (2048 : ℕ) = c.val + (2048 - c.val) := by omega
  conv_rhs => rw [e3]
  rw [sum_range_add]

/-- The running sum from the start. -/
theorem fwd_real (x : FVec Ideal S8x2048x2048 .f32) (init : FVec Ideal S_ .f32) (hinit : ∀ i, init i = 0) (hw) (hu) (a : Fin 8) (b c : Fin 2048)
    (f : ℕ → ℝ) (hx : ∀ s : Fin 2048, x (ix3 a b s) = (f s : EReal)) :
    Host.reduceWindowAdd (s := S8x2048x2048) (t := S8x2048x2048) ![1, 1, 2048] ![1, 1, 1] ![0, 0, 2047] ![0, 0, 0] x init hw hu (ix3 a b c)
      = ((∑ s ∈ range (c.val + 1), f s : ℝ) : EReal) := by
  have hc := c.isLt
  unfold Host.reduceWindowAdd
  rw [Ideal.hostReduceWindowAdd_def, hinit, window_sum]
  have e : ∀ n : Fin 2048, (if hn : 2047 ≤ c.val + n.val ∧ c.val + n.val - 2047 < 2048 then x (ix3 a b ⟨c.val + n.val - 2047, hn.2⟩) else 0)
      = (((if 2047 ≤ c.val + n.val then f (c.val + n.val - 2047) else 0) : ℝ) : EReal) := by
    intro n
    have := n.isLt
    by_cases hn : 2047 ≤ c.val + n.val
    · rw [dif_pos ⟨hn, by omega⟩, if_pos hn, hx]
    · rw [dif_neg (fun h => hn h.1), if_neg hn]; rfl
  rw [sum_congr rfl fun n _ => e n, ← coe_sum]
  congr 1
  rw [Fin.sum_univ_eq_sum_range (fun n => if 2047 ≤ c.val + n then f (c.val + n - 2047) else 0) 2048]
  have e3 : range 2048 = range ((2047 - c.val) + (c.val + 1)) := congrArg range (by omega)
  rw [e3, sum_range_add, sum_eq_zero, zero_add]
  · refine sum_congr rfl fun n hn => ?_
    have en : c.val + ((2047 - c.val) + n) = 2047 + n := by omega
    simp only [en]
    rw [if_pos (by omega), Nat.add_sub_cancel_left]
  · intro n hn
    rw [mem_range] at hn
    rw [if_neg (by omega)]

end Cert.ReferenceIdeal.Meet
-- ==== Proof.Heads.lean ====
/- The eight heads' tables, out of the two arguments: the projection's columns hold the queries of the heads, then
   their keys, then their values; the second argument holds the gradient of the output. -/
module

public import proofs.«01_k».proof.Proof.Model
public import Idealize.ShloMosaic.Lib.Pointwise

@[expose] public section

noncomputable section

namespace Cert.Model

open Idealize.ShloMosaic Idealize.ShloMosaic.TcCoe

/-- Column `d` of head `h` in group `o` of the projection: 0 the queries, 1 the keys, 2 the values. -/
def at3 (o : Fin 3) (h : Fin 8) (d : Fin 128) : Fin 6144 := ⟨1024 * o.val + (128 * h.val + d.val), by omega⟩
def at1 (h : Fin 8) (d : Fin 128) : Fin 1024 := ⟨128 * h.val + d.val, by omega⟩

/-- The two arguments hold these tables. -/
structure Tables (x0 : (⟨2, ![2048, 6144]⟩ : Shape).Idx → EReal) (x1 : (⟨2, ![2048, 1024]⟩ : Shape).Idx → EReal) (HH : Fin 8 → Head) : Prop where
  q : ∀ (t : Fin 2048) (h : Fin 8) (d : Fin 128), x0 (ix2 t (at3 0 h d)) = ((HH h).q t.val d : EReal)
  k : ∀ (t : Fin 2048) (h : Fin 8) (d : Fin 128), x0 (ix2 t (at3 1 h d)) = ((HH h).k t.val d : EReal)
  v : ∀ (t : Fin 2048) (h : Fin 8) (d : Fin 128), x0 (ix2 t (at3 2 h d)) = ((HH h).v t.val d : EReal)
  g : ∀ (t : Fin 2048) (h : Fin 8) (d : Fin 128), x1 (ix2 t (at1 h d)) = ((HH h).g t.val d : EReal)

/-- The row a number names. -/
def row (t : ℕ) : Fin 2048 := ⟨t % 2048, Nat.mod_lt _ (by decide)⟩
theorem row_val (t : Fin 2048) : row t.val = t := Fin.ext (Nat.mod_eq_of_lt t.isLt)

/-- The tables two arguments hold. -/
def heads (x0 : (⟨2, ![2048, 6144]⟩ : Shape).Idx → EReal) (x1 : (⟨2, ![2048, 1024]⟩ : Shape).Idx → EReal) (h : Fin 8) : Head where
  q t d := (x0 (ix2 (row t) (at3 0 h d))).toReal
  k t d := (x0 (ix2 (row t) (at3 1 h d))).toReal
  v t d := (x0 (ix2 (row t) (at3 2 h d))).toReal
  g t d := (x1 (ix2 (row t) (at1 h d))).toReal

/-- Finite arguments hold real tables. -/
theorem tables (x0 : (⟨2, ![2048, 6144]⟩ : Shape).Idx → EReal) (x1 : (⟨2, ![2048, 1024]⟩ : Shape).Idx → EReal)
    (h0 : ∀ i, x0 i ≠ ⊤ ∧ x0 i ≠ ⊥) (h1 : ∀ i, x1 i ≠ ⊤ ∧ x1 i ≠ ⊥) : Tables x0 x1 (heads x0 x1) where
  q t h d := by rw [heads]; dsimp only; rw [row_val, EReal.coe_toReal (h0 _).1 (h0 _).2]
  k t h d := by rw [heads]; dsimp only; rw [row_val, EReal.coe_toReal (h0 _).1 (h0 _).2]
  v t h d := by rw [heads]; dsimp only; rw [row_val, EReal.coe_toReal (h0 _).1 (h0 _).2]
  g t h d := by rw [heads]; dsimp only; rw [row_val, EReal.coe_toReal (h1 _).1 (h1 _).2]

/-- An entry whose absolute value is below infinity is real. -/
theorem finite_of_lt {x : EReal} (h : Ideal.cmp .olt (max x (-x)) ⊤ = 1#1) : x ≠ ⊤ ∧ x ≠ ⊥ := by
  constructor
  · rintro rfl
    simp [Ideal.cmp] at h
  · rintro rfl
    simp [Ideal.cmp] at h

theorem exp_lk (z : ℝ) : Real.exp (lkR z) = 1 - Real.exp (lbR z) := by
  have hs : 0 < 1 + Real.exp (-|z|) := by positivity
  have e : Real.exp (softR z) = 1 + Real.exp (-|z|) := Real.exp_log hs
  rw [lkR, lbR, Real.exp_sub, Real.exp_sub, e, eq_sub_iff_add_eq, ← add_div, div_eq_one_iff_eq hs.ne']
  rcases le_total 0 z with h | h
  · rw [abs_of_nonneg h, min_eq_left (by linarith), min_eq_right h, Real.exp_zero, add_comm]
  · rw [abs_of_nonpos h, min_eq_right (by linarith), min_eq_left h, Real.exp_zero, neg_neg]

theorem softR_neg (z : ℝ) : softR (-z) = softR z := by rw [softR, softR, abs_neg]
theorem neg_soft (z : ℝ) : -(max z 0 + softR z) = lkR z := by
  rw [lkR, neg_add, ← min_neg_neg, neg_zero, sub_eq_add_neg]
theorem neg_soft_neg (z : ℝ) : -(max (-z) 0 + softR (-z)) = lbR z := by
  rw [softR_neg, lbR, neg_add, ← min_neg_neg, neg_zero, neg_neg, sub_eq_add_neg]
theorem sub_soft (z : ℝ) : z - (max z 0 + softR z) = lbR z := by
  rw [lbR]
  rcases le_total 0 z with h | h
  · rw [max_eq_left h, min_eq_right h]; ring
  · rw [max_eq_right h, min_eq_left h]; ring
theorem sub_soft_neg (z : ℝ) : -z - (max (-z) 0 + softR (-z)) = lkR z := by
  rw [sub_soft, lbR, lkR, softR_neg]

/-- `softplus a`, as jax writes it, at a real. -/
theorem softplus_coe (a : ℝ) :
    (Scalar.select (Ideal.cmp .une ((a : EReal) - 0) ((a : EReal) - 0)) ((a : EReal) + 0)
      (max (a : EReal) 0 + Ideal.log1p (Ideal.exp (-(max ((a : EReal) - 0) (-((a : EReal) - 0)))))) : EReal)
      = ((max a 0 + softR a : ℝ) : EReal) := by
  have hm : max ((a : ℝ) : EReal) (-((a : ℝ) : EReal)) = ((|a| : ℝ) : EReal) := by
    rw [← EReal.coe_neg, abs_eq_max_neg]
    exact (EReal.coe_strictMono.monotone.map_max).symm
  have h0 : max (a : EReal) 0 = ((max a 0 : ℝ) : EReal) := by
    rw [← EReal.coe_zero]
    exact (EReal.coe_strictMono.monotone.map_max).symm
  have hc : Ideal.cmp .une (a : EReal) (a : EReal) = 0#1 := by simp [Ideal.cmp]
  rw [sub_zero, hc, hm, h0, ← EReal.coe_neg, Ideal.exp_coe]
  have hl : Ideal.log1p ((Real.exp (-|a|) : ℝ) : EReal) = ((softR a : ℝ) : EReal) := by
    show Ideal.log (1 + ((Real.exp (-|a|) : ℝ) : EReal)) = _
    rw [← EReal.coe_one, ← EReal.coe_add, Ideal.log_coe, if_neg, softR]
    have := Real.exp_pos (-|a|)
    linarith
  rw [hl, EReal.coe_add]
  simp [Scalar.select]

/-- The sigmoid jax keeps for the gradient, at a real. -/
theorem keep_coe (a b : ℝ) :
    (Ideal.exp (Scalar.select (Ideal.cmp .oeq (a : EReal) ⊤) 0 (a : EReal) - Scalar.select (Ideal.cmp .oeq (b : EReal) ⊤) 0 (b : EReal)) : EReal)
      = ((Real.exp (a - b) : ℝ) : EReal) := by
  have hc : ∀ x : ℝ, Ideal.cmp .oeq (x : EReal) ⊤ = 0#1 := by intro x; simp [Ideal.cmp]
  rw [hc, hc, ← Ideal.exp_coe, EReal.coe_sub]
  simp [Scalar.select]

theorem rsqrt_128 : Ideal.rsqrt (Ideal.ofBits .f32 0x43000000#32) = ((sc : ℝ) : EReal) := by
  have e : Ideal.ofBits .f32 0x43000000#32 = ((128 : ℝ) : EReal) := by
    simp [Ideal.ofBits, Ideal.ieee]
    rw [← EReal.coe_mul]
    norm_num
  rw [e, Ideal.rsqrt_coe, if_neg (by norm_num), if_neg (by norm_num), sc]

theorem ofBits_inf : Ideal.ofBits .f32 0x7F800000#32 = (⊤ : EReal) := by simp [Ideal.ofBits, Ideal.ieee]

theorem toInt_row (r : Fin 2048) : (BitVec.ofNat 32 r.val).toInt = (r.val : ℤ) := by
  have := r.isLt
  rw [BitVec.toInt_eq_toNat_of_lt (by rw [BitVec.toNat_ofNat]; omega), BitVec.toNat_ofNat]
  omega
theorem slt_row (r c : Fin 2048) : IntOp.cmpi .slt (BitVec.ofNat 32 r.val) (BitVec.ofNat 32 c.val) = if r.val < c.val then 1#1 else 0#1 := by
  simp only [IntOp.cmpi, BitVec.slt, toInt_row, Nat.cast_lt]
  by_cases h : r.val < c.val <;> simp [h]

end Cert.Model
-- ==== Proof.RefReal.lean ====
/- The reference's values over the reals: with real tables in its arguments, every array it computes holds the
   corresponding table of Model.lean. -/
module

public import proofs.«01_k».proof.Proof.Window
public import proofs.«01_k».proof.Proof.Heads

@[expose] public section

noncomputable section

namespace Cert.ReferenceIdeal.Meet

open Idealize.ShloMosaic Idealize.ShloMosaic.TcCoe
open Cert.ReferenceIdeal Cert.ReferenceIdeal.Gen Cert.ReferenceIdeal.Read
open Finset Cert.Model

variable {x0 : FVec Ideal S2048x6144 .bf16} {x1 : FVec Ideal S2048x1024 .bf16} {HH : Fin 8 → Head} (T : Tables x0 x1 HH)

theorem split_row {t h d : ℕ} (hh : h < 8) (hd : d < 128) : ((t * 8 + h) * 128 + d) / 1024 = t := by omega
theorem split_col {t h d : ℕ} (hh : h < 8) (hd : d < 128) : ((t * 8 + h) * 128 + d) % 1024 = 128 * h + d := by omega

/-! ## The tables -/

include T in
theorem q_real (t : Fin 2048) (h : Fin 8) (d : Fin 128) : (val_main_v6 (F := Ideal) x0 (ix3 t h d) : EReal) = ((HH h).q t.val d : EReal) := by
  rw [val_main_v6_apply, Ideal.extf_def, val_main_v1_apply, val_main_v0_apply]
  refine Eq.trans (congrArg x0 (funext fun a => Fin.ext ?_)) (T.q t h d)
  match a with
  | ⟨0, _⟩ => exact split_row h.isLt d.isLt
  | ⟨1, _⟩ => exact (split_col h.isLt d.isLt).trans (by show _ = 1024 * 0 + (128 * h.val + d.val); omega)

include T in
theorem k_real (t : Fin 2048) (h : Fin 8) (d : Fin 128) : (val_main_v7 (F := Ideal) x0 (ix3 t h d) : EReal) = ((HH h).k t.val d : EReal) := by
  rw [val_main_v7_apply, Ideal.extf_def, val_main_v3_apply, val_main_v2_apply]
  refine Eq.trans (congrArg x0 (funext fun a => Fin.ext ?_)) (T.k t h d)
  match a with
  | ⟨0, _⟩ => exact split_row h.isLt d.isLt
  | ⟨1, _⟩ =>
    have e := split_col (t := t.val) h.isLt d.isLt
    show 1024 + ((t.val * 8 + h.val) * 128 + d.val) % 1024 = 1024 * 1 + (128 * h.val + d.val)
    omega

include T in
theorem v_real (t : Fin 2048) (h : Fin 8) (d : Fin 128) : (val_main_v29 (F := Ideal) x0 (ix3 t h d) : EReal) = ((HH h).v t.val d : EReal) := by
  rw [val_main_v29_apply, Ideal.extf_def, val_main_v5_apply, val_main_v4_apply]
  refine Eq.trans (congrArg x0 (funext fun a => Fin.ext ?_)) (T.v t h d)
  match a with
  | ⟨0, _⟩ => exact split_row h.isLt d.isLt
  | ⟨1, _⟩ =>
    have e := split_col (t := t.val) h.isLt d.isLt
    show 2048 + ((t.val * 8 + h.val) * 128 + d.val) % 1024 = 1024 * 2 + (128 * h.val + d.val)
    omega

include T in
theorem g_real (t : Fin 2048) (h : Fin 8) (d : Fin 128) : (val_main_v35 (F := Ideal) x1 (ix3 h d t) : EReal) = ((HH h).g t.val d : EReal) := by
  rw [val_main_v35_apply, val_main_v34_apply, Ideal.extf_def, val_main_v33_apply]
  refine Eq.trans (congrArg x1 (funext fun a => Fin.ext ?_)) (T.g t h d)
  match a with
  | ⟨0, _⟩ => exact split_row h.isLt d.isLt
  | ⟨1, _⟩ => exact split_col h.isLt d.isLt

/-! ## The scores, the mask and the two logarithms -/

include T in
theorem z_real (h : Fin 8) (t s : Fin 2048) : (val_main_v13 (F := Ideal) x0 (ix3 h t s) : EReal) = ((HH h).z t.val s.val : EReal) := by
  rw [val_main_v13_apply, val_main_v12_apply, val_main_v11_apply, val_main_cst_apply, val_main_v10_apply, val_main_v9_apply, val_main_v8_apply]
  simp only [Ideal.mulf_def, Ideal.extf_def, Ideal.truncf_def, Ideal.hostUnary_rsqrt_def, Ideal.ofBits_def]
  rw [rsqrt_128, Head.z, EReal.coe_mul, coe_sum]
  congr 1
  refine sum_congr rfl fun d _ => ?_
  have el : lidx_main_v8 (ix3 h t s) d = ix3 t h d := funext fun a => match a with | ⟨0, _⟩ => rfl | ⟨1, _⟩ => rfl | ⟨2, _⟩ => rfl
  have er : ridx_main_v8 (ix3 h t s) d = ix3 s h d := funext fun a => match a with | ⟨0, _⟩ => rfl | ⟨1, _⟩ => rfl | ⟨2, _⟩ => rfl
  rw [el, er, q_real T, k_real T, EReal.coe_mul]

theorem mask_eq (i : S1x2048x2048.Idx) (t s : Fin 2048) (h1 : (i 1).val = t.val) (h2 : (i 2).val = s.val) :
    val_main_v17 (F := Ideal) i = if s.val < t.val then 1#1 else 0#1 := by
  rw [val_main_v17_apply, val_main_v16_apply, val_main_v15_apply, val_main_v14_apply, ← slt_row]
  congr 2
theorem mask20 (h : Fin 8) (t s : Fin 2048) : val_main_v20_1 (F := Ideal) (ix3 h t s) = if s.val < t.val then 1#1 else 0#1 := by
  rw [val_main_v20_1_apply]
  exact mask_eq _ t s rfl rfl
theorem mask26 (h : Fin 8) (t s : Fin 2048) : val_main_v26_1 (F := Ideal) (ix3 h t s) = if s.val < t.val then 1#1 else 0#1 := by
  rw [val_main_v26_1_apply]
  exact mask_eq _ t s rfl rfl

theorem zero_bits : Ideal.ofBits .f32 0x00000000#32 = (0 : EReal) := Ideal.ofBits_zero_f32

include T in
theorem arg0_real (h : Fin 8) (t s : Fin 2048) : (val_main_call0_v0 (F := Ideal) x0 (ix3 h t s) : EReal) = ((HH h).z t.val s.val : EReal) := by
  rw [val_main_call0_v0_apply, val_main_v18_apply]
  simp only [Ideal.hostNegf_def, Ideal.negf_def]
  rw [z_real T, neg_neg]
include T in
theorem soft0_real (h : Fin 8) (t s : Fin 2048) : (val_main_call0_v1_0 (F := Ideal) x0 (ix3 h t s) : EReal)
    = ((max ((HH h).z t.val s.val) 0 + softR ((HH h).z t.val s.val) : ℝ) : EReal) := by
  rw [val_main_call0_v1_0_apply, val_main_call0_call0_v11_apply, val_main_call0_call0_v10_apply, val_main_call0_call0_v9_apply,
    val_main_call0_call0_v8_apply, val_main_call0_call0_v7_apply, val_main_call0_call0_v6_apply, val_main_call0_call0_v5_apply,
    val_main_call0_call0_v4_apply, val_main_call0_call0_v3_apply, val_main_call0_call0_v2_apply, val_main_call0_call0_v1_apply,
    val_main_call0_call0_v0_apply, val_main_call0_call0_cst_apply]
  rw [← softplus_coe, ← arg0_real T, ← zero_bits]
  rfl
include T in
theorem lk_real (h : Fin 8) (t s : Fin 2048) : (val_main_v19_0 (F := Ideal) x0 (ix3 h t s) : EReal) = (lkR ((HH h).z t.val s.val) : EReal) := by
  rw [val_main_v19_0_apply]
  simp only [Ideal.hostNegf_def, Ideal.negf_def]
  rw [soft0_real T, ← EReal.coe_neg, neg_soft]
include T in
theorem sig_real (h : Fin 8) (t s : Fin 2048) : (val_main_v19_1 (F := Ideal) x0 (ix3 h t s) : EReal) = (Real.exp (lbR ((HH h).z t.val s.val)) : EReal) := by
  rw [val_main_v19_1_apply, val_main_call0_call0_v21_apply, val_main_call0_call0_v20_apply, val_main_call0_call0_v19_apply,
    val_main_call0_call0_v18_apply, val_main_call0_call0_v17_apply, val_main_call0_call0_v16_apply, val_main_call0_call0_v15_apply,
    val_main_call0_call0_v14_apply, val_main_call0_call0_v13_apply, val_main_call0_call0_cst_0_apply, val_main_call0_call0_cst_1_apply,
    val_main_call0_call0_cst_2_apply, val_main_call0_call0_cst_3_apply]
  rw [← sub_soft, ← keep_coe, ← arg0_real T, ← soft0_real T, ← zero_bits, ← ofBits_inf]
  rfl

include T in
theorem arg3_real (h : Fin 8) (t s : Fin 2048) : (val_main_call3_v0 (F := Ideal) x0 (ix3 h t s) : EReal) = ((-(HH h).z t.val s.val : ℝ) : EReal) := by
  rw [val_main_call3_v0_apply]
  simp only [Ideal.hostNegf_def, Ideal.negf_def]
  rw [z_real T, EReal.coe_neg]
include T in
theorem soft3_real (h : Fin 8) (t s : Fin 2048) : (val_main_call3_v1_0 (F := Ideal) x0 (ix3 h t s) : EReal)
    = ((max (-(HH h).z t.val s.val) 0 + softR (-(HH h).z t.val s.val) : ℝ) : EReal) := by
  rw [val_main_call3_v1_0_apply, val_main_call3_call0_v11_apply, val_main_call3_call0_v10_apply, val_main_call3_call0_v9_apply,
    val_main_call3_call0_v8_apply, val_main_call3_call0_v7_apply, val_main_call3_call0_v6_apply, val_main_call3_call0_v5_apply,
    val_main_call3_call0_v4_apply, val_main_call3_call0_v3_apply, val_main_call3_call0_v2_apply, val_main_call3_call0_v1_apply,
    val_main_call3_call0_v0_apply, val_main_call3_call0_cst_apply]
  rw [← softplus_coe, ← arg3_real T, ← zero_bits]
  rfl
include T in
theorem lb_real (h : Fin 8) (t s : Fin 2048) : (val_main_v23_0 (F := Ideal) x0 (ix3 h t s) : EReal) = (lbR ((HH h).z t.val s.val) : EReal) := by
  rw [val_main_v23_0_apply]
  simp only [Ideal.hostNegf_def, Ideal.negf_def]
  rw [soft3_real T, ← EReal.coe_neg, neg_soft_neg]
include T in
theorem cosig_real (h : Fin 8) (t s : Fin 2048) : (val_main_v23_1 (F := Ideal) x0 (ix3 h t s) : EReal) = ((1 - Real.exp (lbR ((HH h).z t.val s.val)) : ℝ) : EReal) := by
  rw [val_main_v23_1_apply, val_main_call3_call0_v21_apply, val_main_call3_call0_v20_apply, val_main_call3_call0_v19_apply,
    val_main_call3_call0_v18_apply, val_main_call3_call0_v17_apply, val_main_call3_call0_v16_apply, val_main_call3_call0_v15_apply,
    val_main_call3_call0_v14_apply, val_main_call3_call0_v13_apply, val_main_call3_call0_cst_0_apply, val_main_call3_call0_cst_1_apply,
    val_main_call3_call0_cst_2_apply, val_main_call3_call0_cst_3_apply]
  rw [← exp_lk, ← sub_soft_neg, ← keep_coe, ← arg3_real T, ← soft3_real T, ← zero_bits, ← ofBits_inf]
  rfl

/-! ## The weights -/

include T in
theorem L_real (h : Fin 8) (t s : Fin 2048) : (val_main_v20_0 (F := Ideal) x0 (ix3 h t s) : EReal) = ((HH h).L t.val s.val : EReal) := by
  rw [val_main_v20_0_apply, mask20, val_main_call1_v2_apply, val_main_call1_v0_apply, val_main_cst_0_apply, Ideal.ofBits_def, zero_bits, Head.L]
  split
  · exact lk_real T h t s
  · rfl
include T in
theorem after_real (h : Fin 8) (t s : Fin 2048) : (val_main_v22 (F := Ideal) x0 (ix3 h t s) : EReal)
    = ((HH h).tot t.val - (HH h).pre t.val s.val : ℝ) := by
  rw [val_main_v22_apply, Ideal.subf_def, L_real T]
  have e : (val_main_v21 (F := Ideal) x0 (ix3 h t s) : EReal)
      = ((∑ s ∈ range 2048, (HH h).L t.val s - ∑ s ∈ range s.val, (HH h).L t.val s : ℝ) : EReal) := by
    unfold val_main_v21
    exact rev_real (val_main_v20_0 (F := Ideal) x0) (val_main_call2_v0 (F := Ideal)) (fun i => by rw [val_main_call2_v0_apply]; exact zero_bits) _ _ h t s
      (fun s => (HH h).L t.val s) (fun s => L_real T h t s)
  rw [e, ← EReal.coe_sub, Head.tot, Head.pre, sum_range_succ _ s.val]
  exact congrArg Real.toEReal (by ring)
include T in
theorem exp_real (h : Fin 8) (t s : Fin 2048) : (val_main_v25 (F := Ideal) x0 (ix3 h t s) : EReal)
    = (Real.exp (lbR ((HH h).z t.val s.val) + ((HH h).tot t.val - (HH h).pre t.val s.val)) : ℝ) := by
  rw [val_main_v25_apply, Ideal.hostUnary_exp_def, val_main_v24_apply, Ideal.addf_def, lb_real T, after_real T, ← EReal.coe_add, Ideal.exp_coe]
include T in
theorem A_real (h : Fin 8) (t s : Fin 2048) : (val_main_v28 (F := Ideal) x0 (ix3 h t s) : EReal) = ((HH h).A t.val s.val : EReal) := by
  rw [val_main_v28_apply, val_main_v27_apply, Ideal.extf_def, Ideal.truncf_def]
  rw [val_main_v26_0_apply, mask26, val_main_call4_v2_apply, val_main_call4_v0_apply, val_main_cst_1_apply, Ideal.ofBits_def, zero_bits, Head.A]
  split
  · exact exp_real T h t s
  · rfl

/-! ## The gradient of the scores -/

include T in
theorem DA_real (h : Fin 8) (t s : Fin 2048) : (val_main_v36 (F := Ideal) x0 x1 (ix3 h t s) : EReal) = ((HH h).DA t.val s.val : EReal) := by
  rw [val_main_v36_apply, Head.DA, coe_sum]
  refine sum_congr rfl fun d _ => ?_
  have el : lidx_main_v36 (ix3 h t s) d = ix3 h d t := funext fun a => match a with | ⟨0, _⟩ => rfl | ⟨1, _⟩ => rfl | ⟨2, _⟩ => rfl
  have er : ridx_main_v36 (ix3 h t s) d = ix3 s h d := funext fun a => match a with | ⟨0, _⟩ => rfl | ⟨1, _⟩ => rfl | ⟨2, _⟩ => rfl
  rw [el, er, g_real T, v_real T, EReal.coe_mul]
include T in
theorem D_real (h : Fin 8) (t s : Fin 2048) : (val_main_v43 (F := Ideal) x0 x1 (ix3 h t s) : EReal) = ((HH h).D t.val s.val : EReal) := by
  rw [val_main_v43_apply, Ideal.mulf_def, exp_real T, val_main_v42_apply, mask26, val_main_call5_v0_apply, val_main_call5_cst_apply,
    val_main_v41_apply, val_main_v40_apply, Ideal.extf_def, Ideal.truncf_def, DA_real T, Ideal.ofBits_def, zero_bits, Head.D, Head.A]
  split
  · rw [EReal.coe_mul]; rfl
  · rw [mul_zero, EReal.coe_zero]; exact zero_mul _
include T in
theorem KP_real (h : Fin 8) (t s : Fin 2048) : (val_main_v48 (F := Ideal) x0 x1 (ix3 h t s) : EReal) = ((HH h).KP t.val s.val : EReal) := by
  have e : (val_main_v46 (F := Ideal) x0 x1 (ix3 h t s) : EReal)
      = ((∑ s ∈ range (s.val + 1), (HH h).D t.val s : ℝ) : EReal) := by
    unfold val_main_v46
    exact fwd_real (val_main_v43 (F := Ideal) x0 x1) (val_main_call7_v0 (F := Ideal)) (fun i => by rw [val_main_call7_v0_apply]; exact zero_bits) _ _ h t s
      (fun s => (HH h).D t.val s) (fun s => D_real T h t s)
  rw [val_main_v48_apply, mask20, val_main_call8_v0_apply, val_main_call8_cst_apply, val_main_v47_apply, Ideal.addf_def, val_main_v45_apply,
    Ideal.hostNegf_def, Ideal.negf_def, D_real T, e, Ideal.ofBits_def, zero_bits, Head.KP, ← EReal.coe_neg, ← EReal.coe_add, sum_range_succ]
  split
  · exact congrArg Real.toEReal (by ring)
  · rfl
include T in
theorem DZ_real (h : Fin 8) (t s : Fin 2048) : (val_main_v55 (F := Ideal) x0 x1 (ix3 h t s) : EReal) = ((HH h).DZ t.val s.val : EReal) := by
  rw [val_main_v55_apply, val_main_v54_apply, Ideal.extf_def, Ideal.truncf_def]
  rw [val_main_v53_apply, val_main_v52_apply, val_main_v11_apply, val_main_cst_apply, val_main_v51_apply, val_main_v50_apply, val_main_v49_apply,
    val_main_call9_v1_apply, val_main_call9_v0_apply, val_main_v44_apply, val_main_call6_v1_apply, val_main_call6_v0_apply]
  simp only [Ideal.mulf_def, Ideal.addf_def, Ideal.hostNegf_def, Ideal.negf_def, Ideal.hostUnary_rsqrt_def, Ideal.ofBits_def]
  rw [rsqrt_128, D_real T, KP_real T, sig_real T, cosig_real T]
  simp only [← EReal.coe_neg, ← EReal.coe_mul, ← EReal.coe_add]
  rw [Head.DZ]
  congr 1
  ring

/-! ## The three results -/

theorem out_row {t h d : ℕ} (hh : h < 8) (hd : d < 128) : (t * 1024 + (128 * h + d)) / 1024 = t := by omega
theorem out_head {t h d : ℕ} (hh : h < 8) (hd : d < 128) : (t * 1024 + (128 * h + d)) / 128 % 8 = h := by omega
theorem out_col {t h d : ℕ} (hd : d < 128) : (t * 1024 + (128 * h + d)) % 128 = d := by omega

include T in
theorem dq_real (t : Fin 2048) (h : Fin 8) (d : Fin 128) : (val_main_v62 (F := Ideal) x0 x1 (ix2 t (at1 h d)) : EReal) = ((HH h).dq t.val d : EReal) := by
  have ei : idx_main_v62 (ix2 t (at1 h d)) = ix3 t h d := funext fun a => Fin.ext (match a with
    | ⟨0, _⟩ => out_row h.isLt d.isLt | ⟨1, _⟩ => out_head h.isLt d.isLt | ⟨2, _⟩ => out_col d.isLt)
  have ej : idx_main_v59 (ix3 t h d) = ix3 h t d := funext fun a => match a with | ⟨0, _⟩ => rfl | ⟨1, _⟩ => rfl | ⟨2, _⟩ => rfl
  rw [val_main_v62_apply, ei, val_main_v61_apply, Ideal.truncf_def, val_main_v59_apply, ej, val_main_v58_apply, Head.dq,
    ← Fin.sum_univ_eq_sum_range (fun s => (HH h).DZ t.val s * (HH h).k s d) 2048, coe_sum]
  refine sum_congr rfl fun s _ => ?_
  have el : lidx_main_v58 (ix3 h t d) s = ix3 h t s := funext fun a => match a with | ⟨0, _⟩ => rfl | ⟨1, _⟩ => rfl | ⟨2, _⟩ => rfl
  have er : ridx_main_v58 (ix3 h t d) s = ix3 s h d := funext fun a => match a with | ⟨0, _⟩ => rfl | ⟨1, _⟩ => rfl | ⟨2, _⟩ => rfl
  rw [el, er, DZ_real T, k_real T, EReal.coe_mul]

include T in
theorem dk_real (t : Fin 2048) (h : Fin 8) (d : Fin 128) : (val_main_v63 (F := Ideal) x0 x1 (ix2 t (at1 h d)) : EReal) = ((HH h).dk t.val d : EReal) := by
  have ei : idx_main_v63 (ix2 t (at1 h d)) = ix3 t h d := funext fun a => Fin.ext (match a with
    | ⟨0, _⟩ => out_row h.isLt d.isLt | ⟨1, _⟩ => out_head h.isLt d.isLt | ⟨2, _⟩ => out_col d.isLt)
  have ej : idx_main_v57 (ix3 t h d) = ix3 h t d := funext fun a => match a with | ⟨0, _⟩ => rfl | ⟨1, _⟩ => rfl | ⟨2, _⟩ => rfl
  rw [val_main_v63_apply, ei, val_main_v60_apply, Ideal.truncf_def, val_main_v57_apply, ej, val_main_v56_apply, Head.dk,
    ← Fin.sum_univ_eq_sum_range (fun s => (HH h).DZ s t.val * (HH h).q s d) 2048, coe_sum]
  refine sum_congr rfl fun s _ => ?_
  have el : lidx_main_v56 (ix3 h t d) s = ix3 h s t := funext fun a => match a with | ⟨0, _⟩ => rfl | ⟨1, _⟩ => rfl | ⟨2, _⟩ => rfl
  have er : ridx_main_v56 (ix3 h t d) s = ix3 s h d := funext fun a => match a with | ⟨0, _⟩ => rfl | ⟨1, _⟩ => rfl | ⟨2, _⟩ => rfl
  rw [el, er, DZ_real T, q_real T, EReal.coe_mul]

include T in
theorem dv_real (t : Fin 2048) (h : Fin 8) (d : Fin 128) : (val_main_v64 (F := Ideal) x0 x1 (ix2 t (at1 h d)) : EReal) = ((HH h).dv t.val d : EReal) := by
  have ei : idx_main_v64 (ix2 t (at1 h d)) = ix3 t h d := funext fun a => Fin.ext (match a with
    | ⟨0, _⟩ => out_row h.isLt d.isLt | ⟨1, _⟩ => out_head h.isLt d.isLt | ⟨2, _⟩ => out_col d.isLt)
  have ej : idx_main_v38 (ix3 t h d) = ix3 h d t := funext fun a => match a with | ⟨0, _⟩ => rfl | ⟨1, _⟩ => rfl | ⟨2, _⟩ => rfl
  rw [val_main_v64_apply, ei, val_main_v39_apply, Ideal.truncf_def, val_main_v38_apply, ej, val_main_v37_apply, Head.dv,
    ← Fin.sum_univ_eq_sum_range (fun s => (HH h).A s t.val * (HH h).g s d) 2048, coe_sum]
  refine sum_congr rfl fun s _ => ?_
  have el : lidx_main_v37 (ix3 h d t) s = ix3 h d s := funext fun a => match a with | ⟨0, _⟩ => rfl | ⟨1, _⟩ => rfl | ⟨2, _⟩ => rfl
  have er : ridx_main_v37 (ix3 h d t) s = ix3 h s t := funext fun a => match a with | ⟨0, _⟩ => rfl | ⟨1, _⟩ => rfl | ⟨2, _⟩ => rfl
  rw [el, er, A_real T, g_real T, EReal.coe_mul, mul_comm]

end Cert.ReferenceIdeal.Meet
-- ==== Proof.Feed.lean ====
/- What the launch reads: the blocks of the two arguments and of the host's sums hold the heads' tables. -/
module

public import proofs.«01_k».proof.Proof.Host
public import proofs.«01_k».proof.Proof.RefReal

@[expose] public section

set_option maxRecDepth 16384

noncomputable section

namespace Cert.KernelIdeal.Tile

open Idealize.ShloMosaic Idealize.ShloMosaic.TcCoe Idealize.ShloMosaic.StableHlo
open Cert.KernelIdeal Cert.KernelIdeal.Gen Cert.KernelIdeal.Value Cert.Model
open Facts
open Finset

/-! ## The host's sums -/

theorem hostZ_eq (p : P) : hostZ p = Cert.ReferenceIdeal.Read.val_main_v13 (F := Ideal) p := by
  funext i
  rfl

theorem hostL_eq (p : P) : hostL p = Cert.ReferenceIdeal.Read.val_main_v20_0 (F := Ideal) p := by
  rw [hostL, hostZ_eq]
  rfl

theorem hostTot_apply (p : P) (t : Fin 2048) (h : Fin 8) : hostTot p (ix3 0 t h) = ∑ s : Fin 2048, hostL p (ix3 h t s) := by
  pointwise [hostTot]

variable {x0 : P} {x1 : FVec Ideal S2048x1024 .bf16} {HH : Fin 8 → Head} (T : Tables x0 x1 HH)

include T in
theorem hostTot_real (t : Fin 2048) (h : Fin 8) : hostTot x0 (ix3 0 t h) = ((HH h).tot t.val : EReal) := by
  rw [hostTot_apply, hostL_eq, Head.tot, ← Fin.sum_univ_eq_sum_range (fun s => (HH h).L t.val s) 2048, coe_sum]
  exact sum_congr rfl fun s _ => Cert.ReferenceIdeal.Meet.L_real T h t s

/-! ## The blocks -/

theorem at0 : ∀ t : Fin grid0.N, win0_0.index t (0 : Fin 2) = t.val ∧ win0_0.index t (1 : Fin 2) = 0 := by decide +kernel
theorem at1' : ∀ t : Fin grid0.N, win0_1.index t (0 : Fin 2) = 0 ∧ win0_1.index t (1 : Fin 2) = 1 := by decide +kernel
theorem at2 : ∀ t : Fin grid0.N, win0_2.index t (0 : Fin 2) = 0 ∧ win0_2.index t (1 : Fin 2) = 2 := by decide +kernel
theorem at3' : ∀ t : Fin grid0.N, win0_3.index t (0 : Fin 2) = t.val ∧ win0_3.index t (1 : Fin 2) = 0 := by decide +kernel
theorem at4 : ∀ t : Fin grid0.N, win0_4.index t (0 : Fin 3) = 0 ∧ win0_4.index t (1 : Fin 3) = t.val ∧ win0_4.index t (2 : Fin 3) = 0 := by decide +kernel

variable (m : (ℓ : Loc nD τ sig) → Buf (Elt Ideal) ℓ) (c : Dev nD)

theorem lt16 (t : Fin cfg0.N) : t.val < 16 := t.isLt

/-- The row of the whole array that row `r` of point `t`'s block is. -/
def rowOf (t : Fin cfg0.N) (r : Fin 128) : Fin 2048 := ⟨128 * t.val + r.val, by have := lt16 t; omega⟩

theorem read0 (t : Fin cfg0.N) (r : Fin 128) (h : Fin 8) (d : Fin 128) :
    iblk m c 0 t (ix2 r (col h d)) = m ((c : Thread nD τ).loc main_arg0) (ix2 (rowOf t r) (at3 0 h d)) := by
  show V m c main_arg0 (((cfg0.win 0).blk t).view.emb (ix2 r (col h d))) = _
  rw [V_main_arg0]
  refine congrArg (m ((c : Thread nD τ).loc main_arg0)) (funext fun a => Fin.ext ?_)
  obtain ⟨e0, e1⟩ := at0 t
  match a with
  | ⟨0, _⟩ => show win0_0.index t (0 : Fin 2) * 128 + 1 * r.val = 128 * t.val + r.val; rw [e0]; omega
  | ⟨1, _⟩ => show win0_0.index t (1 : Fin 2) * 1024 + 1 * (128 * h.val + d.val) = 1024 * 0 + (128 * h.val + d.val); rw [e1]; omega

theorem read1 (t : Fin cfg0.N) (s : Fin 2048) (h : Fin 8) (d : Fin 128) :
    iblk m c 1 t (ix2 s (col h d)) = m ((c : Thread nD τ).loc main_arg0) (ix2 s (at3 1 h d)) := by
  show V m c main_arg0 (((cfg0.win 1).blk t).view.emb (ix2 s (col h d))) = _
  rw [V_main_arg0]
  refine congrArg (m ((c : Thread nD τ).loc main_arg0)) (funext fun a => Fin.ext ?_)
  obtain ⟨e0, e1⟩ := at1' t
  match a with
  | ⟨0, _⟩ => show win0_1.index t (0 : Fin 2) * 2048 + 1 * s.val = s.val; rw [e0]; omega
  | ⟨1, _⟩ => show win0_1.index t (1 : Fin 2) * 1024 + 1 * (128 * h.val + d.val) = 1024 * 1 + (128 * h.val + d.val); rw [e1]; omega

theorem read2 (t : Fin cfg0.N) (s : Fin 2048) (h : Fin 8) (d : Fin 128) :
    iblk m c 2 t (ix2 s (col h d)) = m ((c : Thread nD τ).loc main_arg0) (ix2 s (at3 2 h d)) := by
  show V m c main_arg0 (((cfg0.win 2).blk t).view.emb (ix2 s (col h d))) = _
  rw [V_main_arg0]
  refine congrArg (m ((c : Thread nD τ).loc main_arg0)) (funext fun a => Fin.ext ?_)
  obtain ⟨e0, e1⟩ := at2 t
  match a with
  | ⟨0, _⟩ => show win0_2.index t (0 : Fin 2) * 2048 + 1 * s.val = s.val; rw [e0]; omega
  | ⟨1, _⟩ => show win0_2.index t (1 : Fin 2) * 1024 + 1 * (128 * h.val + d.val) = 1024 * 2 + (128 * h.val + d.val); rw [e1]; omega

theorem read3 (t : Fin cfg0.N) (r : Fin 128) (h : Fin 8) (d : Fin 128) :
    iblk m c 3 t (ix2 r (col h d)) = m ((c : Thread nD τ).loc main_arg1) (ix2 (rowOf t r) (at1 h d)) := by
  show V m c main_arg1 (((cfg0.win 3).blk t).view.emb (ix2 r (col h d))) = _
  rw [V_main_arg1]
  refine congrArg (m ((c : Thread nD τ).loc main_arg1)) (funext fun a => Fin.ext ?_)
  obtain ⟨e0, e1⟩ := at3' t
  match a with
  | ⟨0, _⟩ => show win0_3.index t (0 : Fin 2) * 128 + 1 * r.val = 128 * t.val + r.val; rw [e0]; omega
  | ⟨1, _⟩ => show win0_3.index t (1 : Fin 2) * 1024 + 1 * (128 * h.val + d.val) = 128 * h.val + d.val; rw [e1]; omega

theorem read4 (t : Fin cfg0.N) (r : Fin 128) (h : Fin 8) :
    iblk m c 4 t (ix3 0 r h) = hostTot (m ((c : Thread nD τ).loc main_arg0)) (ix3 0 (rowOf t r) h) := by
  show V m c main_v19 (((cfg0.win 4).blk t).view.emb (ix3 0 r h)) = _
  rw [V_tot]
  refine congrArg (hostTot (m ((c : Thread nD τ).loc main_arg0))) (funext fun a => Fin.ext ?_)
  obtain ⟨e0, e1, e2⟩ := at4 t
  match a with
  | ⟨0, _⟩ => show win0_4.index t (0 : Fin 3) * 1 + 1 * 0 = 0; rw [e0]
  | ⟨1, _⟩ => show win0_4.index t (1 : Fin 3) * 128 + 1 * r.val = 128 * t.val + r.val; rw [e1]; omega
  | ⟨2, _⟩ => show win0_4.index t (2 : Fin 3) * 8 + 1 * h.val = h.val; rw [e2]; omega

theorem ldTot_apply (a : Memref sig .tc .vmem S1x128x8 .f32) (X : BufTy.Contents (Elt Ideal) a.view.ty) (h : Fin 8) (r : Fin 128) :
    ldTot a X h (ix2 r 0) = a.view.read (Elt Ideal) X (ix3 0 r h) := by
  unfold ldTot
  rw [shapeCast_apply _ shapeCasts_S1x128x1_S128x1 (ix2 r 0) (ix3 0 r 0) (by
    rewrite [Shape.rowMajor_val_three, Shape.rowMajor_val_two]; show ((0 * 128 + r.val) * 1 + 0) = r.val * 1 + 0; omega)]
  refine congrArg (fun i => a.view.read (Elt Ideal) X i) (funext fun b => Fin.ext ?_)
  match b with
  | ⟨0, _⟩ => rfl
  | ⟨1, _⟩ => show 0 + 1 * r.val = r.val; omega
  | ⟨2, _⟩ => show h.val + 1 * 0 = h.val; omega

/-- Every point reads the heads' tables. -/
theorem allInputs (T : Tables (m ((c : Thread nD τ).loc main_arg0)) (m ((c : Thread nD τ).loc main_arg1)) HH) : AllInputs m c HH := fun t => by
  have ec := coord_eq t
  exact {
    q := fun r h d => by rw [(hs0_0 t).read_unread, read0, T.q, ec]; rfl
    k := fun s h d => by rw [(hs0_1 t).read_unread, read1, T.k]
    v := fun s h d => by rw [(hs0_2 t).read_unread, read2, T.v]
    g := fun r h d => by rw [(hs0_3 t).read_unread, read3, T.g, ec]; rfl
    tot := fun r h => by rw [ldTot_apply, (hs0_4 t).read_unread, read4, hostTot_real T, ec]; rfl }

end Cert.KernelIdeal.Tile
-- ==== Proof.Meet.lean ====
/- The attention's gradient call and the reference meet: from finite arguments both end with the same gradients of the
   queries, the keys and the values. -/
module

public import proofs.«01_k».proof.Defs
public import proofs.«01_k».proof.Proof.Feed
public import proofs.«01_k».proof.Proof.Gen.ReferenceIdeal.Run

@[expose] public section

noncomputable section

namespace Cert.AttnProof

open Idealize.ShloMosaic Idealize.ShloMosaic.TcCoe Idealize.SL.Sem
open Cert.Model

/-- The precondition's side conditions. -/
instance preFacts : Cert.Pre_finite.Facts := ⟨by decide, by decide, by decide⟩

theorem pre_of_fn (x0 : FVec Ideal Cert.Pre_finite.S2048x6144 .bf16) (x1 : FVec Ideal Cert.Pre_finite.S2048x1024 .bf16)
    (h0 : (Cert.Pre_finite.fn (F := Ideal) x0 x1).1 = fun _ => 1#1) (h1 : (Cert.Pre_finite.fn (F := Ideal) x0 x1).2 = fun _ => 1#1) :
    Tables x0 x1 (heads x0 x1) := by
  refine tables x0 x1 (fun i => finite_of_lt ?_) (fun i => finite_of_lt ?_)
  · have e := congrFun h0 i
    rw [← ofBits_inf]
    exact e
  · have e := congrFun h1 i
    rw [← ofBits_inf]
    exact e

section
variable (m : (ℓ : Loc Cert.KernelIdeal.nD Cert.KernelIdeal.τ Cert.KernelIdeal.sig) → Buf (Elt Ideal) ℓ) (c : Dev Cert.KernelIdeal.nD)

/-- What an array over the 2048 rows and the 8 heads' columns holds is settled head by head. -/
theorem ext_cols (a b : (⟨2, ![2048, 1024]⟩ : Shape).Idx → EReal)
    (h : ∀ (t : Fin 2048) (h : Fin 8) (d : Fin 128), a (ix2 t (at1 h d)) = b (ix2 t (at1 h d))) : a = b := by
  funext i
  obtain ⟨hh, d, e⟩ := Cert.KernelIdeal.Tile.exists_col (i 1)
  have ei : i = ix2 (i 0) (at1 hh d) := by
    rw [eq_ix2 i]
    exact congrArg (ix2 (i 0)) e
  rw [ei]
  exact h _ _ _

variable (x0 : FVec Ideal Cert.KernelIdeal.S2048x6144 .bf16) (x1 : FVec Ideal Cert.KernelIdeal.S2048x1024 .bf16)
  (e0 : m ((c.tc : Thread Cert.KernelIdeal.nD Cert.KernelIdeal.τ).loc Cert.KernelIdeal.main_arg0) = x0)
  (e1 : m ((c.tc : Thread Cert.KernelIdeal.nD Cert.KernelIdeal.τ).loc Cert.KernelIdeal.main_arg1) = x1)
  (T : Tables x0 x1 (heads x0 x1))
include e0 e1 T

theorem meet_q : Cert.ReferenceIdeal.Read.val_main_v62 (F := Ideal) x0 x1 = Cert.KernelIdeal.Value.G5 m c := by
  subst e0 e1
  exact ext_cols _ _ fun t h d => (Cert.ReferenceIdeal.Meet.dq_real T t h d).trans
    (Cert.KernelIdeal.Tile.result_dq (Cert.KernelIdeal.Tile.allInputs m c T) t h d).symm
theorem meet_k : Cert.ReferenceIdeal.Read.val_main_v63 (F := Ideal) x0 x1 = Cert.KernelIdeal.Value.G6 m c := by
  subst e0 e1
  exact ext_cols _ _ fun t h d => (Cert.ReferenceIdeal.Meet.dk_real T t h d).trans
    (Cert.KernelIdeal.Tile.result_dk (Cert.KernelIdeal.Tile.allInputs m c T) t h d).symm
theorem meet_v : Cert.ReferenceIdeal.Read.val_main_v64 (F := Ideal) x0 x1 = Cert.KernelIdeal.Value.G7 m c := by
  subst e0 e1
  exact ext_cols _ _ fun t h d => (Cert.ReferenceIdeal.Meet.dv_real T t h d).trans
    (Cert.KernelIdeal.Tile.result_dv (Cert.KernelIdeal.Tile.allInputs m c T) t h d).symm
end

/-- The reference's frame. -/
theorem frame_r : Cert.quiescent_ReferenceIdeal := fun m ρ _ =>
  (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "scale" .f32 0x3DB504F3#32 (((Real.sqrt 128)⁻¹ : ℝ) : EReal) rfl

theorem algebraic : Cert.algebraic_KernelIdeal_ReferenceIdeal_pre_finite := by
  intro m ρ m' ρ' hpre hag
  refine ⟨fun c => Cert.KernelIdeal.Value.G5 m c, fun c => Cert.KernelIdeal.Value.G6 m c, fun c => Cert.KernelIdeal.Value.G7 m c,
    Cert.KernelIdeal.Value.run (F := Ideal) m ρ, ?_⟩
  refine (θ_run Cert.ReferenceIdeal.defs _ _).mono (fun r h c => ?_) (Cert.ReferenceIdeal.Value.run (F := Ideal) m' ρ')
  obtain ⟨h62, h63, h64, k0, k1⟩ := h c
  have T := pre_of_fn _ _ (hpre c).1 (hpre c).2
  refine ⟨h62.trans ?_, h63.trans ?_, h64.trans ?_, k0, k1⟩
  · refine (Cert.ReferenceIdeal.Read.val_main_v62_eq (F := Ideal) _).trans ?_
    refine Eq.trans ?_ (meet_q m c _ _ rfl rfl T)
    exact congrArg₂ (Cert.ReferenceIdeal.Read.val_main_v62 (F := Ideal)) (hag c).1 (hag c).2
  · refine (Cert.ReferenceIdeal.Read.val_main_v63_eq (F := Ideal) _).trans ?_
    refine Eq.trans ?_ (meet_k m c _ _ rfl rfl T)
    exact congrArg₂ (Cert.ReferenceIdeal.Read.val_main_v63 (F := Ideal)) (hag c).1 (hag c).2
  · refine (Cert.ReferenceIdeal.Read.val_main_v64_eq (F := Ideal) _).trans ?_
    refine Eq.trans ?_ (meet_v m c _ _ rfl rfl T)
    exact congrArg₂ (Cert.ReferenceIdeal.Read.val_main_v64 (F := Ideal)) (hag c).1 (hag c).2

end Cert.AttnProof

end
-- ==== Proof.Blocks.lean ====
/- Products by blocks: what the product calls' proofs share. -/
module

public import Idealize.ShloMosaic.Lib.Pipeline.Value
public import Idealize.ShloMosaic.Lib.Pipeline.ValueKit
public import Idealize.ShloMosaic.Lib.Pointwise
public import Idealize.ShloMosaic.Lib.WritesUnit
public import Idealize.ShloMosaic.PureOps.Ideal

@[expose] public section

noncomputable section

namespace Cert.Blocks

open Idealize.ShloMosaic Idealize.ShloMosaic.TcCoe
open Finset

/-- An array is settled by its entries row and column named. -/
theorem ext2 {A B : Nat} {φ : Type} (a b : (⟨2, ![A, B]⟩ : Shape).Idx → φ) (h : ∀ (y : Fin A) (x : Fin B), a (ix2 y x) = b (ix2 y x)) : a = b := by
  funext i
  rw [eq_ix2 i]
  exact h _ _

theorem ext3 {A B C : Nat} {φ : Type} (a b : (⟨3, ![A, B, C]⟩ : Shape).Idx → φ) (h : ∀ (z : Fin A) (y : Fin B) (x : Fin C), a (ix3 z y x) = b (ix3 z y x)) : a = b := by
  funext i
  rw [eq_ix3 i]
  exact h _ _ _

/-- A position is settled by its coordinates. -/
theorem idx2 {A B : Nat} (i : (⟨2, ![A, B]⟩ : Shape).Idx) (y : Fin A) (x : Fin B) (h0 : (i 0).val = y.val) (h1 : (i 1).val = x.val) : i = ix2 y x := by
  rw [eq_ix2 i]
  exact congrArg₂ ix2 (Fin.ext h0) (Fin.ext h1)

theorem idx3 {A B C : Nat} (i : (⟨3, ![A, B, C]⟩ : Shape).Idx) (z : Fin A) (y : Fin B) (x : Fin C) (h0 : (i 0).val = z.val) (h1 : (i 1).val = y.val)
    (h2 : (i 2).val = x.val) : i = ix3 z y x := by
  rw [eq_ix3 i, show i 0 = z from Fin.ext h0, show i 1 = y from Fin.ext h1, show i 2 = x from Fin.ext h2]

/-- A position in `a` blocks of `b` is a block and a place in it. -/
theorem exists_block (a b : Nat) (y : Fin (a * b)) : ∃ (s : Fin a) (q : Fin b), y.val = s.val * b + q.val := by
  have hb : 0 < b := by
    rcases Nat.eq_zero_or_pos b with h | h
    · have := y.isLt; simp [h] at this
    · exact h
  exact ⟨⟨y.val / b, Nat.div_lt_of_lt_mul (Nat.lt_of_lt_of_eq y.isLt (Nat.mul_comm a b))⟩, ⟨y.val % b, Nat.mod_lt _ hb⟩, (Nat.div_add_mod' y.val b).symm⟩

/-- A sum over `n` positions is the sum over blocks of the sums inside them. -/
theorem sum_blocks {n a b : Nat} (e : n = a * b) (f : Fin n → EReal) (g : Fin a → Fin b → EReal)
    (h : ∀ (s : Fin a) (q : Fin b) (k : Fin n), k.val = s.val * b + q.val → f k = g s q) :
    ∑ k : Fin n, f k = ∑ s : Fin a, ∑ q : Fin b, g s q := by
  subst e
  rw [← Fintype.sum_prod_type' (f := g), ← finProdFinEquiv.sum_comp]
  exact Finset.sum_congr rfl fun p _ => h p.1 p.2 _ (by rw [finProdFinEquiv_apply_val, Nat.mul_comm, Nat.add_comm])

/-- Four sums, and eight, term by term. -/
theorem add4 {a0 a1 a2 a3 : EReal} {b : Fin 4 → EReal} (h0 : a0 = b 0) (h1 : a1 = b 1) (h2 : a2 = b 2) (h3 : a3 = b 3) :
    a0 + a1 + a2 + a3 = ∑ s : Fin 4, b s := by
  rw [Fin.sum_univ_four, h0, h1, h2, h3]

theorem add8 {a0 a1 a2 a3 a4 a5 a6 a7 : EReal} {b : Fin 8 → EReal} (h0 : a0 = b 0) (h1 : a1 = b 1) (h2 : a2 = b 2) (h3 : a3 = b 3)
    (h4 : a4 = b 4) (h5 : a5 = b 5) (h6 : a6 = b 6) (h7 : a7 = b 7) : a0 + a1 + a2 + a3 + a4 + a5 + a6 + a7 = ∑ s : Fin 8, b s := by
  rw [Fin.sum_univ_eight, h0, h1, h2, h3, h4, h5, h6, h7]

/-! ## Two arrays side by side -/

section
variable {α : Type} {A B C : Nat} (x1 x2 : (⟨2, ![A, B]⟩ : Shape).Idx → α)
  (h : Shape.Concatenates [(⟨2, ![A, B]⟩ : Shape), ⟨2, ![A, B]⟩] ⟨2, ![A, C]⟩ 1)

theorem cat_left (k : Fin A) (n : Fin C) (l : Fin B) (e : n.val = l.val) :
    concatenate ⟨2, ![A, C]⟩ 1 [⟨⟨2, ![A, B]⟩, x1⟩, ⟨⟨2, ![A, B]⟩, x2⟩] h (ix2 k n) = x1 (ix2 k l) := by
  refine concatenate_pair_apply_left (t := ⟨2, ![A, C]⟩) (s₁ := ⟨2, ![A, B]⟩) (s₂ := ⟨2, ![A, B]⟩) 1 x1 x2 h (ix2 k n) rfl (ix2 k l) fun b => ?_
  match b with
  | ⟨0, _⟩ => rfl
  | ⟨1, _⟩ => exact e.symm

theorem cat_right (k : Fin A) (n : Fin C) (l : Fin B) (e : n.val = B + l.val) :
    concatenate ⟨2, ![A, C]⟩ 1 [⟨⟨2, ![A, B]⟩, x1⟩, ⟨⟨2, ![A, B]⟩, x2⟩] h (ix2 k n) = x2 (ix2 k l) := by
  refine concatenate_pair_apply_right (t := ⟨2, ![A, C]⟩) (s₁ := ⟨2, ![A, B]⟩) (s₂ := ⟨2, ![A, B]⟩) 1 x1 x2 h (ix2 k n) rfl rfl (ix2 k l) (fun b hb => ?_) ?_
  · match b with
    | ⟨0, _⟩ => rfl
    | ⟨1, _⟩ => exact absurd rfl hb
  · show l.val + B = n.val
    omega
end

/-! ## Loads of a part -/

section
variable {A B C D : Nat} {e : EltTy}

/-- A load of `D` columns from column `o` on. -/
theorem ld_cols (X : Vec Ideal ⟨2, ![A, B]⟩ e) (o : Nat) (inb) (y : Fin A) (q : Fin D) (n : Fin B) (h : n.val = o + q.val) :
    View.ld X (Rect.unit (s := ⟨2, ![A, B]⟩) ![0, o] ![A, D] inb) (ix2 y q) = X (ix2 y n) := by
  rw [View.ld_apply]
  refine congrArg X (funext fun a => Fin.ext ?_)
  match a with
  | ⟨0, _⟩ => show 0 + 1 * y.val = y.val; omega
  | ⟨1, _⟩ => show o + 1 * q.val = n.val; omega

/-- A load of one shard. -/
theorem ld_shard (X : Vec Ideal ⟨3, ![A, B, C]⟩ e) (o : Nat) (inb) (s : Fin A) (y : Fin B) (q : Fin C) (h : s.val = o) :
    View.ld X (Rect.unit (s := ⟨3, ![A, B, C]⟩) ![o, 0, 0] ![1, B, C] inb) (ix3 (0 : Fin 1) y q) = X (ix3 s y q) := by
  rw [View.ld_apply]
  refine congrArg X (funext fun a => Fin.ext ?_)
  match a with
  | ⟨0, _⟩ => show o + 1 * 0 = s.val; omega
  | ⟨1, _⟩ => show 0 + 1 * y.val = y.val; omega
  | ⟨2, _⟩ => show 0 + 1 * q.val = q.val; omega

/-- Row `y` of one factor against row `x` of a shard of the other. -/
def part (a : Vec Ideal ⟨2, ![A, C]⟩ .bf16) (b : Vec Ideal ⟨3, ![1, B, C]⟩ .bf16) (y : Fin A) (x : Fin B) : EReal :=
  ∑ q : Fin C, (a (ix2 y q) : EReal) * (b (ix3 (0 : Fin 1) x q) : EReal)

variable {N : Nat}

theorem col_lt (h : D = N * C) (s : Fin N) (q : Fin C) : s.val * C + q.val < D := by
  have h1 : (s.val + 1) * C ≤ N * C := Nat.mul_le_mul_right C s.isLt
  have h2 := q.isLt
  rw [Nat.add_mul] at h1
  omega

/-- The same row of the whole left factor's columns that shard `s` meets, against that shard. -/
def shardSum (X : Vec Ideal ⟨2, ![A, D]⟩ .bf16) (W : Vec Ideal ⟨3, ![N, B, C]⟩ .bf16) (h : D = N * C) (y : Fin A) (x : Fin B) (s : Fin N) : EReal :=
  ∑ q : Fin C, (X (ix2 y ⟨s.val * C + q.val, col_lt h s q⟩) : EReal) * (W (ix3 s x q) : EReal)

theorem part_ld (X : Vec Ideal ⟨2, ![A, D]⟩ .bf16) (W : Vec Ideal ⟨3, ![N, B, C]⟩ .bf16) (h : D = N * C) (y : Fin A) (x : Fin B) (s : Fin N)
    (o u : Nat) (inb inb') (ho : s.val * C = o) (hu : s.val = u) :
    part (View.ld X (Rect.unit (s := ⟨2, ![A, D]⟩) ![0, o] ![A, C] inb)) (View.ld W (Rect.unit (s := ⟨3, ![N, B, C]⟩) ![u, 0, 0] ![1, B, C] inb')) y x
      = shardSum X W h y x s := by
  refine sum_congr rfl fun q _ => congrArg₂ (fun a b : EReal => a * b) (ld_cols X o inb y q _ ?_) (ld_shard W u inb' s x q hu)
  show s.val * C + q.val = o + q.val
  rw [ho]
end

/-! ## What a body leaves and loads -/

section
variable {sig : RefSig} {κ : Kind} {sp : Space} {S : Shape} {e : EltTy}

/-- A store of the whole buffer, last, leaves its payload. -/
theorem read_whole (v : View sig κ sp S e) (f : v.ty.Contents (Elt Ideal)) {off : Fin S.rank → Nat} (inb : ∀ a, off a + S.size a ≤ S.size a)
    (w : S.Idx → Elt Ideal e) (L : List (View.Piece (Elt Ideal) S e)) (h : ∀ a, off a = 0) :
    v.read (Elt Ideal) (v.writes (Elt Ideal) f ((⟨Rect.unit off S.size inb, w⟩ : View.Piece (Elt Ideal) S e) :: L)) = w := by
  funext y
  refine View.read_writes_cons_unit_of_mem v f inb w L y y rfl fun a => ?_
  rw [h a, Nat.zero_add]

/-- A load from a buffer that holds `x` reads `x` through its box. -/
theorem readAt_unread {arg : Memref sig κ sp S e} (harg : arg.IsWhole) (x : Vec Ideal S e) (r : Rect S) :
    View.readAt (Elt Ideal) arg.view r.toLoadRect (harg.unread x) = View.ld x r := by
  funext y
  rw [View.readAt_apply, harg.read_unread]
end

/-- A row against a column of shard `s`. -/
def shardProd {A N K B : Nat} (X : Vec Ideal ⟨2, ![A, K]⟩ .bf16) (W : Vec Ideal ⟨3, ![N, K, B]⟩ .bf16) (y : Fin A) (x : Fin B) (s : Fin N) : EReal :=
  ∑ k : Fin K, (X (ix2 y k) : EReal) * (W (ix3 s k x) : EReal)

theorem shardProd_congr {A A' N N' K B : Nat} (X : Vec Ideal ⟨2, ![A, K]⟩ .bf16) (W : Vec Ideal ⟨3, ![N, K, B]⟩ .bf16) (X' : Vec Ideal ⟨2, ![A', K]⟩ .bf16)
    (W' : Vec Ideal ⟨3, ![N', K, B]⟩ .bf16) (y : Fin A) (y' : Fin A') (x : Fin B) (s : Fin N) (s' : Fin N') (h : ∀ k, X (ix2 y k) = X' (ix2 y' k))
    (h' : ∀ k, W (ix3 s k x) = W' (ix3 s' k x)) : shardProd X W y x s = shardProd X' W' y' x s' :=
  sum_congr rfl fun k _ => congrArg₂ (fun a b : EReal => a * b) (h k) (h' k)

end Cert.Blocks

end
-- ==== Proof.DownX.lean ====
/- The down projection's input gradient: what the call leaves is the reference's product. -/
module

public import proofs.«01_k».proof.Defs
public import proofs.«01_k».proof.Proof.Gen.DownXIdeal.Value
public import proofs.«01_k».proof.Proof.Gen.RefDownXIdeal.Read
public import proofs.«01_k».proof.Proof.Gen.RefDownXIdeal.Run
public import proofs.«01_k».proof.Proof.Blocks

@[expose] public section

set_option maxRecDepth 16384

noncomputable section

namespace Cert.DownXIdeal.Product

open Idealize.ShloMosaic Idealize.ShloMosaic.TcCoe Idealize.SL.Sem
open Cert.DownXIdeal Cert.DownXIdeal.Gen Cert.DownXIdeal.Value Cert.Blocks
open Finset

/-- One point's product: the rows of one factor against the rows of the other. -/
theorem tile (x0 : Vec Ideal S2048x2048 .bf16) (x1 : Vec Ideal S512x2048 .bf16) (y : Fin 2048) (x : Fin 512) :
    (out0_2 (F := Ideal) x0 x1 (ix2 y x) : EReal) = ∑ k : Fin 2048, (x0 (ix2 y k) : EReal) * (x1 (ix2 x k) : EReal) := by
  rw [out0_2, View.canon_cons_unit_lit _ _ _ (by decide), View.ld_unit_lit _ _ (by decide), View.ld_unit_lit _ _ (by decide)]
  pointwise [k0_pay1]

theorem at0 : ∀ t : Fin grid0.N, win0_0.index t (0 : Fin 2) = 0 ∧ win0_0.index t (1 : Fin 2) = 0 := by decide +kernel
theorem at1 : ∀ t : Fin grid0.N, win0_1.index t (0 : Fin 2) = t.val ∧ win0_1.index t (1 : Fin 2) = 0 := by decide +kernel
theorem at2 : ∀ t : Fin grid0.N, win0_2.index t (0 : Fin 2) = 0 ∧ win0_2.index t (1 : Fin 2) = t.val := by decide +kernel
theorem every : ∀ t : Fin cfg0.N, (cfg0.win 2).flush t = true := by decide +kernel

variable (m : (ℓ : Loc nD τ sig) → Buf (Elt Ideal) ℓ) (c : Dev nD)

theorem read0 (t : Fin cfg0.N) (y : Fin 2048) (k : Fin 2048) :
    iblk m c 0 t (ix2 y k) = m ((c : Thread nD τ).loc main_arg0) (ix2 y k) := by
  show V m c main_arg0 (((cfg0.win 0).blk t).view.emb (ix2 y k)) = _
  refine congrArg (m ((c : Thread nD τ).loc main_arg0)) (funext fun a => Fin.ext ?_)
  obtain ⟨e0, e1⟩ := at0 t
  match a with
  | ⟨0, _⟩ => show win0_0.index t (0 : Fin 2) * 2048 + 1 * y.val = y.val; rw [e0]; omega
  | ⟨1, _⟩ => show win0_0.index t (1 : Fin 2) * 2048 + 1 * k.val = k.val; rw [e1]; omega

theorem read1 (t : Fin cfg0.N) (x : Fin 512) (k : Fin 2048) (n : Fin 5632) (hn : n.val = t.val * 512 + x.val) :
    iblk m c 1 t (ix2 x k) = m ((c : Thread nD τ).loc main_arg1) (ix2 n k) := by
  show V m c main_arg1 (((cfg0.win 1).blk t).view.emb (ix2 x k)) = _
  refine congrArg (m ((c : Thread nD τ).loc main_arg1)) (funext fun a => Fin.ext ?_)
  obtain ⟨e0, e1⟩ := at1 t
  match a with
  | ⟨0, _⟩ => show win0_1.index t (0 : Fin 2) * 512 + 1 * x.val = n.val; rw [e0, hn]; omega
  | ⟨1, _⟩ => show win0_1.index t (1 : Fin 2) * 2048 + 1 * k.val = k.val; rw [e1]; omega

theorem arr_eq : (dats m 0 c).arrAt 2 cfg0.N
    = Cert.RefDownXIdeal.Read.val_main_v4 (F := Ideal) (m ((c : Thread nD τ).loc main_arg0)) (m ((c : Thread nD τ).loc main_arg1)) := by
  refine ext2 _ _ fun y n => ?_
  obtain ⟨t, x, hn⟩ := exists_block 11 512 n
  have hb := congrFun ((blocks2 m c t (every t)).trans (flushed2 m c t)) (ix2 y x)
  have e : ((cfg0.win 2).blk t).view.emb (ix2 y x) = (ix2 y n : S2048x5632.Idx) := by
    obtain ⟨e0, e1⟩ := at2 t
    refine funext fun a => Fin.ext ?_
    match a with
    | ⟨0, _⟩ => show win0_2.index t (0 : Fin 2) * 2048 + 1 * y.val = y.val; rw [e0]; omega
    | ⟨1, _⟩ => show win0_2.index t (1 : Fin 2) * 512 + 1 * x.val = n.val; rw [e1]; omega
  refine ((congrArg ((dats m 0 c).arrAt 2 cfg0.N) e).symm.trans hb).trans ?_
  refine (tile (iblk m c 0 t) (iblk m c 1 t) y x).trans ?_
  refine Eq.trans ?_ (Cert.RefDownXIdeal.Read.val_main_v4_apply _ _ _).symm
  refine sum_congr rfl fun k _ => ?_
  rw [read0 m c t y k, read1 m c t x k n hn]
  refine congrArg₂ (fun a b : EReal => a * b) (congrArg (m ((c : Thread nD τ).loc main_arg0)) (funext fun a => ?_)) (congrArg (m ((c : Thread nD τ).loc main_arg1)) (funext fun a => ?_)) <;>
  match a with
  | ⟨0, _⟩ => rfl
  | ⟨1, _⟩ => rfl

/-- The reference runs and leaves its arguments as they are. -/
theorem frame_r : Cert.quiescent_RefDownXIdeal := fun m ρ _ =>
  (θ_run Cert.RefDownXIdeal.defs _ _).mono (fun r h => ⟨fun c => (h c).2, sem_eq_zero_of_no_sems (by decide) r.2⟩)
    (Cert.RefDownXIdeal.Value.run (F := Ideal) m ρ)

/-- From equal arguments the call and the reference end with the same result. -/
theorem algebraic : Cert.algebraic_DownXIdeal_RefDownXIdeal := by
  intro m ρ m' ρ' _ hag
  refine ⟨fun c => (dats m 0 c).arrAt 2 cfg0.N, run_blocks m ρ, ?_⟩
  refine (θ_run Cert.RefDownXIdeal.defs _ _).mono (fun r h c => ⟨(h c).1.trans ?_, (h c).2⟩) (Cert.RefDownXIdeal.Value.run (F := Ideal) m' ρ')
  refine (Cert.RefDownXIdeal.Read.val_main_v4_eq (F := Ideal) _ _).trans (Eq.trans ?_ (arr_eq m c).symm)
  exact congrArg₂ (Cert.RefDownXIdeal.Read.val_main_v4 (F := Ideal)) (hag c).1 (hag c).2

end Cert.DownXIdeal.Product

end
-- ==== Proof.DownW.lean ====
/- The down projection's weight gradient: what the call leaves is the reference's product. -/
module

public import proofs.«01_k».proof.Defs
public import proofs.«01_k».proof.Proof.Gen.DownWIdeal.Value
public import proofs.«01_k».proof.Proof.Gen.RefDownWIdeal.Read
public import proofs.«01_k».proof.Proof.Gen.RefDownWIdeal.Run
public import proofs.«01_k».proof.Proof.Blocks

@[expose] public section

set_option maxRecDepth 16384

noncomputable section

namespace Cert.DownWIdeal.Product

open Idealize.ShloMosaic Idealize.ShloMosaic.TcCoe Idealize.SL.Sem
open Cert.DownWIdeal Cert.DownWIdeal.Gen Cert.DownWIdeal.Value Cert.Blocks
open Cert.RefDownWIdeal.Read
open Finset

/-- One point's product: the columns of one factor against the columns of the other. -/
theorem tile (x0 : Vec Ideal S2048x512 .bf16) (x1 : Vec Ideal S2048x2048 .bf16) (y : Fin 512) (x : Fin 2048) :
    (out0_2 (F := Ideal) x0 x1 (ix2 y x) : EReal) = ∑ k : Fin 2048, (x0 (ix2 k y) : EReal) * (x1 (ix2 k x) : EReal) := by
  rw [out0_2, View.canon_cons_unit_lit _ _ _ (by decide), View.ld_unit_lit _ _ (by decide), View.ld_unit_lit _ _ (by decide)]
  pointwise [k0_pay1]

theorem ref_apply (x0 : Vec Ideal S2048x5632 .bf16) (x1 : Vec Ideal S2048x2048 .bf16) (n : Fin 5632) (x : Fin 2048) :
    (val_main_v6 (F := Ideal) x0 x1 (ix2 n x) : EReal) = ∑ k : Fin 2048, (x1 (ix2 k x) : EReal) * (x0 (ix2 k n) : EReal) := by
  pointwise [val_main_v6, val_main_v5, val_main_v4, val_main_v3, val_main_v1]

theorem at0 : ∀ t : Fin grid0.N, win0_0.index t (0 : Fin 2) = 0 ∧ win0_0.index t (1 : Fin 2) = t.val := by decide +kernel
theorem at1 : ∀ t : Fin grid0.N, win0_1.index t (0 : Fin 2) = 0 ∧ win0_1.index t (1 : Fin 2) = 0 := by decide +kernel
theorem at2 : ∀ t : Fin grid0.N, win0_2.index t (0 : Fin 2) = t.val ∧ win0_2.index t (1 : Fin 2) = 0 := by decide +kernel
theorem every : ∀ t : Fin cfg0.N, (cfg0.win 2).flush t = true := by decide +kernel

variable (m : (ℓ : Loc nD τ sig) → Buf (Elt Ideal) ℓ) (c : Dev nD)

theorem read0 (t : Fin cfg0.N) (k : Fin 2048) (y : Fin 512) (n : Fin 5632) (hn : n.val = t.val * 512 + y.val) :
    iblk m c 0 t (ix2 k y) = m ((c : Thread nD τ).loc main_arg0) (ix2 k n) := by
  show V m c main_arg0 (((cfg0.win 0).blk t).view.emb (ix2 k y)) = _
  refine congrArg (m ((c : Thread nD τ).loc main_arg0)) (funext fun a => Fin.ext ?_)
  obtain ⟨e0, e1⟩ := at0 t
  match a with
  | ⟨0, _⟩ => show win0_0.index t (0 : Fin 2) * 2048 + 1 * k.val = k.val; rw [e0]; omega
  | ⟨1, _⟩ => show win0_0.index t (1 : Fin 2) * 512 + 1 * y.val = n.val; rw [e1]; omega

theorem read1 (t : Fin cfg0.N) (k : Fin 2048) (x : Fin 2048) :
    iblk m c 1 t (ix2 k x) = m ((c : Thread nD τ).loc main_arg1) (ix2 k x) := by
  show V m c main_arg1 (((cfg0.win 1).blk t).view.emb (ix2 k x)) = _
  refine congrArg (m ((c : Thread nD τ).loc main_arg1)) (funext fun a => Fin.ext ?_)
  obtain ⟨e0, e1⟩ := at1 t
  match a with
  | ⟨0, _⟩ => show win0_1.index t (0 : Fin 2) * 2048 + 1 * k.val = k.val; rw [e0]; omega
  | ⟨1, _⟩ => show win0_1.index t (1 : Fin 2) * 2048 + 1 * x.val = x.val; rw [e1]; omega

theorem arr_eq : (dats m 0 c).arrAt 2 cfg0.N
    = val_main_v6 (F := Ideal) (m ((c : Thread nD τ).loc main_arg0)) (m ((c : Thread nD τ).loc main_arg1)) := by
  refine ext2 _ _ fun n x => ?_
  obtain ⟨t, y, hn⟩ := exists_block 11 512 n
  have hb := congrFun ((blocks2 m c t (every t)).trans (flushed2 m c t)) (ix2 y x)
  have e : ((cfg0.win 2).blk t).view.emb (ix2 y x) = (ix2 n x : S5632x2048.Idx) := by
    obtain ⟨e0, e1⟩ := at2 t
    refine funext fun a => Fin.ext ?_
    match a with
    | ⟨0, _⟩ => show win0_2.index t (0 : Fin 2) * 512 + 1 * y.val = n.val; rw [e0]; omega
    | ⟨1, _⟩ => show win0_2.index t (1 : Fin 2) * 2048 + 1 * x.val = x.val; rw [e1]; omega
  refine ((congrArg ((dats m 0 c).arrAt 2 cfg0.N) e).symm.trans hb).trans ?_
  refine (tile (iblk m c 0 t) (iblk m c 1 t) y x).trans (Eq.trans ?_ (ref_apply _ _ n x).symm)
  refine sum_congr rfl fun k _ => ?_
  rw [read0 m c t k y n hn, read1 m c t k x]
  exact mul_comm _ _

/-- The reference runs and leaves its arguments as they are. -/
theorem frame_r : Cert.quiescent_RefDownWIdeal := fun m ρ _ =>
  (θ_run Cert.RefDownWIdeal.defs _ _).mono (fun r h => ⟨fun c => (h c).2, sem_eq_zero_of_no_sems (by decide) r.2⟩)
    (Cert.RefDownWIdeal.Value.run (F := Ideal) m ρ)

/-- From equal arguments the call and the reference end with the same result. -/
theorem algebraic : Cert.algebraic_DownWIdeal_RefDownWIdeal := by
  intro m ρ m' ρ' _ hag
  refine ⟨fun c => (dats m 0 c).arrAt 2 cfg0.N, run_blocks m ρ, ?_⟩
  refine (θ_run Cert.RefDownWIdeal.defs _ _).mono (fun r h c => ⟨(h c).1.trans ?_, (h c).2⟩) (Cert.RefDownWIdeal.Value.run (F := Ideal) m' ρ')
  refine (Cert.RefDownWIdeal.Read.val_main_v6_eq (F := Ideal) _ _).trans (Eq.trans ?_ (arr_eq m c).symm)
  exact congrArg₂ (Cert.RefDownWIdeal.Read.val_main_v6 (F := Ideal)) (hag c).1 (hag c).2

end Cert.DownWIdeal.Product

end
-- ==== Proof.OutX.lean ====
/- The output projection's input gradient: what the call leaves is the reference's product. -/
module

public import proofs.«01_k».proof.Defs
public import proofs.«01_k».proof.Proof.Gen.OutXIdeal.Value
public import proofs.«01_k».proof.Proof.Gen.RefOutXIdeal.Read
public import proofs.«01_k».proof.Proof.Gen.RefOutXIdeal.Run
public import proofs.«01_k».proof.Proof.Blocks

@[expose] public section

set_option maxRecDepth 16384

noncomputable section

namespace Cert.OutXIdeal.Product

open Idealize.ShloMosaic Idealize.ShloMosaic.TcCoe Idealize.SL.Sem
open Cert.OutXIdeal Cert.OutXIdeal.Gen Cert.OutXIdeal.Value Cert.Blocks
open Cert.RefOutXIdeal.Read
open Finset

/-- One point's product: the rows of one factor against the rows of the other. -/
theorem tile (x0 : Vec Ideal S1024x2048 .bf16) (x1 : Vec Ideal S1024x2048 .bf16) (y : Fin 1024) (x : Fin 1024) :
    (out0_2 (F := Ideal) x0 x1 (ix2 y x) : EReal) = ∑ k : Fin 2048, (x0 (ix2 y k) : EReal) * (x1 (ix2 x k) : EReal) := by
  rw [out0_2, View.canon_cons_unit_lit _ _ _ (by decide), View.ld_unit_lit _ _ (by decide), View.ld_unit_lit _ _ (by decide)]
  pointwise [k0_pay1]

theorem ref_apply (x0 : Vec Ideal S2048x2048 .bf16) (x1 : Vec Ideal S2048x2048 .bf16) (n : Fin 2048) (x : Fin 2048) :
    (val_main_v4 (F := Ideal) x0 x1 (ix2 n x) : EReal) = ∑ k : Fin 2048, (x0 (ix2 n k) : EReal) * (x1 (ix2 x k) : EReal) := by
  pointwise [val_main_v4, val_main_v3, val_main_v0]

/-- The point that computes the block in row `a` and column `b`. -/
def point (a b : Fin 2) : Fin cfg0.N := ⟨a.val * 2 + b.val, by have := a.isLt; have := b.isLt; show _ < 4; omega⟩

theorem at0 : ∀ a b : Fin 2, win0_0.index (point a b) (0 : Fin 2) = a.val ∧ win0_0.index (point a b) (1 : Fin 2) = 0 := by decide +kernel
theorem at1 : ∀ a b : Fin 2, win0_1.index (point a b) (0 : Fin 2) = b.val ∧ win0_1.index (point a b) (1 : Fin 2) = 0 := by decide +kernel
theorem at2 : ∀ a b : Fin 2, win0_2.index (point a b) (0 : Fin 2) = a.val ∧ win0_2.index (point a b) (1 : Fin 2) = b.val := by decide +kernel
theorem every : ∀ t : Fin cfg0.N, (cfg0.win 2).flush t = true := by decide +kernel

variable (m : (ℓ : Loc nD τ sig) → Buf (Elt Ideal) ℓ) (c : Dev nD)

theorem read0 (a b : Fin 2) (y : Fin 1024) (k : Fin 2048) (n : Fin 2048) (hn : n.val = a.val * 1024 + y.val) :
    iblk m c 0 (point a b) (ix2 y k) = m ((c : Thread nD τ).loc main_arg0) (ix2 n k) := by
  show V m c main_arg0 (((cfg0.win 0).blk (point a b)).view.emb (ix2 y k)) = _
  refine congrArg (m ((c : Thread nD τ).loc main_arg0)) (funext fun i => Fin.ext ?_)
  obtain ⟨e0, e1⟩ := at0 a b
  match i with
  | ⟨0, _⟩ => show win0_0.index (point a b) (0 : Fin 2) * 1024 + 1 * y.val = n.val; rw [e0]; omega
  | ⟨1, _⟩ => show win0_0.index (point a b) (1 : Fin 2) * 2048 + 1 * k.val = k.val; rw [e1]; omega

theorem read1 (a b : Fin 2) (x : Fin 1024) (k : Fin 2048) (n : Fin 2048) (hn : n.val = b.val * 1024 + x.val) :
    iblk m c 1 (point a b) (ix2 x k) = m ((c : Thread nD τ).loc main_arg1) (ix2 n k) := by
  show V m c main_arg1 (((cfg0.win 1).blk (point a b)).view.emb (ix2 x k)) = _
  refine congrArg (m ((c : Thread nD τ).loc main_arg1)) (funext fun i => Fin.ext ?_)
  obtain ⟨e0, e1⟩ := at1 a b
  match i with
  | ⟨0, _⟩ => show win0_1.index (point a b) (0 : Fin 2) * 1024 + 1 * x.val = n.val; rw [e0]; omega
  | ⟨1, _⟩ => show win0_1.index (point a b) (1 : Fin 2) * 2048 + 1 * k.val = k.val; rw [e1]; omega

theorem arr_eq : (dats m 0 c).arrAt 2 cfg0.N
    = val_main_v4 (F := Ideal) (m ((c : Thread nD τ).loc main_arg0)) (m ((c : Thread nD τ).loc main_arg1)) := by
  refine ext2 _ _ fun n z => ?_
  obtain ⟨a, y, hn⟩ := exists_block 2 1024 n
  obtain ⟨b, x, hz⟩ := exists_block 2 1024 z
  have hb := congrFun ((blocks2 m c (point a b) (every _)).trans (flushed2 m c (point a b))) (ix2 y x)
  have e : ((cfg0.win 2).blk (point a b)).view.emb (ix2 y x) = (ix2 n z : S2048x2048.Idx) := by
    obtain ⟨e0, e1⟩ := at2 a b
    refine funext fun i => Fin.ext ?_
    match i with
    | ⟨0, _⟩ => show win0_2.index (point a b) (0 : Fin 2) * 1024 + 1 * y.val = n.val; rw [e0]; omega
    | ⟨1, _⟩ => show win0_2.index (point a b) (1 : Fin 2) * 1024 + 1 * x.val = z.val; rw [e1]; omega
  refine ((congrArg ((dats m 0 c).arrAt 2 cfg0.N) e).symm.trans hb).trans ?_
  refine (tile (iblk m c 0 (point a b)) (iblk m c 1 (point a b)) y x).trans (Eq.trans ?_ (ref_apply _ _ n z).symm)
  refine sum_congr rfl fun k _ => ?_
  rw [read0 m c a b y k n hn, read1 m c a b x k z hz]

/-- The reference runs and leaves its arguments as they are. -/
theorem frame_r : Cert.quiescent_RefOutXIdeal := fun m ρ _ =>
  (θ_run Cert.RefOutXIdeal.defs _ _).mono (fun r h => ⟨fun c => (h c).2, sem_eq_zero_of_no_sems (by decide) r.2⟩)
    (Cert.RefOutXIdeal.Value.run (F := Ideal) m ρ)

/-- From equal arguments the call and the reference end with the same result. -/
theorem algebraic : Cert.algebraic_OutXIdeal_RefOutXIdeal := by
  intro m ρ m' ρ' _ hag
  refine ⟨fun c => (dats m 0 c).arrAt 2 cfg0.N, run_blocks m ρ, ?_⟩
  refine (θ_run Cert.RefOutXIdeal.defs _ _).mono (fun r h c => ⟨(h c).1.trans ?_, (h c).2⟩) (Cert.RefOutXIdeal.Value.run (F := Ideal) m' ρ')
  refine (Cert.RefOutXIdeal.Read.val_main_v4_eq (F := Ideal) _ _).trans (Eq.trans ?_ (arr_eq m c).symm)
  exact congrArg₂ (Cert.RefOutXIdeal.Read.val_main_v4 (F := Ideal)) (hag c).1 (hag c).2

end Cert.OutXIdeal.Product

end
-- ==== Proof.OutW.lean ====
/- The output projection's weight gradient: what the call leaves is the reference's product. -/
module

public import proofs.«01_k».proof.Defs
public import proofs.«01_k».proof.Proof.Gen.OutWIdeal.Value
public import proofs.«01_k».proof.Proof.Gen.RefOutWIdeal.Read
public import proofs.«01_k».proof.Proof.Gen.RefOutWIdeal.Run
public import proofs.«01_k».proof.Proof.Blocks

@[expose] public section

set_option maxRecDepth 16384

noncomputable section

namespace Cert.OutWIdeal.Product

open Idealize.ShloMosaic Idealize.ShloMosaic.TcCoe Idealize.SL.Sem
open Cert.OutWIdeal Cert.OutWIdeal.Gen Cert.OutWIdeal.Value Cert.Blocks
open Cert.RefOutWIdeal.Read
open Finset

/-- One point's product: the columns of one factor against the columns of the other. -/
theorem tile (x0 : Vec Ideal S2048x1024 .bf16) (x1 : Vec Ideal S2048x1024 .bf16) (y : Fin 1024) (x : Fin 1024) :
    (out0_2 (F := Ideal) x0 x1 (ix2 y x) : EReal) = ∑ k : Fin 2048, (x0 (ix2 k y) : EReal) * (x1 (ix2 k x) : EReal) := by
  rw [out0_2, View.canon_cons_unit_lit _ _ _ (by decide), View.ld_unit_lit _ _ (by decide), View.ld_unit_lit _ _ (by decide)]
  pointwise [k0_pay1]

theorem ref_apply (x0 : Vec Ideal S2048x2048 .bf16) (x1 : Vec Ideal S2048x2048 .bf16) (n : Fin 2048) (x : Fin 2048) :
    (val_main_v6 (F := Ideal) x0 x1 (ix2 n x) : EReal) = ∑ k : Fin 2048, (x1 (ix2 k x) : EReal) * (x0 (ix2 k n) : EReal) := by
  pointwise [val_main_v6, val_main_v5, val_main_v4, val_main_v3, val_main_v1]

/-- The point that computes the block in row `a` and column `b`. -/
def point (a b : Fin 2) : Fin cfg0.N := ⟨a.val * 2 + b.val, by have := a.isLt; have := b.isLt; show _ < 4; omega⟩

theorem at0 : ∀ a b : Fin 2, win0_0.index (point a b) (0 : Fin 2) = 0 ∧ win0_0.index (point a b) (1 : Fin 2) = a.val := by decide +kernel
theorem at1 : ∀ a b : Fin 2, win0_1.index (point a b) (0 : Fin 2) = 0 ∧ win0_1.index (point a b) (1 : Fin 2) = b.val := by decide +kernel
theorem at2 : ∀ a b : Fin 2, win0_2.index (point a b) (0 : Fin 2) = a.val ∧ win0_2.index (point a b) (1 : Fin 2) = b.val := by decide +kernel
theorem every : ∀ t : Fin cfg0.N, (cfg0.win 2).flush t = true := by decide +kernel

variable (m : (ℓ : Loc nD τ sig) → Buf (Elt Ideal) ℓ) (c : Dev nD)

theorem read0 (a b : Fin 2) (y : Fin 1024) (k : Fin 2048) (n : Fin 2048) (hn : n.val = a.val * 1024 + y.val) :
    iblk m c 0 (point a b) (ix2 k y) = m ((c : Thread nD τ).loc main_arg0) (ix2 k n) := by
  show V m c main_arg0 (((cfg0.win 0).blk (point a b)).view.emb (ix2 k y)) = _
  refine congrArg (m ((c : Thread nD τ).loc main_arg0)) (funext fun i => Fin.ext ?_)
  obtain ⟨e0, e1⟩ := at0 a b
  match i with
  | ⟨0, _⟩ => show win0_0.index (point a b) (0 : Fin 2) * 2048 + 1 * k.val = k.val; rw [e0]; omega
  | ⟨1, _⟩ => show win0_0.index (point a b) (1 : Fin 2) * 1024 + 1 * y.val = n.val; rw [e1]; omega

theorem read1 (a b : Fin 2) (x : Fin 1024) (k : Fin 2048) (n : Fin 2048) (hn : n.val = b.val * 1024 + x.val) :
    iblk m c 1 (point a b) (ix2 k x) = m ((c : Thread nD τ).loc main_arg1) (ix2 k n) := by
  show V m c main_arg1 (((cfg0.win 1).blk (point a b)).view.emb (ix2 k x)) = _
  refine congrArg (m ((c : Thread nD τ).loc main_arg1)) (funext fun i => Fin.ext ?_)
  obtain ⟨e0, e1⟩ := at1 a b
  match i with
  | ⟨0, _⟩ => show win0_1.index (point a b) (0 : Fin 2) * 2048 + 1 * k.val = k.val; rw [e0]; omega
  | ⟨1, _⟩ => show win0_1.index (point a b) (1 : Fin 2) * 1024 + 1 * x.val = n.val; rw [e1]; omega

theorem arr_eq : (dats m 0 c).arrAt 2 cfg0.N
    = val_main_v6 (F := Ideal) (m ((c : Thread nD τ).loc main_arg0)) (m ((c : Thread nD τ).loc main_arg1)) := by
  refine ext2 _ _ fun n z => ?_
  obtain ⟨a, y, hn⟩ := exists_block 2 1024 n
  obtain ⟨b, x, hz⟩ := exists_block 2 1024 z
  have hb := congrFun ((blocks2 m c (point a b) (every _)).trans (flushed2 m c (point a b))) (ix2 y x)
  have e : ((cfg0.win 2).blk (point a b)).view.emb (ix2 y x) = (ix2 n z : S2048x2048.Idx) := by
    obtain ⟨e0, e1⟩ := at2 a b
    refine funext fun i => Fin.ext ?_
    match i with
    | ⟨0, _⟩ => show win0_2.index (point a b) (0 : Fin 2) * 1024 + 1 * y.val = n.val; rw [e0]; omega
    | ⟨1, _⟩ => show win0_2.index (point a b) (1 : Fin 2) * 1024 + 1 * x.val = z.val; rw [e1]; omega
  refine ((congrArg ((dats m 0 c).arrAt 2 cfg0.N) e).symm.trans hb).trans ?_
  refine (tile (iblk m c 0 (point a b)) (iblk m c 1 (point a b)) y x).trans (Eq.trans ?_ (ref_apply _ _ n z).symm)
  refine sum_congr rfl fun k _ => ?_
  rw [read0 m c a b y k n hn, read1 m c a b x k z hz]
  exact mul_comm _ _

/-- The reference runs and leaves its arguments as they are. -/
theorem frame_r : Cert.quiescent_RefOutWIdeal := fun m ρ _ =>
  (θ_run Cert.RefOutWIdeal.defs _ _).mono (fun r h => ⟨fun c => (h c).2, sem_eq_zero_of_no_sems (by decide) r.2⟩)
    (Cert.RefOutWIdeal.Value.run (F := Ideal) m ρ)

/-- From equal arguments the call and the reference end with the same result. -/
theorem algebraic : Cert.algebraic_OutWIdeal_RefOutWIdeal := by
  intro m ρ m' ρ' _ hag
  refine ⟨fun c => (dats m 0 c).arrAt 2 cfg0.N, run_blocks m ρ, ?_⟩
  refine (θ_run Cert.RefOutWIdeal.defs _ _).mono (fun r h c => ⟨(h c).1.trans ?_, (h c).2⟩) (Cert.RefOutWIdeal.Value.run (F := Ideal) m' ρ')
  refine (Cert.RefOutWIdeal.Read.val_main_v6_eq (F := Ideal) _ _).trans (Eq.trans ?_ (arr_eq m c).symm)
  exact congrArg₂ (Cert.RefOutWIdeal.Read.val_main_v6 (F := Ideal)) (hag c).1 (hag c).2

end Cert.OutWIdeal.Product

end
-- ==== Proof.UpX.lean ====
/- The up projection's input gradient: what the call leaves is the reference's product. The call takes the gradient of the
   projection as its two halves; four points add two shards' products each into one block of rows, the first two points from the
   one half and the last two from the other. The reference takes one product over the halves side by side. -/
module

public import proofs.«01_k».proof.Defs
public import proofs.«01_k».proof.Proof.Gen.UpXIdeal.Value
public import proofs.«01_k».proof.Proof.Gen.RefUpXIdeal.Read
public import proofs.«01_k».proof.Proof.Gen.RefUpXIdeal.Run
public import proofs.«01_k».proof.Proof.Blocks

@[expose] public section

set_option maxRecDepth 16384

noncomputable section

namespace Cert.UpXIdeal.Product

open Idealize.ShloMosaic Idealize.ShloMosaic.TcCoe Idealize.SL.Sem
open Cert.UpXIdeal Cert.UpXIdeal.Gen Cert.UpXIdeal.Value Cert.Blocks
open Cert.RefUpXIdeal.Read
open Finset

/-! ## One point -/

section
variable (a0 a1 : Vec Ideal S512x1408 .bf16) (b0 b1 : Vec Ideal S1x2048x1408 .bf16) (y : Fin 512) (x : Fin 2048)

theorem pay1_apply : (k0_pay1 (F := Ideal) a0 b0 a1 b1 (ix2 y x) : EReal) = part a0 b0 y x + part a1 b1 y x := by
  unfold part
  pointwise [k0_pay1]

theorem pay2_apply (p : Vec Ideal S512x2048 .f32) : (k0_pay2 (F := Ideal) a0 b0 a1 b1 p (ix2 y x) : EReal)
    = (p (ix2 y x) : EReal) + (part a0 b0 y x + part a1 b1 y x) := by
  rw [← pay1_apply]
  pointwise [k0_pay2]

theorem pay4_apply (p : Vec Ideal S512x2048 .f32) : (k0_pay4 (F := Ideal) a0 b0 a1 b1 p (ix2 y x) : EReal)
    = (p (ix2 y x) : EReal) + (part a0 b0 y x + part a1 b1 y x) :=
  pay2_apply a0 a1 b0 b1 y x p
end

section
variable (c : Dev nD) (i : grid0.Coords) (arg2 : Memref sig .tc .vmem S512x2816 .bf16) (harg2 : arg2.IsWhole)
  (arg3 : Memref sig .tc .vmem S512x2816 .bf16) (harg3 : arg3.IsWhole) (arg4 : Memref sig .tc .vmem S2x2048x1408 .bf16) (harg4 : arg4.IsWhole)
  (arg5 : Memref sig .tc .vmem S512x2048 .f32) (harg5 : arg5.IsWhole)
  (x0 x1 : Vec Ideal S512x2816 .bf16) (x2 : Vec Ideal S2x2048x1408 .bf16) (y : Fin 512) (x : Fin 2048)

/-- The columns from `o` on, and shard `u`, as the body loads them. -/
abbrev cols (arg : Memref sig .tc .vmem S512x2816 .bf16) (harg : arg.IsWhole) (X : Vec Ideal S512x2816 .bf16) (o : Nat) (inb) :=
  View.readAt (Elt Ideal) arg.view (Rect.unit (s := S512x2816) ![0, o] S512x1408.size inb).toLoadRect (harg.unread X)
abbrev shard (u : Nat) (inb) := View.readAt (Elt Ideal) arg4.view (Rect.unit (s := S2x2048x1408) ![u, 0, 0] S1x2048x1408.size inb).toLoadRect (harg4.unread x2)
abbrev before (p : Vec Ideal S512x2048 .f32) :=
  View.readAt (Elt Ideal) arg5.view (Rect.unit (s := S512x2048) ![0, 0] S512x2048.size inb_S512x2048_S512x2048_0_0).toLoadRect (harg5.unread p)

/-- Two products, with the two shards of a point. -/
theorem add2 (X : Vec Ideal S512x2816 .bf16) (inb0 inb1 inb2 inb3) :
    part (View.ld X (Rect.unit (s := S512x2816) ![0, 0] S512x1408.size inb0)) (View.ld x2 (Rect.unit (s := S2x2048x1408) ![0, 0, 0] S1x2048x1408.size inb1)) y x
      + part (View.ld X (Rect.unit (s := S512x2816) ![0, 1408] S512x1408.size inb2)) (View.ld x2 (Rect.unit (s := S2x2048x1408) ![1, 0, 0] S1x2048x1408.size inb3)) y x
      = ∑ s : Fin 2, shardSum X x2 rfl y x s := by
  rw [Fin.sum_univ_two]
  exact congrArg₂ (fun z w : EReal => z + w) (part_ld X x2 rfl y x 0 0 0 _ _ rfl rfl) (part_ld X x2 rfl y x 1 1408 1 _ _ rfl rfl)

/-- The first of a block's four points leaves its two products. -/
theorem tile_A (hc0 : cond0_0 i) (hc1 : cond0_1 i) (hc2 : ¬cond0_2 i) (hc3 : ¬cond0_3 i) :
    (out0_A_3 (F := Ideal) c i arg2 harg2 arg3 harg3 arg4 harg4 arg5 harg5 hc0 hc1 hc2 hc3 x0 x1 x2 (ix2 y x) : EReal) = ∑ s : Fin 2, shardSum x0 x2 rfl y x s := by
  have hp : (kernelRun0_A (F := Ideal) c i arg2 harg2 arg3 harg3 arg4 harg4 arg5 harg5 hc0 hc1 hc2 hc3 x0 x1 x2).1
      = [⟨Rect.unit (s := S512x2048) ![0, 0] S512x2048.size inb_S512x2048_S512x2048_0_0,
          k0_pay1 (cols arg2 harg2 x0 0 inb_S512x2816_S512x1408_0_0) (shard arg4 harg4 x2 0 inb_S2x2048x1408_S1x2048x1408_0_0_0)
            (cols arg2 harg2 x0 1408 inb_S512x2816_S512x1408_0_1408) (shard arg4 harg4 x2 1 inb_S2x2048x1408_S1x2048x1408_1_0_0)⟩] := rfl
  rw [out0_A_3, hp, read_whole _ _ _ _ _ (by decide)]
  simp only [cols, shard, readAt_unread]
  exact (pay1_apply _ _ _ _ y x).trans (add2 x2 y x x0 _ _ _ _)

/-- The second adds its two to what the first left, -/
theorem tile_B (hc0 : cond0_0 i) (hc1 : ¬cond0_1 i) (hc2 : cond0_2 i) (hc3 : ¬cond0_3 i) (p : Vec Ideal S512x2048 .f32) :
    (out0_B_3 (F := Ideal) c i arg2 harg2 arg3 harg3 arg4 harg4 arg5 harg5 hc0 hc1 hc2 hc3 x0 x1 x2 p (ix2 y x) : EReal)
      = (p (ix2 y x) : EReal) + ∑ s : Fin 2, shardSum x0 x2 rfl y x s := by
  have hp : (kernelRun0_B (F := Ideal) c i arg2 harg2 arg3 harg3 arg4 harg4 arg5 harg5 hc0 hc1 hc2 hc3 x0 x1 x2 p).1
      = [⟨Rect.unit (s := S512x2048) ![0, 0] S512x2048.size inb_S512x2048_S512x2048_0_0,
          k0_pay2 (cols arg2 harg2 x0 0 inb_S512x2816_S512x1408_0_0) (shard arg4 harg4 x2 0 inb_S2x2048x1408_S1x2048x1408_0_0_0)
            (cols arg2 harg2 x0 1408 inb_S512x2816_S512x1408_0_1408) (shard arg4 harg4 x2 1 inb_S2x2048x1408_S1x2048x1408_1_0_0) (before arg5 harg5 p)⟩] := rfl
  rw [out0_B_3, hp, read_whole _ _ _ _ _ (by decide)]
  simp only [cols, shard, before, readAt_unread]
  rw [View.ld_unit_lit _ p (by decide)]
  exact (pay2_apply _ _ _ _ y x p).trans (congrArg (fun z : EReal => _ + z) (add2 x2 y x x0 _ _ _ _))

/-- and the last two theirs, from the second half. -/
theorem tile_C (hc0 : ¬cond0_0 i) (hc3 : cond0_3 i) (hc4 : ¬cond0_4 i) (hc5 : cond0_5 i) (p : Vec Ideal S512x2048 .f32) :
    (out0_C_3 (F := Ideal) c i arg2 harg2 arg3 harg3 arg4 harg4 arg5 harg5 hc0 hc3 hc4 hc5 x0 x1 x2 p (ix2 y x) : EReal)
      = (p (ix2 y x) : EReal) + ∑ s : Fin 2, shardSum x1 x2 rfl y x s := by
  have hp : (kernelRun0_C (F := Ideal) c i arg2 harg2 arg3 harg3 arg4 harg4 arg5 harg5 hc0 hc3 hc4 hc5 x0 x1 x2 p).1
      = [⟨Rect.unit (s := S512x2048) ![0, 0] S512x2048.size inb_S512x2048_S512x2048_0_0,
          k0_pay4 (cols arg3 harg3 x1 0 inb_S512x2816_S512x1408_0_0) (shard arg4 harg4 x2 0 inb_S2x2048x1408_S1x2048x1408_0_0_0)
            (cols arg3 harg3 x1 1408 inb_S512x2816_S512x1408_0_1408) (shard arg4 harg4 x2 1 inb_S2x2048x1408_S1x2048x1408_1_0_0) (before arg5 harg5 p)⟩] := rfl
  rw [out0_C_3, hp, read_whole _ _ _ _ _ (by decide)]
  simp only [cols, shard, before, readAt_unread]
  rw [View.ld_unit_lit _ p (by decide)]
  exact (pay4_apply _ _ _ _ y x p).trans (congrArg (fun z : EReal => _ + z) (add2 x2 y x x1 _ _ _ _))
end

/-! ## The reference -/

theorem whole_apply (x2 : Vec Ideal S8x2048x1408 .bf16) (x : Fin 2048) (s : Fin 8) (q : Fin 1408) (k : Fin 11264) (hk : k.val = s.val * 1408 + q.val) :
    (val_main_v2 (F := Ideal) x2 (ix2 x k) : EReal) = (x2 (ix3 s x q) : EReal) := by
  obtain ⟨k, h⟩ := k
  obtain rfl : k = s.val * 1408 + q.val := hk
  pointwise [val_main_v2, val_main_v1, val_main_v0]

theorem ref_apply (x0 x1 : Vec Ideal S2048x5632 .bf16) (x2 : Vec Ideal S8x2048x1408 .bf16) (n x : Fin 2048) :
    (val_main_v7 (F := Ideal) x0 x1 x2 (ix2 n x) : EReal) = ∑ s : Fin 8, shardSum (D := 11264) (val_main_v3 (F := Ideal) x0 x1) x2 rfl n x s := by
  have e : (val_main_v7 (F := Ideal) x0 x1 x2 (ix2 n x) : EReal)
      = ∑ k : Fin 11264, (val_main_v3 (F := Ideal) x0 x1 (ix2 n k) : EReal) * (val_main_v2 (F := Ideal) x2 (ix2 x k) : EReal) := by
    pointwise [val_main_v7, val_main_v6]
  rw [e]
  refine sum_blocks (a := 8) (b := 1408) rfl _ _ fun s q k hk => ?_
  rw [whole_apply x2 x s q k hk]
  exact congrArg (fun z : EReal => z * _) (congrArg (fun j => val_main_v3 (F := Ideal) x0 x1 (ix2 n j)) (Fin.ext hk))

/-! ## The grid -/

/-- Point `b` of the four that compute the rows `a`. -/
def point (a b : Fin 4) : Fin cfg0.N := ⟨a.val * 4 + b.val, by have := a.isLt; have := b.isLt; show _ < 16; omega⟩

theorem at0 : ∀ a b : Fin 4, b.val ≤ 1 → win0_0.index (point a b) (0 : Fin 2) = a.val ∧ win0_0.index (point a b) (1 : Fin 2) = b.val := by decide +kernel
theorem at1 : ∀ a b : Fin 4, 2 ≤ b.val → win0_1.index (point a b) (0 : Fin 2) = a.val ∧ win0_1.index (point a b) (1 : Fin 2) = b.val - 2 := by decide +kernel
theorem at2 : ∀ a b : Fin 4, win0_2.index (point a b) (0 : Fin 3) = b.val ∧ win0_2.index (point a b) (1 : Fin 3) = 0 ∧ win0_2.index (point a b) (2 : Fin 3) = 0 := by decide +kernel
theorem at3 : ∀ a : Fin 4, win0_3.index (point a 3) (0 : Fin 2) = a.val ∧ win0_3.index (point a 3) (1 : Fin 2) = 0 := by decide +kernel
theorem last : ∀ a : Fin 4, (cfg0.win 3).flush (point a 3) = true := by decide +kernel
theorem place : ∀ a b : Fin 4, (point a b).val % 4 = b.val := by decide +kernel

/-- Two points that write back write different rows. -/
theorem apart : ∀ t t' : Fin cfg0.N, (cfg0.win 3).flush t = true → (cfg0.win 3).flush t' = true → t ≠ t' → win0_3.index t ≠ win0_3.index t' :=
  (by decide +kernel : ∀ t t' : Fin grid0.N, (cfg0.win 3).flush t = true → (cfg0.win 3).flush t' = true → t ≠ t' → win0_3.index t ≠ win0_3.index t')

variable (m : (ℓ : Loc nD τ sig) → Buf (Elt Ideal) ℓ) (c : Dev nD)

theorem read0 (a b : Fin 4) (hb : b.val ≤ 1) (y : Fin 512) (k : Fin 2816) (n : Fin 2048) (hn : n.val = a.val * 512 + y.val) (l : Fin 5632) (hl : l.val = b.val * 2816 + k.val) :
    iblk m c 0 (point a b) (ix2 y k) = m ((c : Thread nD τ).loc main_arg0) (ix2 n l) := by
  show V m c main_arg0 (((cfg0.win 0).blk (point a b)).view.emb (ix2 y k)) = _
  refine congrArg (m ((c : Thread nD τ).loc main_arg0)) (funext fun i => Fin.ext ?_)
  obtain ⟨e0, e1⟩ := at0 a b hb
  match i with
  | ⟨0, _⟩ => show win0_0.index (point a b) (0 : Fin 2) * 512 + 1 * y.val = n.val; rw [e0]; omega
  | ⟨1, _⟩ => show win0_0.index (point a b) (1 : Fin 2) * 2816 + 1 * k.val = l.val; rw [e1]; omega

theorem read1 (a b : Fin 4) (hb : 2 ≤ b.val) (y : Fin 512) (k : Fin 2816) (n : Fin 2048) (hn : n.val = a.val * 512 + y.val) (l : Fin 5632) (hl : l.val = (b.val - 2) * 2816 + k.val) :
    iblk m c 1 (point a b) (ix2 y k) = m ((c : Thread nD τ).loc main_arg1) (ix2 n l) := by
  show V m c main_arg1 (((cfg0.win 1).blk (point a b)).view.emb (ix2 y k)) = _
  refine congrArg (m ((c : Thread nD τ).loc main_arg1)) (funext fun i => Fin.ext ?_)
  obtain ⟨e0, e1⟩ := at1 a b hb
  match i with
  | ⟨0, _⟩ => show win0_1.index (point a b) (0 : Fin 2) * 512 + 1 * y.val = n.val; rw [e0]; omega
  | ⟨1, _⟩ => show win0_1.index (point a b) (1 : Fin 2) * 2816 + 1 * k.val = l.val; rw [e1]; omega

theorem read2 (a b : Fin 4) (u : Fin 2) (x : Fin 2048) (q : Fin 1408) (s : Fin 8) (hs : s.val = b.val * 2 + u.val) :
    iblk m c 2 (point a b) (ix3 u x q) = m ((c : Thread nD τ).loc main_arg2) (ix3 s x q) := by
  show V m c main_arg2 (((cfg0.win 2).blk (point a b)).view.emb (ix3 u x q)) = _
  refine congrArg (m ((c : Thread nD τ).loc main_arg2)) (funext fun i => Fin.ext ?_)
  obtain ⟨e0, e1, e2⟩ := at2 a b
  match i with
  | ⟨0, _⟩ => show win0_2.index (point a b) (0 : Fin 3) * 2 + 1 * u.val = s.val; rw [e0]; omega
  | ⟨1, _⟩ => show win0_2.index (point a b) (1 : Fin 3) * 2048 + 1 * x.val = x.val; rw [e1]; omega
  | ⟨2, _⟩ => show win0_2.index (point a b) (2 : Fin 3) * 1408 + 1 * q.val = q.val; rw [e2]; omega

/-- The projection's gradient, its halves side by side. -/
abbrev halves : Vec Ideal Cert.RefUpXIdeal.S2048x11264 .bf16 := val_main_v3 (F := Ideal) (m ((c : Thread nD τ).loc main_arg0)) (m ((c : Thread nD τ).loc main_arg1))

/-- The product of row `n` with shard `s`, over the whole arrays. -/
def term (n x : Fin 2048) (s : Fin 8) : EReal := shardSum (N := 8) (D := 11264) (halves m c) (m ((c : Thread nD τ).loc main_arg2)) rfl n x s

/-- What the `b`-th of a block's points adds: the products with its two shards. -/
def adds (n x : Fin 2048) (b : Fin 4) : EReal := ∑ u : Fin 2, term m c n x ⟨b.val * 2 + u.val, by omega⟩

theorem half_lo (n : Fin 2048) (j : Fin 11264) (l : Fin 5632) (e : j.val = l.val) : (halves m c (ix2 n j) : EReal) = m ((c : Thread nD τ).loc main_arg0) (ix2 n l) :=
  cat_left _ _ _ n j l e
theorem half_hi (n : Fin 2048) (j : Fin 11264) (l : Fin 5632) (e : j.val = 5632 + l.val) : (halves m c (ix2 n j) : EReal) = m ((c : Thread nD τ).loc main_arg1) (ix2 n l) :=
  cat_right _ _ _ n j l e

theorem outs_congr (n n' : Nat) (h : n < cfg0.N) (h' : n' < cfg0.N) (e : n = n') : outsAt0 m c n h = outsAt0 m c n' h' := by
  subst e
  rfl

theorem place_eq (a b : Fin 4) (v : Nat) (h : b.val = v) : (point a b).val % 4 = v := (place a b).trans h

section
variable (a : Fin 4) (y : Fin 512) (x n : Fin 2048) (hn : n.val = a.val * 512 + y.val)
include hn

theorem get_lo (b : Fin 4) (hb : b.val ≤ 1) (u : Fin 2) (s : Fin 8) (hs : s.val = b.val * 2 + u.val) (q : Fin 1408) (k : Fin 2816) (hk : k.val = u.val * 1408 + q.val)
    (j : Fin 11264) (hj : j.val = s.val * 1408 + q.val) : (iblk m c 0 (point a b) (ix2 y k) : EReal) = halves m c (ix2 n j) := by
  have hl : j.val < 5632 := by have := q.isLt; have := u.isLt; omega
  exact (read0 m c a b hb y k n hn ⟨j.val, hl⟩ (by show j.val = _; omega)).trans (half_lo m c n j ⟨j.val, hl⟩ rfl).symm

theorem get_hi (b : Fin 4) (hb : 2 ≤ b.val) (u : Fin 2) (s : Fin 8) (hs : s.val = b.val * 2 + u.val) (q : Fin 1408) (k : Fin 2816) (hk : k.val = u.val * 1408 + q.val)
    (j : Fin 11264) (hj : j.val = s.val * 1408 + q.val) : (iblk m c 1 (point a b) (ix2 y k) : EReal) = halves m c (ix2 n j) := by
  have hl : j.val - 5632 < 5632 := by have := j.isLt; omega
  exact (read1 m c a b hb y k n hn ⟨j.val - 5632, hl⟩ (by show j.val - 5632 = _; omega)).trans
    (half_hi m c n j ⟨j.val - 5632, hl⟩ (by show j.val = 5632 + (j.val - 5632); omega)).symm

theorem shard_eq_lo (b : Fin 4) (hb : b.val ≤ 1) (u : Fin 2) (s : Fin 8) (hs : s.val = b.val * 2 + u.val) :
    shardSum (N := 2) (iblk m c 0 (point a b)) (iblk m c 2 (point a b)) rfl y x u
      = shardSum (N := 8) (D := 11264) (halves m c) (m ((c : Thread nD τ).loc main_arg2)) rfl n x s :=
  sum_congr rfl fun q _ => congrArg₂ (fun z w : EReal => z * w) (get_lo m c a y n hn b hb u s hs q _ rfl _ rfl) (read2 m c a b u x q s hs)

theorem shard_eq_hi (b : Fin 4) (hb : 2 ≤ b.val) (u : Fin 2) (s : Fin 8) (hs : s.val = b.val * 2 + u.val) :
    shardSum (N := 2) (iblk m c 1 (point a b)) (iblk m c 2 (point a b)) rfl y x u
      = shardSum (N := 8) (D := 11264) (halves m c) (m ((c : Thread nD τ).loc main_arg2)) rfl n x s :=
  sum_congr rfl fun q _ => congrArg₂ (fun z w : EReal => z * w) (get_hi m c a y n hn b hb u s hs q _ rfl _ rfl) (read2 m c a b u x q s hs)

theorem shard_lo (b : Fin 4) (hb : b.val ≤ 1) :
    ∑ u : Fin 2, shardSum (N := 2) (iblk m c 0 (point a b)) (iblk m c 2 (point a b)) rfl y x u = adds m c n x b :=
  sum_congr rfl fun u _ => shard_eq_lo m c a y x n hn b hb u ⟨b.val * 2 + u.val, by omega⟩ rfl

theorem shard_hi (b : Fin 4) (hb : 2 ≤ b.val) :
    ∑ u : Fin 2, shardSum (N := 2) (iblk m c 1 (point a b)) (iblk m c 2 (point a b)) rfl y x u = adds m c n x b :=
  sum_congr rfl fun u _ => shard_eq_hi m c a y x n hn b hb u ⟨b.val * 2 + u.val, by omega⟩ rfl

theorem outs0 : (outsAt0 m c (point a 0).val (point a 0).isLt (ix2 y x) : EReal) = adds m c n x 0 := by
  have p := place_eq a 0 0 rfl
  refine (congrFun (outsAt0_A m c (point a 0) (by omega) p (by omega) (by omega)) (ix2 y x)).trans ?_
  refine (tile_A _ _ _ _ _ _ _ _ _ _ (iblk m c 0 (point a 0)) (iblk m c 1 (point a 0)) (iblk m c 2 (point a 0)) y x _ _ _ _).trans ?_
  exact shard_lo m c a y x n hn 0 (by decide)

theorem outs1 : (outsAt0 m c (point a 1).val (point a 1).isLt (ix2 y x) : EReal) = adds m c n x 0 + adds m c n x 1 := by
  have p := place_eq a 1 1 rfl
  refine (congrFun (outsAt0_B m c (point a 1) (by omega) (by omega) (by omega) (by omega)) (ix2 y x)).trans ?_
  refine (tile_B _ _ _ _ _ _ _ _ _ _ (iblk m c 0 (point a 1)) (iblk m c 1 (point a 1)) (iblk m c 2 (point a 1)) y x _ _ _ _ _).trans ?_
  rw [outs_congr m c ((point a 1).val - 1) (point a 0).val _ (point a 0).isLt rfl]
  exact congrArg₂ (fun z w : EReal => z + w) (outs0 m c a y x n hn) (shard_lo m c a y x n hn 1 (by decide))

theorem outs2 : (outsAt0 m c (point a 2).val (point a 2).isLt (ix2 y x) : EReal) = adds m c n x 0 + adds m c n x 1 + adds m c n x 2 := by
  have p := place_eq a 2 2 rfl
  refine (congrFun (outsAt0_C m c (point a 2) (by omega) (by omega) (by omega) (by omega)) (ix2 y x)).trans ?_
  refine (tile_C _ _ _ _ _ _ _ _ _ _ (iblk m c 0 (point a 2)) (iblk m c 1 (point a 2)) (iblk m c 2 (point a 2)) y x _ _ _ _ _).trans ?_
  rw [outs_congr m c ((point a 2).val - 1) (point a 1).val _ (point a 1).isLt rfl]
  exact congrArg₂ (fun z w : EReal => z + w) (outs1 m c a y x n hn) (shard_hi m c a y x n hn 2 (by decide))

/-- What a block's last point leaves: the products with all eight shards. -/
theorem outs3 : (outsAt0 m c (point a 3).val (point a 3).isLt (ix2 y x) : EReal) = ∑ s : Fin 8, term m c n x s := by
  have p := place_eq a 3 3 rfl
  refine (congrFun (outsAt0_C m c (point a 3) (by omega) (by omega) (by omega) (by omega)) (ix2 y x)).trans ?_
  refine (tile_C _ _ _ _ _ _ _ _ _ _ (iblk m c 0 (point a 3)) (iblk m c 1 (point a 3)) (iblk m c 2 (point a 3)) y x _ _ _ _ _).trans ?_
  rw [outs_congr m c ((point a 3).val - 1) (point a 2).val _ (point a 2).isLt rfl]
  refine (congrArg₂ (fun z w : EReal => z + w) (outs2 m c a y x n hn) (shard_hi m c a y x n hn 3 (by decide))).trans ?_
  refine Eq.trans ?_ (sum_blocks (a := 4) (b := 2) rfl _ (fun b u => term m c n x ⟨b.val * 2 + u.val, by omega⟩)
    fun b u s hs => congrArg (term m c n x) (Fin.ext hs)).symm
  rw [Fin.sum_univ_four]
  rfl
end

theorem arr_eq : (dats m 0 c).arrAt 3 cfg0.N
    = val_main_v7 (F := Ideal) (m ((c : Thread nD τ).loc main_arg0)) (m ((c : Thread nD τ).loc main_arg1)) (m ((c : Thread nD τ).loc main_arg2)) := by
  refine ext2 _ _ fun n x => ?_
  obtain ⟨a, y, hn⟩ := exists_block 4 512 n
  have hb := congrFun (((dats m 0 c).read_blk_arrAt_eq_flushed 3 (fun t t' f f' ne => (cfg0.win 3).disjoint_blk (apart t t' f f' ne))
    cfg0.N (point a 3) (point a 3).isLt (last a)).trans (flushed3 m c (point a 3))) (ix2 y x)
  have e : ((cfg0.win 3).blk (point a 3)).view.emb (ix2 y x) = (ix2 n x : S2048x2048.Idx) := by
    obtain ⟨e0, e1⟩ := at3 a
    refine funext fun i => Fin.ext ?_
    match i with
    | ⟨0, _⟩ => show win0_3.index (point a 3) (0 : Fin 2) * 512 + 1 * y.val = n.val; rw [e0]; omega
    | ⟨1, _⟩ => show win0_3.index (point a 3) (1 : Fin 2) * 2048 + 1 * x.val = x.val; rw [e1]; omega
  refine ((congrArg ((dats m 0 c).arrAt 3 cfg0.N) e).symm.trans hb).trans ?_
  exact (outs3 m c a y x n hn).trans (ref_apply _ _ _ n x).symm

/-- The reference runs and leaves its arguments as they are. -/
theorem frame_r : Cert.quiescent_RefUpXIdeal := fun m ρ _ =>
  (θ_run Cert.RefUpXIdeal.defs _ _).mono (fun r h => ⟨fun c => (h c).2, sem_eq_zero_of_no_sems (by decide) r.2⟩)
    (Cert.RefUpXIdeal.Value.run (F := Ideal) m ρ)

/-- From equal arguments the call and the reference end with the same result. -/
theorem algebraic : Cert.algebraic_UpXIdeal_RefUpXIdeal := by
  intro m ρ m' ρ' _ hag
  refine ⟨fun c => (dats m 0 c).arrAt 3 cfg0.N, run_blocks m ρ, ?_⟩
  refine (θ_run Cert.RefUpXIdeal.defs _ _).mono (fun r h c => ⟨(h c).1.trans ?_, (h c).2⟩) (Cert.RefUpXIdeal.Value.run (F := Ideal) m' ρ')
  refine (Cert.RefUpXIdeal.Read.val_main_v7_eq (F := Ideal) _ _ _).trans (Eq.trans ?_ (arr_eq m c).symm)
  exact congr (congrArg₂ (Cert.RefUpXIdeal.Read.val_main_v7 (F := Ideal)) (hag c).1 (hag c).2.1) (hag c).2.2

end Cert.UpXIdeal.Product

end
-- ==== Proof.UpW.lean ====
/- The up projection's weight gradient: what the call leaves is the reference's product. The call takes the gradient of the
   projection as its two halves, and the first four shards are columns of the one, the last four of the other. -/
module

public import proofs.«01_k».proof.Defs
public import proofs.«01_k».proof.Proof.Gen.UpWIdeal.Value
public import proofs.«01_k».proof.Proof.Gen.RefUpWIdeal.Read
public import proofs.«01_k».proof.Proof.Gen.RefUpWIdeal.Run
public import proofs.«01_k».proof.Proof.Blocks

@[expose] public section

set_option maxRecDepth 16384

noncomputable section

namespace Cert.UpWIdeal.Product

open Idealize.ShloMosaic Idealize.ShloMosaic.TcCoe Idealize.SL.Sem
open Cert.UpWIdeal Cert.UpWIdeal.Gen Cert.UpWIdeal.Value Cert.Blocks
open Cert.RefUpWIdeal.Read
open Finset

section
variable (c : Dev nD) (i : grid0.Coords) (arg2 : Memref sig .tc .vmem S2048x1024 .bf16) (harg2 : arg2.IsWhole)
  (arg3 : Memref sig .tc .vmem S2048x1408 .bf16) (harg3 : arg3.IsWhole) (arg4 : Memref sig .tc .vmem S2048x1408 .bf16) (harg4 : arg4.IsWhole)
  (arg5 : Memref sig .tc .vmem S1x1024x1408 .bf16) (harg5 : arg5.IsWhole)
  (x0 : Vec Ideal S2048x1024 .bf16) (x1 x2 : Vec Ideal S2048x1408 .bf16) (y : Fin 1024) (x : Fin 1408)

/-- One point's product, of the first half's columns. -/
theorem tile_A (hc0 : cond0_0 i) (hc1 : ¬cond0_1 i) :
    (out0_A_3 (F := Ideal) c i arg2 harg2 arg3 harg3 arg4 harg4 arg5 harg5 hc0 hc1 x0 x1 x2 (ix3 (0 : Fin 1) y x) : EReal)
      = ∑ k : Fin 2048, (x0 (ix2 k y) : EReal) * (x1 (ix2 k x) : EReal) := by
  have hp : (kernelRun0_A (F := Ideal) c i arg2 harg2 arg3 harg3 arg4 harg4 arg5 harg5 hc0 hc1 x0 x1 x2).1
      = [⟨Rect.unit (s := S1x1024x1408) ![0, 0, 0] S1x1024x1408.size inb_S1x1024x1408_S1x1024x1408_0_0_0,
          k0_pay1 (View.readAt (Elt Ideal) arg2.view (Rect.unit (s := S2048x1024) ![0, 0] S2048x1024.size inb_S2048x1024_S2048x1024_0_0).toLoadRect (harg2.unread x0))
            (View.readAt (Elt Ideal) arg3.view (Rect.unit (s := S2048x1408) ![0, 0] S2048x1408.size inb_S2048x1408_S2048x1408_0_0).toLoadRect (harg3.unread x1))⟩] := rfl
  rw [out0_A_3, hp, read_whole _ _ _ _ _ (by decide), readAt_unread, readAt_unread, View.ld_unit_lit _ _ (by decide), View.ld_unit_lit _ _ (by decide)]
  pointwise [k0_pay1]

/-- One point's product, of the second half's columns. -/
theorem tile_B (hc0 : ¬cond0_0 i) (hc1 : cond0_1 i) :
    (out0_B_3 (F := Ideal) c i arg2 harg2 arg3 harg3 arg4 harg4 arg5 harg5 hc0 hc1 x0 x1 x2 (ix3 (0 : Fin 1) y x) : EReal)
      = ∑ k : Fin 2048, (x0 (ix2 k y) : EReal) * (x2 (ix2 k x) : EReal) := by
  have hp : (kernelRun0_B (F := Ideal) c i arg2 harg2 arg3 harg3 arg4 harg4 arg5 harg5 hc0 hc1 x0 x1 x2).1
      = [⟨Rect.unit (s := S1x1024x1408) ![0, 0, 0] S1x1024x1408.size inb_S1x1024x1408_S1x1024x1408_0_0_0,
          k0_pay2 (View.readAt (Elt Ideal) arg2.view (Rect.unit (s := S2048x1024) ![0, 0] S2048x1024.size inb_S2048x1024_S2048x1024_0_0).toLoadRect (harg2.unread x0))
            (View.readAt (Elt Ideal) arg4.view (Rect.unit (s := S2048x1408) ![0, 0] S2048x1408.size inb_S2048x1408_S2048x1408_0_0).toLoadRect (harg4.unread x2))⟩] := rfl
  rw [out0_B_3, hp, read_whole _ _ _ _ _ (by decide), readAt_unread, readAt_unread, View.ld_unit_lit _ _ (by decide), View.ld_unit_lit _ _ (by decide)]
  pointwise [k0_pay2]
end

/-- An entry of the whole product, the two halves side by side. -/
def entry (x0 : Vec Ideal S2048x2048 .bf16) (x1 x2 : Vec Ideal S2048x5632 .bf16) (r : Fin 2048) (n : Fin 11264) : EReal :=
  ∑ k : Fin 2048, (x0 (ix2 k r) : EReal) * (val_main_v0 (F := Ideal) x1 x2 (ix2 k n) : EReal)

theorem ref_apply (x0 : Vec Ideal S2048x2048 .bf16) (x1 x2 : Vec Ideal S2048x5632 .bf16) (s : Fin 8) (y : Fin 2048) (x : Fin 1408)
    (n : Fin 11264) (hn : n.val = s.val * 1408 + x.val) :
    (val_main_v9 (F := Ideal) x0 x1 x2 (ix3 s y x) : EReal) = entry x0 x1 x2 y n := by
  refine Eq.trans ?_ (sum_congr rfl fun k _ => mul_comm (val_main_v0 (F := Ideal) x1 x2 (ix2 k n) : EReal) (x0 (ix2 k y) : EReal))
  obtain ⟨n, h⟩ := n
  obtain rfl : n = s.val * 1408 + x.val := hn
  pointwise [val_main_v9, val_main_v8, val_main_v7, val_main_v6, val_main_v5, val_main_v4, val_main_v2]

/-- The point that computes the rows `a` of shard `b`. -/
def point (a : Fin 2) (b : Fin 8) : Fin cfg0.N := ⟨a.val * 8 + b.val, by have := a.isLt; have := b.isLt; show _ < 16; omega⟩

theorem at0 : ∀ (a : Fin 2) (b : Fin 8), win0_0.index (point a b) (0 : Fin 2) = 0 ∧ win0_0.index (point a b) (1 : Fin 2) = a.val := by decide +kernel
theorem at1 : ∀ (a : Fin 2) (b : Fin 8), b.val ≤ 3 → win0_1.index (point a b) (0 : Fin 2) = 0 ∧ win0_1.index (point a b) (1 : Fin 2) = b.val := by decide +kernel
theorem at2 : ∀ (a : Fin 2) (b : Fin 8), 4 ≤ b.val → win0_2.index (point a b) (0 : Fin 2) = 0 ∧ win0_2.index (point a b) (1 : Fin 2) = b.val - 4 := by decide +kernel
theorem at3 : ∀ (a : Fin 2) (b : Fin 8), win0_3.index (point a b) (0 : Fin 3) = b.val ∧ win0_3.index (point a b) (1 : Fin 3) = a.val ∧ win0_3.index (point a b) (2 : Fin 3) = 0 := by decide +kernel
theorem every : ∀ t : Fin cfg0.N, (cfg0.win 3).flush t = true := by decide +kernel
theorem place : ∀ (a : Fin 2) (b : Fin 8), (point a b).val % 8 = b.val := by decide +kernel

variable (m : (ℓ : Loc nD τ sig) → Buf (Elt Ideal) ℓ) (c : Dev nD)

theorem read0 (a : Fin 2) (b : Fin 8) (k : Fin 2048) (y : Fin 1024) (n : Fin 2048) (hn : n.val = a.val * 1024 + y.val) :
    iblk m c 0 (point a b) (ix2 k y) = m ((c : Thread nD τ).loc main_arg0) (ix2 k n) := by
  show V m c main_arg0 (((cfg0.win 0).blk (point a b)).view.emb (ix2 k y)) = _
  refine congrArg (m ((c : Thread nD τ).loc main_arg0)) (funext fun i => Fin.ext ?_)
  obtain ⟨e0, e1⟩ := at0 a b
  match i with
  | ⟨0, _⟩ => show win0_0.index (point a b) (0 : Fin 2) * 2048 + 1 * k.val = k.val; rw [e0]; omega
  | ⟨1, _⟩ => show win0_0.index (point a b) (1 : Fin 2) * 1024 + 1 * y.val = n.val; rw [e1]; omega

theorem read1 (a : Fin 2) (b : Fin 8) (hb : b.val ≤ 3) (k : Fin 2048) (x : Fin 1408) (l : Fin 5632) (hl : l.val = b.val * 1408 + x.val) :
    iblk m c 1 (point a b) (ix2 k x) = m ((c : Thread nD τ).loc main_arg1) (ix2 k l) := by
  show V m c main_arg1 (((cfg0.win 1).blk (point a b)).view.emb (ix2 k x)) = _
  refine congrArg (m ((c : Thread nD τ).loc main_arg1)) (funext fun i => Fin.ext ?_)
  obtain ⟨e0, e1⟩ := at1 a b hb
  match i with
  | ⟨0, _⟩ => show win0_1.index (point a b) (0 : Fin 2) * 2048 + 1 * k.val = k.val; rw [e0]; omega
  | ⟨1, _⟩ => show win0_1.index (point a b) (1 : Fin 2) * 1408 + 1 * x.val = l.val; rw [e1]; omega

theorem read2 (a : Fin 2) (b : Fin 8) (hb : 4 ≤ b.val) (k : Fin 2048) (x : Fin 1408) (l : Fin 5632) (hl : l.val = (b.val - 4) * 1408 + x.val) :
    iblk m c 2 (point a b) (ix2 k x) = m ((c : Thread nD τ).loc main_arg2) (ix2 k l) := by
  show V m c main_arg2 (((cfg0.win 2).blk (point a b)).view.emb (ix2 k x)) = _
  refine congrArg (m ((c : Thread nD τ).loc main_arg2)) (funext fun i => Fin.ext ?_)
  obtain ⟨e0, e1⟩ := at2 a b hb
  match i with
  | ⟨0, _⟩ => show win0_2.index (point a b) (0 : Fin 2) * 2048 + 1 * k.val = k.val; rw [e0]; omega
  | ⟨1, _⟩ => show win0_2.index (point a b) (1 : Fin 2) * 1408 + 1 * x.val = l.val; rw [e1]; omega

/-- What a point writes back: its rows of the left factor against its shard's columns of the two halves. -/
theorem flushed (a : Fin 2) (b : Fin 8) (y : Fin 1024) (x : Fin 1408) (r : Fin 2048) (hr : r.val = a.val * 1024 + y.val)
    (n : Fin 11264) (hn : n.val = b.val * 1408 + x.val) :
    (dats m 0 c).flushed 3 (point a b) (ix3 (0 : Fin 1) y x)
      = entry (m ((c : Thread nD τ).loc main_arg0)) (m ((c : Thread nD τ).loc main_arg1)) (m ((c : Thread nD τ).loc main_arg2)) r n := by
  have hp := place a b
  by_cases hb : b.val ≤ 3
  · refine (congrFun (flushed3_A m c (point a b) (by omega) (by omega)) (ix3 (0 : Fin 1) y x)).trans ?_
    refine (tile_A _ _ _ _ _ _ _ _ _ _ (iblk m c 0 (point a b)) (iblk m c 1 (point a b)) (iblk m c 2 (point a b)) y x _ _).trans ?_
    refine sum_congr rfl fun k _ => ?_
    have hl : n.val < 5632 := by have := x.isLt; omega
    rw [read0 m c a b k y r hr, read1 m c a b hb k x ⟨n.val, hl⟩ hn]
    exact congrArg (fun z : EReal => _ * z) (cat_left _ _ _ k n ⟨n.val, hl⟩ rfl).symm
  · refine (congrFun (flushed3_B m c (point a b) (by omega) (by omega)) (ix3 (0 : Fin 1) y x)).trans ?_
    refine (tile_B _ _ _ _ _ _ _ _ _ _ (iblk m c 0 (point a b)) (iblk m c 1 (point a b)) (iblk m c 2 (point a b)) y x _ _).trans ?_
    refine sum_congr rfl fun k _ => ?_
    have hl : n.val - 5632 < 5632 := by have := n.isLt; omega
    rw [read0 m c a b k y r hr, read2 m c a b (by omega) k x ⟨n.val - 5632, hl⟩ (by show n.val - 5632 = _; omega)]
    exact congrArg (fun z : EReal => _ * z) (cat_right _ _ _ k n ⟨n.val - 5632, hl⟩ (by show n.val = 5632 + (n.val - 5632); omega)).symm

theorem arr_eq : (dats m 0 c).arrAt 3 cfg0.N
    = val_main_v9 (F := Ideal) (m ((c : Thread nD τ).loc main_arg0)) (m ((c : Thread nD τ).loc main_arg1)) (m ((c : Thread nD τ).loc main_arg2)) := by
  refine ext3 _ _ fun b r x => ?_
  obtain ⟨a, y, hr⟩ := exists_block 2 1024 r
  have hb := congrFun (blocks3 m c (point a b) (every _)) (ix3 (0 : Fin 1) y x)
  have e : ((cfg0.win 3).blk (point a b)).view.emb (ix3 (0 : Fin 1) y x) = (ix3 b r x : S8x2048x1408.Idx) := by
    obtain ⟨e0, e1, e2⟩ := at3 a b
    refine funext fun i => Fin.ext ?_
    match i with
    | ⟨0, _⟩ => show win0_3.index (point a b) (0 : Fin 3) * 1 + 1 * 0 = b.val; rw [e0]; omega
    | ⟨1, _⟩ => show win0_3.index (point a b) (1 : Fin 3) * 1024 + 1 * y.val = r.val; rw [e1]; omega
    | ⟨2, _⟩ => show win0_3.index (point a b) (2 : Fin 3) * 1408 + 1 * x.val = x.val; rw [e2]; omega
  have hn : b.val * 1408 + x.val < 11264 := by have := b.isLt; have := x.isLt; omega
  refine ((congrArg ((dats m 0 c).arrAt 3 cfg0.N) e).symm.trans hb).trans ?_
  exact (flushed m c a b y x r hr ⟨b.val * 1408 + x.val, hn⟩ rfl).trans (ref_apply _ _ _ b r x ⟨b.val * 1408 + x.val, hn⟩ rfl).symm

/-- The reference runs and leaves its arguments as they are. -/
theorem frame_r : Cert.quiescent_RefUpWIdeal := fun m ρ _ =>
  (θ_run Cert.RefUpWIdeal.defs _ _).mono (fun r h => ⟨fun c => (h c).2, sem_eq_zero_of_no_sems (by decide) r.2⟩)
    (Cert.RefUpWIdeal.Value.run (F := Ideal) m ρ)

/-- From equal arguments the call and the reference end with the same result. -/
theorem algebraic : Cert.algebraic_UpWIdeal_RefUpWIdeal := by
  intro m ρ m' ρ' _ hag
  refine ⟨fun c => (dats m 0 c).arrAt 3 cfg0.N, run_blocks m ρ, ?_⟩
  refine (θ_run Cert.RefUpWIdeal.defs _ _).mono (fun r h c => ⟨(h c).1.trans ?_, (h c).2⟩) (Cert.RefUpWIdeal.Value.run (F := Ideal) m' ρ')
  refine (Cert.RefUpWIdeal.Read.val_main_v9_eq (F := Ideal) _ _ _).trans (Eq.trans ?_ (arr_eq m c).symm)
  exact congr (congrArg₂ (Cert.RefUpWIdeal.Read.val_main_v9 (F := Ideal)) (hag c).1 (hag c).2.1) (hag c).2.2

end Cert.UpWIdeal.Product

end
-- ==== Proof.InX.lean ====
/- The input projection's input gradient: what the call leaves is the reference's product. Two points add four shards' products
   each into one block of rows; the reference takes one product over the whole weight. -/
module

public import proofs.«01_k».proof.Defs
public import proofs.«01_k».proof.Proof.Gen.InXIdeal.Value
public import proofs.«01_k».proof.Proof.Gen.RefInXIdeal.Read
public import proofs.«01_k».proof.Proof.Gen.RefInXIdeal.Run
public import proofs.«01_k».proof.Proof.Blocks

@[expose] public section

set_option maxRecDepth 16384

noncomputable section

namespace Cert.InXIdeal.Product

open Idealize.ShloMosaic Idealize.ShloMosaic.TcCoe Idealize.SL.Sem
open Cert.InXIdeal Cert.InXIdeal.Gen Cert.InXIdeal.Value Cert.Blocks
open Cert.RefInXIdeal.Read
open Finset

/-! ## One point -/

section
variable (a0 a1 a2 a3 : Vec Ideal S512x768 .bf16) (b0 b1 b2 b3 : Vec Ideal S1x2048x768 .bf16) (y : Fin 512) (x : Fin 2048)

theorem pay1_apply : (k0_pay1 (F := Ideal) a0 b0 a1 b1 a2 b2 a3 b3 (ix2 y x) : EReal)
    = part a0 b0 y x + part a1 b1 y x + part a2 b2 y x + part a3 b3 y x := by
  unfold part
  pointwise [k0_pay1]

theorem pay2_apply (p : Vec Ideal S512x2048 .f32) : (k0_pay2 (F := Ideal) a0 b0 a1 b1 a2 b2 a3 b3 p (ix2 y x) : EReal)
    = (p (ix2 y x) : EReal) + (part a0 b0 y x + part a1 b1 y x + part a2 b2 y x + part a3 b3 y x) := by
  rw [← pay1_apply]
  pointwise [k0_pay2]
end

section
variable (c : Dev nD) (i : grid0.Coords) (arg2 : Memref sig .tc .vmem S512x3072 .bf16) (harg2 : arg2.IsWhole)
  (arg3 : Memref sig .tc .vmem S4x2048x768 .bf16) (harg3 : arg3.IsWhole) (arg4 : Memref sig .tc .vmem S512x2048 .f32) (harg4 : arg4.IsWhole)
  (x0 : Vec Ideal S512x3072 .bf16) (x1 : Vec Ideal S4x2048x768 .bf16) (y : Fin 512) (x : Fin 2048)

/-- The columns from `o` on, and shard `u`, as the body loads them. -/
abbrev cols (o : Nat) (inb) := View.readAt (Elt Ideal) arg2.view (Rect.unit (s := S512x3072) ![0, o] S512x768.size inb).toLoadRect (harg2.unread x0)
abbrev shard (u : Nat) (inb) := View.readAt (Elt Ideal) arg3.view (Rect.unit (s := S4x2048x768) ![u, 0, 0] S1x2048x768.size inb).toLoadRect (harg3.unread x1)

/-- The first of a block's two points leaves its four products. -/
theorem tile_A (hc0 : cond0_0 i) (hc1 : cond0_1 i) (hc2 : ¬cond0_2 i) :
    (out0_A_2 (F := Ideal) c i arg2 harg2 arg3 harg3 arg4 harg4 hc0 hc1 hc2 x0 x1 (ix2 y x) : EReal) = ∑ s : Fin 4, shardSum x0 x1 rfl y x s := by
  have hp : (kernelRun0_A (F := Ideal) c i arg2 harg2 arg3 harg3 arg4 harg4 hc0 hc1 hc2 x0 x1).1
      = [⟨Rect.unit (s := S512x2048) ![0, 0] S512x2048.size inb_S512x2048_S512x2048_0_0,
          k0_pay1 (cols arg2 harg2 x0 0 inb_S512x3072_S512x768_0_0) (shard arg3 harg3 x1 0 inb_S4x2048x768_S1x2048x768_0_0_0)
            (cols arg2 harg2 x0 768 inb_S512x3072_S512x768_0_768) (shard arg3 harg3 x1 1 inb_S4x2048x768_S1x2048x768_1_0_0)
            (cols arg2 harg2 x0 1536 inb_S512x3072_S512x768_0_1536) (shard arg3 harg3 x1 2 inb_S4x2048x768_S1x2048x768_2_0_0)
            (cols arg2 harg2 x0 2304 inb_S512x3072_S512x768_0_2304) (shard arg3 harg3 x1 3 inb_S4x2048x768_S1x2048x768_3_0_0)⟩] := rfl
  rw [out0_A_2, hp, read_whole _ _ _ _ _ (by decide)]
  simp only [cols, shard, readAt_unread]
  refine (pay1_apply _ _ _ _ _ _ _ _ y x).trans ?_
  exact add4 (part_ld x0 x1 rfl y x 0 0 0 _ _ rfl rfl) (part_ld x0 x1 rfl y x 1 768 1 _ _ rfl rfl)
    (part_ld x0 x1 rfl y x 2 1536 2 _ _ rfl rfl) (part_ld x0 x1 rfl y x 3 2304 3 _ _ rfl rfl)

/-- The second adds its four products to what the first left. -/
theorem tile_B (hc0 : cond0_0 i) (hc1 : ¬cond0_1 i) (hc2 : cond0_2 i) (p : Vec Ideal S512x2048 .f32) :
    (out0_B_2 (F := Ideal) c i arg2 harg2 arg3 harg3 arg4 harg4 hc0 hc1 hc2 x0 x1 p (ix2 y x) : EReal)
      = (p (ix2 y x) : EReal) + ∑ s : Fin 4, shardSum x0 x1 rfl y x s := by
  have hp : (kernelRun0_B (F := Ideal) c i arg2 harg2 arg3 harg3 arg4 harg4 hc0 hc1 hc2 x0 x1 p).1
      = [⟨Rect.unit (s := S512x2048) ![0, 0] S512x2048.size inb_S512x2048_S512x2048_0_0,
          k0_pay2 (cols arg2 harg2 x0 0 inb_S512x3072_S512x768_0_0) (shard arg3 harg3 x1 0 inb_S4x2048x768_S1x2048x768_0_0_0)
            (cols arg2 harg2 x0 768 inb_S512x3072_S512x768_0_768) (shard arg3 harg3 x1 1 inb_S4x2048x768_S1x2048x768_1_0_0)
            (cols arg2 harg2 x0 1536 inb_S512x3072_S512x768_0_1536) (shard arg3 harg3 x1 2 inb_S4x2048x768_S1x2048x768_2_0_0)
            (cols arg2 harg2 x0 2304 inb_S512x3072_S512x768_0_2304) (shard arg3 harg3 x1 3 inb_S4x2048x768_S1x2048x768_3_0_0)
            (View.readAt (Elt Ideal) arg4.view (Rect.unit (s := S512x2048) ![0, 0] S512x2048.size inb_S512x2048_S512x2048_0_0).toLoadRect (harg4.unread p))⟩] := rfl
  rw [out0_B_2, hp, read_whole _ _ _ _ _ (by decide)]
  simp only [cols, shard, readAt_unread]
  rw [View.ld_unit_lit _ p (by decide)]
  refine (pay2_apply _ _ _ _ _ _ _ _ y x p).trans (congrArg (fun z : EReal => _ + z) ?_)
  exact add4 (part_ld x0 x1 rfl y x 0 0 0 _ _ rfl rfl) (part_ld x0 x1 rfl y x 1 768 1 _ _ rfl rfl)
    (part_ld x0 x1 rfl y x 2 1536 2 _ _ rfl rfl) (part_ld x0 x1 rfl y x 3 2304 3 _ _ rfl rfl)
end

/-! ## The reference -/

theorem whole_apply (x1 : Vec Ideal S8x2048x768 .bf16) (x : Fin 2048) (s : Fin 8) (q : Fin 768) (k : Fin 6144) (hk : k.val = s.val * 768 + q.val) :
    (val_main_v2 (F := Ideal) x1 (ix2 x k) : EReal) = (x1 (ix3 s x q) : EReal) := by
  obtain ⟨k, h⟩ := k
  obtain rfl : k = s.val * 768 + q.val := hk
  pointwise [val_main_v2, val_main_v1, val_main_v0]

theorem ref_apply (x0 : Vec Ideal S2048x6144 .bf16) (x1 : Vec Ideal S8x2048x768 .bf16) (n x : Fin 2048) :
    (val_main_v6 (F := Ideal) x0 x1 (ix2 n x) : EReal) = ∑ s : Fin 8, shardSum x0 x1 rfl n x s := by
  have e : (val_main_v6 (F := Ideal) x0 x1 (ix2 n x) : EReal) = ∑ k : Fin 6144, (x0 (ix2 n k) : EReal) * (val_main_v2 (F := Ideal) x1 (ix2 x k) : EReal) := by
    pointwise [val_main_v6, val_main_v5]
  rw [e]
  refine sum_blocks (a := 8) (b := 768) rfl _ _ fun s q k hk => ?_
  rw [whole_apply x1 x s q k hk]
  exact congrArg (fun z : EReal => z * _) (congrArg (fun j => x0 (ix2 n j)) (Fin.ext hk))

/-! ## The grid -/

/-- Point `b` of the two that compute the rows `a`. -/
def point (a : Fin 4) (b : Fin 2) : Fin cfg0.N := ⟨a.val * 2 + b.val, by have := a.isLt; have := b.isLt; show _ < 8; omega⟩

theorem at0 : ∀ (a : Fin 4) (b : Fin 2), win0_0.index (point a b) (0 : Fin 2) = a.val ∧ win0_0.index (point a b) (1 : Fin 2) = b.val := by decide +kernel
theorem at1 : ∀ (a : Fin 4) (b : Fin 2), win0_1.index (point a b) (0 : Fin 3) = b.val ∧ win0_1.index (point a b) (1 : Fin 3) = 0 ∧ win0_1.index (point a b) (2 : Fin 3) = 0 := by decide +kernel
theorem at2 : ∀ a : Fin 4, win0_2.index (point a 1) (0 : Fin 2) = a.val ∧ win0_2.index (point a 1) (1 : Fin 2) = 0 := by decide +kernel
theorem last : ∀ a : Fin 4, (cfg0.win 2).flush (point a 1) = true := by decide +kernel
theorem place : ∀ (a : Fin 4) (b : Fin 2), (point a b).val % 2 = b.val := by decide +kernel

/-- Two points that write back write different rows. -/
theorem apart : ∀ t t' : Fin cfg0.N, (cfg0.win 2).flush t = true → (cfg0.win 2).flush t' = true → t ≠ t' → win0_2.index t ≠ win0_2.index t' :=
  (by decide +kernel : ∀ t t' : Fin grid0.N, (cfg0.win 2).flush t = true → (cfg0.win 2).flush t' = true → t ≠ t' → win0_2.index t ≠ win0_2.index t')

variable (m : (ℓ : Loc nD τ sig) → Buf (Elt Ideal) ℓ) (c : Dev nD)

theorem read0 (a : Fin 4) (b : Fin 2) (y : Fin 512) (k : Fin 3072) (n : Fin 2048) (hn : n.val = a.val * 512 + y.val) (l : Fin 6144) (hl : l.val = b.val * 3072 + k.val) :
    iblk m c 0 (point a b) (ix2 y k) = m ((c : Thread nD τ).loc main_arg0) (ix2 n l) := by
  show V m c main_arg0 (((cfg0.win 0).blk (point a b)).view.emb (ix2 y k)) = _
  refine congrArg (m ((c : Thread nD τ).loc main_arg0)) (funext fun i => Fin.ext ?_)
  obtain ⟨e0, e1⟩ := at0 a b
  match i with
  | ⟨0, _⟩ => show win0_0.index (point a b) (0 : Fin 2) * 512 + 1 * y.val = n.val; rw [e0]; omega
  | ⟨1, _⟩ => show win0_0.index (point a b) (1 : Fin 2) * 3072 + 1 * k.val = l.val; rw [e1]; omega

theorem read1 (a : Fin 4) (b : Fin 2) (u : Fin 4) (x : Fin 2048) (q : Fin 768) (s : Fin 8) (hs : s.val = b.val * 4 + u.val) :
    iblk m c 1 (point a b) (ix3 u x q) = m ((c : Thread nD τ).loc main_arg1) (ix3 s x q) := by
  show V m c main_arg1 (((cfg0.win 1).blk (point a b)).view.emb (ix3 u x q)) = _
  refine congrArg (m ((c : Thread nD τ).loc main_arg1)) (funext fun i => Fin.ext ?_)
  obtain ⟨e0, e1, e2⟩ := at1 a b
  match i with
  | ⟨0, _⟩ => show win0_1.index (point a b) (0 : Fin 3) * 4 + 1 * u.val = s.val; rw [e0]; omega
  | ⟨1, _⟩ => show win0_1.index (point a b) (1 : Fin 3) * 2048 + 1 * x.val = x.val; rw [e1]; omega
  | ⟨2, _⟩ => show win0_1.index (point a b) (2 : Fin 3) * 768 + 1 * q.val = q.val; rw [e2]; omega

/-- A point's product with one of its shards is the whole arrays' with that shard. -/
theorem shard_eq (a : Fin 4) (b : Fin 2) (y : Fin 512) (x n : Fin 2048) (hn : n.val = a.val * 512 + y.val) (u : Fin 4) (s : Fin 8) (hs : s.val = b.val * 4 + u.val) :
    shardSum (N := 4) (iblk m c 0 (point a b)) (iblk m c 1 (point a b)) rfl y x u
      = shardSum (N := 8) (m ((c : Thread nD τ).loc main_arg0)) (m ((c : Thread nD τ).loc main_arg1)) rfl n x s :=
  sum_congr rfl fun q _ => congrArg₂ (fun z w : EReal => z * w)
    (read0 m c a b y _ n hn _ (by show s.val * 768 + q.val = b.val * 3072 + (u.val * 768 + q.val); omega)) (read1 m c a b u x q s hs)

theorem outs_congr (n n' : Nat) (h : n < cfg0.N) (h' : n' < cfg0.N) (e : n = n') : outsAt0 m c n h = outsAt0 m c n' h' := by
  subst e
  rfl

/-- What a block's second point leaves. -/
theorem outs_last (a : Fin 4) (y : Fin 512) (x n : Fin 2048) (hn : n.val = a.val * 512 + y.val) :
    (outsAt0 m c (point a 1).val (point a 1).isLt (ix2 y x) : EReal)
      = ∑ s : Fin 8, shardSum (N := 8) (m ((c : Thread nD τ).loc main_arg0)) (m ((c : Thread nD τ).loc main_arg1)) rfl n x s := by
  have p0 := place a 0
  have p1 := place a 1
  refine (congrFun (outsAt0_B m c (point a 1) (by rw [p1]; decide) p1) (ix2 y x)).trans ?_
  refine (tile_B _ _ _ _ _ _ _ _ (iblk m c 0 (point a 1)) (iblk m c 1 (point a 1)) y x _ _ _ _).trans ?_
  rw [outs_congr m c ((point a 1).val - 1) (point a 0).val _ (point a 0).isLt rfl, outsAt0_A m c (point a 0) p0 (by rw [p0]; decide)]
  rw [tile_A _ _ _ _ _ _ _ _ (iblk m c 0 (point a 0)) (iblk m c 1 (point a 0)) y x]
  refine Eq.trans ?_ (sum_blocks (a := 2) (b := 4) rfl _ (fun b u => shardSum (N := 4) (iblk m c 0 (point a b)) (iblk m c 1 (point a b)) rfl y x u)
    fun b u s hs => (shard_eq m c a b y x n hn u s hs).symm).symm
  rw [Fin.sum_univ_two]

theorem arr_eq : (dats m 0 c).arrAt 2 cfg0.N
    = val_main_v6 (F := Ideal) (m ((c : Thread nD τ).loc main_arg0)) (m ((c : Thread nD τ).loc main_arg1)) := by
  refine ext2 _ _ fun n x => ?_
  obtain ⟨a, y, hn⟩ := exists_block 4 512 n
  have hb := congrFun (((dats m 0 c).read_blk_arrAt_eq_flushed 2 (fun t t' f f' ne => (cfg0.win 2).disjoint_blk (apart t t' f f' ne))
    cfg0.N (point a 1) (point a 1).isLt (last a)).trans (flushed2 m c (point a 1))) (ix2 y x)
  have e : ((cfg0.win 2).blk (point a 1)).view.emb (ix2 y x) = (ix2 n x : S2048x2048.Idx) := by
    obtain ⟨e0, e1⟩ := at2 a
    refine funext fun i => Fin.ext ?_
    match i with
    | ⟨0, _⟩ => show win0_2.index (point a 1) (0 : Fin 2) * 512 + 1 * y.val = n.val; rw [e0]; omega
    | ⟨1, _⟩ => show win0_2.index (point a 1) (1 : Fin 2) * 2048 + 1 * x.val = x.val; rw [e1]; omega
  refine ((congrArg ((dats m 0 c).arrAt 2 cfg0.N) e).symm.trans hb).trans ?_
  exact (outs_last m c a y x n hn).trans (ref_apply _ _ n x).symm

/-- The reference runs and leaves its arguments as they are. -/
theorem frame_r : Cert.quiescent_RefInXIdeal := fun m ρ _ =>
  (θ_run Cert.RefInXIdeal.defs _ _).mono (fun r h => ⟨fun c => (h c).2, sem_eq_zero_of_no_sems (by decide) r.2⟩)
    (Cert.RefInXIdeal.Value.run (F := Ideal) m ρ)

/-- From equal arguments the call and the reference end with the same result. -/
theorem algebraic : Cert.algebraic_InXIdeal_RefInXIdeal := by
  intro m ρ m' ρ' _ hag
  refine ⟨fun c => (dats m 0 c).arrAt 2 cfg0.N, run_blocks m ρ, ?_⟩
  refine (θ_run Cert.RefInXIdeal.defs _ _).mono (fun r h c => ⟨(h c).1.trans ?_, (h c).2⟩) (Cert.RefInXIdeal.Value.run (F := Ideal) m' ρ')
  refine (Cert.RefInXIdeal.Read.val_main_v6_eq (F := Ideal) _ _).trans (Eq.trans ?_ (arr_eq m c).symm)
  exact congrArg₂ (Cert.RefInXIdeal.Read.val_main_v6 (F := Ideal)) (hag c).1 (hag c).2

end Cert.InXIdeal.Product

end
-- ==== Proof.InW.lean ====
/- The input projection's weight gradient: what the call leaves is the reference's product. -/
module

public import proofs.«01_k».proof.Defs
public import proofs.«01_k».proof.Proof.Gen.InWIdeal.Value
public import proofs.«01_k».proof.Proof.Gen.RefInWIdeal.Read
public import proofs.«01_k».proof.Proof.Gen.RefInWIdeal.Run
public import proofs.«01_k».proof.Proof.Blocks

@[expose] public section

set_option maxRecDepth 16384

noncomputable section

namespace Cert.InWIdeal.Product

open Idealize.ShloMosaic Idealize.ShloMosaic.TcCoe Idealize.SL.Sem
open Cert.InWIdeal Cert.InWIdeal.Gen Cert.InWIdeal.Value Cert.Blocks
open Cert.RefInWIdeal.Read
open Finset

/-- One point's product: the columns of one factor against the columns of the other. -/
theorem tile (c : Dev nD) (i : grid0.Coords) (arg2 : Memref sig .tc .vmem S2048x2048 .bf16) (harg2 : arg2.IsWhole)
    (arg3 : Memref sig .tc .vmem S2048x768 .bf16) (harg3 : arg3.IsWhole) (arg4 : Memref sig .tc .vmem S1x2048x768 .bf16) (harg4 : arg4.IsWhole)
    (hc0 : cond0_0 i) (x0 : Vec Ideal S2048x2048 .bf16) (x1 : Vec Ideal S2048x768 .bf16) (y : Fin 2048) (x : Fin 768) :
    (out0_A_2 (F := Ideal) c i arg2 harg2 arg3 harg3 arg4 harg4 hc0 x0 x1 (ix3 (0 : Fin 1) y x) : EReal)
      = ∑ k : Fin 2048, (x0 (ix2 k y) : EReal) * (x1 (ix2 k x) : EReal) := by
  have hp : (kernelRun0_A (F := Ideal) c i arg2 harg2 arg3 harg3 arg4 harg4 hc0 x0 x1).1
      = [⟨Rect.unit (s := S1x2048x768) ![0, 0, 0] S1x2048x768.size inb_S1x2048x768_S1x2048x768_0_0_0,
          k0_pay1 (View.readAt (Elt Ideal) arg2.view (Rect.unit (s := S2048x2048) ![0, 0] S2048x2048.size inb_S2048x2048_S2048x2048_0_0).toLoadRect (harg2.unread x0))
            (View.readAt (Elt Ideal) arg3.view (Rect.unit (s := S2048x768) ![0, 0] S2048x768.size inb_S2048x768_S2048x768_0_0).toLoadRect (harg3.unread x1))⟩] := rfl
  rw [out0_A_2, hp, read_whole _ _ _ _ _ (by decide), readAt_unread, readAt_unread, View.ld_unit_lit _ _ (by decide), View.ld_unit_lit _ _ (by decide)]
  pointwise [k0_pay1]

theorem ref_apply (x0 : Vec Ideal S2048x2048 .bf16) (x1 : Vec Ideal S2048x6144 .bf16) (s : Fin 8) (y : Fin 2048) (x : Fin 768)
    (n : Fin 6144) (hn : n.val = s.val * 768 + x.val) :
    (val_main_v8 (F := Ideal) x0 x1 (ix3 s y x) : EReal) = ∑ k : Fin 2048, (x1 (ix2 k n) : EReal) * (x0 (ix2 k y) : EReal) := by
  obtain ⟨n, h⟩ := n
  obtain rfl : n = s.val * 768 + x.val := hn
  pointwise [val_main_v8, val_main_v7, val_main_v6, val_main_v5, val_main_v4, val_main_v3, val_main_v1]

theorem at0 : ∀ t : Fin grid0.N, win0_0.index t (0 : Fin 2) = 0 ∧ win0_0.index t (1 : Fin 2) = 0 := by decide +kernel
theorem at1 : ∀ t : Fin grid0.N, win0_1.index t (0 : Fin 2) = 0 ∧ win0_1.index t (1 : Fin 2) = t.val := by decide +kernel
theorem at2 : ∀ t : Fin grid0.N, win0_2.index t (0 : Fin 3) = t.val ∧ win0_2.index t (1 : Fin 3) = 0 ∧ win0_2.index t (2 : Fin 3) = 0 := by decide +kernel
theorem every : ∀ t : Fin cfg0.N, (cfg0.win 2).flush t = true := by decide +kernel

variable (m : (ℓ : Loc nD τ sig) → Buf (Elt Ideal) ℓ) (c : Dev nD)

theorem read0 (t : Fin cfg0.N) (k y : Fin 2048) : iblk m c 0 t (ix2 k y) = m ((c : Thread nD τ).loc main_arg0) (ix2 k y) := by
  show V m c main_arg0 (((cfg0.win 0).blk t).view.emb (ix2 k y)) = _
  refine congrArg (m ((c : Thread nD τ).loc main_arg0)) (funext fun a => Fin.ext ?_)
  obtain ⟨e0, e1⟩ := at0 t
  match a with
  | ⟨0, _⟩ => show win0_0.index t (0 : Fin 2) * 2048 + 1 * k.val = k.val; rw [e0]; omega
  | ⟨1, _⟩ => show win0_0.index t (1 : Fin 2) * 2048 + 1 * y.val = y.val; rw [e1]; omega

theorem read1 (t : Fin cfg0.N) (k : Fin 2048) (x : Fin 768) (n : Fin 6144) (hn : n.val = t.val * 768 + x.val) :
    iblk m c 1 t (ix2 k x) = m ((c : Thread nD τ).loc main_arg1) (ix2 k n) := by
  show V m c main_arg1 (((cfg0.win 1).blk t).view.emb (ix2 k x)) = _
  refine congrArg (m ((c : Thread nD τ).loc main_arg1)) (funext fun a => Fin.ext ?_)
  obtain ⟨e0, e1⟩ := at1 t
  match a with
  | ⟨0, _⟩ => show win0_1.index t (0 : Fin 2) * 2048 + 1 * k.val = k.val; rw [e0]; omega
  | ⟨1, _⟩ => show win0_1.index t (1 : Fin 2) * 768 + 1 * x.val = n.val; rw [e1]; omega

theorem arr_eq : (dats m 0 c).arrAt 2 cfg0.N
    = val_main_v8 (F := Ideal) (m ((c : Thread nD τ).loc main_arg0)) (m ((c : Thread nD τ).loc main_arg1)) := by
  refine ext3 _ _ fun t y x => ?_
  have hb := congrFun ((blocks2 m c t (every t)).trans (flushed2_A m c t)) (ix3 (0 : Fin 1) y x)
  have e : ((cfg0.win 2).blk t).view.emb (ix3 (0 : Fin 1) y x) = (ix3 t y x : S8x2048x768.Idx) := by
    obtain ⟨e0, e1, e2⟩ := at2 t
    refine funext fun a => Fin.ext ?_
    match a with
    | ⟨0, _⟩ => show win0_2.index t (0 : Fin 3) * 1 + 1 * 0 = t.val; rw [e0]; omega
    | ⟨1, _⟩ => show win0_2.index t (1 : Fin 3) * 2048 + 1 * y.val = y.val; rw [e1]; omega
    | ⟨2, _⟩ => show win0_2.index t (2 : Fin 3) * 768 + 1 * x.val = x.val; rw [e2]; omega
  refine ((congrArg ((dats m 0 c).arrAt 2 cfg0.N) e).symm.trans hb).trans ?_
  refine (tile _ _ _ _ _ _ _ _ _ (iblk m c 0 t) (iblk m c 1 t) y x).trans (Eq.trans ?_ (ref_apply _ _ t y x ⟨t.val * 768 + x.val, by have := t.isLt; have := x.isLt; omega⟩ rfl).symm)
  refine sum_congr rfl fun k _ => ?_
  rw [read0 m c t k y, read1 m c t k x ⟨t.val * 768 + x.val, by have := t.isLt; have := x.isLt; omega⟩ rfl]
  exact mul_comm _ _

/-- The reference runs and leaves its arguments as they are. -/
theorem frame_r : Cert.quiescent_RefInWIdeal := fun m ρ _ =>
  (θ_run Cert.RefInWIdeal.defs _ _).mono (fun r h => ⟨fun c => (h c).2, sem_eq_zero_of_no_sems (by decide) r.2⟩)
    (Cert.RefInWIdeal.Value.run (F := Ideal) m ρ)

/-- From equal arguments the call and the reference end with the same result. -/
theorem algebraic : Cert.algebraic_InWIdeal_RefInWIdeal := by
  intro m ρ m' ρ' _ hag
  refine ⟨fun c => (dats m 0 c).arrAt 2 cfg0.N, run_blocks m ρ, ?_⟩
  refine (θ_run Cert.RefInWIdeal.defs _ _).mono (fun r h c => ⟨(h c).1.trans ?_, (h c).2⟩) (Cert.RefInWIdeal.Value.run (F := Ideal) m' ρ')
  refine (Cert.RefInWIdeal.Read.val_main_v8_eq (F := Ideal) _ _).trans (Eq.trans ?_ (arr_eq m c).symm)
  exact congrArg₂ (Cert.RefInWIdeal.Read.val_main_v8 (F := Ideal)) (hag c).1 (hag c).2

end Cert.InWIdeal.Product

end
-- ==== Proof.BrX.lean ====
/- A branch projection's input gradient: what the call leaves is the reference's product. Each point adds the products with the
   weight's eight shards; the reference takes one product over the whole weight. -/
module

public import proofs.«01_k».proof.Defs
public import proofs.«01_k».proof.Proof.Gen.BrXIdeal.Value
public import proofs.«01_k».proof.Proof.Gen.RefBrXIdeal.Read
public import proofs.«01_k».proof.Proof.Gen.RefBrXIdeal.Run
public import proofs.«01_k».proof.Proof.Blocks

@[expose] public section

set_option maxRecDepth 16384

noncomputable section

namespace Cert.BrXIdeal.Product

open Idealize.ShloMosaic Idealize.ShloMosaic.TcCoe Idealize.SL.Sem
open Cert.BrXIdeal Cert.BrXIdeal.Gen Cert.BrXIdeal.Value Cert.Blocks
open Cert.RefBrXIdeal.Read
open Finset

theorem pay_apply (a0 a1 a2 a3 a4 a5 a6 a7 : Vec Ideal S512x256 .bf16) (b0 b1 b2 b3 b4 b5 b6 b7 : Vec Ideal S1x1024x256 .bf16) (y : Fin 512) (x : Fin 1024) :
    (k0_pay1 (F := Ideal) (k0_pay2 a0 b0 a1 b1 a2 b2 a3 b3 a4 b4) a5 b5 a6 b6 a7 b7 (ix2 y x) : EReal)
      = part a0 b0 y x + part a1 b1 y x + part a2 b2 y x + part a3 b3 y x + part a4 b4 y x + part a5 b5 y x + part a6 b6 y x + part a7 b7 y x := by
  unfold part
  pointwise [k0_pay1, k0_pay2]

/-- One point's products, added over the shards. -/
theorem tile (x0 : Vec Ideal S512x2048 .bf16) (x1 : Vec Ideal S8x1024x256 .bf16) (y : Fin 512) (x : Fin 1024) :
    (out0_2 (F := Ideal) x0 x1 (ix2 y x) : EReal) = ∑ s : Fin 8, shardSum x0 x1 rfl y x s := by
  rw [out0_2, View.canon_cons_unit_lit _ _ _ (by decide)]
  refine (pay_apply _ _ _ _ _ _ _ _ _ _ _ _ _ _ _ _ y x).trans ?_
  exact add8 (part_ld x0 x1 rfl y x 0 0 0 _ _ rfl rfl) (part_ld x0 x1 rfl y x 1 256 1 _ _ rfl rfl) (part_ld x0 x1 rfl y x 2 512 2 _ _ rfl rfl) (part_ld x0 x1 rfl y x 3 768 3 _ _ rfl rfl)
    (part_ld x0 x1 rfl y x 4 1024 4 _ _ rfl rfl) (part_ld x0 x1 rfl y x 5 1280 5 _ _ rfl rfl) (part_ld x0 x1 rfl y x 6 1536 6 _ _ rfl rfl) (part_ld x0 x1 rfl y x 7 1792 7 _ _ rfl rfl)

theorem whole_apply (x1 : Vec Ideal S8x1024x256 .bf16) (x : Fin 1024) (s : Fin 8) (q : Fin 256) (k : Fin 2048) (hk : k.val = s.val * 256 + q.val) :
    (val_main_v2 (F := Ideal) x1 (ix2 x k) : EReal) = (x1 (ix3 s x q) : EReal) := by
  obtain ⟨k, h⟩ := k
  obtain rfl : k = s.val * 256 + q.val := hk
  pointwise [val_main_v2, val_main_v1, val_main_v0]

theorem ref_apply (x0 : Vec Ideal S2048x2048 .bf16) (x1 : Vec Ideal S8x1024x256 .bf16) (n : Fin 2048) (x : Fin 1024) :
    (val_main_v7 (F := Ideal) x0 x1 (ix2 n x) : EReal) = ∑ s : Fin 8, shardSum x0 x1 rfl n x s := by
  have e : (val_main_v7 (F := Ideal) x0 x1 (ix2 n x) : EReal) = ∑ k : Fin 2048, (x0 (ix2 n k) : EReal) * (val_main_v2 (F := Ideal) x1 (ix2 x k) : EReal) := by
    pointwise [val_main_v7, val_main_v6, val_main_v5]
  rw [e]
  refine sum_blocks (a := 8) (b := 256) rfl _ _ fun s q k hk => ?_
  rw [whole_apply x1 x s q k hk]
  exact congrArg (fun z : EReal => z * _) (congrArg (fun j => x0 (ix2 n j)) (Fin.ext hk))

theorem at0 : ∀ t : Fin grid0.N, win0_0.index t (0 : Fin 2) = t.val ∧ win0_0.index t (1 : Fin 2) = 0 := by decide +kernel
theorem at1 : ∀ t : Fin grid0.N, win0_1.index t (0 : Fin 3) = 0 ∧ win0_1.index t (1 : Fin 3) = 0 ∧ win0_1.index t (2 : Fin 3) = 0 := by decide +kernel
theorem at2 : ∀ t : Fin grid0.N, win0_2.index t (0 : Fin 2) = t.val ∧ win0_2.index t (1 : Fin 2) = 0 := by decide +kernel
theorem every : ∀ t : Fin cfg0.N, (cfg0.win 2).flush t = true := by decide +kernel

variable (m : (ℓ : Loc nD τ sig) → Buf (Elt Ideal) ℓ) (c : Dev nD)

theorem read0 (t : Fin cfg0.N) (y : Fin 512) (k : Fin 2048) (n : Fin 2048) (hn : n.val = t.val * 512 + y.val) :
    iblk m c 0 t (ix2 y k) = m ((c : Thread nD τ).loc main_arg0) (ix2 n k) := by
  show V m c main_arg0 (((cfg0.win 0).blk t).view.emb (ix2 y k)) = _
  refine congrArg (m ((c : Thread nD τ).loc main_arg0)) (funext fun a => Fin.ext ?_)
  obtain ⟨e0, e1⟩ := at0 t
  match a with
  | ⟨0, _⟩ => show win0_0.index t (0 : Fin 2) * 512 + 1 * y.val = n.val; rw [e0]; omega
  | ⟨1, _⟩ => show win0_0.index t (1 : Fin 2) * 2048 + 1 * k.val = k.val; rw [e1]; omega

theorem read1 (t : Fin cfg0.N) (s : Fin 8) (x : Fin 1024) (q : Fin 256) :
    iblk m c 1 t (ix3 s x q) = m ((c : Thread nD τ).loc main_arg1) (ix3 s x q) := by
  show V m c main_arg1 (((cfg0.win 1).blk t).view.emb (ix3 s x q)) = _
  refine congrArg (m ((c : Thread nD τ).loc main_arg1)) (funext fun a => Fin.ext ?_)
  obtain ⟨e0, e1, e2⟩ := at1 t
  match a with
  | ⟨0, _⟩ => show win0_1.index t (0 : Fin 3) * 8 + 1 * s.val = s.val; rw [e0]; omega
  | ⟨1, _⟩ => show win0_1.index t (1 : Fin 3) * 1024 + 1 * x.val = x.val; rw [e1]; omega
  | ⟨2, _⟩ => show win0_1.index t (2 : Fin 3) * 256 + 1 * q.val = q.val; rw [e2]; omega

theorem arr_eq : (dats m 0 c).arrAt 2 cfg0.N
    = val_main_v7 (F := Ideal) (m ((c : Thread nD τ).loc main_arg0)) (m ((c : Thread nD τ).loc main_arg1)) := by
  refine ext2 _ _ fun n x => ?_
  obtain ⟨t, y, hn⟩ := exists_block 4 512 n
  have hb := congrFun ((blocks2 m c t (every t)).trans (flushed2 m c t)) (ix2 y x)
  have e : ((cfg0.win 2).blk t).view.emb (ix2 y x) = (ix2 n x : S2048x1024.Idx) := by
    obtain ⟨e0, e1⟩ := at2 t
    refine funext fun a => Fin.ext ?_
    match a with
    | ⟨0, _⟩ => show win0_2.index t (0 : Fin 2) * 512 + 1 * y.val = n.val; rw [e0]; omega
    | ⟨1, _⟩ => show win0_2.index t (1 : Fin 2) * 1024 + 1 * x.val = x.val; rw [e1]; omega
  refine ((congrArg ((dats m 0 c).arrAt 2 cfg0.N) e).symm.trans hb).trans ?_
  refine (tile (iblk m c 0 t) (iblk m c 1 t) y x).trans (Eq.trans ?_ (ref_apply _ _ n x).symm)
  exact sum_congr rfl fun s _ => sum_congr rfl fun q _ => congrArg₂ (fun a b : EReal => a * b) (read0 m c t y _ n hn) (read1 m c t s x q)

/-- The reference runs and leaves its arguments as they are. -/
theorem frame_r : Cert.quiescent_RefBrXIdeal := fun m ρ _ =>
  (θ_run Cert.RefBrXIdeal.defs _ _).mono (fun r h => ⟨fun c => (h c).2, sem_eq_zero_of_no_sems (by decide) r.2⟩)
    (Cert.RefBrXIdeal.Value.run (F := Ideal) m ρ)

/-- From equal arguments the call and the reference end with the same result. -/
theorem algebraic : Cert.algebraic_BrXIdeal_RefBrXIdeal := by
  intro m ρ m' ρ' _ hag
  refine ⟨fun c => (dats m 0 c).arrAt 2 cfg0.N, run_blocks m ρ, ?_⟩
  refine (θ_run Cert.RefBrXIdeal.defs _ _).mono (fun r h c => ⟨(h c).1.trans ?_, (h c).2⟩) (Cert.RefBrXIdeal.Value.run (F := Ideal) m' ρ')
  refine (Cert.RefBrXIdeal.Read.val_main_v7_eq (F := Ideal) _ _).trans (Eq.trans ?_ (arr_eq m c).symm)
  exact congrArg₂ (Cert.RefBrXIdeal.Read.val_main_v7 (F := Ideal)) (hag c).1 (hag c).2

end Cert.BrXIdeal.Product

end
-- ==== Proof.BrW.lean ====
/- A branch projection's weight gradient: what the call leaves is the reference's product. -/
module

public import proofs.«01_k».proof.Defs
public import proofs.«01_k».proof.Proof.Gen.BrWIdeal.Value
public import proofs.«01_k».proof.Proof.Gen.RefBrWIdeal.Read
public import proofs.«01_k».proof.Proof.Gen.RefBrWIdeal.Run
public import proofs.«01_k».proof.Proof.Blocks

@[expose] public section

set_option maxRecDepth 16384

noncomputable section

namespace Cert.BrWIdeal.Product

open Idealize.ShloMosaic Idealize.ShloMosaic.TcCoe Idealize.SL.Sem
open Cert.BrWIdeal Cert.BrWIdeal.Gen Cert.BrWIdeal.Value Cert.Blocks
open Cert.RefBrWIdeal.Read
open Finset

/-- One point's product: the columns of one factor against the columns of the other. -/
theorem tile (c : Dev nD) (i : grid0.Coords) (arg2 : Memref sig .tc .vmem S2048x1024 .bf16) (harg2 : arg2.IsWhole)
    (arg3 : Memref sig .tc .vmem S2048x256 .bf16) (harg3 : arg3.IsWhole) (arg4 : Memref sig .tc .vmem S1x1024x256 .bf16) (harg4 : arg4.IsWhole)
    (hc0 : cond0_0 i) (x0 : Vec Ideal S2048x1024 .bf16) (x1 : Vec Ideal S2048x256 .bf16) (y : Fin 1024) (x : Fin 256) :
    (out0_A_2 (F := Ideal) c i arg2 harg2 arg3 harg3 arg4 harg4 hc0 x0 x1 (ix3 (0 : Fin 1) y x) : EReal)
      = ∑ k : Fin 2048, (x0 (ix2 k y) : EReal) * (x1 (ix2 k x) : EReal) := by
  have hp : (kernelRun0_A (F := Ideal) c i arg2 harg2 arg3 harg3 arg4 harg4 hc0 x0 x1).1
      = [⟨Rect.unit (s := S1x1024x256) ![0, 0, 0] S1x1024x256.size inb_S1x1024x256_S1x1024x256_0_0_0,
          k0_pay1 (View.readAt (Elt Ideal) arg2.view (Rect.unit (s := S2048x1024) ![0, 0] S2048x1024.size inb_S2048x1024_S2048x1024_0_0).toLoadRect (harg2.unread x0))
            (View.readAt (Elt Ideal) arg3.view (Rect.unit (s := S2048x256) ![0, 0] S2048x256.size inb_S2048x256_S2048x256_0_0).toLoadRect (harg3.unread x1))⟩] := rfl
  rw [out0_A_2, hp, read_whole _ _ _ _ _ (by decide), readAt_unread, readAt_unread, View.ld_unit_lit _ _ (by decide), View.ld_unit_lit _ _ (by decide)]
  pointwise [k0_pay1]

theorem ref_apply (x0 : Vec Ideal S2048x1024 .bf16) (x1 : Vec Ideal S2048x2048 .bf16) (s : Fin 8) (y : Fin 1024) (x : Fin 256)
    (n : Fin 2048) (hn : n.val = s.val * 256 + x.val) :
    (val_main_v8 (F := Ideal) x0 x1 (ix3 s y x) : EReal) = ∑ k : Fin 2048, (x1 (ix2 k n) : EReal) * (x0 (ix2 k y) : EReal) := by
  obtain ⟨n, h⟩ := n
  obtain rfl : n = s.val * 256 + x.val := hn
  pointwise [val_main_v8, val_main_v7, val_main_v6, val_main_v5, val_main_v4, val_main_v3, val_main_v1]

theorem at0 : ∀ t : Fin grid0.N, win0_0.index t (0 : Fin 2) = 0 ∧ win0_0.index t (1 : Fin 2) = 0 := by decide +kernel
theorem at1 : ∀ t : Fin grid0.N, win0_1.index t (0 : Fin 2) = 0 ∧ win0_1.index t (1 : Fin 2) = t.val := by decide +kernel
theorem at2 : ∀ t : Fin grid0.N, win0_2.index t (0 : Fin 3) = t.val ∧ win0_2.index t (1 : Fin 3) = 0 ∧ win0_2.index t (2 : Fin 3) = 0 := by decide +kernel
theorem every : ∀ t : Fin cfg0.N, (cfg0.win 2).flush t = true := by decide +kernel

variable (m : (ℓ : Loc nD τ sig) → Buf (Elt Ideal) ℓ) (c : Dev nD)

theorem read0 (t : Fin cfg0.N) (k : Fin 2048) (y : Fin 1024) : iblk m c 0 t (ix2 k y) = m ((c : Thread nD τ).loc main_arg0) (ix2 k y) := by
  show V m c main_arg0 (((cfg0.win 0).blk t).view.emb (ix2 k y)) = _
  refine congrArg (m ((c : Thread nD τ).loc main_arg0)) (funext fun a => Fin.ext ?_)
  obtain ⟨e0, e1⟩ := at0 t
  match a with
  | ⟨0, _⟩ => show win0_0.index t (0 : Fin 2) * 2048 + 1 * k.val = k.val; rw [e0]; omega
  | ⟨1, _⟩ => show win0_0.index t (1 : Fin 2) * 1024 + 1 * y.val = y.val; rw [e1]; omega

theorem read1 (t : Fin cfg0.N) (k : Fin 2048) (x : Fin 256) (n : Fin 2048) (hn : n.val = t.val * 256 + x.val) :
    iblk m c 1 t (ix2 k x) = m ((c : Thread nD τ).loc main_arg1) (ix2 k n) := by
  show V m c main_arg1 (((cfg0.win 1).blk t).view.emb (ix2 k x)) = _
  refine congrArg (m ((c : Thread nD τ).loc main_arg1)) (funext fun a => Fin.ext ?_)
  obtain ⟨e0, e1⟩ := at1 t
  match a with
  | ⟨0, _⟩ => show win0_1.index t (0 : Fin 2) * 2048 + 1 * k.val = k.val; rw [e0]; omega
  | ⟨1, _⟩ => show win0_1.index t (1 : Fin 2) * 256 + 1 * x.val = n.val; rw [e1]; omega

theorem arr_eq : (dats m 0 c).arrAt 2 cfg0.N
    = val_main_v8 (F := Ideal) (m ((c : Thread nD τ).loc main_arg0)) (m ((c : Thread nD τ).loc main_arg1)) := by
  refine ext3 _ _ fun t y x => ?_
  have hb := congrFun ((blocks2 m c t (every t)).trans (flushed2_A m c t)) (ix3 (0 : Fin 1) y x)
  have e : ((cfg0.win 2).blk t).view.emb (ix3 (0 : Fin 1) y x) = (ix3 t y x : S8x1024x256.Idx) := by
    obtain ⟨e0, e1, e2⟩ := at2 t
    refine funext fun a => Fin.ext ?_
    match a with
    | ⟨0, _⟩ => show win0_2.index t (0 : Fin 3) * 1 + 1 * 0 = t.val; rw [e0]; omega
    | ⟨1, _⟩ => show win0_2.index t (1 : Fin 3) * 1024 + 1 * y.val = y.val; rw [e1]; omega
    | ⟨2, _⟩ => show win0_2.index t (2 : Fin 3) * 256 + 1 * x.val = x.val; rw [e2]; omega
  refine ((congrArg ((dats m 0 c).arrAt 2 cfg0.N) e).symm.trans hb).trans ?_
  refine (tile _ _ _ _ _ _ _ _ _ (iblk m c 0 t) (iblk m c 1 t) y x).trans (Eq.trans ?_ (ref_apply _ _ t y x ⟨t.val * 256 + x.val, by have := t.isLt; have := x.isLt; omega⟩ rfl).symm)
  refine sum_congr rfl fun k _ => ?_
  rw [read0 m c t k y, read1 m c t k x ⟨t.val * 256 + x.val, by have := t.isLt; have := x.isLt; omega⟩ rfl]
  exact mul_comm _ _

/-- The reference runs and leaves its arguments as they are. -/
theorem frame_r : Cert.quiescent_RefBrWIdeal := fun m ρ _ =>
  (θ_run Cert.RefBrWIdeal.defs _ _).mono (fun r h => ⟨fun c => (h c).2, sem_eq_zero_of_no_sems (by decide) r.2⟩)
    (Cert.RefBrWIdeal.Value.run (F := Ideal) m ρ)

/-- From equal arguments the call and the reference end with the same result. -/
theorem algebraic : Cert.algebraic_BrWIdeal_RefBrWIdeal := by
  intro m ρ m' ρ' _ hag
  refine ⟨fun c => (dats m 0 c).arrAt 2 cfg0.N, run_blocks m ρ, ?_⟩
  refine (θ_run Cert.RefBrWIdeal.defs _ _).mono (fun r h c => ⟨(h c).1.trans ?_, (h c).2⟩) (Cert.RefBrWIdeal.Value.run (F := Ideal) m' ρ')
  refine (Cert.RefBrWIdeal.Read.val_main_v8_eq (F := Ideal) _ _).trans (Eq.trans ?_ (arr_eq m c).symm)
  exact congrArg₂ (Cert.RefBrWIdeal.Read.val_main_v8 (F := Ideal)) (hag c).1 (hag c).2

end Cert.BrWIdeal.Product

end
-- ==== Proof.GmX.lean ====
/- The gMLP projection's input gradient: what the call leaves is the reference's product. Each point adds the products with the
   weight's eight shards; the reference takes one product over the whole weight. -/
module

public import proofs.«01_k».proof.Defs
public import proofs.«01_k».proof.Proof.Gen.GmXIdeal.Value
public import proofs.«01_k».proof.Proof.Gen.RefGmXIdeal.Read
public import proofs.«01_k».proof.Proof.Gen.RefGmXIdeal.Run
public import proofs.«01_k».proof.Proof.Blocks

@[expose] public section

set_option maxRecDepth 16384

noncomputable section

namespace Cert.GmXIdeal.Product

open Idealize.ShloMosaic Idealize.ShloMosaic.TcCoe Idealize.SL.Sem
open Cert.GmXIdeal Cert.GmXIdeal.Gen Cert.GmXIdeal.Value Cert.Blocks
open Cert.RefGmXIdeal.Read
open Finset

theorem pay_apply (a0 a1 a2 a3 a4 a5 a6 a7 : Vec Ideal S512x256 .bf16) (b0 b1 b2 b3 b4 b5 b6 b7 : Vec Ideal S1x1024x256 .bf16) (y : Fin 512) (x : Fin 1024) :
    (k0_pay1 (F := Ideal) (k0_pay2 a0 b0 a1 b1 a2 b2 a3 b3 a4 b4) a5 b5 a6 b6 a7 b7 (ix2 y x) : EReal)
      = part a0 b0 y x + part a1 b1 y x + part a2 b2 y x + part a3 b3 y x + part a4 b4 y x + part a5 b5 y x + part a6 b6 y x + part a7 b7 y x := by
  unfold part
  pointwise [k0_pay1, k0_pay2]

/-- One point's products, added over the shards. -/
theorem tile (x0 : Vec Ideal S512x2048 .bf16) (x1 : Vec Ideal S8x1024x256 .bf16) (y : Fin 512) (x : Fin 1024) :
    (out0_2 (F := Ideal) x0 x1 (ix2 y x) : EReal) = ∑ s : Fin 8, shardSum x0 x1 rfl y x s := by
  rw [out0_2, View.canon_cons_unit_lit _ _ _ (by decide)]
  refine (pay_apply _ _ _ _ _ _ _ _ _ _ _ _ _ _ _ _ y x).trans ?_
  exact add8 (part_ld x0 x1 rfl y x 0 0 0 _ _ rfl rfl) (part_ld x0 x1 rfl y x 1 256 1 _ _ rfl rfl) (part_ld x0 x1 rfl y x 2 512 2 _ _ rfl rfl) (part_ld x0 x1 rfl y x 3 768 3 _ _ rfl rfl)
    (part_ld x0 x1 rfl y x 4 1024 4 _ _ rfl rfl) (part_ld x0 x1 rfl y x 5 1280 5 _ _ rfl rfl) (part_ld x0 x1 rfl y x 6 1536 6 _ _ rfl rfl) (part_ld x0 x1 rfl y x 7 1792 7 _ _ rfl rfl)

theorem whole_apply (x1 : Vec Ideal S8x1024x256 .bf16) (x : Fin 1024) (s : Fin 8) (q : Fin 256) (k : Fin 2048) (hk : k.val = s.val * 256 + q.val) :
    (val_main_v2 (F := Ideal) x1 (ix2 x k) : EReal) = (x1 (ix3 s x q) : EReal) := by
  obtain ⟨k, h⟩ := k
  obtain rfl : k = s.val * 256 + q.val := hk
  pointwise [val_main_v2, val_main_v1, val_main_v0]

theorem ref_apply (x0 : Vec Ideal S2048x2048 .bf16) (x1 : Vec Ideal S8x1024x256 .bf16) (n : Fin 2048) (x : Fin 1024) :
    (val_main_v6 (F := Ideal) x0 x1 (ix2 n x) : EReal) = ∑ s : Fin 8, shardSum x0 x1 rfl n x s := by
  have e : (val_main_v6 (F := Ideal) x0 x1 (ix2 n x) : EReal) = ∑ k : Fin 2048, (x0 (ix2 n k) : EReal) * (val_main_v2 (F := Ideal) x1 (ix2 x k) : EReal) := by
    pointwise [val_main_v6, val_main_v5]
  rw [e]
  refine sum_blocks (a := 8) (b := 256) rfl _ _ fun s q k hk => ?_
  rw [whole_apply x1 x s q k hk]
  exact congrArg (fun z : EReal => z * _) (congrArg (fun j => x0 (ix2 n j)) (Fin.ext hk))

theorem at0 : ∀ t : Fin grid0.N, win0_0.index t (0 : Fin 2) = t.val ∧ win0_0.index t (1 : Fin 2) = 0 := by decide +kernel
theorem at1 : ∀ t : Fin grid0.N, win0_1.index t (0 : Fin 3) = 0 ∧ win0_1.index t (1 : Fin 3) = 0 ∧ win0_1.index t (2 : Fin 3) = 0 := by decide +kernel
theorem at2 : ∀ t : Fin grid0.N, win0_2.index t (0 : Fin 2) = t.val ∧ win0_2.index t (1 : Fin 2) = 0 := by decide +kernel
theorem every : ∀ t : Fin cfg0.N, (cfg0.win 2).flush t = true := by decide +kernel

variable (m : (ℓ : Loc nD τ sig) → Buf (Elt Ideal) ℓ) (c : Dev nD)

theorem read0 (t : Fin cfg0.N) (y : Fin 512) (k : Fin 2048) (n : Fin 2048) (hn : n.val = t.val * 512 + y.val) :
    iblk m c 0 t (ix2 y k) = m ((c : Thread nD τ).loc main_arg0) (ix2 n k) := by
  show V m c main_arg0 (((cfg0.win 0).blk t).view.emb (ix2 y k)) = _
  refine congrArg (m ((c : Thread nD τ).loc main_arg0)) (funext fun a => Fin.ext ?_)
  obtain ⟨e0, e1⟩ := at0 t
  match a with
  | ⟨0, _⟩ => show win0_0.index t (0 : Fin 2) * 512 + 1 * y.val = n.val; rw [e0]; omega
  | ⟨1, _⟩ => show win0_0.index t (1 : Fin 2) * 2048 + 1 * k.val = k.val; rw [e1]; omega

theorem read1 (t : Fin cfg0.N) (s : Fin 8) (x : Fin 1024) (q : Fin 256) :
    iblk m c 1 t (ix3 s x q) = m ((c : Thread nD τ).loc main_arg1) (ix3 s x q) := by
  show V m c main_arg1 (((cfg0.win 1).blk t).view.emb (ix3 s x q)) = _
  refine congrArg (m ((c : Thread nD τ).loc main_arg1)) (funext fun a => Fin.ext ?_)
  obtain ⟨e0, e1, e2⟩ := at1 t
  match a with
  | ⟨0, _⟩ => show win0_1.index t (0 : Fin 3) * 8 + 1 * s.val = s.val; rw [e0]; omega
  | ⟨1, _⟩ => show win0_1.index t (1 : Fin 3) * 1024 + 1 * x.val = x.val; rw [e1]; omega
  | ⟨2, _⟩ => show win0_1.index t (2 : Fin 3) * 256 + 1 * q.val = q.val; rw [e2]; omega

theorem arr_eq : (dats m 0 c).arrAt 2 cfg0.N
    = val_main_v6 (F := Ideal) (m ((c : Thread nD τ).loc main_arg0)) (m ((c : Thread nD τ).loc main_arg1)) := by
  refine ext2 _ _ fun n x => ?_
  obtain ⟨t, y, hn⟩ := exists_block 4 512 n
  have hb := congrFun ((blocks2 m c t (every t)).trans (flushed2 m c t)) (ix2 y x)
  have e : ((cfg0.win 2).blk t).view.emb (ix2 y x) = (ix2 n x : S2048x1024.Idx) := by
    obtain ⟨e0, e1⟩ := at2 t
    refine funext fun a => Fin.ext ?_
    match a with
    | ⟨0, _⟩ => show win0_2.index t (0 : Fin 2) * 512 + 1 * y.val = n.val; rw [e0]; omega
    | ⟨1, _⟩ => show win0_2.index t (1 : Fin 2) * 1024 + 1 * x.val = x.val; rw [e1]; omega
  refine ((congrArg ((dats m 0 c).arrAt 2 cfg0.N) e).symm.trans hb).trans ?_
  refine (tile (iblk m c 0 t) (iblk m c 1 t) y x).trans (Eq.trans ?_ (ref_apply _ _ n x).symm)
  exact sum_congr rfl fun s _ => sum_congr rfl fun q _ => congrArg₂ (fun a b : EReal => a * b) (read0 m c t y _ n hn) (read1 m c t s x q)

/-- The reference runs and leaves its arguments as they are. -/
theorem frame_r : Cert.quiescent_RefGmXIdeal := fun m ρ _ =>
  (θ_run Cert.RefGmXIdeal.defs _ _).mono (fun r h => ⟨fun c => (h c).2, sem_eq_zero_of_no_sems (by decide) r.2⟩)
    (Cert.RefGmXIdeal.Value.run (F := Ideal) m ρ)

/-- From equal arguments the call and the reference end with the same result. -/
theorem algebraic : Cert.algebraic_GmXIdeal_RefGmXIdeal := by
  intro m ρ m' ρ' _ hag
  refine ⟨fun c => (dats m 0 c).arrAt 2 cfg0.N, run_blocks m ρ, ?_⟩
  refine (θ_run Cert.RefGmXIdeal.defs _ _).mono (fun r h c => ⟨(h c).1.trans ?_, (h c).2⟩) (Cert.RefGmXIdeal.Value.run (F := Ideal) m' ρ')
  refine (Cert.RefGmXIdeal.Read.val_main_v6_eq (F := Ideal) _ _).trans (Eq.trans ?_ (arr_eq m c).symm)
  exact congrArg₂ (Cert.RefGmXIdeal.Read.val_main_v6 (F := Ideal)) (hag c).1 (hag c).2

end Cert.GmXIdeal.Product

end
-- ==== Proof.MemX.lean ====
/- The input gradient of the memory's projection: what the call leaves is the reference's product. -/
module

public import proofs.«01_k».proof.Defs
public import proofs.«01_k».proof.Proof.Gen.MemXIdeal.Value
public import proofs.«01_k».proof.Proof.Gen.RefMemXIdeal.Read
public import proofs.«01_k».proof.Proof.Gen.RefMemXIdeal.Run
public import proofs.«01_k».proof.Proof.Blocks

@[expose] public section

set_option maxRecDepth 16384

noncomputable section

namespace Cert.MemXIdeal.Product

open Idealize.ShloMosaic Idealize.ShloMosaic.TcCoe Idealize.SL.Sem
open Cert.MemXIdeal Cert.MemXIdeal.Gen Cert.MemXIdeal.Value Cert.Blocks
open Cert.RefMemXIdeal.Read
open Finset

/-- One point's product: the rows against a block of the weight's rows. -/
theorem tile (x0 : Vec Ideal S256x2048 .bf16) (x1 : Vec Ideal S512x2048 .bf16) (y : Fin 256) (x : Fin 512) :
    (out0_2 (F := Ideal) x0 x1 (ix2 y x) : EReal) = ∑ k : Fin 2048, (x0 (ix2 y k) : EReal) * (x1 (ix2 x k) : EReal) := by
  rw [out0_2, View.canon_cons_unit_lit _ _ _ (by decide), View.ld_unit_lit _ _ (by decide), View.ld_unit_lit _ _ (by decide)]
  pointwise [k0_pay1]

theorem ref_apply (x0 : Vec Ideal S256x2048 .bf16) (x1 : Vec Ideal S2048x2048 .bf16) (n : Fin 256) (z : Fin 2048) :
    (val_main_v4 (F := Ideal) x0 x1 (ix2 n z) : EReal) = ∑ k : Fin 2048, (x0 (ix2 n k) : EReal) * (x1 (ix2 z k) : EReal) := by
  pointwise [val_main_v4, val_main_v3, val_main_v0]

theorem at0 : ∀ t : Fin grid0.N, win0_0.index t (0 : Fin 2) = 0 ∧ win0_0.index t (1 : Fin 2) = 0 := by decide +kernel
theorem at1 : ∀ t : Fin grid0.N, win0_1.index t (0 : Fin 2) = t.val ∧ win0_1.index t (1 : Fin 2) = 0 := by decide +kernel
theorem at2 : ∀ t : Fin grid0.N, win0_2.index t (0 : Fin 2) = 0 ∧ win0_2.index t (1 : Fin 2) = t.val := by decide +kernel
theorem every : ∀ t : Fin cfg0.N, (cfg0.win 2).flush t = true := by decide +kernel

variable (m : (ℓ : Loc nD τ sig) → Buf (Elt Ideal) ℓ) (c : Dev nD)

theorem read0 (t : Fin cfg0.N) (n : Fin 256) (k : Fin 2048) : iblk m c 0 t (ix2 n k) = m ((c : Thread nD τ).loc main_arg0) (ix2 n k) :=
  congrArg (m ((c : Thread nD τ).loc main_arg0)) (idx2 (((cfg0.win 0).blk t).view.emb (ix2 n k)) n k
    (by show win0_0.index t (0 : Fin 2) * 256 + 1 * n.val = n.val; rw [(at0 t).1]; omega)
    (by show win0_0.index t (1 : Fin 2) * 2048 + 1 * k.val = k.val; rw [(at0 t).2]; omega))

theorem read1 (t : Fin cfg0.N) (x : Fin 512) (k : Fin 2048) (z : Fin 2048) (hz : z.val = t.val * 512 + x.val) :
    iblk m c 1 t (ix2 x k) = m ((c : Thread nD τ).loc main_arg1) (ix2 z k) :=
  congrArg (m ((c : Thread nD τ).loc main_arg1)) (idx2 (((cfg0.win 1).blk t).view.emb (ix2 x k)) z k
    (by show win0_1.index t (0 : Fin 2) * 512 + 1 * x.val = z.val; rw [(at1 t).1]; omega)
    (by show win0_1.index t (1 : Fin 2) * 2048 + 1 * k.val = k.val; rw [(at1 t).2]; omega))

theorem arr_eq : (dats m 0 c).arrAt 2 cfg0.N
    = val_main_v4 (F := Ideal) (m ((c : Thread nD τ).loc main_arg0)) (m ((c : Thread nD τ).loc main_arg1)) := by
  refine ext2 _ _ fun n z => ?_
  obtain ⟨t, x, hz⟩ := exists_block 4 512 z
  have e : ((cfg0.win 2).blk t).view.emb (ix2 n x) = (ix2 n z : S256x2048.Idx) := idx2 _ n z
    (by show win0_2.index t (0 : Fin 2) * 256 + 1 * n.val = n.val; rw [(at2 t).1]; omega)
    (by show win0_2.index t (1 : Fin 2) * 512 + 1 * x.val = z.val; rw [(at2 t).2]; omega)
  refine ((congrArg ((dats m 0 c).arrAt 2 cfg0.N) e).symm.trans (congrFun ((blocks2 m c t (every t)).trans (flushed2 m c t)) (ix2 n x))).trans ?_
  refine (tile (iblk m c 0 t) (iblk m c 1 t) n x).trans (Eq.trans ?_ (ref_apply _ _ n z).symm)
  refine sum_congr rfl fun k _ => ?_
  rw [read0 m c t n k, read1 m c t x k z hz]

/-- The reference runs and leaves its arguments as they are. -/
theorem frame_r : Cert.quiescent_RefMemXIdeal := fun m ρ _ =>
  (θ_run Cert.RefMemXIdeal.defs _ _).mono (fun r h => ⟨fun c => (h c).2, sem_eq_zero_of_no_sems (by decide) r.2⟩)
    (Cert.RefMemXIdeal.Value.run (F := Ideal) m ρ)

/-- From equal arguments the call and the reference end with the same result. -/
theorem algebraic : Cert.algebraic_MemXIdeal_RefMemXIdeal := by
  intro m ρ m' ρ' _ hag
  refine ⟨fun c => (dats m 0 c).arrAt 2 cfg0.N, run_blocks m ρ, ?_⟩
  refine (θ_run Cert.RefMemXIdeal.defs _ _).mono (fun r h c => ⟨(h c).1.trans ?_, (h c).2⟩) (Cert.RefMemXIdeal.Value.run (F := Ideal) m' ρ')
  refine (Cert.RefMemXIdeal.Read.val_main_v4_eq (F := Ideal) _ _).trans (Eq.trans ?_ (arr_eq m c).symm)
  exact congrArg₂ (Cert.RefMemXIdeal.Read.val_main_v4 (F := Ideal)) (hag c).1 (hag c).2

end Cert.MemXIdeal.Product

end
-- ==== Proof.MemW.lean ====
/- The weight gradient of the memory's projection: what the call leaves is the reference's product. -/
module

public import proofs.«01_k».proof.Defs
public import proofs.«01_k».proof.Proof.Gen.MemWIdeal.Value
public import proofs.«01_k».proof.Proof.Gen.RefMemWIdeal.Read
public import proofs.«01_k».proof.Proof.Gen.RefMemWIdeal.Run
public import proofs.«01_k».proof.Proof.Blocks

@[expose] public section

set_option maxRecDepth 16384

noncomputable section

namespace Cert.MemWIdeal.Product

open Idealize.ShloMosaic Idealize.ShloMosaic.TcCoe Idealize.SL.Sem
open Cert.MemWIdeal Cert.MemWIdeal.Gen Cert.MemWIdeal.Value Cert.Blocks
open Cert.RefMemWIdeal.Read
open Finset

/-- One point's product: the columns of one factor against the columns of the other. -/
theorem tile (x0 : Vec Ideal S256x512 .bf16) (x1 : Vec Ideal S256x1024 .bf16) (y : Fin 512) (x : Fin 1024) :
    (out0_2 (F := Ideal) x0 x1 (ix2 y x) : EReal) = ∑ k : Fin 256, (x0 (ix2 k y) : EReal) * (x1 (ix2 k x) : EReal) := by
  rw [out0_2, View.canon_cons_unit_lit _ _ _ (by decide), View.ld_unit_lit _ _ (by decide), View.ld_unit_lit _ _ (by decide)]
  pointwise [k0_pay1]

theorem ref_apply (x0 x1 : Vec Ideal S256x2048 .bf16) (n z : Fin 2048) :
    (val_main_v6 (F := Ideal) x0 x1 (ix2 n z) : EReal) = ∑ k : Fin 256, (x1 (ix2 k z) : EReal) * (x0 (ix2 k n) : EReal) := by
  pointwise [val_main_v6, val_main_v5, val_main_v4, val_main_v3, val_main_v1]

/-- The point that computes the block in row `a` and column `b`. -/
def point (a : Fin 4) (b : Fin 2) : Fin cfg0.N := ⟨a.val * 2 + b.val, by have := a.isLt; have := b.isLt; show _ < 8; omega⟩

theorem at0 : ∀ (a : Fin 4) (b : Fin 2), win0_0.index (point a b) (0 : Fin 2) = 0 ∧ win0_0.index (point a b) (1 : Fin 2) = a.val := by decide +kernel
theorem at1 : ∀ (a : Fin 4) (b : Fin 2), win0_1.index (point a b) (0 : Fin 2) = 0 ∧ win0_1.index (point a b) (1 : Fin 2) = b.val := by decide +kernel
theorem at2 : ∀ (a : Fin 4) (b : Fin 2), win0_2.index (point a b) (0 : Fin 2) = a.val ∧ win0_2.index (point a b) (1 : Fin 2) = b.val := by decide +kernel
theorem every : ∀ t : Fin cfg0.N, (cfg0.win 2).flush t = true := by decide +kernel

variable (m : (ℓ : Loc nD τ sig) → Buf (Elt Ideal) ℓ) (c : Dev nD)

theorem read0 (a : Fin 4) (b : Fin 2) (y : Fin 512) (k : Fin 256) (n : Fin 2048) (hn : n.val = a.val * 512 + y.val) :
    iblk m c 0 (point a b) (ix2 k y) = m ((c : Thread nD τ).loc main_arg0) (ix2 k n) :=
  congrArg (m ((c : Thread nD τ).loc main_arg0)) (idx2 (((cfg0.win 0).blk (point a b)).view.emb (ix2 k y)) k n
    (by show win0_0.index (point a b) (0 : Fin 2) * 256 + 1 * k.val = k.val; rw [(at0 a b).1]; omega)
    (by show win0_0.index (point a b) (1 : Fin 2) * 512 + 1 * y.val = n.val; rw [(at0 a b).2]; omega))

theorem read1 (a : Fin 4) (b : Fin 2) (k : Fin 256) (x : Fin 1024) (z : Fin 2048) (hz : z.val = b.val * 1024 + x.val) :
    iblk m c 1 (point a b) (ix2 k x) = m ((c : Thread nD τ).loc main_arg1) (ix2 k z) :=
  congrArg (m ((c : Thread nD τ).loc main_arg1)) (idx2 (((cfg0.win 1).blk (point a b)).view.emb (ix2 k x)) k z
    (by show win0_1.index (point a b) (0 : Fin 2) * 256 + 1 * k.val = k.val; rw [(at1 a b).1]; omega)
    (by show win0_1.index (point a b) (1 : Fin 2) * 1024 + 1 * x.val = z.val; rw [(at1 a b).2]; omega))

theorem arr_eq : (dats m 0 c).arrAt 2 cfg0.N
    = val_main_v6 (F := Ideal) (m ((c : Thread nD τ).loc main_arg0)) (m ((c : Thread nD τ).loc main_arg1)) := by
  refine ext2 _ _ fun n z => ?_
  obtain ⟨a, y, hn⟩ := exists_block 4 512 n
  obtain ⟨b, x, hz⟩ := exists_block 2 1024 z
  have e : ((cfg0.win 2).blk (point a b)).view.emb (ix2 y x) = (ix2 n z : S2048x2048.Idx) := idx2 _ n z
    (by show win0_2.index (point a b) (0 : Fin 2) * 512 + 1 * y.val = n.val; rw [(at2 a b).1]; omega)
    (by show win0_2.index (point a b) (1 : Fin 2) * 1024 + 1 * x.val = z.val; rw [(at2 a b).2]; omega)
  refine ((congrArg ((dats m 0 c).arrAt 2 cfg0.N) e).symm.trans
    (congrFun ((blocks2 m c (point a b) (every _)).trans (flushed2 m c (point a b))) (ix2 y x))).trans ?_
  refine (tile (iblk m c 0 (point a b)) (iblk m c 1 (point a b)) y x).trans (Eq.trans ?_ (ref_apply _ _ n z).symm)
  refine sum_congr rfl fun k _ => ?_
  rw [read0 m c a b y k n hn, read1 m c a b k x z hz]
  exact EReal.mul_comm _ _

/-- The reference runs and leaves its arguments as they are. -/
theorem frame_r : Cert.quiescent_RefMemWIdeal := fun m ρ _ =>
  (θ_run Cert.RefMemWIdeal.defs _ _).mono (fun r h => ⟨fun c => (h c).2, sem_eq_zero_of_no_sems (by decide) r.2⟩)
    (Cert.RefMemWIdeal.Value.run (F := Ideal) m ρ)

/-- From equal arguments the call and the reference end with the same result. -/
theorem algebraic : Cert.algebraic_MemWIdeal_RefMemWIdeal := by
  intro m ρ m' ρ' _ hag
  refine ⟨fun c => (dats m 0 c).arrAt 2 cfg0.N, run_blocks m ρ, ?_⟩
  refine (θ_run Cert.RefMemWIdeal.defs _ _).mono (fun r h c => ⟨(h c).1.trans ?_, (h c).2⟩) (Cert.RefMemWIdeal.Value.run (F := Ideal) m' ρ')
  refine (Cert.RefMemWIdeal.Read.val_main_v6_eq (F := Ideal) _ _).trans (Eq.trans ?_ (arr_eq m c).symm)
  exact congrArg₂ (Cert.RefMemWIdeal.Read.val_main_v6 (F := Ideal)) (hag c).1 (hag c).2

end Cert.MemWIdeal.Product

end
-- ==== Proof.InY.lean ====
/- The input projection: what the call leaves, in float32 and cast down, is the reference's product with the whole weight. The
   weight lies in eight shards of columns; a point takes one shard. -/
module

public import proofs.«01_k».proof.Defs
public import proofs.«01_k».proof.Proof.Gen.InYIdeal.Value
public import proofs.«01_k».proof.Proof.Gen.RefInYIdeal.Read
public import proofs.«01_k».proof.Proof.Gen.RefInYIdeal.Run
public import proofs.«01_k».proof.Proof.Blocks

@[expose] public section

set_option maxRecDepth 16384

noncomputable section

namespace Cert.InYIdeal.Product

open Idealize.ShloMosaic Idealize.ShloMosaic.TcCoe Idealize.SL.Sem
open Cert.InYIdeal Cert.InYIdeal.Gen Cert.InYIdeal.Value Cert.Blocks
open Cert.RefInYIdeal.Read
open Finset

/-- One point's product: the rows against one shard's columns; -/
theorem tile (x0 : Vec Ideal S2048x2048 .bf16) (x1 : Vec Ideal S1x2048x768 .bf16) (y : Fin 2048) (x : Fin 768) :
    (out0_2 (F := Ideal) x0 x1 (ix2 y x) : EReal) = shardProd x0 x1 y x 0 := by
  unfold shardProd
  rw [out0_2, View.canon_cons_unit_lit _ _ _ (by decide), View.ld_unit_lit _ _ (by decide), View.ld_unit_lit _ _ (by decide)]
  pointwise [k0_pay1]

/-- the second result is the first, cast down. -/
theorem tile_low (x0 : Vec Ideal S2048x2048 .bf16) (x1 : Vec Ideal S1x2048x768 .bf16) (y : Fin 2048) (x : Fin 768) :
    (out0_3 (F := Ideal) x0 x1 (ix2 y x) : EReal) = shardProd x0 x1 y x 0 := by
  unfold shardProd
  rw [out0_3, View.canon_cons_unit_lit _ _ _ (by decide), View.ld_unit_lit _ _ (by decide), View.ld_unit_lit _ _ (by decide)]
  pointwise [k0_pay2, k0_pay1]

theorem ref_apply (x0 : Vec Ideal S2048x2048 .bf16) (x1 : Vec Ideal S8x2048x768 .bf16) (n : Fin 2048) (s : Fin 8) (x : Fin 768) (z : Fin 6144)
    (hz : z.val = s.val * 768 + x.val) :
    (val_main_v4 (F := Ideal) x0 x1 (ix2 n z) : EReal) = shardProd x0 x1 n x s := by
  unfold shardProd
  obtain ⟨z, h⟩ := z
  obtain rfl : z = s.val * 768 + x.val := hz
  pointwise [val_main_v4, val_main_v3, val_main_v2, val_main_v1, val_main_v0]

theorem at0 : ∀ t : Fin grid0.N, win0_0.index t (0 : Fin 2) = 0 ∧ win0_0.index t (1 : Fin 2) = 0 := by decide +kernel
theorem at1 : ∀ t : Fin grid0.N, win0_1.index t (0 : Fin 3) = t.val ∧ win0_1.index t (1 : Fin 3) = 0 ∧ win0_1.index t (2 : Fin 3) = 0 := by decide +kernel
theorem at2 : ∀ t : Fin grid0.N, win0_2.index t (0 : Fin 2) = 0 ∧ win0_2.index t (1 : Fin 2) = t.val := by decide +kernel
theorem at3 : ∀ t : Fin grid0.N, win0_3.index t (0 : Fin 2) = 0 ∧ win0_3.index t (1 : Fin 2) = t.val := by decide +kernel
theorem every : ∀ t : Fin cfg0.N, (cfg0.win 2).flush t = true := by decide +kernel
theorem every_low : ∀ t : Fin cfg0.N, (cfg0.win 3).flush t = true := by decide +kernel

variable (m : (ℓ : Loc nD τ sig) → Buf (Elt Ideal) ℓ) (c : Dev nD)

theorem read0 (t : Fin cfg0.N) (y k : Fin 2048) : iblk m c 0 t (ix2 y k) = m ((c : Thread nD τ).loc main_arg0) (ix2 y k) :=
  congrArg (m ((c : Thread nD τ).loc main_arg0)) (idx2 (((cfg0.win 0).blk t).view.emb (ix2 y k)) y k
    (by show win0_0.index t (0 : Fin 2) * 2048 + 1 * y.val = y.val; rw [(at0 t).1]; omega)
    (by show win0_0.index t (1 : Fin 2) * 2048 + 1 * k.val = k.val; rw [(at0 t).2]; omega))

theorem read1 (t : Fin cfg0.N) (k : Fin 2048) (x : Fin 768) : iblk m c 1 t (ix3 (0 : Fin 1) k x) = m ((c : Thread nD τ).loc main_arg1) (ix3 (t : Fin 8) k x) :=
  congrArg (m ((c : Thread nD τ).loc main_arg1)) (idx3 (((cfg0.win 1).blk t).view.emb (ix3 (0 : Fin 1) k x)) t k x
    (by show win0_1.index t (0 : Fin 3) * 1 + 1 * 0 = t.val; rw [(at1 t).1]; omega)
    (by show win0_1.index t (1 : Fin 3) * 2048 + 1 * k.val = k.val; rw [(at1 t).2.1]; omega)
    (by show win0_1.index t (2 : Fin 3) * 768 + 1 * x.val = x.val; rw [(at1 t).2.2]; omega))

/-- A point's product over the whole arrays is the reference's entry. -/
theorem meet (t : Fin 8) (n : Fin 2048) (x : Fin 768) (z : Fin 6144) (hz : z.val = t.val * 768 + x.val) :
    shardProd (iblk m c 0 t) (iblk m c 1 t) n x 0
      = (val_main_v4 (F := Ideal) (m ((c : Thread nD τ).loc main_arg0)) (m ((c : Thread nD τ).loc main_arg1)) (ix2 n z) : EReal) :=
  (shardProd_congr _ _ _ _ n n x 0 t (fun k => read0 m c t n k) (fun k => read1 m c t k x)).trans (ref_apply _ _ n t x z hz).symm

theorem arr_eq : (dats m 0 c).arrAt 2 cfg0.N
    = val_main_v4 (F := Ideal) (m ((c : Thread nD τ).loc main_arg0)) (m ((c : Thread nD τ).loc main_arg1)) := by
  refine ext2 _ _ fun n z => ?_
  obtain ⟨t, x, hz⟩ := exists_block 8 768 z
  have e : ((cfg0.win 2).blk t).view.emb (ix2 n x) = (ix2 n z : S2048x6144.Idx) := idx2 _ n z
    (by show win0_2.index t (0 : Fin 2) * 2048 + 1 * n.val = n.val; rw [(at2 t).1]; omega)
    (by show win0_2.index t (1 : Fin 2) * 768 + 1 * x.val = z.val; rw [(at2 t).2]; omega)
  refine ((congrArg ((dats m 0 c).arrAt 2 cfg0.N) e).symm.trans (congrFun ((blocks2 m c t (every t)).trans (flushed2 m c t)) (ix2 n x))).trans ?_
  exact (tile (iblk m c 0 t) (iblk m c 1 t) n x).trans (meet m c t n x z hz)

theorem arr_low_eq : (dats m 0 c).arrAt 3 cfg0.N
    = val_main_v5 (F := Ideal) (m ((c : Thread nD τ).loc main_arg0)) (m ((c : Thread nD τ).loc main_arg1)) := by
  refine ext2 _ _ fun n z => ?_
  obtain ⟨t, x, hz⟩ := exists_block 8 768 z
  have e : ((cfg0.win 3).blk t).view.emb (ix2 n x) = (ix2 n z : S2048x6144.Idx) := idx2 _ n z
    (by show win0_3.index t (0 : Fin 2) * 2048 + 1 * n.val = n.val; rw [(at3 t).1]; omega)
    (by show win0_3.index t (1 : Fin 2) * 768 + 1 * x.val = z.val; rw [(at3 t).2]; omega)
  refine ((congrArg ((dats m 0 c).arrAt 3 cfg0.N) e).symm.trans (congrFun ((blocks3 m c t (every_low t)).trans (flushed3 m c t)) (ix2 n x))).trans ?_
  exact (tile_low (iblk m c 0 t) (iblk m c 1 t) n x).trans (meet m c t n x z hz)

/-- The reference runs and leaves its arguments as they are. -/
theorem frame_r : Cert.quiescent_RefInYIdeal := fun m ρ _ =>
  (θ_run Cert.RefInYIdeal.defs _ _).mono (fun r h => ⟨fun c => (h c).2.2, sem_eq_zero_of_no_sems (by decide) r.2⟩)
    (Cert.RefInYIdeal.Value.run (F := Ideal) m ρ)

/-- From equal arguments the call and the reference end with the same results. -/
theorem algebraic : Cert.algebraic_InYIdeal_RefInYIdeal := by
  intro m ρ m' ρ' _ hag
  refine ⟨fun c => (dats m 0 c).arrAt 2 cfg0.N, fun c => (dats m 0 c).arrAt 3 cfg0.N, run_blocks m ρ, ?_⟩
  refine (θ_run Cert.RefInYIdeal.defs _ _).mono (fun r h c => ⟨(h c).1.trans ?_, (h c).2.1.trans ?_, (h c).2.2⟩) (Cert.RefInYIdeal.Value.run (F := Ideal) m' ρ')
  · refine (Cert.RefInYIdeal.Read.val_main_v4_eq (F := Ideal) _ _).trans (Eq.trans ?_ (arr_eq m c).symm)
    exact congrArg₂ (Cert.RefInYIdeal.Read.val_main_v4 (F := Ideal)) (hag c).1 (hag c).2
  · refine (Cert.RefInYIdeal.Read.val_main_v5_eq (F := Ideal) _ _).trans (Eq.trans ?_ (arr_low_eq m c).symm)
    exact congrArg₂ (Cert.RefInYIdeal.Read.val_main_v5 (F := Ideal)) (hag c).1 (hag c).2

end Cert.InYIdeal.Product

end
-- ==== Proof.GateY.lean ====
/- The gate projection: what the call leaves is the reference's product with the whole weight. The
   weight lies in eight shards of columns; a point takes one shard. -/
module

public import proofs.«01_k».proof.Defs
public import proofs.«01_k».proof.Proof.Gen.GateYIdeal.Value
public import proofs.«01_k».proof.Proof.Gen.RefGateYIdeal.Read
public import proofs.«01_k».proof.Proof.Gen.RefGateYIdeal.Run
public import proofs.«01_k».proof.Proof.Blocks

@[expose] public section

set_option maxRecDepth 16384

noncomputable section

namespace Cert.GateYIdeal.Product

open Idealize.ShloMosaic Idealize.ShloMosaic.TcCoe Idealize.SL.Sem
open Cert.GateYIdeal Cert.GateYIdeal.Gen Cert.GateYIdeal.Value Cert.Blocks
open Cert.RefGateYIdeal.Read
open Finset

/-- One point's product: the rows against one shard's columns. -/
theorem tile (x0 : Vec Ideal S2048x2048 .bf16) (x1 : Vec Ideal S1x2048x768 .bf16) (y : Fin 2048) (x : Fin 768) :
    (out0_2 (F := Ideal) x0 x1 (ix2 y x) : EReal) = shardProd x0 x1 y x 0 := by
  unfold shardProd
  rw [out0_2, View.canon_cons_unit_lit _ _ _ (by decide), View.ld_unit_lit _ _ (by decide), View.ld_unit_lit _ _ (by decide)]
  pointwise [k0_pay1]

theorem ref_apply (x0 : Vec Ideal S2048x2048 .bf16) (x1 : Vec Ideal S8x2048x768 .bf16) (n : Fin 2048) (s : Fin 8) (x : Fin 768) (z : Fin 6144)
    (hz : z.val = s.val * 768 + x.val) :
    (val_main_v4 (F := Ideal) x0 x1 (ix2 n z) : EReal) = shardProd x0 x1 n x s := by
  unfold shardProd
  obtain ⟨z, h⟩ := z
  obtain rfl : z = s.val * 768 + x.val := hz
  pointwise [val_main_v4, val_main_v3, val_main_v2, val_main_v1, val_main_v0]

theorem at0 : ∀ t : Fin grid0.N, win0_0.index t (0 : Fin 2) = 0 ∧ win0_0.index t (1 : Fin 2) = 0 := by decide +kernel
theorem at1 : ∀ t : Fin grid0.N, win0_1.index t (0 : Fin 3) = t.val ∧ win0_1.index t (1 : Fin 3) = 0 ∧ win0_1.index t (2 : Fin 3) = 0 := by decide +kernel
theorem at2 : ∀ t : Fin grid0.N, win0_2.index t (0 : Fin 2) = 0 ∧ win0_2.index t (1 : Fin 2) = t.val := by decide +kernel
theorem every : ∀ t : Fin cfg0.N, (cfg0.win 2).flush t = true := by decide +kernel

variable (m : (ℓ : Loc nD τ sig) → Buf (Elt Ideal) ℓ) (c : Dev nD)

theorem read0 (t : Fin cfg0.N) (y k : Fin 2048) : iblk m c 0 t (ix2 y k) = m ((c : Thread nD τ).loc main_arg0) (ix2 y k) :=
  congrArg (m ((c : Thread nD τ).loc main_arg0)) (idx2 (((cfg0.win 0).blk t).view.emb (ix2 y k)) y k
    (by show win0_0.index t (0 : Fin 2) * 2048 + 1 * y.val = y.val; rw [(at0 t).1]; omega)
    (by show win0_0.index t (1 : Fin 2) * 2048 + 1 * k.val = k.val; rw [(at0 t).2]; omega))

theorem read1 (t : Fin cfg0.N) (k : Fin 2048) (x : Fin 768) : iblk m c 1 t (ix3 (0 : Fin 1) k x) = m ((c : Thread nD τ).loc main_arg1) (ix3 (t : Fin 8) k x) :=
  congrArg (m ((c : Thread nD τ).loc main_arg1)) (idx3 (((cfg0.win 1).blk t).view.emb (ix3 (0 : Fin 1) k x)) t k x
    (by show win0_1.index t (0 : Fin 3) * 1 + 1 * 0 = t.val; rw [(at1 t).1]; omega)
    (by show win0_1.index t (1 : Fin 3) * 2048 + 1 * k.val = k.val; rw [(at1 t).2.1]; omega)
    (by show win0_1.index t (2 : Fin 3) * 768 + 1 * x.val = x.val; rw [(at1 t).2.2]; omega))

/-- A point's product over the whole arrays is the reference's entry. -/
theorem meet (t : Fin 8) (n : Fin 2048) (x : Fin 768) (z : Fin 6144) (hz : z.val = t.val * 768 + x.val) :
    shardProd (iblk m c 0 t) (iblk m c 1 t) n x 0
      = (val_main_v4 (F := Ideal) (m ((c : Thread nD τ).loc main_arg0)) (m ((c : Thread nD τ).loc main_arg1)) (ix2 n z) : EReal) :=
  (shardProd_congr _ _ _ _ n n x 0 t (fun k => read0 m c t n k) (fun k => read1 m c t k x)).trans (ref_apply _ _ n t x z hz).symm

theorem arr_eq : (dats m 0 c).arrAt 2 cfg0.N
    = val_main_v4 (F := Ideal) (m ((c : Thread nD τ).loc main_arg0)) (m ((c : Thread nD τ).loc main_arg1)) := by
  refine ext2 _ _ fun n z => ?_
  obtain ⟨t, x, hz⟩ := exists_block 8 768 z
  have e : ((cfg0.win 2).blk t).view.emb (ix2 n x) = (ix2 n z : S2048x6144.Idx) := idx2 _ n z
    (by show win0_2.index t (0 : Fin 2) * 2048 + 1 * n.val = n.val; rw [(at2 t).1]; omega)
    (by show win0_2.index t (1 : Fin 2) * 768 + 1 * x.val = z.val; rw [(at2 t).2]; omega)
  refine ((congrArg ((dats m 0 c).arrAt 2 cfg0.N) e).symm.trans (congrFun ((blocks2 m c t (every t)).trans (flushed2 m c t)) (ix2 n x))).trans ?_
  exact (tile (iblk m c 0 t) (iblk m c 1 t) n x).trans (meet m c t n x z hz)

/-- The reference runs and leaves its arguments as they are. -/
theorem frame_r : Cert.quiescent_RefGateYIdeal := fun m ρ _ =>
  (θ_run Cert.RefGateYIdeal.defs _ _).mono (fun r h => ⟨fun c => (h c).2, sem_eq_zero_of_no_sems (by decide) r.2⟩)
    (Cert.RefGateYIdeal.Value.run (F := Ideal) m ρ)

/-- From equal arguments the call and the reference end with the same result. -/
theorem algebraic : Cert.algebraic_GateYIdeal_RefGateYIdeal := by
  intro m ρ m' ρ' _ hag
  refine ⟨fun c => (dats m 0 c).arrAt 2 cfg0.N, run_blocks m ρ, ?_⟩
  refine (θ_run Cert.RefGateYIdeal.defs _ _).mono (fun r h c => ⟨(h c).1.trans ?_, (h c).2⟩) (Cert.RefGateYIdeal.Value.run (F := Ideal) m' ρ')
  refine (Cert.RefGateYIdeal.Read.val_main_v4_eq (F := Ideal) _ _).trans (Eq.trans ?_ (arr_eq m c).symm)
  exact congrArg₂ (Cert.RefGateYIdeal.Read.val_main_v4 (F := Ideal)) (hag c).1 (hag c).2

end Cert.GateYIdeal.Product

end
-- ==== Proof.BrY.lean ====
/- A branch's projection: what the call leaves is the reference's product with the whole weight. The
   weight lies in eight shards of columns; a point takes one shard. -/
module

public import proofs.«01_k».proof.Defs
public import proofs.«01_k».proof.Proof.Gen.BrYIdeal.Value
public import proofs.«01_k».proof.Proof.Gen.RefBrYIdeal.Read
public import proofs.«01_k».proof.Proof.Gen.RefBrYIdeal.Run
public import proofs.«01_k».proof.Proof.Blocks

@[expose] public section

set_option maxRecDepth 16384

noncomputable section

namespace Cert.BrYIdeal.Product

open Idealize.ShloMosaic Idealize.ShloMosaic.TcCoe Idealize.SL.Sem
open Cert.BrYIdeal Cert.BrYIdeal.Gen Cert.BrYIdeal.Value Cert.Blocks
open Cert.RefBrYIdeal.Read
open Finset

/-- One point's product: the rows against one shard's columns. -/
theorem tile (x0 : Vec Ideal S2048x1024 .bf16) (x1 : Vec Ideal S1x1024x256 .bf16) (y : Fin 2048) (x : Fin 256) :
    (out0_2 (F := Ideal) x0 x1 (ix2 y x) : EReal) = shardProd x0 x1 y x 0 := by
  unfold shardProd
  rw [out0_2, View.canon_cons_unit_lit _ _ _ (by decide), View.ld_unit_lit _ _ (by decide), View.ld_unit_lit _ _ (by decide)]
  pointwise [k0_pay1]

theorem ref_apply (x0 : Vec Ideal S2048x1024 .bf16) (x1 : Vec Ideal S8x1024x256 .bf16) (n : Fin 2048) (s : Fin 8) (x : Fin 256) (z : Fin 2048)
    (hz : z.val = s.val * 256 + x.val) :
    (val_main_v5 (F := Ideal) x0 x1 (ix2 n z) : EReal) = shardProd x0 x1 n x s := by
  unfold shardProd
  obtain ⟨z, h⟩ := z
  obtain rfl : z = s.val * 256 + x.val := hz
  pointwise [val_main_v5, val_main_v4, val_main_v3, val_main_v2, val_main_v1, val_main_v0]

theorem at0 : ∀ t : Fin grid0.N, win0_0.index t (0 : Fin 2) = 0 ∧ win0_0.index t (1 : Fin 2) = 0 := by decide +kernel
theorem at1 : ∀ t : Fin grid0.N, win0_1.index t (0 : Fin 3) = t.val ∧ win0_1.index t (1 : Fin 3) = 0 ∧ win0_1.index t (2 : Fin 3) = 0 := by decide +kernel
theorem at2 : ∀ t : Fin grid0.N, win0_2.index t (0 : Fin 2) = 0 ∧ win0_2.index t (1 : Fin 2) = t.val := by decide +kernel
theorem every : ∀ t : Fin cfg0.N, (cfg0.win 2).flush t = true := by decide +kernel

variable (m : (ℓ : Loc nD τ sig) → Buf (Elt Ideal) ℓ) (c : Dev nD)

theorem read0 (t : Fin cfg0.N) (y : Fin 2048) (k : Fin 1024) : iblk m c 0 t (ix2 y k) = m ((c : Thread nD τ).loc main_arg0) (ix2 y k) :=
  congrArg (m ((c : Thread nD τ).loc main_arg0)) (idx2 (((cfg0.win 0).blk t).view.emb (ix2 y k)) y k
    (by show win0_0.index t (0 : Fin 2) * 2048 + 1 * y.val = y.val; rw [(at0 t).1]; omega)
    (by show win0_0.index t (1 : Fin 2) * 1024 + 1 * k.val = k.val; rw [(at0 t).2]; omega))

theorem read1 (t : Fin cfg0.N) (k : Fin 1024) (x : Fin 256) : iblk m c 1 t (ix3 (0 : Fin 1) k x) = m ((c : Thread nD τ).loc main_arg1) (ix3 (t : Fin 8) k x) :=
  congrArg (m ((c : Thread nD τ).loc main_arg1)) (idx3 (((cfg0.win 1).blk t).view.emb (ix3 (0 : Fin 1) k x)) t k x
    (by show win0_1.index t (0 : Fin 3) * 1 + 1 * 0 = t.val; rw [(at1 t).1]; omega)
    (by show win0_1.index t (1 : Fin 3) * 1024 + 1 * k.val = k.val; rw [(at1 t).2.1]; omega)
    (by show win0_1.index t (2 : Fin 3) * 256 + 1 * x.val = x.val; rw [(at1 t).2.2]; omega))

/-- A point's product over the whole arrays is the reference's entry. -/
theorem meet (t : Fin 8) (n : Fin 2048) (x : Fin 256) (z : Fin 2048) (hz : z.val = t.val * 256 + x.val) :
    shardProd (iblk m c 0 t) (iblk m c 1 t) n x 0
      = (val_main_v5 (F := Ideal) (m ((c : Thread nD τ).loc main_arg0)) (m ((c : Thread nD τ).loc main_arg1)) (ix2 n z) : EReal) :=
  (shardProd_congr _ _ _ _ n n x 0 t (fun k => read0 m c t n k) (fun k => read1 m c t k x)).trans (ref_apply _ _ n t x z hz).symm

theorem arr_eq : (dats m 0 c).arrAt 2 cfg0.N
    = val_main_v5 (F := Ideal) (m ((c : Thread nD τ).loc main_arg0)) (m ((c : Thread nD τ).loc main_arg1)) := by
  refine ext2 _ _ fun n z => ?_
  obtain ⟨t, x, hz⟩ := exists_block 8 256 z
  have e : ((cfg0.win 2).blk t).view.emb (ix2 n x) = (ix2 n z : S2048x2048.Idx) := idx2 _ n z
    (by show win0_2.index t (0 : Fin 2) * 2048 + 1 * n.val = n.val; rw [(at2 t).1]; omega)
    (by show win0_2.index t (1 : Fin 2) * 256 + 1 * x.val = z.val; rw [(at2 t).2]; omega)
  refine ((congrArg ((dats m 0 c).arrAt 2 cfg0.N) e).symm.trans (congrFun ((blocks2 m c t (every t)).trans (flushed2 m c t)) (ix2 n x))).trans ?_
  exact (tile (iblk m c 0 t) (iblk m c 1 t) n x).trans (meet m c t n x z hz)

/-- The reference runs and leaves its arguments as they are. -/
theorem frame_r : Cert.quiescent_RefBrYIdeal := fun m ρ _ =>
  (θ_run Cert.RefBrYIdeal.defs _ _).mono (fun r h => ⟨fun c => (h c).2, sem_eq_zero_of_no_sems (by decide) r.2⟩)
    (Cert.RefBrYIdeal.Value.run (F := Ideal) m ρ)

/-- From equal arguments the call and the reference end with the same result. -/
theorem algebraic : Cert.algebraic_BrYIdeal_RefBrYIdeal := by
  intro m ρ m' ρ' _ hag
  refine ⟨fun c => (dats m 0 c).arrAt 2 cfg0.N, run_blocks m ρ, ?_⟩
  refine (θ_run Cert.RefBrYIdeal.defs _ _).mono (fun r h c => ⟨(h c).1.trans ?_, (h c).2⟩) (Cert.RefBrYIdeal.Value.run (F := Ideal) m' ρ')
  refine (Cert.RefBrYIdeal.Read.val_main_v5_eq (F := Ideal) _ _).trans (Eq.trans ?_ (arr_eq m c).symm)
  exact congrArg₂ (Cert.RefBrYIdeal.Read.val_main_v5 (F := Ideal)) (hag c).1 (hag c).2

end Cert.BrYIdeal.Product

end
-- ==== Proof.UpY.lean ====
/- The up projection: what the call leaves is the reference's product with the whole weight. The
   weight lies in eight shards of columns; a point takes half the rows and one shard. -/
module

public import proofs.«01_k».proof.Defs
public import proofs.«01_k».proof.Proof.Gen.UpYIdeal.Value
public import proofs.«01_k».proof.Proof.Gen.RefUpYIdeal.Read
public import proofs.«01_k».proof.Proof.Gen.RefUpYIdeal.Run
public import proofs.«01_k».proof.Proof.Blocks

@[expose] public section

set_option maxRecDepth 16384

noncomputable section

namespace Cert.UpYIdeal.Product

open Idealize.ShloMosaic Idealize.ShloMosaic.TcCoe Idealize.SL.Sem
open Cert.UpYIdeal Cert.UpYIdeal.Gen Cert.UpYIdeal.Value Cert.Blocks
open Cert.RefUpYIdeal.Read
open Finset

/-- One point's product: the rows against one shard's columns. -/
theorem tile (x0 : Vec Ideal S1024x2048 .bf16) (x1 : Vec Ideal S1x2048x1408 .bf16) (y : Fin 1024) (x : Fin 1408) :
    (out0_2 (F := Ideal) x0 x1 (ix2 y x) : EReal) = shardProd x0 x1 y x 0 := by
  unfold shardProd
  rw [out0_2, View.canon_cons_unit_lit _ _ _ (by decide), View.ld_unit_lit _ _ (by decide), View.ld_unit_lit _ _ (by decide)]
  pointwise [k0_pay1]

theorem ref_apply (x0 : Vec Ideal S2048x2048 .bf16) (x1 : Vec Ideal S8x2048x1408 .bf16) (n : Fin 2048) (s : Fin 8) (x : Fin 1408) (z : Fin 11264)
    (hz : z.val = s.val * 1408 + x.val) :
    (val_main_v4 (F := Ideal) x0 x1 (ix2 n z) : EReal) = shardProd x0 x1 n x s := by
  unfold shardProd
  obtain ⟨z, h⟩ := z
  obtain rfl : z = s.val * 1408 + x.val := hz
  pointwise [val_main_v4, val_main_v3, val_main_v2, val_main_v1, val_main_v0]

/-- The point that computes the rows `a` with shard `b`. -/
def point (a : Fin 2) (b : Fin 8) : Fin cfg0.N := ⟨a.val * 8 + b.val, by have := a.isLt; have := b.isLt; show _ < 16; omega⟩

theorem at0 : ∀ (a : Fin 2) (b : Fin 8), win0_0.index (point a b) (0 : Fin 2) = a.val ∧ win0_0.index (point a b) (1 : Fin 2) = 0 := by decide +kernel
theorem at1 : ∀ (a : Fin 2) (b : Fin 8), win0_1.index (point a b) (0 : Fin 3) = b.val ∧ win0_1.index (point a b) (1 : Fin 3) = 0
    ∧ win0_1.index (point a b) (2 : Fin 3) = 0 := by decide +kernel
theorem at2 : ∀ (a : Fin 2) (b : Fin 8), win0_2.index (point a b) (0 : Fin 2) = a.val ∧ win0_2.index (point a b) (1 : Fin 2) = b.val := by decide +kernel
theorem every : ∀ t : Fin cfg0.N, (cfg0.win 2).flush t = true := by decide +kernel

variable (m : (ℓ : Loc nD τ sig) → Buf (Elt Ideal) ℓ) (c : Dev nD)

theorem read0 (a : Fin 2) (b : Fin 8) (y : Fin 1024) (k n : Fin 2048) (hn : n.val = a.val * 1024 + y.val) :
    iblk m c 0 (point a b) (ix2 y k) = m ((c : Thread nD τ).loc main_arg0) (ix2 n k) :=
  congrArg (m ((c : Thread nD τ).loc main_arg0)) (idx2 (((cfg0.win 0).blk (point a b)).view.emb (ix2 y k)) n k
    (by show win0_0.index (point a b) (0 : Fin 2) * 1024 + 1 * y.val = n.val; rw [(at0 a b).1]; omega)
    (by show win0_0.index (point a b) (1 : Fin 2) * 2048 + 1 * k.val = k.val; rw [(at0 a b).2]; omega))

theorem read1 (a : Fin 2) (b : Fin 8) (k : Fin 2048) (x : Fin 1408) :
    iblk m c 1 (point a b) (ix3 (0 : Fin 1) k x) = m ((c : Thread nD τ).loc main_arg1) (ix3 b k x) :=
  congrArg (m ((c : Thread nD τ).loc main_arg1)) (idx3 (((cfg0.win 1).blk (point a b)).view.emb (ix3 (0 : Fin 1) k x)) b k x
    (by show win0_1.index (point a b) (0 : Fin 3) * 1 + 1 * 0 = b.val; rw [(at1 a b).1]; omega)
    (by show win0_1.index (point a b) (1 : Fin 3) * 2048 + 1 * k.val = k.val; rw [(at1 a b).2.1]; omega)
    (by show win0_1.index (point a b) (2 : Fin 3) * 1408 + 1 * x.val = x.val; rw [(at1 a b).2.2]; omega))

theorem arr_eq : (dats m 0 c).arrAt 2 cfg0.N
    = val_main_v4 (F := Ideal) (m ((c : Thread nD τ).loc main_arg0)) (m ((c : Thread nD τ).loc main_arg1)) := by
  refine ext2 _ _ fun n z => ?_
  obtain ⟨a, y, hn⟩ := exists_block 2 1024 n
  obtain ⟨b, x, hz⟩ := exists_block 8 1408 z
  have e : ((cfg0.win 2).blk (point a b)).view.emb (ix2 y x) = (ix2 n z : S2048x11264.Idx) := idx2 _ n z
    (by show win0_2.index (point a b) (0 : Fin 2) * 1024 + 1 * y.val = n.val; rw [(at2 a b).1]; omega)
    (by show win0_2.index (point a b) (1 : Fin 2) * 1408 + 1 * x.val = z.val; rw [(at2 a b).2]; omega)
  refine ((congrArg ((dats m 0 c).arrAt 2 cfg0.N) e).symm.trans
    (congrFun ((blocks2 m c (point a b) (every _)).trans (flushed2 m c (point a b))) (ix2 y x))).trans ?_
  refine (tile (iblk m c 0 (point a b)) (iblk m c 1 (point a b)) y x).trans (Eq.trans ?_ (ref_apply _ _ n b x z hz).symm)
  exact shardProd_congr _ _ _ _ y n x 0 b (fun k => read0 m c a b y k n hn) (fun k => read1 m c a b k x)

/-- The reference runs and leaves its arguments as they are. -/
theorem frame_r : Cert.quiescent_RefUpYIdeal := fun m ρ _ =>
  (θ_run Cert.RefUpYIdeal.defs _ _).mono (fun r h => ⟨fun c => (h c).2, sem_eq_zero_of_no_sems (by decide) r.2⟩)
    (Cert.RefUpYIdeal.Value.run (F := Ideal) m ρ)

/-- From equal arguments the call and the reference end with the same result. -/
theorem algebraic : Cert.algebraic_UpYIdeal_RefUpYIdeal := by
  intro m ρ m' ρ' _ hag
  refine ⟨fun c => (dats m 0 c).arrAt 2 cfg0.N, run_blocks m ρ, ?_⟩
  refine (θ_run Cert.RefUpYIdeal.defs _ _).mono (fun r h c => ⟨(h c).1.trans ?_, (h c).2⟩) (Cert.RefUpYIdeal.Value.run (F := Ideal) m' ρ')
  refine (Cert.RefUpYIdeal.Read.val_main_v4_eq (F := Ideal) _ _).trans (Eq.trans ?_ (arr_eq m c).symm)
  exact congrArg₂ (Cert.RefUpYIdeal.Read.val_main_v4 (F := Ideal)) (hag c).1 (hag c).2

end Cert.UpYIdeal.Product

end
-- ==== Proof.OutY.lean ====
/- The output projection: what the call leaves is the reference's product. -/
module

public import proofs.«01_k».proof.Defs
public import proofs.«01_k».proof.Proof.Gen.OutYIdeal.Value
public import proofs.«01_k».proof.Proof.Gen.RefOutYIdeal.Read
public import proofs.«01_k».proof.Proof.Gen.RefOutYIdeal.Run
public import proofs.«01_k».proof.Proof.Blocks

@[expose] public section

set_option maxRecDepth 16384

noncomputable section

namespace Cert.OutYIdeal.Product

open Idealize.ShloMosaic Idealize.ShloMosaic.TcCoe Idealize.SL.Sem
open Cert.OutYIdeal Cert.OutYIdeal.Gen Cert.OutYIdeal.Value Cert.Blocks
open Cert.RefOutYIdeal.Read
open Finset

/-- One point's product: a block of rows against a block of columns. -/
theorem tile (x0 : Vec Ideal S1024x2048 .bf16) (x1 : Vec Ideal S2048x1024 .bf16) (y x : Fin 1024) :
    (out0_2 (F := Ideal) x0 x1 (ix2 y x) : EReal) = ∑ k : Fin 2048, (x0 (ix2 y k) : EReal) * (x1 (ix2 k x) : EReal) := by
  rw [out0_2, View.canon_cons_unit_lit _ _ _ (by decide), View.ld_unit_lit _ _ (by decide), View.ld_unit_lit _ _ (by decide)]
  pointwise [k0_pay1]

theorem ref_apply (x0 x1 : Vec Ideal S2048x2048 .bf16) (n z : Fin 2048) :
    (val_main_v2 (F := Ideal) x0 x1 (ix2 n z) : EReal) = ∑ k : Fin 2048, (x0 (ix2 n k) : EReal) * (x1 (ix2 k z) : EReal) := by
  pointwise [val_main_v2, val_main_v1, val_main_v0]

/-- The point that computes the block in row `a` and column `b`. -/
def point (a b : Fin 2) : Fin cfg0.N := ⟨a.val * 2 + b.val, by have := a.isLt; have := b.isLt; show _ < 4; omega⟩

theorem at0 : ∀ a b : Fin 2, win0_0.index (point a b) (0 : Fin 2) = a.val ∧ win0_0.index (point a b) (1 : Fin 2) = 0 := by decide +kernel
theorem at1 : ∀ a b : Fin 2, win0_1.index (point a b) (0 : Fin 2) = 0 ∧ win0_1.index (point a b) (1 : Fin 2) = b.val := by decide +kernel
theorem at2 : ∀ a b : Fin 2, win0_2.index (point a b) (0 : Fin 2) = a.val ∧ win0_2.index (point a b) (1 : Fin 2) = b.val := by decide +kernel
theorem every : ∀ t : Fin cfg0.N, (cfg0.win 2).flush t = true := by decide +kernel

variable (m : (ℓ : Loc nD τ sig) → Buf (Elt Ideal) ℓ) (c : Dev nD)

theorem read0 (a b : Fin 2) (y : Fin 1024) (k n : Fin 2048) (hn : n.val = a.val * 1024 + y.val) :
    iblk m c 0 (point a b) (ix2 y k) = m ((c : Thread nD τ).loc main_arg0) (ix2 n k) :=
  congrArg (m ((c : Thread nD τ).loc main_arg0)) (idx2 (((cfg0.win 0).blk (point a b)).view.emb (ix2 y k)) n k
    (by show win0_0.index (point a b) (0 : Fin 2) * 1024 + 1 * y.val = n.val; rw [(at0 a b).1]; omega)
    (by show win0_0.index (point a b) (1 : Fin 2) * 2048 + 1 * k.val = k.val; rw [(at0 a b).2]; omega))

theorem read1 (a b : Fin 2) (k : Fin 2048) (x : Fin 1024) (z : Fin 2048) (hz : z.val = b.val * 1024 + x.val) :
    iblk m c 1 (point a b) (ix2 k x) = m ((c : Thread nD τ).loc main_arg1) (ix2 k z) :=
  congrArg (m ((c : Thread nD τ).loc main_arg1)) (idx2 (((cfg0.win 1).blk (point a b)).view.emb (ix2 k x)) k z
    (by show win0_1.index (point a b) (0 : Fin 2) * 2048 + 1 * k.val = k.val; rw [(at1 a b).1]; omega)
    (by show win0_1.index (point a b) (1 : Fin 2) * 1024 + 1 * x.val = z.val; rw [(at1 a b).2]; omega))

theorem arr_eq : (dats m 0 c).arrAt 2 cfg0.N
    = val_main_v2 (F := Ideal) (m ((c : Thread nD τ).loc main_arg0)) (m ((c : Thread nD τ).loc main_arg1)) := by
  refine ext2 _ _ fun n z => ?_
  obtain ⟨a, y, hn⟩ := exists_block 2 1024 n
  obtain ⟨b, x, hz⟩ := exists_block 2 1024 z
  have e : ((cfg0.win 2).blk (point a b)).view.emb (ix2 y x) = (ix2 n z : S2048x2048.Idx) := idx2 _ n z
    (by show win0_2.index (point a b) (0 : Fin 2) * 1024 + 1 * y.val = n.val; rw [(at2 a b).1]; omega)
    (by show win0_2.index (point a b) (1 : Fin 2) * 1024 + 1 * x.val = z.val; rw [(at2 a b).2]; omega)
  refine ((congrArg ((dats m 0 c).arrAt 2 cfg0.N) e).symm.trans
    (congrFun ((blocks2 m c (point a b) (every _)).trans (flushed2 m c (point a b))) (ix2 y x))).trans ?_
  refine (tile (iblk m c 0 (point a b)) (iblk m c 1 (point a b)) y x).trans (Eq.trans ?_ (ref_apply _ _ n z).symm)
  refine sum_congr rfl fun k _ => ?_
  rw [read0 m c a b y k n hn, read1 m c a b k x z hz]

/-- The reference runs and leaves its arguments as they are. -/
theorem frame_r : Cert.quiescent_RefOutYIdeal := fun m ρ _ =>
  (θ_run Cert.RefOutYIdeal.defs _ _).mono (fun r h => ⟨fun c => (h c).2, sem_eq_zero_of_no_sems (by decide) r.2⟩)
    (Cert.RefOutYIdeal.Value.run (F := Ideal) m ρ)

/-- From equal arguments the call and the reference end with the same result. -/
theorem algebraic : Cert.algebraic_OutYIdeal_RefOutYIdeal := by
  intro m ρ m' ρ' _ hag
  refine ⟨fun c => (dats m 0 c).arrAt 2 cfg0.N, run_blocks m ρ, ?_⟩
  refine (θ_run Cert.RefOutYIdeal.defs _ _).mono (fun r h c => ⟨(h c).1.trans ?_, (h c).2⟩) (Cert.RefOutYIdeal.Value.run (F := Ideal) m' ρ')
  refine (Cert.RefOutYIdeal.Read.val_main_v2_eq (F := Ideal) _ _).trans (Eq.trans ?_ (arr_eq m c).symm)
  exact congrArg₂ (Cert.RefOutYIdeal.Read.val_main_v2 (F := Ideal)) (hag c).1 (hag c).2

end Cert.OutYIdeal.Product

end
-- ==== Proof.DownY.lean ====
/- The down projection: what the call leaves is the reference's product. -/
module

public import proofs.«01_k».proof.Defs
public import proofs.«01_k».proof.Proof.Gen.DownYIdeal.Value
public import proofs.«01_k».proof.Proof.Gen.RefDownYIdeal.Read
public import proofs.«01_k».proof.Proof.Gen.RefDownYIdeal.Run
public import proofs.«01_k».proof.Proof.Blocks

@[expose] public section

set_option maxRecDepth 16384

noncomputable section

namespace Cert.DownYIdeal.Product

open Idealize.ShloMosaic Idealize.ShloMosaic.TcCoe Idealize.SL.Sem
open Cert.DownYIdeal Cert.DownYIdeal.Gen Cert.DownYIdeal.Value Cert.Blocks
open Cert.RefDownYIdeal.Read
open Finset

/-- One point's product: a block of rows against a block of columns. -/
theorem tile (x0 : Vec Ideal S1024x5632 .bf16) (x1 : Vec Ideal S5632x512 .bf16) (y : Fin 1024) (x : Fin 512) :
    (out0_2 (F := Ideal) x0 x1 (ix2 y x) : EReal) = ∑ k : Fin 5632, (x0 (ix2 y k) : EReal) * (x1 (ix2 k x) : EReal) := by
  rw [out0_2, View.canon_cons_unit_lit _ _ _ (by decide), View.ld_unit_lit _ _ (by decide), View.ld_unit_lit _ _ (by decide)]
  pointwise [k0_pay1]

theorem ref_apply (x0 : Vec Ideal S2048x5632 .bf16) (x1 : Vec Ideal S5632x2048 .bf16) (n z : Fin 2048) :
    (val_main_v2 (F := Ideal) x0 x1 (ix2 n z) : EReal) = ∑ k : Fin 5632, (x0 (ix2 n k) : EReal) * (x1 (ix2 k z) : EReal) := by
  pointwise [val_main_v2, val_main_v1, val_main_v0]

/-- The point that computes the block in row `a` and column `b`. -/
def point (a : Fin 2) (b : Fin 4) : Fin cfg0.N := ⟨a.val * 4 + b.val, by have := a.isLt; have := b.isLt; show _ < 8; omega⟩

theorem at0 : ∀ (a : Fin 2) (b : Fin 4), win0_0.index (point a b) (0 : Fin 2) = a.val ∧ win0_0.index (point a b) (1 : Fin 2) = 0 := by decide +kernel
theorem at1 : ∀ (a : Fin 2) (b : Fin 4), win0_1.index (point a b) (0 : Fin 2) = 0 ∧ win0_1.index (point a b) (1 : Fin 2) = b.val := by decide +kernel
theorem at2 : ∀ (a : Fin 2) (b : Fin 4), win0_2.index (point a b) (0 : Fin 2) = a.val ∧ win0_2.index (point a b) (1 : Fin 2) = b.val := by decide +kernel
theorem every : ∀ t : Fin cfg0.N, (cfg0.win 2).flush t = true := by decide +kernel

variable (m : (ℓ : Loc nD τ sig) → Buf (Elt Ideal) ℓ) (c : Dev nD)

theorem read0 (a : Fin 2) (b : Fin 4) (y : Fin 1024) (k : Fin 5632) (n : Fin 2048) (hn : n.val = a.val * 1024 + y.val) :
    iblk m c 0 (point a b) (ix2 y k) = m ((c : Thread nD τ).loc main_arg0) (ix2 n k) :=
  congrArg (m ((c : Thread nD τ).loc main_arg0)) (idx2 (((cfg0.win 0).blk (point a b)).view.emb (ix2 y k)) n k
    (by show win0_0.index (point a b) (0 : Fin 2) * 1024 + 1 * y.val = n.val; rw [(at0 a b).1]; omega)
    (by show win0_0.index (point a b) (1 : Fin 2) * 5632 + 1 * k.val = k.val; rw [(at0 a b).2]; omega))

theorem read1 (a : Fin 2) (b : Fin 4) (k : Fin 5632) (x : Fin 512) (z : Fin 2048) (hz : z.val = b.val * 512 + x.val) :
    iblk m c 1 (point a b) (ix2 k x) = m ((c : Thread nD τ).loc main_arg1) (ix2 k z) :=
  congrArg (m ((c : Thread nD τ).loc main_arg1)) (idx2 (((cfg0.win 1).blk (point a b)).view.emb (ix2 k x)) k z
    (by show win0_1.index (point a b) (0 : Fin 2) * 5632 + 1 * k.val = k.val; rw [(at1 a b).1]; omega)
    (by show win0_1.index (point a b) (1 : Fin 2) * 512 + 1 * x.val = z.val; rw [(at1 a b).2]; omega))

theorem arr_eq : (dats m 0 c).arrAt 2 cfg0.N
    = val_main_v2 (F := Ideal) (m ((c : Thread nD τ).loc main_arg0)) (m ((c : Thread nD τ).loc main_arg1)) := by
  refine ext2 _ _ fun n z => ?_
  obtain ⟨a, y, hn⟩ := exists_block 2 1024 n
  obtain ⟨b, x, hz⟩ := exists_block 4 512 z
  have e : ((cfg0.win 2).blk (point a b)).view.emb (ix2 y x) = (ix2 n z : S2048x2048.Idx) := idx2 _ n z
    (by show win0_2.index (point a b) (0 : Fin 2) * 1024 + 1 * y.val = n.val; rw [(at2 a b).1]; omega)
    (by show win0_2.index (point a b) (1 : Fin 2) * 512 + 1 * x.val = z.val; rw [(at2 a b).2]; omega)
  refine ((congrArg ((dats m 0 c).arrAt 2 cfg0.N) e).symm.trans
    (congrFun ((blocks2 m c (point a b) (every _)).trans (flushed2 m c (point a b))) (ix2 y x))).trans ?_
  refine (tile (iblk m c 0 (point a b)) (iblk m c 1 (point a b)) y x).trans (Eq.trans ?_ (ref_apply _ _ n z).symm)
  refine sum_congr rfl fun k _ => ?_
  rw [read0 m c a b y k n hn, read1 m c a b k x z hz]

/-- The reference runs and leaves its arguments as they are. -/
theorem frame_r : Cert.quiescent_RefDownYIdeal := fun m ρ _ =>
  (θ_run Cert.RefDownYIdeal.defs _ _).mono (fun r h => ⟨fun c => (h c).2, sem_eq_zero_of_no_sems (by decide) r.2⟩)
    (Cert.RefDownYIdeal.Value.run (F := Ideal) m ρ)

/-- From equal arguments the call and the reference end with the same result. -/
theorem algebraic : Cert.algebraic_DownYIdeal_RefDownYIdeal := by
  intro m ρ m' ρ' _ hag
  refine ⟨fun c => (dats m 0 c).arrAt 2 cfg0.N, run_blocks m ρ, ?_⟩
  refine (θ_run Cert.RefDownYIdeal.defs _ _).mono (fun r h c => ⟨(h c).1.trans ?_, (h c).2⟩) (Cert.RefDownYIdeal.Value.run (F := Ideal) m' ρ')
  refine (Cert.RefDownYIdeal.Read.val_main_v2_eq (F := Ideal) _ _).trans (Eq.trans ?_ (arr_eq m c).symm)
  exact congrArg₂ (Cert.RefDownYIdeal.Read.val_main_v2 (F := Ideal)) (hag c).1 (hag c).2

end Cert.DownYIdeal.Product

end
-- ==== Proof.MemY.lean ====
/- The memory's projection to keys and values: what the call leaves is the reference's product. -/
module

public import proofs.«01_k».proof.Defs
public import proofs.«01_k».proof.Proof.Gen.MemYIdeal.Value
public import proofs.«01_k».proof.Proof.Gen.RefMemYIdeal.Read
public import proofs.«01_k».proof.Proof.Gen.RefMemYIdeal.Run
public import proofs.«01_k».proof.Proof.Blocks

@[expose] public section

set_option maxRecDepth 16384

noncomputable section

namespace Cert.MemYIdeal.Product

open Idealize.ShloMosaic Idealize.ShloMosaic.TcCoe Idealize.SL.Sem
open Cert.MemYIdeal Cert.MemYIdeal.Gen Cert.MemYIdeal.Value Cert.Blocks
open Cert.RefMemYIdeal.Read
open Finset

/-- One point's product: the rows against a block of columns. -/
theorem tile (x0 : Vec Ideal S256x2048 .bf16) (x1 : Vec Ideal S2048x512 .bf16) (y : Fin 256) (x : Fin 512) :
    (out0_2 (F := Ideal) x0 x1 (ix2 y x) : EReal) = ∑ k : Fin 2048, (x0 (ix2 y k) : EReal) * (x1 (ix2 k x) : EReal) := by
  rw [out0_2, View.canon_cons_unit_lit _ _ _ (by decide), View.ld_unit_lit _ _ (by decide), View.ld_unit_lit _ _ (by decide)]
  pointwise [k0_pay1]

theorem ref_apply (x0 : Vec Ideal S256x2048 .bf16) (x1 : Vec Ideal S2048x2048 .bf16) (n : Fin 256) (z : Fin 2048) :
    (val_main_v3 (F := Ideal) x0 x1 (ix2 n z) : EReal) = ∑ k : Fin 2048, (x0 (ix2 n k) : EReal) * (x1 (ix2 k z) : EReal) := by
  pointwise [val_main_v3, val_main_v2, val_main_v1, val_main_v0]

theorem at0 : ∀ t : Fin grid0.N, win0_0.index t (0 : Fin 2) = 0 ∧ win0_0.index t (1 : Fin 2) = 0 := by decide +kernel
theorem at1 : ∀ t : Fin grid0.N, win0_1.index t (0 : Fin 2) = 0 ∧ win0_1.index t (1 : Fin 2) = t.val := by decide +kernel
theorem at2 : ∀ t : Fin grid0.N, win0_2.index t (0 : Fin 2) = 0 ∧ win0_2.index t (1 : Fin 2) = t.val := by decide +kernel
theorem every : ∀ t : Fin cfg0.N, (cfg0.win 2).flush t = true := by decide +kernel

variable (m : (ℓ : Loc nD τ sig) → Buf (Elt Ideal) ℓ) (c : Dev nD)

theorem read0 (t : Fin cfg0.N) (n : Fin 256) (k : Fin 2048) : iblk m c 0 t (ix2 n k) = m ((c : Thread nD τ).loc main_arg0) (ix2 n k) :=
  congrArg (m ((c : Thread nD τ).loc main_arg0)) (idx2 (((cfg0.win 0).blk t).view.emb (ix2 n k)) n k
    (by show win0_0.index t (0 : Fin 2) * 256 + 1 * n.val = n.val; rw [(at0 t).1]; omega)
    (by show win0_0.index t (1 : Fin 2) * 2048 + 1 * k.val = k.val; rw [(at0 t).2]; omega))

theorem read1 (t : Fin cfg0.N) (k : Fin 2048) (x : Fin 512) (z : Fin 2048) (hz : z.val = t.val * 512 + x.val) :
    iblk m c 1 t (ix2 k x) = m ((c : Thread nD τ).loc main_arg1) (ix2 k z) :=
  congrArg (m ((c : Thread nD τ).loc main_arg1)) (idx2 (((cfg0.win 1).blk t).view.emb (ix2 k x)) k z
    (by show win0_1.index t (0 : Fin 2) * 2048 + 1 * k.val = k.val; rw [(at1 t).1]; omega)
    (by show win0_1.index t (1 : Fin 2) * 512 + 1 * x.val = z.val; rw [(at1 t).2]; omega))

theorem arr_eq : (dats m 0 c).arrAt 2 cfg0.N
    = val_main_v3 (F := Ideal) (m ((c : Thread nD τ).loc main_arg0)) (m ((c : Thread nD τ).loc main_arg1)) := by
  refine ext2 _ _ fun n z => ?_
  obtain ⟨t, x, hz⟩ := exists_block 4 512 z
  have e : ((cfg0.win 2).blk t).view.emb (ix2 n x) = (ix2 n z : S256x2048.Idx) := idx2 _ n z
    (by show win0_2.index t (0 : Fin 2) * 256 + 1 * n.val = n.val; rw [(at2 t).1]; omega)
    (by show win0_2.index t (1 : Fin 2) * 512 + 1 * x.val = z.val; rw [(at2 t).2]; omega)
  refine ((congrArg ((dats m 0 c).arrAt 2 cfg0.N) e).symm.trans (congrFun ((blocks2 m c t (every t)).trans (flushed2 m c t)) (ix2 n x))).trans ?_
  refine (tile (iblk m c 0 t) (iblk m c 1 t) n x).trans (Eq.trans ?_ (ref_apply _ _ n z).symm)
  refine sum_congr rfl fun k _ => ?_
  rw [read0 m c t n k, read1 m c t k x z hz]

/-- The reference runs and leaves its arguments as they are. -/
theorem frame_r : Cert.quiescent_RefMemYIdeal := fun m ρ _ =>
  (θ_run Cert.RefMemYIdeal.defs _ _).mono (fun r h => ⟨fun c => (h c).2, sem_eq_zero_of_no_sems (by decide) r.2⟩)
    (Cert.RefMemYIdeal.Value.run (F := Ideal) m ρ)

/-- From equal arguments the call and the reference end with the same result. -/
theorem algebraic : Cert.algebraic_MemYIdeal_RefMemYIdeal := by
  intro m ρ m' ρ' _ hag
  refine ⟨fun c => (dats m 0 c).arrAt 2 cfg0.N, run_blocks m ρ, ?_⟩
  refine (θ_run Cert.RefMemYIdeal.defs _ _).mono (fun r h c => ⟨(h c).1.trans ?_, (h c).2⟩) (Cert.RefMemYIdeal.Value.run (F := Ideal) m' ρ')
  refine (Cert.RefMemYIdeal.Read.val_main_v3_eq (F := Ideal) _ _).trans (Eq.trans ?_ (arr_eq m c).symm)
  exact congrArg₂ (Cert.RefMemYIdeal.Read.val_main_v3 (F := Ideal)) (hag c).1 (hag c).2

end Cert.MemYIdeal.Product

end
-- ==== Proof.Softmax.lean ====
/- One row of a softmax over 256 places, and its gradient, in the extended reals. -/
module

public import proofs.«01_k».proof.Defs

@[expose] public section

noncomputable section

namespace Cert.Softmax

open Idealize.ShloMosaic
open Finset

/-- A product summed over 256 places. -/
def dotv (a b : Fin 256 → EReal) : EReal := ∑ d, a d * b d

/-- The scale of a score. -/
def scale : EReal := Ideal.ofBits .f32 0x3D800000#32

/-- The score of a query against the key `j`. -/
def score (q : Fin 256 → EReal) (k : Fin 256 → Fin 256 → EReal) : Fin 256 → EReal := fun j => dotv q (k j) * scale

theorem score_fun (q : Fin 256 → EReal) (k : Fin 256 → Fin 256 → EReal) : score q k = fun j => dotv q (k j) * scale := rfl

/-- The greatest of a row. -/
def top (z : Fin 256 → EReal) : EReal := univ.fold max (Ideal.ofBits .f32 0xFF800000#32) z

/-- The exponential of a row's place, less the greatest. -/
def expo (z : Fin 256 → EReal) (j : Fin 256) : EReal := Ideal.exp (z j - top z)

/-- The sum of a row's exponentials. -/
def mass (z : Fin 256 → EReal) : EReal := ∑ j, expo z j

/-- A row's softmax. -/
def prob (z : Fin 256 → EReal) (j : Fin 256) : EReal := Ideal.div (expo z j) (mass z)

theorem max_top (z : Fin 256 → EReal) : max (Ideal.ofBits .f32 0xFF800000#32) (top z) = top z :=
  max_eq_right ((Finset.le_fold_max _).2 (Or.inl le_rfl))

end Cert.Softmax

end
-- ==== Proof.Slope.lean ====
/- The gradient of one row of a softmax: for real scores the two ways to write it agree, whatever the incoming gradient. -/
module

public import proofs.«01_k».proof.Proof.Softmax

@[expose] public section

noncomputable section

namespace Cert.Softmax

open Idealize.ShloMosaic
open Finset

theorem bits_one : Ideal.ofBits .f32 0x3F800000#32 = (1 : EReal) := by
  simp [Ideal.ofBits, Ideal.ieee, -EReal.coe_mul]
  norm_num

theorem bits_bot : Ideal.ofBits .f32 0xFF800000#32 = (⊥ : EReal) := by simp [Ideal.ofBits, Ideal.ieee]

/-- The scale is a number. -/
theorem scale_real : ∃ s : ℝ, scale = (s : EReal) := by
  refine ⟨1 / 16, ?_⟩
  unfold scale
  simp [Ideal.ofBits, Ideal.ieee, -EReal.coe_mul]
  norm_num

/-- A number that is not infinite. -/
def Num (x : EReal) : Prop := ∃ r : ℝ, x = (r : EReal)

theorem coe_sum {n : Nat} (r : Fin n → ℝ) : ((∑ j, r j : ℝ) : EReal) = ∑ j, (r j : EReal) := by
  induction n with
  | zero => simp
  | succ n ih => rw [Fin.sum_univ_succ, Fin.sum_univ_succ, EReal.coe_add, ih]

theorem real_sum {n : Nat} (f : Fin n → EReal) (h : ∀ j, Num (f j)) : Num (∑ j, f j) := by
  choose r hr using h
  exact ⟨∑ j, r j, by rw [coe_sum]; exact sum_congr rfl fun j _ => hr j⟩

theorem real_mul {x y : EReal} (hx : Num x) (hy : Num y) : Num (x * y) := by
  obtain ⟨a, rfl⟩ := hx
  obtain ⟨b, rfl⟩ := hy
  exact ⟨a * b, (EReal.coe_mul a b).symm⟩

/-- The scores of numbers are numbers. -/
theorem score_real (q : Fin 256 → EReal) (k : Fin 256 → Fin 256 → EReal) (hq : ∀ d, Num (q d)) (hk : ∀ j d, Num (k j d)) (j : Fin 256) :
    Num (score q k j) := real_mul (real_sum _ fun d => real_mul (hq d) (hk j d)) scale_real

theorem top_real (z : Fin 256 → EReal) (h : ∀ j, Num (z j)) : Num (top z) := by
  choose r hr using h
  have hlt : top z < ⊤ := by
    unfold top
    rw [Finset.fold_max_lt, bits_bot]
    exact ⟨bot_lt_top, fun j _ => by rw [hr]; exact EReal.coe_lt_top _⟩
  have hge : z 0 ≤ top z := by
    unfold top
    exact (Finset.le_fold_max _).2 (Or.inr ⟨0, mem_univ _, le_rfl⟩)
  rw [hr 0] at hge
  exact ⟨(top z).toReal, (EReal.coe_toReal hlt.ne (lt_of_lt_of_le (EReal.bot_lt_coe _) hge).ne').symm⟩

/-- The exponentials of a row of numbers are positive numbers. -/
theorem expo_pos (z : Fin 256 → EReal) (h : ∀ j, Num (z j)) : ∃ e : Fin 256 → ℝ, (∀ j, expo z j = (e j : EReal)) ∧ ∀ j, 0 < e j := by
  obtain ⟨t, ht⟩ := top_real z h
  choose r hr using h
  refine ⟨fun j => Real.exp (r j - t), fun j => ?_, fun j => Real.exp_pos _⟩
  rw [expo, ht, hr j, ← EReal.coe_sub, Ideal.exp_coe]

/-- A number that is not negative goes through a sum. -/
theorem sum_scaled {n : Nat} (f : Fin n → EReal) (c : ℝ) (hc : 0 ≤ c) : ∑ j, f j * (c : EReal) = (∑ j, f j) * (c : EReal) := by
  have h0 : (0 : EReal) ≤ (c : EReal) := by exact_mod_cast hc
  induction n with
  | zero => simp
  | succ n ih =>
    rw [Fin.sum_univ_succ, Fin.sum_univ_succ, ih, mul_comm, mul_comm _ (c : EReal), mul_comm _ (c : EReal),
      EReal.left_distrib_of_nonneg_of_ne_top h0 (EReal.coe_ne_top _)]

theorem slope (z : Fin 256 → EReal) (h : ∀ j, Num (z j)) (x : Fin 256 → EReal) (j : Fin 256) :
    prob z j * (x j - ∑ k, x k * prob z k)
      = (Ideal.div (x j) (mass z) + -∑ k, x k * Ideal.div 1 (mass z * mass z) * expo z k) * expo z j := by
  obtain ⟨e, he, hp⟩ := expo_pos z h
  have hs : mass z = ((∑ j, e j : ℝ) : EReal) := by
    rw [mass, coe_sum]
    exact sum_congr rfl fun j _ => he j
  have h0 : 0 < ∑ j, e j := sum_pos (fun j _ => hp j) ⟨0, mem_univ _⟩
  generalize (∑ j, e j) = s at hs h0
  have hi : 0 < 1 / s := one_div_pos.2 h0
  have hprob : ∀ k, prob z k = ((e k * (1 / s) : ℝ) : EReal) := fun k => by
    rw [prob, hs, he, Ideal.div_coe h0.ne', ← EReal.coe_mul]
  have hsum : ∑ k, x k * Ideal.div 1 (mass z * mass z) * expo z k = (∑ k, x k * prob z k) * ((1 / s : ℝ) : EReal) := by
    rw [← sum_scaled _ _ hi.le]
    refine sum_congr rfl fun k _ => ?_
    rw [hprob, he, hs, ← EReal.coe_mul, Ideal.div_coe (mul_pos h0 h0).ne', one_mul, mul_assoc, mul_assoc, ← EReal.coe_mul, ← EReal.coe_mul]
    congr 2
    field_simp
  rw [hsum, hprob j, he j, hs, Ideal.div_coe h0.ne', sub_eq_add_neg, ← EReal.neg_mul]
  generalize (∑ k, x k * prob z k) = t
  have hd : x j * ((1 / s : ℝ) : EReal) + -t * ((1 / s : ℝ) : EReal) = (x j + -t) * ((1 / s : ℝ) : EReal) := by
    rw [mul_comm, mul_comm (-t), mul_comm (x j + -t), EReal.left_distrib_of_nonneg_of_ne_top (by exact_mod_cast hi.le) (EReal.coe_ne_top _)]
  rw [hd, mul_assoc, ← EReal.coe_mul, mul_comm, mul_comm (e j)]

/-- The gradient of a row's scores, before the scale, times the scale. -/
def dscore (z x : Fin 256 → EReal) (j : Fin 256) : EReal := prob z j * (x j - ∑ k, x k * prob z k) * scale

end Cert.Softmax

end
-- ==== Proof.XaPoint.lean ====
/- What each grid point of the memory attention's gradient leaves in its outputs and in the two carried sums. -/
module

public import proofs.«01_k».proof.Defs
public import proofs.«01_k».proof.Proof.Gen.XaGIdeal.Value
public import proofs.«01_k».proof.Proof.Blocks
public import proofs.«01_k».proof.Proof.Slope
public import Idealize.ShloMosaic.Lib.VecWindow

@[expose] public section

set_option maxRecDepth 16384

noncomputable section

namespace Cert.XaGIdeal.Product

open Idealize.ShloMosaic Idealize.ShloMosaic.TcCoe Idealize.SL.Sem
open Idealize.ShloMosaic.Pipeline Cert.XaGIdeal Cert.XaGIdeal.Gen Cert.XaGIdeal.Value Cert.Blocks Cert.Softmax
open Finset

/-- A block of rows as the body loads it. -/
def big (arg : Memref sig .tc .vmem S512x256 .bf16) (harg : arg.IsWhole) (x : Vec Ideal S512x256 .bf16) : Vec Ideal S512x256 .bf16 :=
  View.readAt (Elt Ideal) arg.view (Rect.unit (s := S512x256) ![0, 0] S512x256.size inb_S512x256_S512x256_0_0).toLoadRect (harg.unread x)
theorem big_eq (arg : Memref sig .tc .vmem S512x256 .bf16) (harg : arg.IsWhole) (x : Vec Ideal S512x256 .bf16) : big arg harg x = x :=
  (View.readAt_full (Val := Elt Ideal) arg.view (harg.unread x) _).trans (harg.read_unread x)

/-- A block of the memory, or a carried sum, as the body loads it. -/
def small {e : EltTy} (arg : Memref sig .tc .vmem S256x256 e) (harg : arg.IsWhole) (x : Vec Ideal S256x256 e) : Vec Ideal S256x256 e :=
  View.readAt (Elt Ideal) arg.view (Rect.unit (s := S256x256) ![0, 0] S256x256.size inb_S256x256_S256x256_0_0).toLoadRect (harg.unread x)
theorem small_eq {e : EltTy} (arg : Memref sig .tc .vmem S256x256 e) (harg : arg.IsWhole) (x : Vec Ideal S256x256 e) : small arg harg x = x :=
  (View.readAt_full (Val := Elt Ideal) arg.view (harg.unread x) _).trans (harg.read_unread x)

/-- What the body has just stored in a carried sum, loaded again. -/
def back {e : EltTy} (arg : Memref sig .tc .vmem S256x256 e) (x : Vec Ideal S256x256 e) : Vec Ideal S256x256 e :=
  View.readCov arg.view [⟨Rect.unit (s := S256x256) ![0, 0] S256x256.size inb_S256x256_S256x256_0_0, x⟩]
    (Rect.unit (s := S256x256) ![0, 0] S256x256.size inb_S256x256_S256x256_0_0).toLoadRect
theorem back_eq {e : EltTy} (arg : Memref sig .tc .vmem S256x256 e) (x : Vec Ideal S256x256 e) : back arg x = x := View.readCov_full _ _ _ _ _

/-- The block's gradients of the queries, and its parts of the gradients of the keys and of the values added to `p`. -/
abbrev rowsOf (x0 : Vec Ideal S512x256 .bf16) (x1 x2 : Vec Ideal S256x256 .bf16) (x3 : Vec Ideal S512x256 .bf16) : Vec Ideal S512x256 .bf16 :=
  k0_pay2 x1 (k0_pay10 x0 x1 x2 x3) k0_pay11
abbrev keysOf (x0 : Vec Ideal S512x256 .bf16) (x1 x2 : Vec Ideal S256x256 .bf16) (x3 : Vec Ideal S512x256 .bf16) (p : Vec Ideal S256x256 .f32) : Vec Ideal S256x256 .f32 :=
  k0_pay3 x0 (k0_pay10 x0 x1 x2 x3) k0_pay11 p
abbrev valuesOf (x0 : Vec Ideal S512x256 .bf16) (x1 : Vec Ideal S256x256 .bf16) (x3 : Vec Ideal S512x256 .bf16) (p : Vec Ideal S256x256 .f32) : Vec Ideal S256x256 .f32 :=
  k0_pay9 x0 x1 x3 p

/-- One store of a whole block. -/
abbrev whole512 (x : Vec Ideal S512x256 .bf16) : View.Piece (Elt Ideal) S512x256 .bf16 :=
  ⟨Rect.unit (s := S512x256) ![0, 0] S512x256.size inb_S512x256_S512x256_0_0, x⟩
abbrev whole256 {e : EltTy} (x : Vec Ideal S256x256 e) : View.Piece (Elt Ideal) S256x256 e :=
  ⟨Rect.unit (s := S256x256) ![0, 0] S256x256.size inb_S256x256_S256x256_0_0, x⟩

section
variable (c : Dev nD) (i : grid0.Coords) (arg2 : Memref sig .tc .vmem S512x256 .bf16) (harg2 : arg2.IsWhole)
  (arg3 : Memref sig .tc .vmem S256x256 .bf16) (harg3 : arg3.IsWhole) (arg4 : Memref sig .tc .vmem S256x256 .bf16) (harg4 : arg4.IsWhole)
  (arg5 : Memref sig .tc .vmem S512x256 .bf16) (harg5 : arg5.IsWhole) (arg6 : Memref sig .tc .vmem S512x256 .bf16) (harg6 : arg6.IsWhole)
  (arg7 : Memref sig .tc .vmem S256x256 .bf16) (harg7 : arg7.IsWhole) (arg8 : Memref sig .tc .vmem S256x256 .bf16) (harg8 : arg8.IsWhole)
  (arg9 : Memref sig .tc .vmem S256x256 .f32) (harg9 : arg9.IsWhole) (arg10 : Memref sig .tc .vmem S256x256 .f32) (harg10 : arg10.IsWhole)
  (x0 : Vec Ideal S512x256 .bf16) (x1 x2 : Vec Ideal S256x256 .bf16) (x3 : Vec Ideal S512x256 .bf16) (xs0 xs1 : Vec Ideal S256x256 .f32)

theorem rows_A (hc0 : cond0_0 i) (hc1 : ¬cond0_1 i) : out0_A_4 (F := Ideal) c i arg2 harg2 arg3 harg3 arg4 harg4 arg5 harg5 arg6 harg6 arg7 harg7 arg8 harg8 arg9 harg9 arg10 harg10 hc0 hc1 x0 x1 x2 x3 = rowsOf x0 x1 x2 x3 := by
  have hp : (kernelRun0_A (F := Ideal) c i arg2 harg2 arg3 harg3 arg4 harg4 arg5 harg5 arg6 harg6 arg7 harg7 arg8 harg8 arg9 harg9 arg10 harg10 hc0 hc1 x0 x1 x2 x3).1 = [whole512 (rowsOf (big arg2 harg2 x0) (small arg3 harg3 x1) (small arg4 harg4 x2) (big arg5 harg5 x3))] := rfl
  rw [out0_A_4, hp, read_whole _ _ _ _ _ (by decide)]
  simp only [big_eq, small_eq]

theorem keys_A (hc0 : cond0_0 i) (hc1 : ¬cond0_1 i) : sout0_A_0 (F := Ideal) c i arg2 harg2 arg3 harg3 arg4 harg4 arg5 harg5 arg6 harg6 arg7 harg7 arg8 harg8 arg9 harg9 arg10 harg10 hc0 hc1 x0 x1 x2 x3 = keysOf x0 x1 x2 x3 (k0_pay6 (F := Ideal)) := by
  have hp : (kernelRun0_A (F := Ideal) c i arg2 harg2 arg3 harg3 arg4 harg4 arg5 harg5 arg6 harg6 arg7 harg7 arg8 harg8 arg9 harg9 arg10 harg10 hc0 hc1 x0 x1 x2 x3).2.2.2.1
      = whole256 (keysOf (big arg2 harg2 x0) (small arg3 harg3 x1) (small arg4 harg4 x2) (big arg5 harg5 x3) (back arg9 (k0_pay6 (F := Ideal)))) :: [whole256 (k0_pay6 (F := Ideal))] := rfl
  rw [sout0_A_0, hp, read_whole _ _ _ _ _ (by decide)]
  simp only [big_eq, small_eq, back_eq]

theorem values_A (hc0 : cond0_0 i) (hc1 : ¬cond0_1 i) : sout0_A_1 (F := Ideal) c i arg2 harg2 arg3 harg3 arg4 harg4 arg5 harg5 arg6 harg6 arg7 harg7 arg8 harg8 arg9 harg9 arg10 harg10 hc0 hc1 x0 x1 x2 x3 = valuesOf x0 x1 x3 (k0_pay7 (F := Ideal)) := by
  have hp : (kernelRun0_A (F := Ideal) c i arg2 harg2 arg3 harg3 arg4 harg4 arg5 harg5 arg6 harg6 arg7 harg7 arg8 harg8 arg9 harg9 arg10 harg10 hc0 hc1 x0 x1 x2 x3).2.2.2.2.1
      = whole256 (valuesOf (big arg2 harg2 x0) (small arg3 harg3 x1) (big arg5 harg5 x3) (back arg10 (k0_pay7 (F := Ideal)))) :: [whole256 (k0_pay7 (F := Ideal))] := rfl
  rw [sout0_A_1, hp, read_whole _ _ _ _ _ (by decide)]
  simp only [big_eq, small_eq, back_eq]

theorem rows_B (hc0 : ¬cond0_0 i) (hc1 : ¬cond0_1 i) : out0_B_4 (F := Ideal) c i arg2 harg2 arg3 harg3 arg4 harg4 arg5 harg5 arg6 harg6 arg7 harg7 arg8 harg8 arg9 harg9 arg10 harg10 hc0 hc1 x0 x1 x2 x3 xs0 xs1 = rowsOf x0 x1 x2 x3 := by
  have hp : (kernelRun0_B (F := Ideal) c i arg2 harg2 arg3 harg3 arg4 harg4 arg5 harg5 arg6 harg6 arg7 harg7 arg8 harg8 arg9 harg9 arg10 harg10 hc0 hc1 x0 x1 x2 x3 xs0 xs1).1 = [whole512 (rowsOf (big arg2 harg2 x0) (small arg3 harg3 x1) (small arg4 harg4 x2) (big arg5 harg5 x3))] := rfl
  rw [out0_B_4, hp, read_whole _ _ _ _ _ (by decide)]
  simp only [big_eq, small_eq]

theorem keys_B (hc0 : ¬cond0_0 i) (hc1 : ¬cond0_1 i) : sout0_B_0 (F := Ideal) c i arg2 harg2 arg3 harg3 arg4 harg4 arg5 harg5 arg6 harg6 arg7 harg7 arg8 harg8 arg9 harg9 arg10 harg10 hc0 hc1 x0 x1 x2 x3 xs0 xs1 = keysOf x0 x1 x2 x3 xs0 := by
  have hp : (kernelRun0_B (F := Ideal) c i arg2 harg2 arg3 harg3 arg4 harg4 arg5 harg5 arg6 harg6 arg7 harg7 arg8 harg8 arg9 harg9 arg10 harg10 hc0 hc1 x0 x1 x2 x3 xs0 xs1).2.2.2.1
      = whole256 (keysOf (big arg2 harg2 x0) (small arg3 harg3 x1) (small arg4 harg4 x2) (big arg5 harg5 x3) (small arg9 harg9 xs0)) :: [] := rfl
  rw [sout0_B_0, hp, read_whole _ _ _ _ _ (by decide)]
  simp only [big_eq, small_eq, back_eq]

theorem values_B (hc0 : ¬cond0_0 i) (hc1 : ¬cond0_1 i) : sout0_B_1 (F := Ideal) c i arg2 harg2 arg3 harg3 arg4 harg4 arg5 harg5 arg6 harg6 arg7 harg7 arg8 harg8 arg9 harg9 arg10 harg10 hc0 hc1 x0 x1 x2 x3 xs0 xs1 = valuesOf x0 x1 x3 xs1 := by
  have hp : (kernelRun0_B (F := Ideal) c i arg2 harg2 arg3 harg3 arg4 harg4 arg5 harg5 arg6 harg6 arg7 harg7 arg8 harg8 arg9 harg9 arg10 harg10 hc0 hc1 x0 x1 x2 x3 xs0 xs1).2.2.2.2.1
      = whole256 (valuesOf (big arg2 harg2 x0) (small arg3 harg3 x1) (big arg5 harg5 x3) (small arg10 harg10 xs1)) :: [] := rfl
  rw [sout0_B_1, hp, read_whole _ _ _ _ _ (by decide)]
  simp only [big_eq, small_eq, back_eq]

theorem rows_C (hc0 : ¬cond0_0 i) (hc1 : cond0_1 i) : out0_C_4 (F := Ideal) c i arg2 harg2 arg3 harg3 arg4 harg4 arg5 harg5 arg6 harg6 arg7 harg7 arg8 harg8 arg9 harg9 arg10 harg10 hc0 hc1 x0 x1 x2 x3 xs0 xs1 = rowsOf x0 x1 x2 x3 := by
  have hp : (kernelRun0_C (F := Ideal) c i arg2 harg2 arg3 harg3 arg4 harg4 arg5 harg5 arg6 harg6 arg7 harg7 arg8 harg8 arg9 harg9 arg10 harg10 hc0 hc1 x0 x1 x2 x3 xs0 xs1).1 = [whole512 (rowsOf (big arg2 harg2 x0) (small arg3 harg3 x1) (small arg4 harg4 x2) (big arg5 harg5 x3))] := rfl
  rw [out0_C_4, hp, read_whole _ _ _ _ _ (by decide)]
  simp only [big_eq, small_eq]

theorem keys_C (hc0 : ¬cond0_0 i) (hc1 : cond0_1 i) : sout0_C_0 (F := Ideal) c i arg2 harg2 arg3 harg3 arg4 harg4 arg5 harg5 arg6 harg6 arg7 harg7 arg8 harg8 arg9 harg9 arg10 harg10 hc0 hc1 x0 x1 x2 x3 xs0 xs1 = keysOf x0 x1 x2 x3 xs0 := by
  have hp : (kernelRun0_C (F := Ideal) c i arg2 harg2 arg3 harg3 arg4 harg4 arg5 harg5 arg6 harg6 arg7 harg7 arg8 harg8 arg9 harg9 arg10 harg10 hc0 hc1 x0 x1 x2 x3 xs0 xs1).2.2.2.1
      = whole256 (keysOf (big arg2 harg2 x0) (small arg3 harg3 x1) (small arg4 harg4 x2) (big arg5 harg5 x3) (small arg9 harg9 xs0)) :: [] := rfl
  rw [sout0_C_0, hp, read_whole _ _ _ _ _ (by decide)]
  simp only [big_eq, small_eq, back_eq]

theorem values_C (hc0 : ¬cond0_0 i) (hc1 : cond0_1 i) : sout0_C_1 (F := Ideal) c i arg2 harg2 arg3 harg3 arg4 harg4 arg5 harg5 arg6 harg6 arg7 harg7 arg8 harg8 arg9 harg9 arg10 harg10 hc0 hc1 x0 x1 x2 x3 xs0 xs1 = valuesOf x0 x1 x3 xs1 := by
  have hp : (kernelRun0_C (F := Ideal) c i arg2 harg2 arg3 harg3 arg4 harg4 arg5 harg5 arg6 harg6 arg7 harg7 arg8 harg8 arg9 harg9 arg10 harg10 hc0 hc1 x0 x1 x2 x3 xs0 xs1).2.2.2.2.1
      = whole256 (valuesOf (big arg2 harg2 x0) (small arg3 harg3 x1) (big arg5 harg5 x3) (small arg10 harg10 xs1)) :: [] := rfl
  rw [sout0_C_1, hp, read_whole _ _ _ _ _ (by decide)]
  simp only [big_eq, small_eq, back_eq]

theorem keys_out (hc0 : ¬cond0_0 i) (hc1 : cond0_1 i) : out0_C_5 (F := Ideal) c i arg2 harg2 arg3 harg3 arg4 harg4 arg5 harg5 arg6 harg6 arg7 harg7 arg8 harg8 arg9 harg9 arg10 harg10 hc0 hc1 x0 x1 x2 x3 xs0 xs1 = k0_pay4 (keysOf x0 x1 x2 x3 xs0) := by
  have hp : (kernelRun0_C (F := Ideal) c i arg2 harg2 arg3 harg3 arg4 harg4 arg5 harg5 arg6 harg6 arg7 harg7 arg8 harg8 arg9 harg9 arg10 harg10 hc0 hc1 x0 x1 x2 x3 xs0 xs1).2.1
      = [whole256 (k0_pay4 (back arg9 (keysOf (big arg2 harg2 x0) (small arg3 harg3 x1) (small arg4 harg4 x2) (big arg5 harg5 x3) (small arg9 harg9 xs0))))] := rfl
  rw [out0_C_5, hp, read_whole _ _ _ _ _ (by decide)]
  simp only [big_eq, small_eq, back_eq]

theorem values_out (hc0 : ¬cond0_0 i) (hc1 : cond0_1 i) : out0_C_6 (F := Ideal) c i arg2 harg2 arg3 harg3 arg4 harg4 arg5 harg5 arg6 harg6 arg7 harg7 arg8 harg8 arg9 harg9 arg10 harg10 hc0 hc1 x0 x1 x2 x3 xs0 xs1 = k0_pay5 (valuesOf x0 x1 x3 xs1) := by
  have hp : (kernelRun0_C (F := Ideal) c i arg2 harg2 arg3 harg3 arg4 harg4 arg5 harg5 arg6 harg6 arg7 harg7 arg8 harg8 arg9 harg9 arg10 harg10 hc0 hc1 x0 x1 x2 x3 xs0 xs1).2.2.1
      = [whole256 (k0_pay5 (back arg10 (valuesOf (big arg2 harg2 x0) (small arg3 harg3 x1) (big arg5 harg5 x3) (small arg10 harg10 xs1))))] := rfl
  rw [out0_C_6, hp, read_whole _ _ _ _ _ (by decide)]
  simp only [big_eq, small_eq, back_eq]

end

section
variable (x0 : Vec Ideal S512x256 .bf16) (x1 x2 : Vec Ideal S256x256 .bf16) (x3 : Vec Ideal S512x256 .bf16) (p : Vec Ideal S256x256 .f32)

/-- The scores of the block's row `y`. -/
def scores (y : Fin 512) : Fin 256 → EReal := score (fun e => x0 (ix2 y e)) (fun j e => x1 (ix2 j e))

/-- The gradient of the probabilities of the block's row `y`. -/
def pulls (y : Fin 512) (j : Fin 256) : EReal := dotv (fun e => x3 (ix2 y e)) (fun e => x2 (ix2 j e))

theorem tile_prob (y : Fin 512) (j : Fin 256) : (k0_pay8 (F := Ideal) x0 x1 (ix2 y j) : EReal) = prob (scores x0 x1 y) j := by
  pointwise [k0_pay8]
  simp only [prob, expo, mass, top, scores, score_fun, dotv, scale]

theorem tile_slope (y : Fin 512) (j : Fin 256) : (k0_pay10 (F := Ideal) x0 x1 x2 x3 (ix2 y j) : EReal)
    = prob (scores x0 x1 y) j * (pulls x2 x3 y j - ∑ k, pulls x2 x3 y k * prob (scores x0 x1 y) k) := by
  have e : (k0_pay10 (F := Ideal) x0 x1 x2 x3 (ix2 y j) : EReal)
      = (k0_pay8 (F := Ideal) x0 x1 (ix2 y j) : EReal)
        * (pulls x2 x3 y j - ∑ k : Fin 256, pulls x2 x3 y k * (k0_pay8 (F := Ideal) x0 x1 (ix2 y k) : EReal)) := by
    pointwise [k0_pay10]
    simp only [pulls, dotv]
  rw [e, tile_prob, sum_congr rfl fun k _ => congrArg (fun z : EReal => pulls x2 x3 y k * z) (tile_prob x0 x1 y k)]

theorem tile_dscore (y : Fin 512) (j : Fin 256) : (k0_pay1 (F := Ideal) (k0_pay10 x0 x1 x2 x3) k0_pay11 (ix2 y j) : EReal)
    = dscore (scores x0 x1 y) (pulls x2 x3 y) j := by
  have e : (k0_pay1 (F := Ideal) (k0_pay10 x0 x1 x2 x3) k0_pay11 (ix2 y j) : EReal) = (k0_pay10 (F := Ideal) x0 x1 x2 x3 (ix2 y j) : EReal) * scale := by
    pointwise [k0_pay1, k0_pay11]
    simp only [scale]
  rw [e, tile_slope, dscore]

theorem rows_apply (y : Fin 512) (d : Fin 256) : (rowsOf x0 x1 x2 x3 (ix2 y d) : EReal)
    = ∑ j : Fin 256, dscore (scores x0 x1 y) (pulls x2 x3 y) j * (x1 (ix2 j d) : EReal) := by
  have e : (rowsOf x0 x1 x2 x3 (ix2 y d) : EReal)
      = ∑ j : Fin 256, (k0_pay1 (F := Ideal) (k0_pay10 x0 x1 x2 x3) k0_pay11 (ix2 y j) : EReal) * (x1 (ix2 j d) : EReal) := by
    pointwise [k0_pay2]
  rw [e]
  exact sum_congr rfl fun j _ => congrArg (fun z : EReal => z * _) (tile_dscore x0 x1 x2 x3 y j)

theorem keys_apply (j d : Fin 256) : (keysOf x0 x1 x2 x3 p (ix2 j d) : EReal)
    = (p (ix2 j d) : EReal) + ∑ y : Fin 512, dscore (scores x0 x1 y) (pulls x2 x3 y) j * (x0 (ix2 y d) : EReal) := by
  have e : (keysOf x0 x1 x2 x3 p (ix2 j d) : EReal)
      = (p (ix2 j d) : EReal) + ∑ y : Fin 512, (k0_pay1 (F := Ideal) (k0_pay10 x0 x1 x2 x3) k0_pay11 (ix2 y j) : EReal) * (x0 (ix2 y d) : EReal) := by
    pointwise [k0_pay3]
  rw [e]
  exact congrArg (fun z : EReal => _ + z) (sum_congr rfl fun y _ => congrArg (fun z : EReal => z * _) (tile_dscore x0 x1 x2 x3 y j))

theorem values_apply (j d : Fin 256) : (valuesOf x0 x1 x3 p (ix2 j d) : EReal)
    = (p (ix2 j d) : EReal) + ∑ y : Fin 512, prob (scores x0 x1 y) j * (x3 (ix2 y d) : EReal) := by
  have e : (valuesOf x0 x1 x3 p (ix2 j d) : EReal)
      = (p (ix2 j d) : EReal) + ∑ y : Fin 512, (k0_pay8 (F := Ideal) x0 x1 (ix2 y j) : EReal) * (x3 (ix2 y d) : EReal) := by
    pointwise [k0_pay9]
  rw [e]
  exact congrArg (fun z : EReal => _ + z) (sum_congr rfl fun y _ => congrArg (fun z : EReal => z * _) (tile_prob x0 x1 y j))

theorem zero_keys (j d : Fin 256) : (k0_pay6 (F := Ideal) (ix2 j d) : EReal) = 0 := by pointwise [k0_pay6]
theorem zero_values (j d : Fin 256) : (k0_pay7 (F := Ideal) (ix2 j d) : EReal) = 0 := by pointwise [k0_pay7]
theorem cast_keys : k0_pay4 (F := Ideal) p = p := by
  refine ext2 _ _ fun j d => ?_
  pointwise [k0_pay4]
theorem cast_values : k0_pay5 (F := Ideal) p = p := by
  refine ext2 _ _ fun j d => ?_
  pointwise [k0_pay5]
end

end Cert.XaGIdeal.Product

end
-- ==== Proof.XaRef.lean ====
/- The reference of the memory attention's gradient, entry by entry. -/
module

public import proofs.«01_k».proof.Defs
public import proofs.«01_k».proof.Proof.Gen.RefXaGIdeal.Read
public import proofs.«01_k».proof.Proof.Blocks
public import proofs.«01_k».proof.Proof.Slope

@[expose] public section

set_option maxRecDepth 16384

noncomputable section

namespace Cert.XaGIdeal.Product

open Idealize.ShloMosaic Idealize.ShloMosaic.TcCoe Idealize.SL.Sem
open Cert.RefXaGIdeal Cert.Blocks Cert.Softmax
open Cert.RefXaGIdeal.Read
open Finset

section
variable (x0 : Vec Ideal S2048x6144 .bf16) (x1 : Vec Ideal S256x2048 .bf16) (h : Fin 4) (t : Fin 2048)

theorem ref_query (d : Fin 256) (z : Fin 6144) (hz : z.val = 5120 + h.val * 256 + d.val) :
    (val_main_v6 (F := Ideal) x0 (ix3 t h d) : EReal) = x0 (ix2 t z) := by
  obtain ⟨z, hz'⟩ := z
  obtain rfl : z = 5120 + h.val * 256 + d.val := hz
  have := h.isLt
  pointwise [val_main_v6, val_main_v3, val_main_v2]
  exact congrArg x0 (congrArg (ix2 t) (Fin.ext (by show 5120 + (h.val * 256 + d.val) = 5120 + h.val * 256 + d.val; omega)))

theorem ref_key (j d : Fin 256) (z : Fin 2048) (hz : z.val = h.val * 256 + d.val) :
    (val_main_v7 (F := Ideal) x1 (ix3 j h d) : EReal) = x1 (ix2 j z) := by
  pointwise [val_main_v7, val_main_v4, val_main_v0]
  exact congrArg x1 (congrArg (ix2 j) (Fin.ext hz.symm))

theorem ref_value (j d : Fin 256) (z : Fin 2048) (hz : z.val = 1024 + h.val * 256 + d.val) :
    (val_main_v43 (F := Ideal) x1 (ix3 j h d) : EReal) = x1 (ix2 j z) := by
  pointwise [val_main_v43, val_main_v5, val_main_v1]
  exact congrArg x1 (congrArg (ix2 j) (Fin.ext (by show 1024 + (h.val * 256 + d.val) = z.val; omega)))

theorem ref_score (q : Fin 256 → EReal) (k : Fin 256 → Fin 256 → EReal) (hq : ∀ d, (val_main_v6 (F := Ideal) x0 (ix3 t h d) : EReal) = q d)
    (hk : ∀ j d, (val_main_v7 (F := Ideal) x1 (ix3 j h d) : EReal) = k j d) (j : Fin 256) :
    (val_main_v12 (F := Ideal) x0 x1 (ix3 h t j) : EReal) = score q k j := by
  have e : (val_main_v12 (F := Ideal) x0 x1 (ix3 h t j) : EReal)
      = (∑ d : Fin 256, (val_main_v6 (F := Ideal) x0 (ix3 t h d) : EReal) * (val_main_v7 (F := Ideal) x1 (ix3 j h d) : EReal)) * scale := by
    pointwise [val_main_v12, val_main_v10, val_main_v9, val_main_v8, val_main_v11, val_main_cst]
    simp only [scale]
  rw [e, score, dotv]
  congr 1
  exact sum_congr rfl fun d _ => by rw [hq, hk]

theorem ref_fold : (val_main_v13 (F := Ideal) x0 x1 (ix2 h t) : EReal) = top (fun x => val_main_v12 (F := Ideal) x0 x1 (ix3 h t x)) := by
  pointwise [val_main_v13, val_main_cst_0]
  simp only [top]

theorem ref_bottom : (val_main_v19 (F := Ideal) (ix2 h t) : EReal) = Ideal.ofBits .f32 0xFF800000#32 := by
  pointwise [val_main_v19, val_main_cst_2]

theorem ref_max : (val_main_v20 (F := Ideal) x0 x1 (ix2 h t) : EReal)
    = max (val_main_v19 (F := Ideal) (ix2 h t) : EReal) (val_main_v13 (F := Ideal) x0 x1 (ix2 h t) : EReal) :=
  val_main_v20_apply x0 x1 (ix2 h t)

theorem ref_top : (val_main_v20 (F := Ideal) x0 x1 (ix2 h t) : EReal) = top (fun x => val_main_v12 (F := Ideal) x0 x1 (ix3 h t x)) := by
  rw [ref_max, ref_bottom, ref_fold, max_top]

theorem ref_expo (j : Fin 256) : (val_main_v33 (F := Ideal) x0 x1 (ix3 h t j) : EReal)
    = Ideal.exp ((val_main_v12 (F := Ideal) x0 x1 (ix3 h t j) : EReal) - (val_main_v20 (F := Ideal) x0 x1 (ix2 h t) : EReal)) := by
  pointwise [val_main_v33, val_main_v32, val_main_v31, val_main_v30]

theorem ref_mass : (val_main_v34 (F := Ideal) x0 x1 (ix2 h t) : EReal) = ∑ j : Fin 256, (val_main_v33 (F := Ideal) x0 x1 (ix3 h t j) : EReal) := by
  pointwise [val_main_v34, val_main_cst_8]

theorem ref_div (j : Fin 256) : (val_main_v42 (F := Ideal) x0 x1 (ix3 h t j) : EReal)
    = Ideal.div (val_main_v33 (F := Ideal) x0 x1 (ix3 h t j) : EReal) (val_main_v34 (F := Ideal) x0 x1 (ix2 h t) : EReal) := by
  pointwise [val_main_v42, val_main_v41, val_main_v37, val_main_v36, val_main_v35]

theorem ref_prob (z : Fin 256 → EReal) (hz : ∀ j, (val_main_v12 (F := Ideal) x0 x1 (ix3 h t j) : EReal) = z j) (j : Fin 256) :
    (val_main_v42 (F := Ideal) x0 x1 (ix3 h t j) : EReal) = prob z j := by
  have e : ∀ j, (val_main_v33 (F := Ideal) x0 x1 (ix3 h t j) : EReal) = expo z j := fun j =>
    (ref_expo x0 x1 h t j).trans (congrArg Ideal.exp (congrArg₂ (fun a b : EReal => a - b) (hz j) ((ref_top x0 x1 h t).trans (congrArg top (funext hz)))))
  exact (ref_div x0 x1 h t j).trans (congrArg₂ Ideal.div (e j) ((ref_mass x0 x1 h t).trans (sum_congr rfl fun j _ => e j)))

theorem ref_expo_of (z : Fin 256 → EReal) (hz : ∀ j, (val_main_v12 (F := Ideal) x0 x1 (ix3 h t j) : EReal) = z j) (j : Fin 256) :
    (val_main_v33 (F := Ideal) x0 x1 (ix3 h t j) : EReal) = expo z j :=
  (ref_expo x0 x1 h t j).trans (congrArg Ideal.exp (congrArg₂ (fun a b : EReal => a - b) (hz j) ((ref_top x0 x1 h t).trans (congrArg top (funext hz)))))

theorem ref_mass_of (z : Fin 256 → EReal) (hz : ∀ j, (val_main_v12 (F := Ideal) x0 x1 (ix3 h t j) : EReal) = z j) :
    (val_main_v34 (F := Ideal) x0 x1 (ix2 h t) : EReal) = mass z :=
  (ref_mass x0 x1 h t).trans (sum_congr rfl fun j _ => ref_expo_of x0 x1 h t z hz j)

variable (x2 : Vec Ideal S2048x1024 .bf16)

theorem ref_out (d : Fin 256) (z : Fin 1024) (hz : z.val = h.val * 256 + d.val) :
    (val_main_v49 (F := Ideal) x2 (ix3 h d t) : EReal) = x2 (ix2 t z) := by
  pointwise [val_main_v49, val_main_v48, val_main_v47]
  exact congrArg x2 (congrArg (ix2 t) (Fin.ext hz.symm))

theorem ref_pull (j : Fin 256) : (val_main_v55 (F := Ideal) x1 x2 (ix3 h t j) : EReal)
    = ∑ d : Fin 256, (val_main_v49 (F := Ideal) x2 (ix3 h d t) : EReal) * (val_main_v43 (F := Ideal) x1 (ix3 j h d) : EReal) := by
  pointwise [val_main_v55, val_main_v54, val_main_v50]

theorem ref_part (j : Fin 256) : (val_main_v58 (F := Ideal) x0 x1 x2 (ix3 h t j) : EReal)
    = (val_main_v55 (F := Ideal) x1 x2 (ix3 h t j) : EReal)
      * Ideal.div (Ideal.ofBits .f32 0x3F800000#32) ((val_main_v34 (F := Ideal) x0 x1 (ix2 h t) : EReal) * (val_main_v34 (F := Ideal) x0 x1 (ix2 h t) : EReal))
      * (val_main_v33 (F := Ideal) x0 x1 (ix3 h t j) : EReal) := by
  pointwise [val_main_v58, val_main_v57, val_main_v56, val_main_v40, val_main_v39, val_main_cst_9, val_main_v38, val_main_v35]

theorem ref_total : (val_main_v59 (F := Ideal) x0 x1 x2 (ix2 h t) : EReal) = ∑ j : Fin 256, (val_main_v58 (F := Ideal) x0 x1 x2 (ix3 h t j) : EReal) := by
  pointwise [val_main_v59, val_main_cst_10]

theorem ref_less : (val_main_v64 (F := Ideal) x0 x1 x2 (ix2 h t) : EReal) = -(val_main_v59 (F := Ideal) x0 x1 x2 (ix2 h t) : EReal) := by
  pointwise [val_main_v64, val_main_cst_11, val_main_v61, val_main_v60]
  exact Fin.sum_univ_one (M := EReal) fun _ => -(val_main_v59 (F := Ideal) x0 x1 x2 (ix2 h t) : EReal)

theorem ref_dz (j : Fin 256) : (val_main_v71 (F := Ideal) x0 x1 x2 (ix3 h t j) : EReal)
    = (Ideal.div (val_main_v55 (F := Ideal) x1 x2 (ix3 h t j) : EReal) (val_main_v34 (F := Ideal) x0 x1 (ix2 h t) : EReal)
        + (val_main_v64 (F := Ideal) x0 x1 x2 (ix2 h t) : EReal)) * (val_main_v33 (F := Ideal) x0 x1 (ix3 h t j) : EReal) * scale := by
  pointwise [val_main_v71, val_main_v70, val_main_v69, val_main_v68, val_main_cst_12, val_main_v67, val_main_v66, val_main_v65, val_main_v63, val_main_v62, val_main_v35]
  simp only [scale]

theorem ref_dscore (z : Fin 256 → EReal) (hn : ∀ j, Num (z j)) (hz : ∀ j, (val_main_v12 (F := Ideal) x0 x1 (ix3 h t j) : EReal) = z j)
    (x : Fin 256 → EReal) (hx : ∀ j, (val_main_v55 (F := Ideal) x1 x2 (ix3 h t j) : EReal) = x j) (j : Fin 256) :
    (val_main_v71 (F := Ideal) x0 x1 x2 (ix3 h t j) : EReal) = dscore z x j := by
  have e : ∀ k, (val_main_v58 (F := Ideal) x0 x1 x2 (ix3 h t k) : EReal) = x k * Ideal.div 1 (mass z * mass z) * expo z k := fun k => by
    rw [ref_part, hx, ref_mass_of x0 x1 h t z hz, ref_expo_of x0 x1 h t z hz, bits_one]
  rw [ref_dz, ref_less, ref_total, hx, ref_mass_of x0 x1 h t z hz, ref_expo_of x0 x1 h t z hz, sum_congr rfl fun k _ => e k, dscore, slope z hn x j]

theorem ref_rows (d : Fin 256) (z : Fin 1024) (hz : z.val = h.val * 256 + d.val) :
    (val_main_v78 (F := Ideal) x0 x1 x2 (ix2 t z) : EReal)
      = ∑ j : Fin 256, (val_main_v71 (F := Ideal) x0 x1 x2 (ix3 h t j) : EReal) * (val_main_v7 (F := Ideal) x1 (ix3 j h d) : EReal) := by
  obtain ⟨z, hz'⟩ := z
  obtain rfl : z = h.val * 256 + d.val := hz
  pointwise [val_main_v78, val_main_v77, val_main_v75, val_main_v74]

theorem ref_keys (j d : Fin 256) (z : Fin 1024) (hz : z.val = h.val * 256 + d.val) :
    (val_main_v79 (F := Ideal) x0 x1 x2 (ix2 j z) : EReal)
      = ∑ t : Fin 2048, (val_main_v71 (F := Ideal) x0 x1 x2 (ix3 h t j) : EReal) * (val_main_v6 (F := Ideal) x0 (ix3 t h d) : EReal) := by
  obtain ⟨z, hz'⟩ := z
  obtain rfl : z = h.val * 256 + d.val := hz
  pointwise [val_main_v79, val_main_v76, val_main_v73, val_main_v72]

theorem ref_values (j d : Fin 256) (z : Fin 1024) (hz : z.val = h.val * 256 + d.val) :
    (val_main_v80 (F := Ideal) x0 x1 x2 (ix2 j z) : EReal)
      = ∑ t : Fin 2048, (val_main_v49 (F := Ideal) x2 (ix3 h d t) : EReal) * (val_main_v42 (F := Ideal) x0 x1 (ix3 h t j) : EReal) := by
  obtain ⟨z, hz'⟩ := z
  obtain rfl : z = h.val * 256 + d.val := hz
  pointwise [val_main_v80, val_main_v53, val_main_v52, val_main_v51]
end

end Cert.XaGIdeal.Product

end
-- ==== Proof.XaG.lean ====
/- The memory attention's gradient: for finite scores what the call leaves are the reference's gradients of the queries, the keys
   and the values. -/
module

public import proofs.«01_k».proof.Proof.XaPoint
public import proofs.«01_k».proof.Proof.XaRef
public import proofs.«01_k».proof.Proof.Feed
public import proofs.«01_k».proof.Proof.Gen.RefXaGIdeal.Run

@[expose] public section

set_option maxRecDepth 16384

noncomputable section

namespace Cert.XaGIdeal.Product

open Idealize.ShloMosaic Idealize.ShloMosaic.TcCoe Idealize.SL.Sem
open Cert.XaGIdeal Cert.XaGIdeal.Gen Cert.XaGIdeal.Value Cert.Blocks Cert.Softmax
open Cert.RefXaGIdeal.Read
open Finset

/-- The precondition's side conditions. -/
instance scoredFacts : Cert.Pre_scored.Facts := ⟨by decide, by decide, by decide, by decide, by decide⟩

/-- The point that computes the head `h`'s block of rows `a`. -/
def point (h a : Fin 4) : Fin cfg0.N := ⟨h.val * 4 + a.val, by have := h.isLt; have := a.isLt; show _ < 16; omega⟩

theorem at0 : ∀ h a : Fin 4, win0_0.index (point h a) (0 : Fin 2) = a.val ∧ win0_0.index (point h a) (1 : Fin 2) = 20 + h.val := by decide +kernel
theorem at1 : ∀ h a : Fin 4, win0_1.index (point h a) (0 : Fin 2) = 0 ∧ win0_1.index (point h a) (1 : Fin 2) = h.val := by decide +kernel
theorem at2 : ∀ h a : Fin 4, win0_2.index (point h a) (0 : Fin 2) = 0 ∧ win0_2.index (point h a) (1 : Fin 2) = 4 + h.val := by decide +kernel
theorem at3 : ∀ h a : Fin 4, win0_3.index (point h a) (0 : Fin 2) = a.val ∧ win0_3.index (point h a) (1 : Fin 2) = h.val := by decide +kernel
theorem at4 : ∀ h a : Fin 4, win0_4.index (point h a) (0 : Fin 2) = a.val ∧ win0_4.index (point h a) (1 : Fin 2) = h.val := by decide +kernel
theorem at5 : ∀ h a : Fin 4, win0_5.index (point h a) (0 : Fin 2) = 0 ∧ win0_5.index (point h a) (1 : Fin 2) = h.val := by decide +kernel
theorem at6 : ∀ h a : Fin 4, win0_6.index (point h a) (0 : Fin 2) = 0 ∧ win0_6.index (point h a) (1 : Fin 2) = h.val := by decide +kernel
theorem every : ∀ t : Fin cfg0.N, (cfg0.win 4).flush t = true := by decide +kernel
theorem last5 : ∀ h : Fin 4, (cfg0.win 5).flush (point h 3) = true := by decide +kernel
theorem last6 : ∀ h : Fin 4, (cfg0.win 6).flush (point h 3) = true := by decide +kernel
theorem place : ∀ h a : Fin 4, (point h a).val % 4 = a.val := by decide +kernel

/-- Two points that write back a head's sums write different columns. -/
theorem apart5 : ∀ t t' : Fin cfg0.N, (cfg0.win 5).flush t = true → (cfg0.win 5).flush t' = true → t ≠ t' → win0_5.index t ≠ win0_5.index t' :=
  (by decide +kernel : ∀ t t' : Fin grid0.N, (cfg0.win 5).flush t = true → (cfg0.win 5).flush t' = true → t ≠ t' → win0_5.index t ≠ win0_5.index t')
theorem apart6 : ∀ t t' : Fin cfg0.N, (cfg0.win 6).flush t = true → (cfg0.win 6).flush t' = true → t ≠ t' → win0_6.index t ≠ win0_6.index t' :=
  (by decide +kernel : ∀ t t' : Fin grid0.N, (cfg0.win 6).flush t = true → (cfg0.win 6).flush t' = true → t ≠ t' → win0_6.index t ≠ win0_6.index t')

/-- The part of a sum over the 2048 rows that the block `a` has. -/
def part (f : Fin 2048 → EReal) (a : Fin 4) : EReal := ∑ y : Fin 512, f ⟨a.val * 512 + y.val, by omega⟩

theorem parts (f : Fin 2048 → EReal) : ∑ t, f t = 0 + part f 0 + part f 1 + part f 2 + part f 3 := by
  rw [sum_blocks (a := 4) (b := 512) rfl f (fun a y => f ⟨a.val * 512 + y.val, by omega⟩) fun a y t ht => congrArg f (Fin.ext ht),
    Fin.sum_univ_four, zero_add]
  rfl

variable (m : (ℓ : Loc nD τ sig) → Buf (Elt Ideal) ℓ) (c : Dev nD)

/-- The arguments: the projection, the memory's keys and values, and the incoming gradient. -/
abbrev proj : Vec Ideal S2048x6144 .bf16 := m ((c : Thread nD τ).loc main_arg0)
abbrev mem : Vec Ideal S256x2048 .bf16 := m ((c : Thread nD τ).loc main_arg1)
abbrev dout : Vec Ideal S2048x1024 .bf16 := m ((c : Thread nD τ).loc main_arg2)

/-! ## What a point reads -/

theorem read0 (h a : Fin 4) (y : Fin 512) (d : Fin 256) (t : Fin 2048) (z : Fin 6144) (ht : t.val = a.val * 512 + y.val)
    (hz : z.val = 5120 + h.val * 256 + d.val) : iblk m c 0 (point h a) (ix2 y d) = proj m c (ix2 t z) :=
  congrArg (m ((c : Thread nD τ).loc main_arg0)) (idx2 (((cfg0.win 0).blk (point h a)).view.emb (ix2 y d)) t z
    (by show win0_0.index (point h a) (0 : Fin 2) * 512 + 1 * y.val = t.val; rw [(at0 h a).1]; omega)
    (by show win0_0.index (point h a) (1 : Fin 2) * 256 + 1 * d.val = z.val; rw [(at0 h a).2]; omega))

theorem read1 (h a : Fin 4) (j d : Fin 256) (z : Fin 2048) (hz : z.val = h.val * 256 + d.val) :
    iblk m c 1 (point h a) (ix2 j d) = mem m c (ix2 j z) :=
  congrArg (m ((c : Thread nD τ).loc main_arg1)) (idx2 (((cfg0.win 1).blk (point h a)).view.emb (ix2 j d)) j z
    (by show win0_1.index (point h a) (0 : Fin 2) * 256 + 1 * j.val = j.val; rw [(at1 h a).1]; omega)
    (by show win0_1.index (point h a) (1 : Fin 2) * 256 + 1 * d.val = z.val; rw [(at1 h a).2]; omega))

theorem read2 (h a : Fin 4) (j d : Fin 256) (z : Fin 2048) (hz : z.val = 1024 + h.val * 256 + d.val) :
    iblk m c 2 (point h a) (ix2 j d) = mem m c (ix2 j z) :=
  congrArg (m ((c : Thread nD τ).loc main_arg1)) (idx2 (((cfg0.win 2).blk (point h a)).view.emb (ix2 j d)) j z
    (by show win0_2.index (point h a) (0 : Fin 2) * 256 + 1 * j.val = j.val; rw [(at2 h a).1]; omega)
    (by show win0_2.index (point h a) (1 : Fin 2) * 256 + 1 * d.val = z.val; rw [(at2 h a).2]; omega))

theorem read3 (h a : Fin 4) (y : Fin 512) (d : Fin 256) (t : Fin 2048) (z : Fin 1024) (ht : t.val = a.val * 512 + y.val)
    (hz : z.val = h.val * 256 + d.val) : iblk m c 3 (point h a) (ix2 y d) = dout m c (ix2 t z) :=
  congrArg (m ((c : Thread nD τ).loc main_arg2)) (idx2 (((cfg0.win 3).blk (point h a)).view.emb (ix2 y d)) t z
    (by show win0_3.index (point h a) (0 : Fin 2) * 512 + 1 * y.val = t.val; rw [(at3 h a).1]; omega)
    (by show win0_3.index (point h a) (1 : Fin 2) * 256 + 1 * d.val = z.val; rw [(at3 h a).2]; omega))

/-- The precondition on these arguments: the queries and the keys are numbers. -/
structure Scored : Prop where
  query : ∀ (t : Fin 2048) (z : Fin 6144), 5120 ≤ z.val → Num (proj m c (ix2 t z))
  key : ∀ (j : Fin 256) (z : Fin 2048), z.val < 1024 → Num (mem m c (ix2 j z))

section
variable (h a : Fin 4) (y : Fin 512) (t : Fin 2048) (ht : t.val = a.val * 512 + y.val)
include ht

theorem point_query (d : Fin 256) : (val_main_v6 (F := Ideal) (proj m c) (ix3 t h d) : EReal) = iblk m c 0 (point h a) (ix2 y d) :=
  (ref_query _ h t d ⟨5120 + h.val * 256 + d.val, by omega⟩ rfl).trans (read0 m c h a y d t _ ht rfl).symm

omit ht in
theorem point_key (j d : Fin 256) : (val_main_v7 (F := Ideal) (mem m c) (ix3 j h d) : EReal) = iblk m c 1 (point h a) (ix2 j d) :=
  (ref_key _ h j d ⟨h.val * 256 + d.val, by omega⟩ rfl).trans (read1 m c h a j d ⟨h.val * 256 + d.val, by omega⟩ rfl).symm

omit ht in
theorem point_value (j d : Fin 256) : (val_main_v43 (F := Ideal) (mem m c) (ix3 j h d) : EReal) = iblk m c 2 (point h a) (ix2 j d) :=
  (ref_value _ h j d ⟨1024 + h.val * 256 + d.val, by omega⟩ rfl).trans (read2 m c h a j d ⟨1024 + h.val * 256 + d.val, by omega⟩ rfl).symm

theorem point_out (d : Fin 256) : (val_main_v49 (F := Ideal) (dout m c) (ix3 h d t) : EReal) = iblk m c 3 (point h a) (ix2 y d) :=
  (ref_out h t _ d ⟨h.val * 256 + d.val, by omega⟩ rfl).trans (read3 m c h a y d t ⟨h.val * 256 + d.val, by omega⟩ ht rfl).symm

theorem point_score (j : Fin 256) : (val_main_v12 (F := Ideal) (proj m c) (mem m c) (ix3 h t j) : EReal)
    = scores (iblk m c 0 (point h a)) (iblk m c 1 (point h a)) y j :=
  ref_score _ _ h t (fun d => iblk m c 0 (point h a) (ix2 y d)) (fun j d => iblk m c 1 (point h a) (ix2 j d))
    (point_query m c h a y t ht) (point_key m c h a) j

theorem point_pull (j : Fin 256) : (val_main_v55 (F := Ideal) (mem m c) (dout m c) (ix3 h t j) : EReal)
    = pulls (iblk m c 2 (point h a)) (iblk m c 3 (point h a)) y j :=
  (ref_pull _ h t _ j).trans (sum_congr rfl fun d _ => congrArg₂ (fun x y : EReal => x * y) (point_out m c h a y t ht d) (point_value m c h a j d))

theorem point_prob (j : Fin 256) : (val_main_v42 (F := Ideal) (proj m c) (mem m c) (ix3 h t j) : EReal)
    = prob (scores (iblk m c 0 (point h a)) (iblk m c 1 (point h a)) y) j :=
  ref_prob _ _ h t _ (point_score m c h a y t ht) j

variable (P : Scored m c)
include P

theorem point_num (j : Fin 256) : Num (scores (iblk m c 0 (point h a)) (iblk m c 1 (point h a)) y j) := by
  refine score_real _ _ (fun d => ?_) (fun j d => ?_) j
  · obtain ⟨r, hr⟩ := P.query t ⟨5120 + h.val * 256 + d.val, by omega⟩ (by show 5120 ≤ 5120 + h.val * 256 + d.val; omega)
    exact ⟨r, (read0 m c h a y d t _ ht rfl).trans hr⟩
  · obtain ⟨r, hr⟩ := P.key j ⟨h.val * 256 + d.val, by omega⟩ (by show h.val * 256 + d.val < 1024; omega)
    exact ⟨r, (read1 m c h a j d _ rfl).trans hr⟩

theorem point_dscore (j : Fin 256) : (val_main_v71 (F := Ideal) (proj m c) (mem m c) (dout m c) (ix3 h t j) : EReal)
    = dscore (scores (iblk m c 0 (point h a)) (iblk m c 1 (point h a)) y) (pulls (iblk m c 2 (point h a)) (iblk m c 3 (point h a)) y) j :=
  ref_dscore _ _ h t _ _ (point_num m c h a y t ht P) (point_score m c h a y t ht) _ (point_pull m c h a y t ht) j
end

/-! ## The carried sums -/

/-- The summands of the gradients of the keys and of the values. -/
def keyTerm (h : Fin 4) (j d : Fin 256) (t : Fin 2048) : EReal :=
  (val_main_v71 (F := Ideal) (proj m c) (mem m c) (dout m c) (ix3 h t j) : EReal) * (val_main_v6 (F := Ideal) (proj m c) (ix3 t h d) : EReal)
def valueTerm (h : Fin 4) (j d : Fin 256) (t : Fin 2048) : EReal :=
  (val_main_v49 (F := Ideal) (dout m c) (ix3 h d t) : EReal) * (val_main_v42 (F := Ideal) (proj m c) (mem m c) (ix3 h t j) : EReal)

theorem keys_part (P : Scored m c) (h a : Fin 4) (p : Vec Ideal S256x256 .f32) (j d : Fin 256) (s : EReal) (hs : (p (ix2 j d) : EReal) = s) :
    (keysOf (iblk m c 0 (point h a)) (iblk m c 1 (point h a)) (iblk m c 2 (point h a)) (iblk m c 3 (point h a)) p (ix2 j d) : EReal)
      = s + part (keyTerm m c h j d) a := by
  refine (keys_apply _ _ _ _ p j d).trans (congrArg₂ (fun x y : EReal => x + y) hs (sum_congr rfl fun y _ => ?_))
  exact (congrArg₂ (fun x y : EReal => x * y) (point_dscore m c h a y _ rfl P j) (point_query m c h a y _ rfl d)).symm

theorem values_part (h a : Fin 4) (p : Vec Ideal S256x256 .f32) (j d : Fin 256) (s : EReal) (hs : (p (ix2 j d) : EReal) = s) :
    (valuesOf (iblk m c 0 (point h a)) (iblk m c 1 (point h a)) (iblk m c 3 (point h a)) p (ix2 j d) : EReal)
      = s + part (valueTerm m c h j d) a := by
  refine (values_apply _ _ _ p j d).trans (congrArg₂ (fun x y : EReal => x + y) hs (sum_congr rfl fun y _ => ?_))
  refine Eq.trans ?_ (mul_comm _ _)
  exact (congrArg₂ (fun x y : EReal => x * y) (point_prob m c h a y _ rfl j) (point_out m c h a y _ rfl d)).symm

theorem keys_first (t : Fin cfg0.N) (h0 : t.val % 4 = 0) : (outsAt0 m c t.val t.isLt).2.2.2.1
    = keysOf (iblk m c 0 t) (iblk m c 1 t) (iblk m c 2 t) (iblk m c 3 t) (k0_pay6 (F := Ideal)) := by
  rw [outsAt0_A m c t h0 (by omega)]
  dsimp only
  rw [keys_A]
theorem values_first (t : Fin cfg0.N) (h0 : t.val % 4 = 0) : (outsAt0 m c t.val t.isLt).2.2.2.2
    = valuesOf (iblk m c 0 t) (iblk m c 1 t) (iblk m c 3 t) (k0_pay7 (F := Ideal)) := by
  rw [outsAt0_A m c t h0 (by omega)]
  dsimp only
  rw [values_A]

theorem keys_next (t : Fin cfg0.N) (h0 : ¬t.val % 4 = 0) : (outsAt0 m c t.val t.isLt).2.2.2.1
    = keysOf (iblk m c 0 t) (iblk m c 1 t) (iblk m c 2 t) (iblk m c 3 t) (outsAt0 m c (t.val - 1) (Nat.lt_of_le_of_lt (Nat.sub_le _ _) t.isLt)).2.2.2.1 := by
  by_cases h1 : t.val % 4 = 3
  · rw [outsAt0_C m c t h0 h1]
    dsimp only
    rw [keys_C]
  · rw [outsAt0_B m c t h0 h1]
    dsimp only
    rw [keys_B]
theorem values_next (t : Fin cfg0.N) (h0 : ¬t.val % 4 = 0) : (outsAt0 m c t.val t.isLt).2.2.2.2
    = valuesOf (iblk m c 0 t) (iblk m c 1 t) (iblk m c 3 t) (outsAt0 m c (t.val - 1) (Nat.lt_of_le_of_lt (Nat.sub_le _ _) t.isLt)).2.2.2.2 := by
  by_cases h1 : t.val % 4 = 3
  · rw [outsAt0_C m c t h0 h1]
    dsimp only
    rw [values_C]
  · rw [outsAt0_B m c t h0 h1]
    dsimp only
    rw [values_B]

theorem rows_out (t : Fin cfg0.N) : (outsAt0 m c t.val t.isLt).1 = rowsOf (iblk m c 0 t) (iblk m c 1 t) (iblk m c 2 t) (iblk m c 3 t) := by
  by_cases h0 : t.val % 4 = 0
  · rw [outsAt0_A m c t h0 (by omega)]
    dsimp only
    rw [rows_A]
  · by_cases h1 : t.val % 4 = 3
    · rw [outsAt0_C m c t h0 h1]
      dsimp only
      rw [rows_C]
    · rw [outsAt0_B m c t h0 h1]
      dsimp only
      rw [rows_B]

theorem keys_last (t : Fin cfg0.N) (h1 : t.val % 4 = 3) : (outsAt0 m c t.val t.isLt).2.1 = (outsAt0 m c t.val t.isLt).2.2.2.1 := by
  rw [keys_next m c t (by omega), outsAt0_C m c t (by omega) h1]
  dsimp only
  rw [keys_out, cast_keys]
theorem values_last (t : Fin cfg0.N) (h1 : t.val % 4 = 3) : (outsAt0 m c t.val t.isLt).2.2.1 = (outsAt0 m c t.val t.isLt).2.2.2.2 := by
  rw [values_next m c t (by omega), outsAt0_C m c t (by omega) h1]
  dsimp only
  rw [values_out, cast_values]

theorem outs_congr (n n' : Nat) (h : n < cfg0.N) (h' : n' < cfg0.N) (e : n = n') : outsAt0 m c n h = outsAt0 m c n' h' := by
  subst e
  rfl

theorem keys_step (P : Scored m c) (h a b : Fin 4) (hb : b.val = a.val + 1) (j d : Fin 256) (s : EReal)
    (hs : ((outsAt0 m c (point h a).val (point h a).isLt).2.2.2.1 (ix2 j d) : EReal) = s) :
    ((outsAt0 m c (point h b).val (point h b).isLt).2.2.2.1 (ix2 j d) : EReal) = s + part (keyTerm m c h j d) b := by
  have p := place h b
  rw [keys_next m c (point h b) (by omega), outs_congr m c ((point h b).val - 1) (point h a).val _ (point h a).isLt
    (by show h.val * 4 + b.val - 1 = h.val * 4 + a.val; omega)]
  exact keys_part m c P h b _ j d s hs
theorem values_step (h a b : Fin 4) (hb : b.val = a.val + 1) (j d : Fin 256) (s : EReal)
    (hs : ((outsAt0 m c (point h a).val (point h a).isLt).2.2.2.2 (ix2 j d) : EReal) = s) :
    ((outsAt0 m c (point h b).val (point h b).isLt).2.2.2.2 (ix2 j d) : EReal) = s + part (valueTerm m c h j d) b := by
  have p := place h b
  rw [values_next m c (point h b) (by omega), outs_congr m c ((point h b).val - 1) (point h a).val _ (point h a).isLt
    (by show h.val * 4 + b.val - 1 = h.val * 4 + a.val; omega)]
  exact values_part m c h b _ j d s hs

/-- After a head's four blocks of rows its sums are over all rows. -/
theorem keys_all (P : Scored m c) (h : Fin 4) (j d : Fin 256) :
    ((outsAt0 m c (point h 3).val (point h 3).isLt).2.1 (ix2 j d) : EReal) = ∑ t, keyTerm m c h j d t := by
  rw [keys_last m c (point h 3) (place h 3), parts]
  refine keys_step m c P h 2 3 rfl j d _ (keys_step m c P h 1 2 rfl j d _ (keys_step m c P h 0 1 rfl j d _ ?_))
  rw [keys_first m c (point h 0) (place h 0)]
  exact keys_part m c P h 0 _ j d 0 (zero_keys j d)
theorem values_all (h : Fin 4) (j d : Fin 256) :
    ((outsAt0 m c (point h 3).val (point h 3).isLt).2.2.1 (ix2 j d) : EReal) = ∑ t, valueTerm m c h j d t := by
  rw [values_last m c (point h 3) (place h 3), parts]
  refine values_step m c h 2 3 rfl j d _ (values_step m c h 1 2 rfl j d _ (values_step m c h 0 1 rfl j d _ ?_))
  rw [values_first m c (point h 0) (place h 0)]
  exact values_part m c h 0 _ j d 0 (zero_values j d)

/-! ## The three results -/

theorem arr_rows (P : Scored m c) : (dats m 0 c).arrAt 4 cfg0.N = val_main_v78 (F := Ideal) (proj m c) (mem m c) (dout m c) := by
  refine ext2 _ _ fun t z => ?_
  obtain ⟨a, y, ht⟩ := exists_block 4 512 t
  obtain ⟨h, d, hz⟩ := exists_block 4 256 z
  have e : ((cfg0.win 4).blk (point h a)).view.emb (ix2 y d) = (ix2 t z : S2048x1024.Idx) := idx2 _ t z
    (by show win0_4.index (point h a) (0 : Fin 2) * 512 + 1 * y.val = t.val; rw [(at4 h a).1]; omega)
    (by show win0_4.index (point h a) (1 : Fin 2) * 256 + 1 * d.val = z.val; rw [(at4 h a).2]; omega)
  refine ((congrArg ((dats m 0 c).arrAt 4 cfg0.N) e).symm.trans
    (congrFun ((blocks4 m c (point h a) (every _)).trans (flushed4 m c (point h a))) (ix2 y d))).trans ?_
  refine (congrFun (rows_out m c (point h a)) (ix2 y d)).trans ((rows_apply _ _ _ _ y d).trans (Eq.trans ?_ (ref_rows _ _ h t _ d z hz).symm))
  exact sum_congr rfl fun j _ => (congrArg₂ (fun x y : EReal => x * y) (point_dscore m c h a y t ht P j) (point_key m c h a j d)).symm

theorem arr_keys (P : Scored m c) : (dats m 0 c).arrAt 5 cfg0.N = val_main_v79 (F := Ideal) (proj m c) (mem m c) (dout m c) := by
  refine ext2 _ _ fun j z => ?_
  obtain ⟨h, d, hz⟩ := exists_block 4 256 z
  have hb := congrFun (((dats m 0 c).read_blk_arrAt_eq_flushed 5 (fun t t' f f' ne => (cfg0.win 5).disjoint_blk (apart5 t t' f f' ne))
    cfg0.N (point h 3) (point h 3).isLt (last5 h)).trans (flushed5 m c (point h 3))) (ix2 j d)
  have e : ((cfg0.win 5).blk (point h 3)).view.emb (ix2 j d) = (ix2 j z : S256x1024.Idx) := idx2 _ j z
    (by show win0_5.index (point h 3) (0 : Fin 2) * 256 + 1 * j.val = j.val; rw [(at5 h 3).1]; omega)
    (by show win0_5.index (point h 3) (1 : Fin 2) * 256 + 1 * d.val = z.val; rw [(at5 h 3).2]; omega)
  refine ((congrArg ((dats m 0 c).arrAt 5 cfg0.N) e).symm.trans hb).trans ?_
  exact (keys_all m c P h j d).trans (ref_keys _ _ h _ j d z hz).symm

theorem arr_values : (dats m 0 c).arrAt 6 cfg0.N = val_main_v80 (F := Ideal) (proj m c) (mem m c) (dout m c) := by
  refine ext2 _ _ fun j z => ?_
  obtain ⟨h, d, hz⟩ := exists_block 4 256 z
  have hb := congrFun (((dats m 0 c).read_blk_arrAt_eq_flushed 6 (fun t t' f f' ne => (cfg0.win 6).disjoint_blk (apart6 t t' f f' ne))
    cfg0.N (point h 3) (point h 3).isLt (last6 h)).trans (flushed6 m c (point h 3))) (ix2 j d)
  have e : ((cfg0.win 6).blk (point h 3)).view.emb (ix2 j d) = (ix2 j z : S256x1024.Idx) := idx2 _ j z
    (by show win0_6.index (point h 3) (0 : Fin 2) * 256 + 1 * j.val = j.val; rw [(at6 h 3).1]; omega)
    (by show win0_6.index (point h 3) (1 : Fin 2) * 256 + 1 * d.val = z.val; rw [(at6 h 3).2]; omega)
  refine ((congrArg ((dats m 0 c).arrAt 6 cfg0.N) e).symm.trans hb).trans ?_
  exact (values_all m c h j d).trans (ref_values _ _ h _ j d z hz).symm

theorem num_of_lt {x : EReal} (h : Ideal.cmp .olt (max x (-x)) ⊤ = 1#1) : Num x :=
  ⟨x.toReal, (EReal.coe_toReal (Cert.Model.finite_of_lt h).1 (Cert.Model.finite_of_lt h).2).symm⟩

theorem scored_query (x0 : FVec Ideal Cert.Pre_scored.S2048x6144 .bf16) (x1 : FVec Ideal Cert.Pre_scored.S256x2048 .bf16)
    (x2 : FVec Ideal Cert.Pre_scored.S2048x1024 .bf16) (hp : (Cert.Pre_scored.fn (F := Ideal) x0 x1 x2).1 = fun _ => 1#1)
    (t : Fin 2048) (y : Fin 1024) : Num (x0 (ix2 t (⟨5120 + y.val, by omega⟩ : Fin 6144))) := by
  have e := congrFun hp (ix2 t y)
  refine num_of_lt (Eq.trans ?_ e)
  rw [← Cert.Model.ofBits_inf]
  pointwise [Cert.Pre_scored.fn]
  rfl

theorem scored_key (x0 : FVec Ideal Cert.Pre_scored.S2048x6144 .bf16) (x1 : FVec Ideal Cert.Pre_scored.S256x2048 .bf16)
    (x2 : FVec Ideal Cert.Pre_scored.S2048x1024 .bf16) (hp : (Cert.Pre_scored.fn (F := Ideal) x0 x1 x2).2 = fun _ => 1#1)
    (j : Fin 256) (y : Fin 1024) : Num (x1 (ix2 j (⟨y.val, by omega⟩ : Fin 2048))) := by
  have e := congrFun hp (ix2 j y)
  refine num_of_lt (Eq.trans ?_ e)
  rw [← Cert.Model.ofBits_inf]
  pointwise [Cert.Pre_scored.fn]
  rfl

theorem scored_of_pre (hp : Cert.Pre_XaGIdeal_scored m) : Scored m c := by
  constructor
  · intro t z hz
    have e := scored_query _ _ _ (hp c).1 t ⟨z.val - 5120, by omega⟩
    rw [show z = (⟨5120 + (z.val - 5120), by omega⟩ : Fin 6144) from Fin.ext (by show z.val = 5120 + (z.val - 5120); omega)]
    exact e
  · intro j z hz
    exact scored_key _ _ _ (hp c).2 j ⟨z.val, by omega⟩

/-- The reference runs and leaves its arguments as they are. -/
theorem frame_r : Cert.quiescent_RefXaGIdeal := fun m ρ _ =>
  (θ_run Cert.RefXaGIdeal.defs _ _).mono (fun r h => ⟨fun c => (h c).2.2.2, sem_eq_zero_of_no_sems (by decide) r.2⟩)
    (Cert.RefXaGIdeal.Value.run (F := Ideal) m ρ)

/-- From equal arguments with finite queries and keys the call and the reference end with the same gradients. -/
theorem algebraic : Cert.algebraic_XaGIdeal_RefXaGIdeal_pre_scored := by
  intro m ρ m' ρ' hpre hag
  refine ⟨fun c => (dats m 0 c).arrAt 4 cfg0.N, fun c => (dats m 0 c).arrAt 5 cfg0.N, fun c => (dats m 0 c).arrAt 6 cfg0.N, run_blocks m ρ, ?_⟩
  refine (θ_run Cert.RefXaGIdeal.defs _ _).mono (fun r h c => ?_) (Cert.RefXaGIdeal.Value.run (F := Ideal) m' ρ')
  obtain ⟨h78, h79, h80, k⟩ := h c
  have P := scored_of_pre m c hpre
  refine ⟨h78.trans ?_, h79.trans ?_, h80.trans ?_, k⟩
  · refine (Cert.RefXaGIdeal.Read.val_main_v78_eq (F := Ideal) _ _).trans (Eq.trans ?_ (arr_rows m c P).symm)
    exact congr (congrArg₂ (Cert.RefXaGIdeal.Read.val_main_v78 (F := Ideal)) (hag c).1 (hag c).2.1) (hag c).2.2
  · refine (Cert.RefXaGIdeal.Read.val_main_v79_eq (F := Ideal) _ _).trans (Eq.trans ?_ (arr_keys m c P).symm)
    exact congr (congrArg₂ (Cert.RefXaGIdeal.Read.val_main_v79 (F := Ideal)) (hag c).1 (hag c).2.1) (hag c).2.2
  · refine (Cert.RefXaGIdeal.Read.val_main_v80_eq (F := Ideal) _ _ _).trans (Eq.trans ?_ (arr_values m c).symm)
    exact congr (congrArg₂ (Cert.RefXaGIdeal.Read.val_main_v80 (F := Ideal)) (hag c).1 (hag c).2.1) (hag c).2.2

end Cert.XaGIdeal.Product

end
-- ==== Proof.XaY.lean ====
/- The attention over the memory: what the call leaves is the reference's softmax of the scores times the values. -/
module

public import proofs.«01_k».proof.Defs
public import proofs.«01_k».proof.Proof.Gen.XaYIdeal.Value
public import proofs.«01_k».proof.Proof.Gen.RefXaYIdeal.Read
public import proofs.«01_k».proof.Proof.Gen.RefXaYIdeal.Run
public import proofs.«01_k».proof.Proof.Blocks
public import proofs.«01_k».proof.Proof.Softmax

@[expose] public section

set_option maxRecDepth 16384

noncomputable section

namespace Cert.XaYIdeal.Product

open Idealize.ShloMosaic Idealize.ShloMosaic.TcCoe Idealize.SL.Sem
open Cert.XaYIdeal Cert.XaYIdeal.Gen Cert.XaYIdeal.Value Cert.Blocks Cert.Softmax
open Cert.RefXaYIdeal.Read
open Finset

theorem tile (x0 : Vec Ideal S512x256 .bf16) (x1 x2 : Vec Ideal S256x256 .bf16) (y : Fin 512) (d : Fin 256) :
    (out0_3 (F := Ideal) x0 x1 x2 (ix2 y d) : EReal)
      = ∑ j : Fin 256, prob (score (fun e => x0 (ix2 y e)) (fun j e => x1 (ix2 j e))) j * (x2 (ix2 j d) : EReal) := by
  rw [out0_3, View.canon_cons_unit_lit _ _ _ (by decide), View.ld_unit_lit _ _ (by decide), View.ld_unit_lit _ _ (by decide), View.ld_unit_lit _ _ (by decide)]
  pointwise [k0_pay1]
  simp only [prob, expo, mass, top, score_fun, dotv, scale]

section
variable (x0 : Vec Ideal S2048x6144 .bf16) (x1 : Vec Ideal S256x2048 .bf16) (h : Fin 4) (t : Fin 2048)

theorem ref_query (d : Fin 256) (z : Fin 6144) (hz : z.val = 5120 + h.val * 256 + d.val) :
    (val_main_v6 (F := Ideal) x0 (ix3 t h d) : EReal) = x0 (ix2 t z) := by
  obtain ⟨z, hz'⟩ := z
  obtain rfl : z = 5120 + h.val * 256 + d.val := hz
  have := h.isLt
  pointwise [val_main_v6, val_main_v3, val_main_v2]
  exact congrArg x0 (congrArg (ix2 t) (Fin.ext (by show 5120 + (h.val * 256 + d.val) = 5120 + h.val * 256 + d.val; omega)))

theorem ref_key (j d : Fin 256) (z : Fin 2048) (hz : z.val = h.val * 256 + d.val) :
    (val_main_v7 (F := Ideal) x1 (ix3 j h d) : EReal) = x1 (ix2 j z) := by
  pointwise [val_main_v7, val_main_v4, val_main_v0]
  exact congrArg x1 (congrArg (ix2 j) (Fin.ext hz.symm))

theorem ref_value (j d : Fin 256) (z : Fin 2048) (hz : z.val = 1024 + h.val * 256 + d.val) :
    (val_main_v26 (F := Ideal) x1 (ix3 j h d) : EReal) = x1 (ix2 j z) := by
  pointwise [val_main_v26, val_main_v5, val_main_v1]
  exact congrArg x1 (congrArg (ix2 j) (Fin.ext (by show 1024 + (h.val * 256 + d.val) = z.val; omega)))

theorem ref_score (q : Fin 256 → EReal) (k : Fin 256 → Fin 256 → EReal) (hq : ∀ d, (val_main_v6 (F := Ideal) x0 (ix3 t h d) : EReal) = q d)
    (hk : ∀ j d, (val_main_v7 (F := Ideal) x1 (ix3 j h d) : EReal) = k j d) (j : Fin 256) :
    (val_main_v12 (F := Ideal) x0 x1 (ix3 h t j) : EReal) = score q k j := by
  have e : (val_main_v12 (F := Ideal) x0 x1 (ix3 h t j) : EReal)
      = (∑ d : Fin 256, (val_main_v6 (F := Ideal) x0 (ix3 t h d) : EReal) * (val_main_v7 (F := Ideal) x1 (ix3 j h d) : EReal)) * scale := by
    pointwise [val_main_v12, val_main_v10, val_main_v9, val_main_v8, val_main_v11, val_main_cst]
    simp only [scale]
  rw [e, score, dotv]
  congr 1
  exact sum_congr rfl fun d _ => by rw [hq, hk]

theorem ref_fold : (val_main_v13 (F := Ideal) x0 x1 (ix2 h t) : EReal) = top (fun x => val_main_v12 (F := Ideal) x0 x1 (ix3 h t x)) := by
  pointwise [val_main_v13, val_main_cst_0]
  simp only [top]

theorem ref_bottom : (val_main_v14 (F := Ideal) (ix2 h t) : EReal) = Ideal.ofBits .f32 0xFF800000#32 := by
  pointwise [val_main_v14, val_main_cst_1]

theorem ref_max : (val_main_v15 (F := Ideal) x0 x1 (ix2 h t) : EReal)
    = max (val_main_v14 (F := Ideal) (ix2 h t) : EReal) (val_main_v13 (F := Ideal) x0 x1 (ix2 h t) : EReal) :=
  val_main_v15_apply x0 x1 (ix2 h t)

theorem ref_top : (val_main_v15 (F := Ideal) x0 x1 (ix2 h t) : EReal) = top (fun x => val_main_v12 (F := Ideal) x0 x1 (ix3 h t x)) := by
  rw [ref_max, ref_bottom, ref_fold, max_top]

theorem ref_expo (j : Fin 256) : (val_main_v19 (F := Ideal) x0 x1 (ix3 h t j) : EReal)
    = Ideal.exp ((val_main_v12 (F := Ideal) x0 x1 (ix3 h t j) : EReal) - (val_main_v15 (F := Ideal) x0 x1 (ix2 h t) : EReal)) := by
  pointwise [val_main_v19, val_main_v18, val_main_v17, val_main_v16]

theorem ref_mass : (val_main_v20 (F := Ideal) x0 x1 (ix2 h t) : EReal) = ∑ j : Fin 256, (val_main_v19 (F := Ideal) x0 x1 (ix3 h t j) : EReal) := by
  pointwise [val_main_v20, val_main_cst_2]

theorem ref_div (j : Fin 256) : (val_main_v25 (F := Ideal) x0 x1 (ix3 h t j) : EReal)
    = Ideal.div (val_main_v19 (F := Ideal) x0 x1 (ix3 h t j) : EReal) (val_main_v20 (F := Ideal) x0 x1 (ix2 h t) : EReal) := by
  pointwise [val_main_v25, val_main_v24, val_main_v23, val_main_v22, val_main_v21]

theorem ref_prob (z : Fin 256 → EReal) (hz : ∀ j, (val_main_v12 (F := Ideal) x0 x1 (ix3 h t j) : EReal) = z j) (j : Fin 256) :
    (val_main_v25 (F := Ideal) x0 x1 (ix3 h t j) : EReal) = prob z j := by
  have e : ∀ j, (val_main_v19 (F := Ideal) x0 x1 (ix3 h t j) : EReal) = expo z j := fun j =>
    (ref_expo x0 x1 h t j).trans (congrArg Ideal.exp (congrArg₂ (fun a b : EReal => a - b) (hz j) ((ref_top x0 x1 h t).trans (congrArg top (funext hz)))))
  exact (ref_div x0 x1 h t j).trans (congrArg₂ Ideal.div (e j) ((ref_mass x0 x1 h t).trans (sum_congr rfl fun j _ => e j)))

theorem ref_apply (d : Fin 256) (z : Fin 1024) (hz : z.val = h.val * 256 + d.val) :
    (val_main_v30 (F := Ideal) x0 x1 (ix2 t z) : EReal)
      = ∑ j : Fin 256, (val_main_v26 (F := Ideal) x1 (ix3 j h d) : EReal) * (val_main_v25 (F := Ideal) x0 x1 (ix3 h t j) : EReal) := by
  obtain ⟨z, hz'⟩ := z
  obtain rfl : z = h.val * 256 + d.val := hz
  pointwise [val_main_v30, val_main_v29, val_main_v28, val_main_v27]
end

/-- The point that computes the head `h`'s block of rows `a`. -/
def point (h a : Fin 4) : Fin cfg0.N := ⟨h.val * 4 + a.val, by have := h.isLt; have := a.isLt; show _ < 16; omega⟩

theorem at0 : ∀ h a : Fin 4, win0_0.index (point h a) (0 : Fin 2) = a.val ∧ win0_0.index (point h a) (1 : Fin 2) = 20 + h.val := by decide +kernel
theorem at1 : ∀ h a : Fin 4, win0_1.index (point h a) (0 : Fin 2) = 0 ∧ win0_1.index (point h a) (1 : Fin 2) = h.val := by decide +kernel
theorem at2 : ∀ h a : Fin 4, win0_2.index (point h a) (0 : Fin 2) = 0 ∧ win0_2.index (point h a) (1 : Fin 2) = 4 + h.val := by decide +kernel
theorem at3 : ∀ h a : Fin 4, win0_3.index (point h a) (0 : Fin 2) = a.val ∧ win0_3.index (point h a) (1 : Fin 2) = h.val := by decide +kernel
theorem every : ∀ t : Fin cfg0.N, (cfg0.win 3).flush t = true := by decide +kernel

variable (m : (ℓ : Loc nD τ sig) → Buf (Elt Ideal) ℓ) (c : Dev nD)

theorem read0 (h a : Fin 4) (y : Fin 512) (d : Fin 256) (t : Fin 2048) (z : Fin 6144) (ht : t.val = a.val * 512 + y.val)
    (hz : z.val = 5120 + h.val * 256 + d.val) :
    iblk m c 0 (point h a) (ix2 y d) = m ((c : Thread nD τ).loc main_arg0) (ix2 t z) :=
  congrArg (m ((c : Thread nD τ).loc main_arg0)) (idx2 (((cfg0.win 0).blk (point h a)).view.emb (ix2 y d)) t z
    (by show win0_0.index (point h a) (0 : Fin 2) * 512 + 1 * y.val = t.val; rw [(at0 h a).1]; omega)
    (by show win0_0.index (point h a) (1 : Fin 2) * 256 + 1 * d.val = z.val; rw [(at0 h a).2]; omega))

theorem read1 (h a : Fin 4) (j d : Fin 256) (z : Fin 2048) (hz : z.val = h.val * 256 + d.val) :
    iblk m c 1 (point h a) (ix2 j d) = m ((c : Thread nD τ).loc main_arg1) (ix2 j z) :=
  congrArg (m ((c : Thread nD τ).loc main_arg1)) (idx2 (((cfg0.win 1).blk (point h a)).view.emb (ix2 j d)) j z
    (by show win0_1.index (point h a) (0 : Fin 2) * 256 + 1 * j.val = j.val; rw [(at1 h a).1]; omega)
    (by show win0_1.index (point h a) (1 : Fin 2) * 256 + 1 * d.val = z.val; rw [(at1 h a).2]; omega))

theorem read2 (h a : Fin 4) (j d : Fin 256) (z : Fin 2048) (hz : z.val = 1024 + h.val * 256 + d.val) :
    iblk m c 2 (point h a) (ix2 j d) = m ((c : Thread nD τ).loc main_arg1) (ix2 j z) :=
  congrArg (m ((c : Thread nD τ).loc main_arg1)) (idx2 (((cfg0.win 2).blk (point h a)).view.emb (ix2 j d)) j z
    (by show win0_2.index (point h a) (0 : Fin 2) * 256 + 1 * j.val = j.val; rw [(at2 h a).1]; omega)
    (by show win0_2.index (point h a) (1 : Fin 2) * 256 + 1 * d.val = z.val; rw [(at2 h a).2]; omega))

theorem arr_eq : (dats m 0 c).arrAt 3 cfg0.N
    = val_main_v30 (F := Ideal) (m ((c : Thread nD τ).loc main_arg0)) (m ((c : Thread nD τ).loc main_arg1)) := by
  refine ext2 _ _ fun t z => ?_
  obtain ⟨a, y, ht⟩ := exists_block 4 512 t
  obtain ⟨h, d, hz⟩ := exists_block 4 256 z
  have hh := h.isLt
  have e : ((cfg0.win 3).blk (point h a)).view.emb (ix2 y d) = (ix2 t z : S2048x1024.Idx) := idx2 _ t z
    (by show win0_3.index (point h a) (0 : Fin 2) * 512 + 1 * y.val = t.val; rw [(at3 h a).1]; omega)
    (by show win0_3.index (point h a) (1 : Fin 2) * 256 + 1 * d.val = z.val; rw [(at3 h a).2]; omega)
  refine ((congrArg ((dats m 0 c).arrAt 3 cfg0.N) e).symm.trans
    (congrFun ((blocks3 m c (point h a) (every _)).trans (flushed3 m c (point h a))) (ix2 y d))).trans ?_
  refine (tile (iblk m c 0 (point h a)) (iblk m c 1 (point h a)) (iblk m c 2 (point h a)) y d).trans (Eq.trans ?_ (ref_apply _ _ h t d z hz).symm)
  have hs := ref_score (m ((c : Thread nD τ).loc main_arg0)) (m ((c : Thread nD τ).loc main_arg1)) h t
    (fun d => iblk m c 0 (point h a) (ix2 y d)) (fun j d => iblk m c 1 (point h a) (ix2 j d))
    (fun d => (ref_query _ h t d ⟨5120 + h.val * 256 + d.val, by omega⟩ rfl).trans (read0 m c h a y d t _ ht rfl).symm)
    (fun j d => (ref_key _ h j d ⟨h.val * 256 + d.val, by omega⟩ rfl).trans (read1 m c h a j d _ rfl).symm)
  refine sum_congr rfl fun j _ => ?_
  rw [mul_comm, ref_prob _ _ h t _ hs j, ref_value _ h j d ⟨1024 + h.val * 256 + d.val, by omega⟩ rfl,
    read2 m c h a j d ⟨1024 + h.val * 256 + d.val, by omega⟩ rfl]

/-- The reference runs and leaves its arguments as they are. -/
theorem frame_r : Cert.quiescent_RefXaYIdeal := fun m ρ _ =>
  (θ_run Cert.RefXaYIdeal.defs _ _).mono (fun r h => ⟨fun c => (h c).2, sem_eq_zero_of_no_sems (by decide) r.2⟩)
    (Cert.RefXaYIdeal.Value.run (F := Ideal) m ρ)

/-- From equal arguments the call and the reference end with the same result. -/
theorem algebraic : Cert.algebraic_XaYIdeal_RefXaYIdeal := by
  intro m ρ m' ρ' _ hag
  refine ⟨fun c => (dats m 0 c).arrAt 3 cfg0.N, run_blocks m ρ, ?_⟩
  refine (θ_run Cert.RefXaYIdeal.defs _ _).mono (fun r h c => ⟨(h c).1.trans ?_, (h c).2⟩) (Cert.RefXaYIdeal.Value.run (F := Ideal) m' ρ')
  refine (Cert.RefXaYIdeal.Read.val_main_v30_eq (F := Ideal) _ _).trans (Eq.trans ?_ (arr_eq m c).symm)
  exact congrArg₂ (Cert.RefXaYIdeal.Read.val_main_v30 (F := Ideal)) (hag c).1 (hag c).2

end Cert.XaYIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DownX
public import proofs.«01_k».proof.Proof.Gen.DownX.Skeleton
public import proofs.«01_k».proof.Proof.Gen.DownX.Launch
public import proofs.«01_k».proof.Proof.Gen.DownX.Points
public import proofs.«01_k».proof.Proof.Gen.DownX.Frame
public import proofs.«01_k».proof.Proof.Gen.DownXIdeal
public import proofs.«01_k».proof.Proof.Gen.DownXIdeal.Skeleton
public import proofs.«01_k».proof.Proof.Gen.DownXIdeal.Launch
public import proofs.«01_k».proof.Proof.Gen.DownXIdeal.Points
public import proofs.«01_k».proof.Proof.Gen.DownXIdeal.Frame
public import proofs.«01_k».proof.Proof.Gen.DownXIdeal.Value
public import proofs.«01_k».proof.Proof.Gen.RefDownXIdeal
public import proofs.«01_k».proof.Proof.Gen.RefDownXIdeal.Run
public import proofs.«01_k».proof.Proof.Gen.RefDownXIdeal.Read
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWIdeal.Value
public import proofs.«01_k».proof.Proof.Gen.RefDownWIdeal
public import proofs.«01_k».proof.Proof.Gen.RefDownWIdeal.Run
public import proofs.«01_k».proof.Proof.Gen.RefDownWIdeal.Read
public import proofs.«01_k».proof.Proof.Gen.OutX
public import proofs.«01_k».proof.Proof.Gen.OutX.Skeleton
public import proofs.«01_k».proof.Proof.Gen.OutX.Launch
public import proofs.«01_k».proof.Proof.Gen.OutX.Points
public import proofs.«01_k».proof.Proof.Gen.OutX.Frame
public import proofs.«01_k».proof.Proof.Gen.OutXIdeal
public import proofs.«01_k».proof.Proof.Gen.OutXIdeal.Skeleton
public import proofs.«01_k».proof.Proof.Gen.OutXIdeal.Launch
public import proofs.«01_k».proof.Proof.Gen.OutXIdeal.Points
public import proofs.«01_k».proof.Proof.Gen.OutXIdeal.Frame
public import proofs.«01_k».proof.Proof.Gen.OutXIdeal.Value
public import proofs.«01_k».proof.Proof.Gen.RefOutXIdeal
public import proofs.«01_k».proof.Proof.Gen.RefOutXIdeal.Run
public import proofs.«01_k».proof.Proof.Gen.RefOutXIdeal.Read
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWIdeal.Value
public import proofs.«01_k».proof.Proof.Gen.RefOutWIdeal
public import proofs.«01_k».proof.Proof.Gen.RefOutWIdeal.Run
public import proofs.«01_k».proof.Proof.Gen.RefOutWIdeal.Read
public import proofs.«01_k».proof.Proof.Gen.UpX
public import proofs.«01_k».proof.Proof.Gen.UpX.Skeleton
public import proofs.«01_k».proof.Proof.Gen.UpX.Launch
public import proofs.«01_k».proof.Proof.Gen.UpX.Points
public import proofs.«01_k».proof.Proof.Gen.UpX.Frame
public import proofs.«01_k».proof.Proof.Gen.UpXIdeal
public import proofs.«01_k».proof.Proof.Gen.UpXIdeal.Skeleton
public import proofs.«01_k».proof.Proof.Gen.UpXIdeal.Launch
public import proofs.«01_k».proof.Proof.Gen.UpXIdeal.Points
public import proofs.«01_k».proof.Proof.Gen.UpXIdeal.Frame
public import proofs.«01_k».proof.Proof.Gen.UpXIdeal.Value
public import proofs.«01_k».proof.Proof.Gen.RefUpXIdeal
public import proofs.«01_k».proof.Proof.Gen.RefUpXIdeal.Run
public import proofs.«01_k».proof.Proof.Gen.RefUpXIdeal.Read
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWIdeal.Value
public import proofs.«01_k».proof.Proof.Gen.RefUpWIdeal
public import proofs.«01_k».proof.Proof.Gen.RefUpWIdeal.Run
public import proofs.«01_k».proof.Proof.Gen.RefUpWIdeal.Read
public import proofs.«01_k».proof.Proof.Gen.InX
public import proofs.«01_k».proof.Proof.Gen.InX.Skeleton
public import proofs.«01_k».proof.Proof.Gen.InX.Launch
public import proofs.«01_k».proof.Proof.Gen.InX.Points
public import proofs.«01_k».proof.Proof.Gen.InX.Frame
public import proofs.«01_k».proof.Proof.Gen.InXIdeal
public import proofs.«01_k».proof.Proof.Gen.InXIdeal.Skeleton
public import proofs.«01_k».proof.Proof.Gen.InXIdeal.Launch
public import proofs.«01_k».proof.Proof.Gen.InXIdeal.Points
public import proofs.«01_k».proof.Proof.Gen.InXIdeal.Frame
public import proofs.«01_k».proof.Proof.Gen.InXIdeal.Value
public import proofs.«01_k».proof.Proof.Gen.RefInXIdeal
public import proofs.«01_k».proof.Proof.Gen.RefInXIdeal.Run
public import proofs.«01_k».proof.Proof.Gen.RefInXIdeal.Read
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWIdeal.Value
public import proofs.«01_k».proof.Proof.Gen.RefInWIdeal
public import proofs.«01_k».proof.Proof.Gen.RefInWIdeal.Run
public import proofs.«01_k».proof.Proof.Gen.RefInWIdeal.Read
public import proofs.«01_k».proof.Proof.Gen.BrX
public import proofs.«01_k».proof.Proof.Gen.BrX.Skeleton
public import proofs.«01_k».proof.Proof.Gen.BrX.Launch
public import proofs.«01_k».proof.Proof.Gen.BrX.Points
public import proofs.«01_k».proof.Proof.Gen.BrX.Frame
public import proofs.«01_k».proof.Proof.Gen.BrXIdeal
public import proofs.«01_k».proof.Proof.Gen.BrXIdeal.Skeleton
public import proofs.«01_k».proof.Proof.Gen.BrXIdeal.Launch
public import proofs.«01_k».proof.Proof.Gen.BrXIdeal.Points
public import proofs.«01_k».proof.Proof.Gen.BrXIdeal.Frame
public import proofs.«01_k».proof.Proof.Gen.BrXIdeal.Value
public import proofs.«01_k».proof.Proof.Gen.RefBrXIdeal
public import proofs.«01_k».proof.Proof.Gen.RefBrXIdeal.Run
public import proofs.«01_k».proof.Proof.Gen.RefBrXIdeal.Read
public import proofs.«01_k».proof.Proof.Gen.BrW
public import proofs.«01_k».proof.Proof.Gen.BrW.Skeleton
public import proofs.«01_k».proof.Proof.Gen.BrW.Launch
public import proofs.«01_k».proof.Proof.Gen.BrW.Points
public import proofs.«01_k».proof.Proof.Gen.BrW.Frame
public import proofs.«01_k».proof.Proof.Gen.BrWIdeal
public import proofs.«01_k».proof.Proof.Gen.BrWIdeal.Skeleton
public import proofs.«01_k».proof.Proof.Gen.BrWIdeal.Launch
public import proofs.«01_k».proof.Proof.Gen.BrWIdeal.Points
public import proofs.«01_k».proof.Proof.Gen.BrWIdeal.Frame
public import proofs.«01_k».proof.Proof.Gen.BrWIdeal.Value
public import proofs.«01_k».proof.Proof.Gen.RefBrWIdeal
public import proofs.«01_k».proof.Proof.Gen.RefBrWIdeal.Run
public import proofs.«01_k».proof.Proof.Gen.RefBrWIdeal.Read
public import proofs.«01_k».proof.Proof.Gen.GmX
public import proofs.«01_k».proof.Proof.Gen.GmX.Skeleton
public import proofs.«01_k».proof.Proof.Gen.GmX.Launch
public import proofs.«01_k».proof.Proof.Gen.GmX.Points
public import proofs.«01_k».proof.Proof.Gen.GmX.Frame
public import proofs.«01_k».proof.Proof.Gen.GmXIdeal
public import proofs.«01_k».proof.Proof.Gen.GmXIdeal.Skeleton
public import proofs.«01_k».proof.Proof.Gen.GmXIdeal.Launch
public import proofs.«01_k».proof.Proof.Gen.GmXIdeal.Points
public import proofs.«01_k».proof.Proof.Gen.GmXIdeal.Frame
public import proofs.«01_k».proof.Proof.Gen.GmXIdeal.Value
public import proofs.«01_k».proof.Proof.Gen.RefGmXIdeal
public import proofs.«01_k».proof.Proof.Gen.RefGmXIdeal.Run
public import proofs.«01_k».proof.Proof.Gen.RefGmXIdeal.Read
public import proofs.«01_k».proof.Proof.Gen.MemX
public import proofs.«01_k».proof.Proof.Gen.MemX.Skeleton
public import proofs.«01_k».proof.Proof.Gen.MemX.Launch
public import proofs.«01_k».proof.Proof.Gen.MemX.Points
public import proofs.«01_k».proof.Proof.Gen.MemX.Frame
public import proofs.«01_k».proof.Proof.Gen.MemXIdeal
public import proofs.«01_k».proof.Proof.Gen.MemXIdeal.Skeleton
public import proofs.«01_k».proof.Proof.Gen.MemXIdeal.Launch
public import proofs.«01_k».proof.Proof.Gen.MemXIdeal.Points
public import proofs.«01_k».proof.Proof.Gen.MemXIdeal.Frame
public import proofs.«01_k».proof.Proof.Gen.MemXIdeal.Value
public import proofs.«01_k».proof.Proof.Gen.RefMemXIdeal
public import proofs.«01_k».proof.Proof.Gen.RefMemXIdeal.Run
public import proofs.«01_k».proof.Proof.Gen.RefMemXIdeal.Read
public import proofs.«01_k».proof.Proof.Gen.MemW
public import proofs.«01_k».proof.Proof.Gen.MemW.Skeleton
public import proofs.«01_k».proof.Proof.Gen.MemW.Launch
public import proofs.«01_k».proof.Proof.Gen.MemW.Points
public import proofs.«01_k».proof.Proof.Gen.MemW.Frame
public import proofs.«01_k».proof.Proof.Gen.MemWIdeal
public import proofs.«01_k».proof.Proof.Gen.MemWIdeal.Skeleton
public import proofs.«01_k».proof.Proof.Gen.MemWIdeal.Launch
public import proofs.«01_k».proof.Proof.Gen.MemWIdeal.Points
public import proofs.«01_k».proof.Proof.Gen.MemWIdeal.Frame
public import proofs.«01_k».proof.Proof.Gen.MemWIdeal.Value
public import proofs.«01_k».proof.Proof.Gen.RefMemWIdeal
public import proofs.«01_k».proof.Proof.Gen.RefMemWIdeal.Run
public import proofs.«01_k».proof.Proof.Gen.RefMemWIdeal.Read
public import proofs.«01_k».proof.Proof.Gen.InY
public import proofs.«01_k».proof.Proof.Gen.InY.Skeleton
public import proofs.«01_k».proof.Proof.Gen.InY.Launch
public import proofs.«01_k».proof.Proof.Gen.InY.Points
public import proofs.«01_k».proof.Proof.Gen.InY.Frame
public import proofs.«01_k».proof.Proof.Gen.InYIdeal
public import proofs.«01_k».proof.Proof.Gen.InYIdeal.Skeleton
public import proofs.«01_k».proof.Proof.Gen.InYIdeal.Launch
public import proofs.«01_k».proof.Proof.Gen.InYIdeal.Points
public import proofs.«01_k».proof.Proof.Gen.InYIdeal.Frame
public import proofs.«01_k».proof.Proof.Gen.InYIdeal.Value
public import proofs.«01_k».proof.Proof.Gen.RefInYIdeal
public import proofs.«01_k».proof.Proof.Gen.RefInYIdeal.Run
public import proofs.«01_k».proof.Proof.Gen.RefInYIdeal.Read
public import proofs.«01_k».proof.Proof.Gen.GateY
public import proofs.«01_k».proof.Proof.Gen.GateY.Skeleton
public import proofs.«01_k».proof.Proof.Gen.GateY.Launch
public import proofs.«01_k».proof.Proof.Gen.GateY.Points
public import proofs.«01_k».proof.Proof.Gen.GateY.Frame
public import proofs.«01_k».proof.Proof.Gen.GateYIdeal
public import proofs.«01_k».proof.Proof.Gen.GateYIdeal.Skeleton
public import proofs.«01_k».proof.Proof.Gen.GateYIdeal.Launch
public import proofs.«01_k».proof.Proof.Gen.GateYIdeal.Points
public import proofs.«01_k».proof.Proof.Gen.GateYIdeal.Frame
public import proofs.«01_k».proof.Proof.Gen.GateYIdeal.Value
public import proofs.«01_k».proof.Proof.Gen.RefGateYIdeal
public import proofs.«01_k».proof.Proof.Gen.RefGateYIdeal.Run
public import proofs.«01_k».proof.Proof.Gen.RefGateYIdeal.Read
public import proofs.«01_k».proof.Proof.Gen.BrY
public import proofs.«01_k».proof.Proof.Gen.BrY.Skeleton
public import proofs.«01_k».proof.Proof.Gen.BrY.Launch
public import proofs.«01_k».proof.Proof.Gen.BrY.Points
public import proofs.«01_k».proof.Proof.Gen.BrY.Frame
public import proofs.«01_k».proof.Proof.Gen.BrYIdeal
public import proofs.«01_k».proof.Proof.Gen.BrYIdeal.Skeleton
public import proofs.«01_k».proof.Proof.Gen.BrYIdeal.Launch
public import proofs.«01_k».proof.Proof.Gen.BrYIdeal.Points
public import proofs.«01_k».proof.Proof.Gen.BrYIdeal.Frame
public import proofs.«01_k».proof.Proof.Gen.BrYIdeal.Value
public import proofs.«01_k».proof.Proof.Gen.RefBrYIdeal
public import proofs.«01_k».proof.Proof.Gen.RefBrYIdeal.Run
public import proofs.«01_k».proof.Proof.Gen.RefBrYIdeal.Read
public import proofs.«01_k».proof.Proof.Gen.UpY
public import proofs.«01_k».proof.Proof.Gen.UpY.Skeleton
public import proofs.«01_k».proof.Proof.Gen.UpY.Launch
public import proofs.«01_k».proof.Proof.Gen.UpY.Points
public import proofs.«01_k».proof.Proof.Gen.UpY.Frame
public import proofs.«01_k».proof.Proof.Gen.UpYIdeal
public import proofs.«01_k».proof.Proof.Gen.UpYIdeal.Skeleton
public import proofs.«01_k».proof.Proof.Gen.UpYIdeal.Launch
public import proofs.«01_k».proof.Proof.Gen.UpYIdeal.Points
public import proofs.«01_k».proof.Proof.Gen.UpYIdeal.Frame
public import proofs.«01_k».proof.Proof.Gen.UpYIdeal.Value
public import proofs.«01_k».proof.Proof.Gen.RefUpYIdeal
public import proofs.«01_k».proof.Proof.Gen.RefUpYIdeal.Run
public import proofs.«01_k».proof.Proof.Gen.RefUpYIdeal.Read
public import proofs.«01_k».proof.Proof.Gen.OutY
public import proofs.«01_k».proof.Proof.Gen.OutY.Skeleton
public import proofs.«01_k».proof.Proof.Gen.OutY.Launch
public import proofs.«01_k».proof.Proof.Gen.OutY.Points
public import proofs.«01_k».proof.Proof.Gen.OutY.Frame
public import proofs.«01_k».proof.Proof.Gen.OutYIdeal
public import proofs.«01_k».proof.Proof.Gen.OutYIdeal.Skeleton
public import proofs.«01_k».proof.Proof.Gen.OutYIdeal.Launch
public import proofs.«01_k».proof.Proof.Gen.OutYIdeal.Points
public import proofs.«01_k».proof.Proof.Gen.OutYIdeal.Frame
public import proofs.«01_k».proof.Proof.Gen.OutYIdeal.Value
public import proofs.«01_k».proof.Proof.Gen.RefOutYIdeal
public import proofs.«01_k».proof.Proof.Gen.RefOutYIdeal.Run
public import proofs.«01_k».proof.Proof.Gen.RefOutYIdeal.Read
public import proofs.«01_k».proof.Proof.Gen.DownY
public import proofs.«01_k».proof.Proof.Gen.DownY.Skeleton
public import proofs.«01_k».proof.Proof.Gen.DownY.Launch
public import proofs.«01_k».proof.Proof.Gen.DownY.Points
public import proofs.«01_k».proof.Proof.Gen.DownY.Frame
public import proofs.«01_k».proof.Proof.Gen.DownYIdeal
public import proofs.«01_k».proof.Proof.Gen.DownYIdeal.Skeleton
public import proofs.«01_k».proof.Proof.Gen.DownYIdeal.Launch
public import proofs.«01_k».proof.Proof.Gen.DownYIdeal.Points
public import proofs.«01_k».proof.Proof.Gen.DownYIdeal.Frame
public import proofs.«01_k».proof.Proof.Gen.DownYIdeal.Value
public import proofs.«01_k».proof.Proof.Gen.RefDownYIdeal
public import proofs.«01_k».proof.Proof.Gen.RefDownYIdeal.Run
public import proofs.«01_k».proof.Proof.Gen.RefDownYIdeal.Read
public import proofs.«01_k».proof.Proof.Gen.MemY
public import proofs.«01_k».proof.Proof.Gen.MemY.Skeleton
public import proofs.«01_k».proof.Proof.Gen.MemY.Launch
public import proofs.«01_k».proof.Proof.Gen.MemY.Points
public import proofs.«01_k».proof.Proof.Gen.MemY.Frame
public import proofs.«01_k».proof.Proof.Gen.MemYIdeal
public import proofs.«01_k».proof.Proof.Gen.MemYIdeal.Skeleton
public import proofs.«01_k».proof.Proof.Gen.MemYIdeal.Launch
public import proofs.«01_k».proof.Proof.Gen.MemYIdeal.Points
public import proofs.«01_k».proof.Proof.Gen.MemYIdeal.Frame
public import proofs.«01_k».proof.Proof.Gen.MemYIdeal.Value
public import proofs.«01_k».proof.Proof.Gen.RefMemYIdeal
public import proofs.«01_k».proof.Proof.Gen.RefMemYIdeal.Run
public import proofs.«01_k».proof.Proof.Gen.RefMemYIdeal.Read
public import proofs.«01_k».proof.Proof.Gen.XaG
public import proofs.«01_k».proof.Proof.Gen.XaG.Skeleton
public import proofs.«01_k».proof.Proof.Gen.XaG.Launch
public import proofs.«01_k».proof.Proof.Gen.XaG.Points
public import proofs.«01_k».proof.Proof.Gen.XaG.Frame
public import proofs.«01_k».proof.Proof.Gen.XaGIdeal
public import proofs.«01_k».proof.Proof.Gen.XaGIdeal.Skeleton
public import proofs.«01_k».proof.Proof.Gen.XaGIdeal.Launch
public import proofs.«01_k».proof.Proof.Gen.XaGIdeal.Points
public import proofs.«01_k».proof.Proof.Gen.XaGIdeal.Frame
public import proofs.«01_k».proof.Proof.Gen.XaGIdeal.Value
public import proofs.«01_k».proof.Proof.Gen.RefXaGIdeal
public import proofs.«01_k».proof.Proof.Gen.RefXaGIdeal.Run
public import proofs.«01_k».proof.Proof.Gen.RefXaGIdeal.Read
public import proofs.«01_k».proof.Proof.Gen.XaY
public import proofs.«01_k».proof.Proof.Gen.XaY.Skeleton
public import proofs.«01_k».proof.Proof.Gen.XaY.Launch
public import proofs.«01_k».proof.Proof.Gen.XaY.Points
public import proofs.«01_k».proof.Proof.Gen.XaY.Frame
public import proofs.«01_k».proof.Proof.Gen.XaYIdeal
public import proofs.«01_k».proof.Proof.Gen.XaYIdeal.Skeleton
public import proofs.«01_k».proof.Proof.Gen.XaYIdeal.Launch
public import proofs.«01_k».proof.Proof.Gen.XaYIdeal.Points
public import proofs.«01_k».proof.Proof.Gen.XaYIdeal.Frame
public import proofs.«01_k».proof.Proof.Gen.XaYIdeal.Value
public import proofs.«01_k».proof.Proof.Gen.RefXaYIdeal
public import proofs.«01_k».proof.Proof.Gen.RefXaYIdeal.Run
public import proofs.«01_k».proof.Proof.Gen.RefXaYIdeal.Read
public import proofs.«01_k».proof.Proof.Meet
public import proofs.«01_k».proof.Proof.DownX
public import proofs.«01_k».proof.Proof.DownW
public import proofs.«01_k».proof.Proof.OutX
public import proofs.«01_k».proof.Proof.OutW
public import proofs.«01_k».proof.Proof.UpX
public import proofs.«01_k».proof.Proof.UpW
public import proofs.«01_k».proof.Proof.InX
public import proofs.«01_k».proof.Proof.InW
public import proofs.«01_k».proof.Proof.BrX
public import proofs.«01_k».proof.Proof.BrW
public import proofs.«01_k».proof.Proof.GmX
public import proofs.«01_k».proof.Proof.MemX
public import proofs.«01_k».proof.Proof.MemW
public import proofs.«01_k».proof.Proof.InY
public import proofs.«01_k».proof.Proof.GateY
public import proofs.«01_k».proof.Proof.BrY
public import proofs.«01_k».proof.Proof.UpY
public import proofs.«01_k».proof.Proof.OutY
public import proofs.«01_k».proof.Proof.DownY
public import proofs.«01_k».proof.Proof.MemY
public import proofs.«01_k».proof.Proof.XaG
public import proofs.«01_k».proof.Proof.XaY
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DownX.Gen.facts, Cert.DownXIdeal.Gen.facts, Cert.RefDownXIdeal.Gen.facts,
  Cert.DownW.Gen.facts, Cert.DownWIdeal.Gen.facts, Cert.RefDownWIdeal.Gen.facts,
  Cert.OutX.Gen.facts, Cert.OutXIdeal.Gen.facts, Cert.RefOutXIdeal.Gen.facts,
  Cert.OutW.Gen.facts, Cert.OutWIdeal.Gen.facts, Cert.RefOutWIdeal.Gen.facts,
  Cert.UpX.Gen.facts, Cert.UpXIdeal.Gen.facts, Cert.RefUpXIdeal.Gen.facts,
  Cert.UpW.Gen.facts, Cert.UpWIdeal.Gen.facts, Cert.RefUpWIdeal.Gen.facts,
  Cert.InX.Gen.facts, Cert.InXIdeal.Gen.facts, Cert.RefInXIdeal.Gen.facts,
  Cert.InW.Gen.facts, Cert.InWIdeal.Gen.facts, Cert.RefInWIdeal.Gen.facts,
  Cert.BrX.Gen.facts, Cert.BrXIdeal.Gen.facts, Cert.RefBrXIdeal.Gen.facts,
  Cert.BrW.Gen.facts, Cert.BrWIdeal.Gen.facts, Cert.RefBrWIdeal.Gen.facts,
  Cert.GmX.Gen.facts, Cert.GmXIdeal.Gen.facts, Cert.RefGmXIdeal.Gen.facts,
  Cert.MemX.Gen.facts, Cert.MemXIdeal.Gen.facts, Cert.RefMemXIdeal.Gen.facts,
  Cert.MemW.Gen.facts, Cert.MemWIdeal.Gen.facts, Cert.RefMemWIdeal.Gen.facts,
  Cert.InY.Gen.facts, Cert.InYIdeal.Gen.facts, Cert.RefInYIdeal.Gen.facts,
  Cert.GateY.Gen.facts, Cert.GateYIdeal.Gen.facts, Cert.RefGateYIdeal.Gen.facts,
  Cert.BrY.Gen.facts, Cert.BrYIdeal.Gen.facts, Cert.RefBrYIdeal.Gen.facts,
  Cert.UpY.Gen.facts, Cert.UpYIdeal.Gen.facts, Cert.RefUpYIdeal.Gen.facts,
  Cert.OutY.Gen.facts, Cert.OutYIdeal.Gen.facts, Cert.RefOutYIdeal.Gen.facts,
  Cert.DownY.Gen.facts, Cert.DownYIdeal.Gen.facts, Cert.RefDownYIdeal.Gen.facts,
  Cert.MemY.Gen.facts, Cert.MemYIdeal.Gen.facts, Cert.RefMemYIdeal.Gen.facts,
  Cert.XaG.Gen.facts, Cert.XaGIdeal.Gen.facts, Cert.RefXaGIdeal.Gen.facts,
  Cert.XaY.Gen.facts, Cert.XaYIdeal.Gen.facts, Cert.RefXaYIdeal.Gen.facts,
  Cert.AttnProof.preFacts, Cert.XaGIdeal.Product.scoredFacts,
  fun m ρ _ => Cert.Kernel.Gen.frame m ρ,
  fun m ρ _ => Cert.KernelIdeal.Gen.frame m ρ,
  fun m ρ _ => Cert.KernelIdeal.Gen.frame m ρ,
  Cert.AttnProof.frame_r,
  fun m ρ _ => Cert.AttnProof.frame_r m ρ trivial,
  fun m ρ _ => Cert.DownX.Gen.frame m ρ, fun m ρ _ => Cert.DownXIdeal.Gen.frame m ρ, Cert.DownXIdeal.Product.frame_r,
  fun m ρ _ => Cert.DownW.Gen.frame m ρ, fun m ρ _ => Cert.DownWIdeal.Gen.frame m ρ, Cert.DownWIdeal.Product.frame_r,
  fun m ρ _ => Cert.OutX.Gen.frame m ρ, fun m ρ _ => Cert.OutXIdeal.Gen.frame m ρ, Cert.OutXIdeal.Product.frame_r,
  fun m ρ _ => Cert.OutW.Gen.frame m ρ, fun m ρ _ => Cert.OutWIdeal.Gen.frame m ρ, Cert.OutWIdeal.Product.frame_r,
  fun m ρ _ => Cert.UpX.Gen.frame m ρ, fun m ρ _ => Cert.UpXIdeal.Gen.frame m ρ, Cert.UpXIdeal.Product.frame_r,
  fun m ρ _ => Cert.UpW.Gen.frame m ρ, fun m ρ _ => Cert.UpWIdeal.Gen.frame m ρ, Cert.UpWIdeal.Product.frame_r,
  fun m ρ _ => Cert.InX.Gen.frame m ρ, fun m ρ _ => Cert.InXIdeal.Gen.frame m ρ, Cert.InXIdeal.Product.frame_r,
  fun m ρ _ => Cert.InW.Gen.frame m ρ, fun m ρ _ => Cert.InWIdeal.Gen.frame m ρ, Cert.InWIdeal.Product.frame_r,
  fun m ρ _ => Cert.BrX.Gen.frame m ρ, fun m ρ _ => Cert.BrXIdeal.Gen.frame m ρ, Cert.BrXIdeal.Product.frame_r,
  fun m ρ _ => Cert.BrW.Gen.frame m ρ, fun m ρ _ => Cert.BrWIdeal.Gen.frame m ρ, Cert.BrWIdeal.Product.frame_r,
  fun m ρ _ => Cert.GmX.Gen.frame m ρ, fun m ρ _ => Cert.GmXIdeal.Gen.frame m ρ, Cert.GmXIdeal.Product.frame_r,
  fun m ρ _ => Cert.MemX.Gen.frame m ρ, fun m ρ _ => Cert.MemXIdeal.Gen.frame m ρ, Cert.MemXIdeal.Product.frame_r,
  fun m ρ _ => Cert.MemW.Gen.frame m ρ, fun m ρ _ => Cert.MemWIdeal.Gen.frame m ρ, Cert.MemWIdeal.Product.frame_r,
  fun m ρ _ => Cert.InY.Gen.frame m ρ, fun m ρ _ => Cert.InYIdeal.Gen.frame m ρ, Cert.InYIdeal.Product.frame_r,
  fun m ρ _ => Cert.GateY.Gen.frame m ρ, fun m ρ _ => Cert.GateYIdeal.Gen.frame m ρ, Cert.GateYIdeal.Product.frame_r,
  fun m ρ _ => Cert.BrY.Gen.frame m ρ, fun m ρ _ => Cert.BrYIdeal.Gen.frame m ρ, Cert.BrYIdeal.Product.frame_r,
  fun m ρ _ => Cert.UpY.Gen.frame m ρ, fun m ρ _ => Cert.UpYIdeal.Gen.frame m ρ, Cert.UpYIdeal.Product.frame_r,
  fun m ρ _ => Cert.OutY.Gen.frame m ρ, fun m ρ _ => Cert.OutYIdeal.Gen.frame m ρ, Cert.OutYIdeal.Product.frame_r,
  fun m ρ _ => Cert.DownY.Gen.frame m ρ, fun m ρ _ => Cert.DownYIdeal.Gen.frame m ρ, Cert.DownYIdeal.Product.frame_r,
  fun m ρ _ => Cert.MemY.Gen.frame m ρ, fun m ρ _ => Cert.MemYIdeal.Gen.frame m ρ, Cert.MemYIdeal.Product.frame_r,
  fun m ρ _ => Cert.XaG.Gen.frame m ρ,
  fun m ρ _ => Cert.XaGIdeal.Gen.frame m ρ,
  fun m ρ _ => Cert.XaGIdeal.Gen.frame m ρ,
  Cert.XaGIdeal.Product.frame_r,
  fun m ρ _ => Cert.XaGIdeal.Product.frame_r m ρ trivial,
  fun m ρ _ => Cert.XaY.Gen.frame m ρ, fun m ρ _ => Cert.XaYIdeal.Gen.frame m ρ, Cert.XaYIdeal.Product.frame_r,
  Cert.AttnProof.preserves, Cert.AttnProof.algebraic,
  trivial, Cert.DownXIdeal.Product.algebraic,
  trivial, Cert.DownWIdeal.Product.algebraic,
  trivial, Cert.OutXIdeal.Product.algebraic,
  trivial, Cert.OutWIdeal.Product.algebraic,
  trivial, Cert.UpXIdeal.Product.algebraic,
  trivial, Cert.UpWIdeal.Product.algebraic,
  trivial, Cert.InXIdeal.Product.algebraic,
  trivial, Cert.InWIdeal.Product.algebraic,
  trivial, Cert.BrXIdeal.Product.algebraic,
  trivial, Cert.BrWIdeal.Product.algebraic,
  trivial, Cert.GmXIdeal.Product.algebraic,
  trivial, Cert.MemXIdeal.Product.algebraic,
  trivial, Cert.MemWIdeal.Product.algebraic,
  trivial, Cert.InYIdeal.Product.algebraic,
  trivial, Cert.GateYIdeal.Product.algebraic,
  trivial, Cert.BrYIdeal.Product.algebraic,
  trivial, Cert.UpYIdeal.Product.algebraic,
  trivial, Cert.OutYIdeal.Product.algebraic,
  trivial, Cert.DownYIdeal.Product.algebraic,
  trivial, Cert.MemYIdeal.Product.algebraic,
  trivial, Cert.XaGIdeal.Product.algebraic,
  trivial, Cert.XaYIdeal.Product.algebraic⟩

end Cert.Proof

end
